-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite5 [hPre_finite5 : Cert.Pre_finite5.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite5 [hPre_finite5 : Cert.Pre_finite5.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Kernel5Ideal_pre_finite5 [hKernel5Ideal : Cert.Kernel5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite5 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Reference5Ideal_pre_finite5 [hReference5Ideal : Cert.Reference5Ideal.Facts] [hPre_finite5 : Cert.Pre_finite5.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite5 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_v70) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)) →
    ∃ (v0 : (c : Dev Cert.Kernel2Ideal.nD) → Buf (Elt Ideal) ((c.tc : Thread Cert.Kernel2Ideal.nD Cert.Kernel2Ideal.τ).loc Cert.Kernel2Ideal.main_v375)) (v1 : (c : Dev Cert.Kernel2Ideal.nD) → Buf (Elt Ideal) ((c.tc : Thread Cert.Kernel2Ideal.nD Cert.Kernel2Ideal.τ).loc Cert.Kernel2Ideal.main_v376)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v375) = v0 c
          ∧ r.2.mem ((c.tc : Thread Cert.Kernel2Ideal.nD Cert.Kernel2Ideal.τ).loc Cert.Kernel2Ideal.main_v376) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v78) = v0 c
          ∧ r.2.mem ((c.tc : Thread Cert.Reference2Ideal.nD Cert.Reference2Ideal.τ).loc Cert.Reference2Ideal.main_v79) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v7_0)) (v1 : (c : Dev Cert.Kernel3Ideal.nD) → Buf (Elt Ideal) ((c.tc : Thread Cert.Kernel3Ideal.nD Cert.Kernel3Ideal.τ).loc Cert.Kernel3Ideal.main_v7_1)) (v2 : (c : Dev Cert.Kernel3Ideal.nD) → Buf (Elt Ideal) ((c.tc : Thread Cert.Kernel3Ideal.nD Cert.Kernel3Ideal.τ).loc Cert.Kernel3Ideal.main_v7_2)) (v3 : (c : Dev Cert.Kernel3Ideal.nD) → Buf (Elt Ideal) ((c.tc : Thread Cert.Kernel3Ideal.nD Cert.Kernel3Ideal.τ).loc Cert.Kernel3Ideal.main_v8_0)) (v4 : (c : Dev Cert.Kernel3Ideal.nD) → Buf (Elt Ideal) ((c.tc : Thread Cert.Kernel3Ideal.nD Cert.Kernel3Ideal.τ).loc Cert.Kernel3Ideal.main_v8_1)) (v5 : (c : Dev Cert.Kernel3Ideal.nD) → Buf (Elt Ideal) ((c.tc : Thread Cert.Kernel3Ideal.nD Cert.Kernel3Ideal.τ).loc Cert.Kernel3Ideal.main_v8_2)) (v6 : (c : Dev Cert.Kernel3Ideal.nD) → Buf (Elt Ideal) ((c.tc : Thread Cert.Kernel3Ideal.nD Cert.Kernel3Ideal.τ).loc Cert.Kernel3Ideal.main_v8_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v7_0) = v0 c
          ∧ r.2.mem ((c.tc : Thread Cert.Kernel3Ideal.nD Cert.Kernel3Ideal.τ).loc Cert.Kernel3Ideal.main_v7_1) = v1 c
          ∧ r.2.mem ((c.tc : Thread Cert.Kernel3Ideal.nD Cert.Kernel3Ideal.τ).loc Cert.Kernel3Ideal.main_v7_2) = v2 c
          ∧ r.2.mem ((c.tc : Thread Cert.Kernel3Ideal.nD Cert.Kernel3Ideal.τ).loc Cert.Kernel3Ideal.main_v8_0) = v3 c
          ∧ r.2.mem ((c.tc : Thread Cert.Kernel3Ideal.nD Cert.Kernel3Ideal.τ).loc Cert.Kernel3Ideal.main_v8_1) = v4 c
          ∧ r.2.mem ((c.tc : Thread Cert.Kernel3Ideal.nD Cert.Kernel3Ideal.τ).loc Cert.Kernel3Ideal.main_v8_2) = v5 c
          ∧ r.2.mem ((c.tc : Thread Cert.Kernel3Ideal.nD Cert.Kernel3Ideal.τ).loc Cert.Kernel3Ideal.main_v8_3) = v6 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v90) = v0 c
          ∧ r.2.mem ((c.tc : Thread Cert.Reference3Ideal.nD Cert.Reference3Ideal.τ).loc Cert.Reference3Ideal.main_v91) = v1 c
          ∧ r.2.mem ((c.tc : Thread Cert.Reference3Ideal.nD Cert.Reference3Ideal.τ).loc Cert.Reference3Ideal.main_v93) = v2 c
          ∧ r.2.mem ((c.tc : Thread Cert.Reference3Ideal.nD Cert.Reference3Ideal.τ).loc Cert.Reference3Ideal.main_v95) = v3 c
          ∧ r.2.mem ((c.tc : Thread Cert.Reference3Ideal.nD Cert.Reference3Ideal.τ).loc Cert.Reference3Ideal.main_v97) = v4 c
          ∧ r.2.mem ((c.tc : Thread Cert.Reference3Ideal.nD Cert.Reference3Ideal.τ).loc Cert.Reference3Ideal.main_v98) = v5 c
          ∧ r.2.mem ((c.tc : Thread Cert.Reference3Ideal.nD Cert.Reference3Ideal.τ).loc Cert.Reference3Ideal.main_v88) = v6 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v10_0)) (v1 : (c : Dev Cert.Kernel4Ideal.nD) → Buf (Elt Ideal) ((c.tc : Thread Cert.Kernel4Ideal.nD Cert.Kernel4Ideal.τ).loc Cert.Kernel4Ideal.main_v10_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v10_0) = v0 c
          ∧ r.2.mem ((c.tc : Thread Cert.Kernel4Ideal.nD Cert.Kernel4Ideal.τ).loc Cert.Kernel4Ideal.main_v10_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v24) = v0 c
          ∧ r.2.mem ((c.tc : Thread Cert.Reference4Ideal.nD Cert.Reference4Ideal.τ).loc Cert.Reference4Ideal.main_v25) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal_pre_finite5 [hKernel5Ideal : Cert.Kernel5Ideal.Facts] [hReference5Ideal : Cert.Reference5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite5 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)) →
    ∃ (v0 : (c : Dev Cert.Kernel5Ideal.nD) → Buf (Elt Ideal) ((c.tc : Thread Cert.Kernel5Ideal.nD Cert.Kernel5Ideal.τ).loc Cert.Kernel5Ideal.main_v11_0)) (v1 : (c : Dev Cert.Kernel5Ideal.nD) → Buf (Elt Ideal) ((c.tc : Thread Cert.Kernel5Ideal.nD Cert.Kernel5Ideal.τ).loc Cert.Kernel5Ideal.main_v11_1)) (v2 : (c : Dev Cert.Kernel5Ideal.nD) → Buf (Elt Ideal) ((c.tc : Thread Cert.Kernel5Ideal.nD Cert.Kernel5Ideal.τ).loc Cert.Kernel5Ideal.main_v11_2)) (v3 : (c : Dev Cert.Kernel5Ideal.nD) → Buf (Elt Ideal) ((c.tc : Thread Cert.Kernel5Ideal.nD Cert.Kernel5Ideal.τ).loc Cert.Kernel5Ideal.main_v11_3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v11_0) = v0 c
          ∧ r.2.mem ((c.tc : Thread Cert.Kernel5Ideal.nD Cert.Kernel5Ideal.τ).loc Cert.Kernel5Ideal.main_v11_1) = v1 c
          ∧ r.2.mem ((c.tc : Thread Cert.Kernel5Ideal.nD Cert.Kernel5Ideal.τ).loc Cert.Kernel5Ideal.main_v11_2) = v2 c
          ∧ r.2.mem ((c.tc : Thread Cert.Kernel5Ideal.nD Cert.Kernel5Ideal.τ).loc Cert.Kernel5Ideal.main_v11_3) = v3 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v77) = v0 c
          ∧ r.2.mem ((c.tc : Thread Cert.Reference5Ideal.nD Cert.Reference5Ideal.τ).loc Cert.Reference5Ideal.main_v79) = v1 c
          ∧ r.2.mem ((c.tc : Thread Cert.Reference5Ideal.nD Cert.Reference5Ideal.τ).loc Cert.Reference5Ideal.main_v81) = v2 c
          ∧ r.2.mem ((c.tc : Thread Cert.Reference5Ideal.nD Cert.Reference5Ideal.τ).loc Cert.Reference5Ideal.main_v76) = v3 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v1_0)) (v1 : (c : Dev Cert.Kernel6Ideal.nD) → Buf (Elt Ideal) ((c.tc : Thread Cert.Kernel6Ideal.nD Cert.Kernel6Ideal.τ).loc Cert.Kernel6Ideal.main_v1_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1_0) = v0 c
          ∧ r.2.mem ((c.tc : Thread Cert.Kernel6Ideal.nD Cert.Kernel6Ideal.τ).loc Cert.Kernel6Ideal.main_v1_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v4) = v0 c
          ∧ r.2.mem ((c.tc : Thread Cert.Reference6Ideal.nD Cert.Reference6Ideal.τ).loc Cert.Reference6Ideal.main_v0) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v5_0)) (v1 : (c : Dev Cert.Kernel7Ideal.nD) → Buf (Elt Ideal) ((c.tc : Thread Cert.Kernel7Ideal.nD Cert.Kernel7Ideal.τ).loc Cert.Kernel7Ideal.main_v5_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v5_0) = v0 c
          ∧ r.2.mem ((c.tc : Thread Cert.Kernel7Ideal.nD Cert.Kernel7Ideal.τ).loc Cert.Kernel7Ideal.main_v5_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v16) = v0 c
          ∧ r.2.mem ((c.tc : Thread Cert.Reference7Ideal.nD Cert.Reference7Ideal.τ).loc Cert.Reference7Ideal.main_v18) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v26)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v26) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v32) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)) →
    ∃ (v0 : (c : Dev Cert.Kernel9Ideal.nD) → Buf (Elt Ideal) ((c.tc : Thread Cert.Kernel9Ideal.nD Cert.Kernel9Ideal.τ).loc Cert.Kernel9Ideal.main_v4_0)) (v1 : (c : Dev Cert.Kernel9Ideal.nD) → Buf (Elt Ideal) ((c.tc : Thread Cert.Kernel9Ideal.nD Cert.Kernel9Ideal.τ).loc Cert.Kernel9Ideal.main_v4_1)) (v2 : (c : Dev Cert.Kernel9Ideal.nD) → Buf (Elt Ideal) ((c.tc : Thread Cert.Kernel9Ideal.nD Cert.Kernel9Ideal.τ).loc Cert.Kernel9Ideal.main_v4_2)) (v3 : (c : Dev Cert.Kernel9Ideal.nD) → Buf (Elt Ideal) ((c.tc : Thread Cert.Kernel9Ideal.nD Cert.Kernel9Ideal.τ).loc Cert.Kernel9Ideal.main_v4_3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v4_0) = v0 c
          ∧ r.2.mem ((c.tc : Thread Cert.Kernel9Ideal.nD Cert.Kernel9Ideal.τ).loc Cert.Kernel9Ideal.main_v4_1) = v1 c
          ∧ r.2.mem ((c.tc : Thread Cert.Kernel9Ideal.nD Cert.Kernel9Ideal.τ).loc Cert.Kernel9Ideal.main_v4_2) = v2 c
          ∧ r.2.mem ((c.tc : Thread Cert.Kernel9Ideal.nD Cert.Kernel9Ideal.τ).loc Cert.Kernel9Ideal.main_v4_3) = v3 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v30) = v0 c
          ∧ r.2.mem ((c.tc : Thread Cert.Reference9Ideal.nD Cert.Reference9Ideal.τ).loc Cert.Reference9Ideal.main_v31) = v1 c
          ∧ r.2.mem ((c.tc : Thread Cert.Reference9Ideal.nD Cert.Reference9Ideal.τ).loc Cert.Reference9Ideal.main_v32) = v2 c
          ∧ r.2.mem ((c.tc : Thread Cert.Reference9Ideal.nD Cert.Reference9Ideal.τ).loc Cert.Reference9Ideal.main_v33) = v3 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hPre_finite : Cert.Pre_finite.Facts) (hPre_finite3 : Cert.Pre_finite3.Facts) (hPre_finite5 : Cert.Pre_finite5.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite5 (hKernel5Ideal := hKernel5Ideal) (hPre_finite5 := hPre_finite5)
    ∧ quiescent_Reference5Ideal (hReference5Ideal := hReference5Ideal)
    ∧ quiescent_Reference5Ideal_pre_finite5 (hReference5Ideal := hReference5Ideal) (hPre_finite5 := hPre_finite5)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite5 (hKernel5Ideal := hKernel5Ideal) (hReference5Ideal := hReference5Ideal) (hPre_finite5 := hPre_finite5)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
-- ==== Pre_finite.lean ====
abbrev S1x4096x1024 : Shape := ⟨3, ![1, 4096, 1024]⟩
abbrev S1x6144 : Shape := ⟨2, ![1, 6144]⟩
abbrev S1x1024 : Shape := ⟨2, ![1, 1024]⟩
abbrev S1x1024x2560 : Shape := ⟨3, ![1, 1024, 2560]⟩
abbrev S4096x2560 : Shape := ⟨2, ![4096, 2560]⟩
abbrev S4096x1024 : Shape := ⟨2, ![4096, 1024]⟩
abbrev S_ : Shape := ⟨0, ![]⟩

class Facts : Prop where
  bcast_S_S1x4096x1024 : S_.BroadcastsInDim S1x4096x1024 (![] : Fin 0 → Fin S1x4096x1024.rank)
  reducesTo_S1x4096x1024_S_d0_1_2 : S1x4096x1024.ReducesTo [0, 1, 2] S_
  h_S_ : 0 < S_.numel
  bcast_S_S1x6144 : S_.BroadcastsInDim S1x6144 (![] : Fin 0 → Fin S1x6144.rank)
  reducesTo_S1x6144_S_d0_1 : S1x6144.ReducesTo [0, 1] S_
  bcast_S_S1x1024 : S_.BroadcastsInDim S1x1024 (![] : Fin 0 → Fin S1x1024.rank)
  reducesTo_S1x1024_S_d0_1 : S1x1024.ReducesTo [0, 1] S_
  bcast_S_S1x1024x2560 : S_.BroadcastsInDim S1x1024x2560 (![] : Fin 0 → Fin S1x1024x2560.rank)
  reducesTo_S1x1024x2560_S_d0_1_2 : S1x1024x2560.ReducesTo [0, 1, 2] S_
  bitsLt_bf16_f32 : FTy.bits .bf16 < FTy.bits .f32
  bcast_S_S4096x2560 : S_.BroadcastsInDim S4096x2560 (![] : Fin 0 → Fin S4096x2560.rank)
  reducesTo_S4096x2560_S_d0_1 : S4096x2560.ReducesTo [0, 1] S_

variable [Facts]

def fn_part1 {F : FTy → Type} [FloatOps F] (main_arg4 : FVec F S4096x2560 .bf16) (main_v13 : IVec S_ 1) (main_v16 : IVec S1x1024x2560 1) : IVec S_ 1 :=
  let main_c_5 : IVec S_ 1 := constantI S_ 1 1#1
  let main_v17 : IVec S_ 1 := (fun x v => Host.reduce IntOp.andi x v reducesTo_S1x1024x2560_S_d0_1_2 h_S_) main_v16 main_c_5
  let main_v18 : IVec S_ 1 := andi main_v13 main_v17
  let main_v19 : FVec F S4096x2560 .f32 := (extf .f32 · bitsLt_bf16_f32) main_arg4
  let main_v20 : FVec F S4096x2560 .f32 := Host.absf main_v19
  let main_cst_6 : FVec F S_ .f32 := constant S_ .f32 0x7F800000#32
  let main_v21 : FVec F S4096x2560 .f32 := broadcastInDim S4096x2560 ![] bcast_S_S4096x2560 main_cst_6
  let main_v22 : IVec S4096x2560 1 := cmpf .olt main_v20 main_v21
  let main_c_7 : IVec S_ 1 := constantI S_ 1 1#1
  let main_v23 : IVec S_ 1 := (fun x v => Host.reduce IntOp.andi x v reducesTo_S4096x2560_S_d0_1 h_S_) main_v22 main_c_7
  let main_v24 : IVec S_ 1 := andi main_v18 main_v23
  main_v24

def fn {F : FTy → Type} [FloatOps F] (main_arg0 : FVec F S1x4096x1024 .f32) (main_arg1 : FVec F S1x6144 .f32) (main_arg2 : FVec F S1x1024 .f32) (main_arg3 : FVec F S1x1024x2560 .f32) (main_arg4 : FVec F S4096x2560 .bf16) (main_arg5 : FVec F S4096x1024 .bf16) : IVec S_ 1 :=
  let main_v0 : FVec F S1x4096x1024 .f32 := Host.absf main_arg0
  let main_cst : FVec F S_ .f32 := constant S_ .f32 0x7F800000#32
  let main_v1 : FVec F S1x4096x1024 .f32 := broadcastInDim S1x4096x1024 ![] bcast_S_S1x4096x1024 main_cst
  let main_v2 : IVec S1x4096x1024 1 := cmpf .olt main_v0 main_v1
  let main_c : IVec S_ 1 := constantI S_ 1 1#1
  let main_v3 : IVec S_ 1 := (fun x v => Host.reduce IntOp.andi x v reducesTo_S1x4096x1024_S_d0_1_2 h_S_) main_v2 main_c
  let main_v4 : FVec F S1x6144 .f32 := Host.absf main_arg1
  let main_cst_0 : FVec F S_ .f32 := constant S_ .f32 0x7F800000#32
  let main_v5 : FVec F S1x6144 .f32 := broadcastInDim S1x6144 ![] bcast_S_S1x6144 main_cst_0
  let main_v6 : IVec S1x6144 1 := cmpf .olt main_v4 main_v5
  let main_c_1 : IVec S_ 1 := constantI S_ 1 1#1
  let main_v7 : IVec S_ 1 := (fun x v => Host.reduce IntOp.andi x v reducesTo_S1x6144_S_d0_1 h_S_) main_v6 main_c_1
  let main_v8 : IVec S_ 1 := andi main_v3 main_v7
  let main_v9 : FVec F S1x1024 .f32 := Host.absf main_arg2
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_c_3 : IVec S_ 1 := constantI S_ 1 1#1
  let main_v12 : IVec S_ 1 := (fun x v => Host.reduce IntOp.andi x v reducesTo_S1x1024_S_d0_1 h_S_) main_v11 main_c_3
  let main_v13 : IVec S_ 1 := andi main_v8 main_v12
  let main_v14 : FVec F S1x1024x2560 .f32 := Host.absf main_arg3
  let main_cst_4 : FVec F S_ .f32 := constant S_ .f32 0x7F800000#32
  let main_v15 : FVec F S1x1024x2560 .f32 := broadcastInDim S1x1024x2560 ![] bcast_S_S1x1024x2560 main_cst_4
  let main_v16 : IVec S1x1024x2560 1 := cmpf .olt main_v14 main_v15
  fn_part1 (F := F) main_arg4 main_v13 main_v16
-- ==== Pre_finite3.lean ====
abbrev S4096x1024 : Shape := ⟨2, ![4096, 1024]⟩
abbrev S1x4096x1024 : Shape := ⟨3, ![1, 4096, 1024]⟩
abbrev S1x1024x1024 : Shape := ⟨3, ![1, 1024, 1024]⟩
abbrev S1x6144 : Shape := ⟨2, ![1, 6144]⟩
abbrev S1x1024 : Shape := ⟨2, ![1, 1024]⟩
abbrev S_ : Shape := ⟨0, ![]⟩

class Facts : Prop where
  bitsLt_bf16_f32 : FTy.bits .bf16 < FTy.bits .f32
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1x4096x1024 : S_.BroadcastsInDim S1x4096x1024 (![] : Fin 0 → Fin S1x4096x1024.rank)
  reducesTo_S1x4096x1024_S_d0_1_2 : S1x4096x1024.ReducesTo [0, 1, 2] S_
  bcast_S_S1x1024x1024 : S_.BroadcastsInDim S1x1024x1024 (![] : Fin 0 → Fin S1x1024x1024.rank)
  reducesTo_S1x1024x1024_S_d0_1_2 : S1x1024x1024.ReducesTo [0, 1, 2] S_
  bcast_S_S1x6144 : S_.BroadcastsInDim S1x6144 (![] : Fin 0 → Fin S1x6144.rank)
  reducesTo_S1x6144_S_d0_1 : S1x6144.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_arg4 : FVec F S1x1024 .f32) (main_arg5 : FVec F S4096x1024 .bf16) (main_v14 : IVec S_ 1) (main_v15 : FVec F S1x6144 .f32) (main_v16 : FVec F S1x6144 .f32) : IVec S_ 1 :=
  let main_v17 : IVec S1x6144 1 := cmpf .olt main_v15 main_v16
  let main_c_5 : IVec S_ 1 := constantI S_ 1 1#1
  let main_v18 : IVec S_ 1 := (fun x v => Host.reduce IntOp.andi x v reducesTo_S1x6144_S_d0_1 h_S_) main_v17 main_c_5
  let main_v19 : IVec S_ 1 := andi main_v14 main_v18
  let main_v20 : FVec F S1x1024 .f32 := Host.absf main_arg4
  let main_cst_6 : FVec F S_ .f32 := constant S_ .f32 0x7F800000#32
  let main_v21 : FVec F S1x1024 .f32 := broadcastInDim S1x1024 ![] bcast_S_S1x1024 main_cst_6
  let main_v22 : IVec S1x1024 1 := cmpf .olt main_v20 main_v21
  let main_c_7 : IVec S_ 1 := constantI S_ 1 1#1
  let main_v23 : IVec S_ 1 := (fun x v => Host.reduce IntOp.andi x v reducesTo_S1x1024_S_d0_1 h_S_) main_v22 main_c_7
  let main_v24 : IVec S_ 1 := andi main_v19 main_v23
  let main_v25 : FVec F S4096x1024 .f32 := (extf .f32 · bitsLt_bf16_f32) main_arg5
  let main_v26 : FVec F S4096x1024 .f32 := Host.absf main_v25
  let main_cst_8 : FVec F S_ .f32 := constant S_ .f32 0x7F800000#32
  let main_v27 : FVec F S4096x1024 .f32 := broadcastInDim S4096x1024 ![] bcast_S_S4096x1024 main_cst_8
  let main_v28 : IVec S4096x1024 1 := cmpf .olt main_v26 main_v27
  let main_c_9 : IVec S_ 1 := constantI S_ 1 1#1
  let main_v29 : IVec S_ 1 := (fun x v => Host.reduce IntOp.andi x v reducesTo_S4096x1024_S_d0_1 h_S_) main_v28 main_c_9
  let main_v30 : IVec S_ 1 := andi main_v24 main_v29
  main_v30

def fn {F : FTy → Type} [FloatOps F] (main_arg0 : FVec F S4096x1024 .bf16) (main_arg1 : FVec F S1x4096x1024 .f32) (main_arg2 : FVec F S1x1024x1024 .f32) (main_arg3 : FVec F S1x6144 .f32) (main_arg4 : FVec F S1x1024 .f32) (main_arg5 : FVec F S4096x1024 .bf16) (main_arg6 : FVec F S4096x1024 .bf16) : IVec S_ 1 :=
  let main_v0 : FVec F S4096x1024 .f32 := (extf .f32 · bitsLt_bf16_f32) main_arg0
  let main_v1 : FVec F S4096x1024 .f32 := Host.absf main_v0
  let main_cst : FVec F S_ .f32 := constant S_ .f32 0x7F800000#32
  let main_v2 : FVec F S4096x1024 .f32 := broadcastInDim S4096x1024 ![] bcast_S_S4096x1024 main_cst
  let main_v3 : IVec S4096x1024 1 := cmpf .olt main_v1 main_v2
  let main_c : IVec S_ 1 := constantI S_ 1 1#1
  let main_v4 : IVec S_ 1 := (fun x v => Host.reduce IntOp.andi x v reducesTo_S4096x1024_S_d0_1 h_S_) main_v3 main_c
  let main_v5 : FVec F S1x4096x1024 .f32 := Host.absf main_arg1
  let main_cst_0 : FVec F S_ .f32 := constant S_ .f32 0x7F800000#32
  let main_v6 : FVec F S1x4096x1024 .f32 := broadcastInDim S1x4096x1024 ![] bcast_S_S1x4096x1024 main_cst_0
  let main_v7 : IVec S1x4096x1024 1 := cmpf .olt main_v5 main_v6
  let main_c_1 : IVec S_ 1 := constantI S_ 1 1#1
  let main_v8 : IVec S_ 1 := (fun x v => Host.reduce IntOp.andi x v reducesTo_S1x4096x1024_S_d0_1_2 h_S_) main_v7 main_c_1
  let main_v9 : IVec S_ 1 := andi main_v4 main_v8
  let main_v10 : FVec F S1x1024x1024 .f32 := Host.absf main_arg2
  let main_cst_2 : FVec F S_ .f32 := constant S_ .f32 0x7F800000#32
  let main_v11 : FVec F S1x1024x1024 .f32 := broadcastInDim S1x1024x1024 ![] bcast_S_S1x1024x1024 main_cst_2
  let main_v12 : IVec S1x1024x1024 1 := cmpf .olt main_v10 main_v11
  let main_c_3 : IVec S_ 1 := constantI S_ 1 1#1
  let main_v13 : IVec S_ 1 := (fun x v => Host.reduce IntOp.andi x v reducesTo_S1x1024x1024_S_d0_1_2 h_S_) main_v12 main_c_3
  let main_v14 : IVec S_ 1 := andi main_v9 main_v13
  let main_v15 : FVec F S1x6144 .f32 := Host.absf main_arg3
  let main_cst_4 : FVec F S_ .f32 := constant S_ .f32 0x7F800000#32
  let main_v16 : FVec F S1x6144 .f32 := broadcastInDim S1x6144 ![] bcast_S_S1x6144 main_cst_4
  fn_part1 (F := F) main_arg4 main_arg5 main_v14 main_v15 main_v16
-- ==== Pre_finite5.lean ====
abbrev S4096x1024 : Shape := ⟨2, ![4096, 1024]⟩
abbrev S1x1024x4096 : Shape := ⟨3, ![1, 1024, 4096]⟩
abbrev S1x4096x1024 : Shape := ⟨3, ![1, 4096, 1024]⟩
abbrev S1x6144 : Shape := ⟨2, ![1, 6144]⟩
abbrev S1024 : Shape := ⟨1, ![1024]⟩
abbrev S_ : Shape := ⟨0, ![]⟩

class Facts : Prop where
  bitsLt_bf16_f32 : FTy.bits .bf16 < FTy.bits .f32
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1x1024x4096 : S_.BroadcastsInDim S1x1024x4096 (![] : Fin 0 → Fin S1x1024x4096.rank)
  reducesTo_S1x1024x4096_S_d0_1_2 : S1x1024x4096.ReducesTo [0, 1, 2] S_
  bcast_S_S1x4096x1024 : S_.BroadcastsInDim S1x4096x1024 (![] : Fin 0 → Fin S1x4096x1024.rank)
  reducesTo_S1x4096x1024_S_d0_1_2 : S1x4096x1024.ReducesTo [0, 1, 2] S_
  bcast_S_S1x6144 : S_.BroadcastsInDim S1x6144 (![] : Fin 0 → Fin S1x6144.rank)
  reducesTo_S1x6144_S_d0_1 : S1x6144.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_v29 : IVec S_ 1) (main_v33 : IVec S_ 1) : IVec S_ 1 :=
  let main_v34 : IVec S_ 1 := andi main_v29 main_v33
  main_v34

def fn_part1 {F : FTy → Type} [FloatOps F] (main_arg4 : FVec F S1x4096x1024 .f32) (main_arg5 : FVec F S1x6144 .f32) (main_arg6 : FVec F S1024 .f32) (main_v14 : IVec S_ 1) (main_v15 : FVec F S1x4096x1024 .f32) (main_v16 : FVec F S1x4096x1024 .f32) : IVec S_ 1 :=
  let main_v17 : IVec S1x4096x1024 1 := cmpf .olt main_v15 main_v16
  let main_c_5 : IVec S_ 1 := constantI S_ 1 1#1
  let main_v18 : IVec S_ 1 := (fun x v => Host.reduce IntOp.andi x v reducesTo_S1x4096x1024_S_d0_1_2 h_S_) main_v17 main_c_5
  let main_v19 : IVec S_ 1 := andi main_v14 main_v18
  let main_v20 : FVec F S1x4096x1024 .f32 := Host.absf main_arg4
  let main_cst_6 : FVec F S_ .f32 := constant S_ .f32 0x7F800000#32
  let main_v21 : FVec F S1x4096x1024 .f32 := broadcastInDim S1x4096x1024 ![] bcast_S_S1x4096x1024 main_cst_6
  let main_v22 : IVec S1x4096x1024 1 := cmpf .olt main_v20 main_v21
  let main_c_7 : IVec S_ 1 := constantI S_ 1 1#1
  let main_v23 : IVec S_ 1 := (fun x v => Host.reduce IntOp.andi x v reducesTo_S1x4096x1024_S_d0_1_2 h_S_) main_v22 main_c_7
  let main_v24 : IVec S_ 1 := andi main_v19 main_v23
  let main_v25 : FVec F S1x6144 .f32 := Host.absf main_arg5
  let main_cst_8 : FVec F S_ .f32 := constant S_ .f32 0x7F800000#32
  let main_v26 : FVec F S1x6144 .f32 := broadcastInDim S1x6144 ![] bcast_S_S1x6144 main_cst_8
  let main_v27 : IVec S1x6144 1 := cmpf .olt main_v25 main_v26
  let main_c_9 : IVec S_ 1 := constantI S_ 1 1#1
  let main_v28 : IVec S_ 1 := (fun x v => Host.reduce IntOp.andi x v reducesTo_S1x6144_S_d0_1 h_S_) main_v27 main_c_9
  let main_v29 : IVec S_ 1 := andi main_v24 main_v28
  let main_v30 : FVec F S1024 .f32 := Host.absf main_arg6
  let main_cst_10 : FVec F S_ .f32 := constant S_ .f32 0x7F800000#32
  let main_v31 : FVec F S1024 .f32 := broadcastInDim S1024 ![] bcast_S_S1024 main_cst_10
  let main_v32 : IVec S1024 1 := cmpf .olt main_v30 main_v31
  let main_c_11 : IVec S_ 1 := constantI S_ 1 1#1
  let main_v33 : IVec S_ 1 := (fun x v => Host.reduce IntOp.andi x v reducesTo_S1024_S_d0 h_S_) main_v32 main_c_11
  fn_part2 (F := F) main_v29 main_v33

def fn {F : FTy → Type} [FloatOps F] (main_arg0 : FVec F S4096x1024 .bf16) (main_arg1 : FVec F S4096x1024 .f32) (main_arg2 : FVec F S1x1024x4096 .f32) (main_arg3 : FVec F S1x4096x1024 .f32) (main_arg4 : FVec F S1x4096x1024 .f32) (main_arg5 : FVec F S1x6144 .f32) (main_arg6 : FVec F S1024 .f32) : IVec S_ 1 :=
  let main_v0 : FVec F S4096x1024 .f32 := (extf .f32 · bitsLt_bf16_f32) main_arg0
  let main_v1 : FVec F S4096x1024 .f32 := Host.absf main_v0
  let main_cst : FVec F S_ .f32 := constant S_ .f32 0x7F800000#32
  let main_v2 : FVec F S4096x1024 .f32 := broadcastInDim S4096x1024 ![] bcast_S_S4096x1024 main_cst
  let main_v3 : IVec S4096x1024 1 := cmpf .olt main_v1 main_v2
  let main_c : IVec S_ 1 := constantI S_ 1 1#1
  let main_v4 : IVec S_ 1 := (fun x v => Host.reduce IntOp.andi x v reducesTo_S4096x1024_S_d0_1 h_S_) main_v3 main_c
  let main_v5 : FVec F S4096x1024 .f32 := Host.absf main_arg1
  let main_cst_0 : FVec F S_ .f32 := constant S_ .f32 0x7F800000#32
  let main_v6 : FVec F S4096x1024 .f32 := broadcastInDim S4096x1024 ![] bcast_S_S4096x1024 main_cst_0
  let main_v7 : IVec S4096x1024 1 := cmpf .olt main_v5 main_v6
  let main_c_1 : IVec S_ 1 := constantI S_ 1 1#1
  let main_v8 : IVec S_ 1 := (fun x v => Host.reduce IntOp.andi x v reducesTo_S4096x1024_S_d0_1 h_S_) main_v7 main_c_1
  let main_v9 : IVec S_ 1 := andi main_v4 main_v8
  let main_v10 : FVec F S1x1024x4096 .f32 := Host.absf main_arg2
  let main_cst_2 : FVec F S_ .f32 := constant S_ .f32 0x7F800000#32
  let main_v11 : FVec F S1x1024x4096 .f32 := broadcastInDim S1x1024x4096 ![] bcast_S_S1x1024x4096 main_cst_2
  let main_v12 : IVec S1x1024x4096 1 := cmpf .olt main_v10 main_v11
  let main_c_3 : IVec S_ 1 := constantI S_ 1 1#1
  let main_v13 : IVec S_ 1 := (fun x v => Host.reduce IntOp.andi x v reducesTo_S1x1024x4096_S_d0_1_2 h_S_) main_v12 main_c_3
  let main_v14 : IVec S_ 1 := andi main_v9 main_v13
  let main_v15 : FVec F S1x4096x1024 .f32 := Host.absf main_arg3
  let main_cst_4 : FVec F S_ .f32 := constant S_ .f32 0x7F800000#32
  let main_v16 : FVec F S1x4096x1024 .f32 := broadcastInDim S1x4096x1024 ![] bcast_S_S1x4096x1024 main_cst_4
  fn_part1 (F := F) main_arg4 main_arg5 main_arg6 main_v14 main_v15 main_v16
-- ==== Kernel.lean ====
abbrev S1x4096x1024 : Shape := ⟨3, ![1, 4096, 1024]⟩
abbrev S1x6144 : Shape := ⟨2, ![1, 6144]⟩
abbrev S1x1024 : Shape := ⟨2, ![1, 1024]⟩
abbrev S1x1024x2560 : Shape := ⟨3, ![1, 1024, 2560]⟩
abbrev S4096x2560 : Shape := ⟨2, ![4096, 2560]⟩
abbrev S4096x1024 : Shape := ⟨2, ![4096, 1024]⟩
abbrev S1024x2560 : Shape := ⟨2, ![1024, 2560]⟩
abbrev S2560x1024 : Shape := ⟨2, ![2560, 1024]⟩
abbrev S_ : Shape := ⟨0, ![]⟩
abbrev S8x1024 : Shape := ⟨2, ![8, 1024]⟩
abbrev S6x1024 : Shape := ⟨2, ![6, 1024]⟩
abbrev S1 : Shape := ⟨1, ![1]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 18
  | .vmem => 12
  | .smem => 0
  | _ => 0

abbrev bufTy : (tb : Table) → Fin (tcTables nBuf tb) → BufTy
  | .hbm, ⟨0, _⟩ => ⟨S1x4096x1024, .f32⟩
  | .hbm, ⟨1, _⟩ => ⟨S1x6144, .f32⟩
  | .hbm, ⟨2, _⟩ => ⟨S1x1024, .f32⟩
  | .hbm, ⟨3, _⟩ => ⟨S1x1024x2560, .f32⟩
  | .hbm, ⟨4, _⟩ => ⟨S4096x2560, .bf16⟩
  | .hbm, ⟨5, _⟩ => ⟨S4096x1024, .bf16⟩
  | .hbm, ⟨6, _⟩ => ⟨S1024x2560, .f32⟩
  | .hbm, ⟨7, _⟩ => ⟨S2560x1024, .f32⟩
  | .hbm, ⟨8, _⟩ => ⟨S2560x1024, .bf16⟩
  | .hbm, ⟨9, _⟩ => ⟨S_, .f32⟩
  | .hbm, ⟨10, _⟩ => ⟨S8x1024, .f32⟩
  | .hbm, ⟨11, _⟩ => ⟨S6x1024, .f32⟩
  | .hbm, ⟨12, _⟩ => ⟨S_, .i32⟩
  | .hbm, ⟨13, _⟩ => ⟨S1, .i32⟩
  | .hbm, ⟨14, _⟩ => ⟨S8x1024, .f32⟩
  | .hbm, ⟨15, _⟩ => ⟨S4096x1024, .f32⟩
  | .hbm, ⟨16, _⟩ => ⟨S4096x1024, .f32⟩
  | .hbm, ⟨17, _⟩ => ⟨S8x1024, .f32⟩
  | .local _ .vmem, ⟨0, _⟩ => ⟨S1024x2560, .bf16⟩
  | .local _ .vmem, ⟨1, _⟩ => ⟨S1024x2560, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .bf16⟩
  | .local _ .vmem, ⟨5, _⟩ => ⟨S1024x1024, .bf16⟩
  | .local _ .vmem, ⟨6, _⟩ => ⟨S2560x1024, .bf16⟩
  | .local _ .vmem, ⟨7, _⟩ => ⟨S8x1024, .f32⟩
  | .local _ .vmem, ⟨8, _⟩ => ⟨S1x1024, .f32⟩
  | .local _ .vmem, ⟨9, _⟩ => ⟨S1024x1024, .f32⟩
  | .local _ .vmem, ⟨10, _⟩ => ⟨S1024x1024, .f32⟩
  | .local _ .vmem, ⟨11, _⟩ => ⟨S8x1024, .f32⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8_0 : Ref sig .tc := ⟨.hbm, 16, rfl⟩
abbrev main_v8_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2560x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceIdeal.lean ====
abbrev S1x4096x1024 : Shape := ⟨3, ![1, 4096, 1024]⟩
abbrev S1x6144 : Shape := ⟨2, ![1, 6144]⟩
abbrev S1x1024 : Shape := ⟨2, ![1, 1024]⟩
abbrev S1x1024x2560 : Shape := ⟨3, ![1, 1024, 2560]⟩
abbrev S4096x2560 : Shape := ⟨2, ![4096, 2560]⟩
abbrev S4096x1024 : Shape := ⟨2, ![4096, 1024]⟩
abbrev S1024 : Shape := ⟨1, ![1024]⟩
abbrev S_ : Shape := ⟨0, ![]⟩
abbrev S1x4096 : Shape := ⟨2, ![1, 4096]⟩
abbrev S1x4096x1 : Shape := ⟨3, ![1, 4096, 1]⟩
abbrev S1x1x1024 : Shape := ⟨3, ![1, 1, 1024]⟩
abbrev S1024x2560 : Shape := ⟨2, ![1024, 2560]⟩
abbrev S1x4096x2560 : Shape := ⟨3, ![1, 4096, 2560]⟩
abbrev S4096 : Shape := ⟨1, ![4096]⟩
abbrev S5x1024 : Shape := ⟨2, ![5, 1024]⟩
abbrev S8x1024 : Shape := ⟨2, ![8, 1024]⟩

abbrev nBuf : Space → Nat
  | .hbm => 92
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S1x6144, .f32⟩
  | .hbm, ⟨2, _⟩ => ⟨S1x1024, .f32⟩
  | .hbm, ⟨3, _⟩ => ⟨S1x1024x2560, .f32⟩
  | .hbm, ⟨4, _⟩ => ⟨S4096x2560, .bf16⟩
  | .hbm, ⟨5, _⟩ => ⟨S4096x1024, .bf16⟩
  | .hbm, ⟨6, _⟩ => ⟨S1x1024, .f32⟩
  | .hbm, ⟨7, _⟩ => ⟨S1x1024, .f32⟩
  | .hbm, ⟨8, _⟩ => ⟨S1024, .f32⟩
  | .hbm, ⟨9, _⟩ => ⟨S1x4096x1024, .f32⟩
  | .hbm, ⟨10, _⟩ => ⟨S_, .f32⟩
  | .hbm, ⟨11, _⟩ => ⟨S1x4096, .f32⟩
  | .hbm, ⟨12, _⟩ => ⟨S1x4096x1, .f32⟩
  | .hbm, ⟨13, _⟩ => ⟨S_, .f32⟩
  | .hbm, ⟨14, _⟩ => ⟨S1x4096x1, .f32⟩
  | .hbm, ⟨15, _⟩ => ⟨S1x4096x1, .f32⟩
  | .hbm, ⟨16, _⟩ => ⟨S_, .f32⟩
  | .hbm, ⟨17, _⟩ => ⟨S1x4096x1, .f32⟩
  | .hbm, ⟨18, _⟩ => ⟨S1x4096x1, .f32⟩
  | .hbm, ⟨19, _⟩ => ⟨S1x4096x1, .f32⟩
  | .hbm, ⟨20, _⟩ => ⟨S1x4096x1, .f32⟩
  | .hbm, ⟨21, _⟩ => ⟨S_, .f32⟩
  | .hbm, ⟨22, _⟩ => ⟨S1x4096x1, .f32⟩
  | .hbm, ⟨23, _⟩ => ⟨S1x4096x1, .f32⟩
  | .hbm, ⟨24, _⟩ => ⟨S1x4096x1024, .f32⟩
  | .hbm, ⟨25, _⟩ => ⟨S1x4096x1024, .f32⟩
  | .hbm, ⟨26, _⟩ => ⟨S1x1x1024, .f32⟩
  | .hbm, ⟨27, _⟩ => ⟨S1x4096x1024, .f32⟩
  | .hbm, ⟨28, _⟩ => ⟨S1x4096x1024, .f32⟩
  | .hbm, ⟨29, _⟩ => ⟨S1x1x1024, .f32⟩
  | .hbm, ⟨30, _⟩ => ⟨S_, .f32⟩
  | .hbm, ⟨31, _⟩ => ⟨S1x1x1024, .f32⟩
  | .hbm, ⟨32, _⟩ => ⟨S1x1x1024, .f32⟩
  | .hbm, ⟨33, _⟩ => ⟨S1x4096x1024, .f32⟩
  | .hbm, ⟨34, _⟩ => ⟨S1x4096x1024, .f32⟩
  | .hbm, ⟨35, _⟩ => ⟨S1x1x1024, .f32⟩
  | .hbm, ⟨36, _⟩ => ⟨S1x4096x1024, .f32⟩
  | .hbm, ⟨37, _⟩ => ⟨S1x4096x1024, .f32⟩
  | .hbm, ⟨38, _⟩ => ⟨S1024x2560, .f32⟩
  | .hbm, ⟨39, _⟩ => ⟨S1x4096x2560, .f32⟩
  | .hbm, ⟨40, _⟩ => ⟨S4096x1024, .f32⟩
  | .hbm, ⟨41, _⟩ => ⟨S1x4096x1024, .f32⟩
  | .hbm, ⟨42, _⟩ => ⟨S4096x2560, .f32⟩
  | .hbm, ⟨43, _⟩ => ⟨S1x4096x2560, .f32⟩
  | .hbm, ⟨44, _⟩ => ⟨S1x4096x1024, .f32⟩
  | .hbm, ⟨45, _⟩ => ⟨S_, .f32⟩
  | .hbm, ⟨46, _⟩ => ⟨S1x1024, .f32⟩
  | .hbm, ⟨47, _⟩ => ⟨S1x1x1024, .f32⟩
  | .hbm, ⟨48, _⟩ => ⟨S_, .f32⟩
  | .hbm, ⟨49, _⟩ => ⟨S1024, .f32⟩
  | .hbm, ⟨50, _⟩ => ⟨S1x1024, .f32⟩
  | .hbm, ⟨51, _⟩ => ⟨S1x4096x1024, .f32⟩
  | .hbm, ⟨52, _⟩ => ⟨S_, .f32⟩
  | .hbm, ⟨53, _⟩ => ⟨S1x1024, .f32⟩
  | .hbm, ⟨54, _⟩ => ⟨S1x1x1024, .f32⟩
  | .hbm, ⟨55, _⟩ => ⟨S1x4096x1024, .f32⟩
  | .hbm, ⟨56, _⟩ => ⟨S1x4096x1024, .f32⟩
  | .hbm, ⟨57, _⟩ => ⟨S_, .f32⟩
  | .hbm, ⟨58, _⟩ => ⟨S1024, .f32⟩
  | .hbm, ⟨59, _⟩ => ⟨S1x1024, .f32⟩
  | .hbm, ⟨60, _⟩ => ⟨S1x4096x1024, .f32⟩
  | .hbm, ⟨61, _⟩ => ⟨S_, .f32⟩
  | .hbm, ⟨62, _⟩ => ⟨S1x1024, .f32⟩
  | .hbm, ⟨63, _⟩ => ⟨S1x1x1024, .f32⟩
  | .hbm, ⟨64, _⟩ => ⟨S1x4096x1024, .f32⟩
  | .hbm, ⟨65, _⟩ => ⟨S1x4096x1024, .f32⟩
  | .hbm, ⟨66, _⟩ => ⟨S_, .f32⟩
  | .hbm, ⟨67, _⟩ => ⟨S1024, .f32⟩
  | .hbm, ⟨68, _⟩ => ⟨S1x4096x1024, .f32⟩
  | .hbm, ⟨69, _⟩ => ⟨S_, .f32⟩
  | .hbm, ⟨70, _⟩ => ⟨S1x4096, .f32⟩
  | .hbm, ⟨71, _⟩ => ⟨S1x4096x1, .f32⟩
  | .hbm, ⟨72, _⟩ => ⟨S1x4096x1024, .f32⟩
  | .hbm, ⟨73, _⟩ => ⟨S1x4096x1024, .f32⟩
  | .hbm, ⟨74, _⟩ => ⟨S1x4096x1024, .f32⟩
  | .hbm, ⟨75, _⟩ => ⟨S1x4096x1, .f32⟩
  | .hbm, ⟨76, _⟩ => ⟨S_, .f32⟩
  | .hbm, ⟨77, _⟩ => ⟨S1x4096x1, .f32⟩
  | .hbm, ⟨78, _⟩ => ⟨S1x4096x1, .f32⟩
  | .hbm, ⟨79, _⟩ => ⟨S_, .f32⟩
  | .hbm, ⟨80, _⟩ => ⟨S4096, .f32⟩
  | .hbm, ⟨81, _⟩ => ⟨S1x4096, .f32⟩
  | .hbm, ⟨82, _⟩ => ⟨S1x4096x1024, .f32⟩
  | .hbm, ⟨83, _⟩ => ⟨S1x4096x1024, .f32⟩
  | .hbm, ⟨84, _⟩ => ⟨S1x4096x1024, .f32⟩
  | .hbm, ⟨85, _⟩ => ⟨S1x4096x1024, .f32⟩
  | .hbm, ⟨86, _⟩ => ⟨S1x4096x1024, .f32⟩
  | .hbm, ⟨87, _⟩ => ⟨S1x1024, .f32⟩
  | .hbm, ⟨88, _⟩ => ⟨S4096x1024, .f32⟩
  | .hbm, ⟨89, _⟩ => ⟨S_, .f32⟩
  | .hbm, ⟨90, _⟩ => ⟨S5x1024, .f32⟩
  | .hbm, ⟨91, _⟩ => ⟨S8x1024, .f32⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_4 : Ref sig .tc := ⟨.hbm, 45, rfl⟩
abbrev main_v34 : Ref sig .tc := ⟨.hbm, 46, rfl⟩
abbrev main_v35 : Ref sig .tc := ⟨.hbm, 47, rfl⟩
abbrev main_cst_5 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_6 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_7 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_8 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_cst_9 : Ref sig .tc := ⟨.hbm, 66, rfl⟩
abbrev main_v50 : Ref sig .tc := ⟨.hbm, 67, rfl⟩
abbrev main_v51 : Ref sig .tc := ⟨.hbm, 68, rfl⟩
abbrev main_cst_10 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_cst_11 : Ref sig .tc := ⟨.hbm, 76, rfl⟩
abbrev main_v58 : Ref sig .tc := ⟨.hbm, 77, rfl⟩
abbrev main_v59 : Ref sig .tc := ⟨.hbm, 78, rfl⟩
abbrev main_cst_12 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_cst_13 : Ref sig .tc := ⟨.hbm, 89, rfl⟩
abbrev main_v69 : Ref sig .tc := ⟨.hbm, 90, rfl⟩
abbrev main_v70 : Ref sig .tc := ⟨.hbm, 91, rfl⟩

abbrev nD : Nat := 1
abbrev τ : Topo := Topo.v7x

variable {F : FTy → Type} [FloatOps F]
-- ==== Kernel2.lean ====
abbrev S4096x2560 : Shape := ⟨2, ![4096, 2560]⟩
abbrev S1x3x512 : Shape := ⟨3, ![1, 3, 512]⟩
abbrev S1x4x512 : Shape := ⟨3, ![1, 4, 512]⟩
abbrev S1x512 : Shape := ⟨2, ![1, 512]⟩
abbrev S1x8x64x64 : Shape := ⟨4, ![1, 8, 64, 64]⟩
abbrev S1x8x64 : Shape := ⟨3, ![1, 8, 64]⟩
abbrev S4096x1024 : Shape := ⟨2, ![4096, 1024]⟩
abbrev S4x512 : Shape := ⟨2, ![4, 512]⟩
abbrev S8x64x64 : Shape := ⟨3, ![8, 64, 64]⟩
abbrev S_ : Shape := ⟨0, ![]⟩
abbrev S3x512 : Shape := ⟨2, ![3, 512]⟩
abbrev S4096x512 : Shape := ⟨2, ![4096, 512]⟩
abbrev S4099x512 : Shape := ⟨2, ![4099, 512]⟩
abbrev S4096x8x64 : Shape := ⟨3, ![4096, 8, 64]⟩
abbrev S8x64x4096 : Shape := ⟨3, ![8, 64, 4096]⟩
abbrev S2048x8x64 : Shape := ⟨3, ![2048, 8, 64]⟩
abbrev S1024x8x64 : Shape := ⟨3, ![1024, 8, 64]⟩
abbrev S512x8x64 : Shape := ⟨3, ![512, 8, 64]⟩
abbrev S256x8x64 : Shape := ⟨3, ![256, 8, 64]⟩
abbrev S128x8x64 : Shape := ⟨3, ![128, 8, 64]⟩
abbrev S64x8x64 : Shape := ⟨3, ![64, 8, 64]⟩
abbrev S32x8x64 : Shape := ⟨3, ![32, 8, 64]⟩
abbrev S16x8x64 : Shape := ⟨3, ![16, 8, 64]⟩
abbrev S8x8x64 : Shape := ⟨3, ![8, 8, 64]⟩
abbrev S4x8x64 : Shape := ⟨3, ![4, 8, 64]⟩
abbrev S2x8x64 : Shape := ⟨3, ![2, 8, 64]⟩
abbrev S0x8x64 : Shape := ⟨3, ![0, 8, 64]⟩
abbrev S3x8x64 : Shape := ⟨3, ![3, 8, 64]⟩
abbrev S7x8x64 : Shape := ⟨3, ![7, 8, 64]⟩
abbrev S15x8x64 : Shape := ⟨3, ![15, 8, 64]⟩
abbrev S31x8x64 : Shape := ⟨3, ![31, 8, 64]⟩
abbrev S63x8x64 : Shape := ⟨3, ![63, 8, 64]⟩
abbrev S127x8x64 : Shape := ⟨3, ![127, 8, 64]⟩
abbrev S255x8x64 : Shape := ⟨3, ![255, 8, 64]⟩
abbrev S511x8x64 : Shape := ⟨3, ![511, 8, 64]⟩
abbrev S1023x8x64 : Shape := ⟨3, ![1023, 8, 64]⟩
abbrev S2047x8x64 : Shape := ⟨3, ![2047, 8, 64]⟩
abbrev S2x8x64x64 : Shape := ⟨4, ![2, 8, 64, 64]⟩
abbrev S2x2 : Shape := ⟨2, ![2, 2]⟩
abbrev S2x4x2x64x1x64 : Shape := ⟨6, ![2, 4, 2, 64, 1, 64]⟩
abbrev S1x2x1x2x1 : Shape := ⟨5, ![1, 2, 1, 2, 1]⟩
abbrev S1x1x2x1x2x1 : Shape := ⟨6, ![1, 1, 2, 1, 2, 1]⟩
abbrev S2x4x2x64x2x64 : Shape := ⟨6, ![2, 4, 2, 64, 2, 64]⟩
abbrev S2x4x128x128 : Shape := ⟨4, ![2, 4, 128, 128]⟩
abbrev S1x4x128x128 : Shape := ⟨4, ![1, 4, 128, 128]⟩
abbrev S4x128x128 : Shape := ⟨3, ![4, 128, 128]⟩
abbrev S16x512 : Shape := ⟨2, ![16, 512]⟩
abbrev S256x2560 : Shape := ⟨2, ![256, 2560]⟩
abbrev S8x2560 : Shape := ⟨2, ![8, 2560]⟩
abbrev S256x1024 : Shape := ⟨2, ![256, 1024]⟩
abbrev S16x1024 : Shape := ⟨2, ![16, 1024]⟩
abbrev S256x512 : Shape := ⟨2, ![256, 512]⟩
abbrev S8x512 : Shape := ⟨2, ![8, 512]⟩
abbrev S8x272x128 : Shape := ⟨3, ![8, 272, 128]⟩
abbrev S256x128 : Shape := ⟨2, ![256, 128]⟩
abbrev S8x128 : Shape := ⟨2, ![8, 128]⟩
abbrev S1x272x128 : Shape := ⟨3, ![1, 272, 128]⟩
abbrev S272x128 : Shape := ⟨2, ![272, 128]⟩
abbrev S1x128 : Shape := ⟨2, ![1, 128]⟩
abbrev S16x128 : Shape := ⟨2, ![16, 128]⟩
abbrev S128 : Shape := ⟨1, ![128]⟩
abbrev S1x128x128 : Shape := ⟨3, ![1, 128, 128]⟩
abbrev S128x128 : Shape := ⟨2, ![128, 128]⟩
abbrev S248x128 : Shape := ⟨2, ![248, 128]⟩
abbrev S240x128 : Shape := ⟨2, ![240, 128]⟩
abbrev S224x128 : Shape := ⟨2, ![224, 128]⟩
abbrev S32x128 : Shape := ⟨2, ![32, 128]⟩
abbrev S192x128 : Shape := ⟨2, ![192, 128]⟩
abbrev S64x128 : Shape := ⟨2, ![64, 128]⟩
abbrev S4096x1536 : Shape := ⟨2, ![4096, 1536]⟩

abbrev nBuf : Space → Nat
  | .hbm => 459
  | .vmem => 31
  | .smem => 0
  | _ => 0

abbrev hbmTy0_0 (i : Nat) : BufTy := match i % 128 with
  | 0 => ⟨S4096x2560, .f32⟩
  | 1 => ⟨S1x3x512, .f32⟩
  | 2 => ⟨S1x4x512, .f32⟩
  | 3 => ⟨S1x512, .f32⟩
  | 4 => ⟨S1x8x64x64, .f32⟩
  | 5 => ⟨S1x8x64, .f32⟩
  | 6 => ⟨S1x8x64x64, .f32⟩
  | 7 => ⟨S1x8x64, .f32⟩
  | 8 => ⟨S1x512, .f32⟩
  | 9 => ⟨S4096x1024, .bf16⟩
  | 10 => ⟨S4x512, .f32⟩
  | 11 => ⟨S8x64x64, .f32⟩
  | 12 => ⟨S8x64x64, .f32⟩
  | 13 => ⟨S_, .f32⟩
  | 14 => ⟨S3x512, .f32⟩
  | 15 => ⟨S4096x512, .f32⟩
  | 16 => ⟨S4099x512, .f32⟩
  | 17 => ⟨S4096x512, .f32⟩
  | 18 => ⟨S1x512, .f32⟩
  | 19 => ⟨S4096x512, .f32⟩
  | 20 => ⟨S4096x512, .f32⟩
  | 21 => ⟨S4096x512, .f32⟩
  | 22 => ⟨S1x512, .f32⟩
  | 23 => ⟨S4096x512, .f32⟩
  | 24 => ⟨S4096x512, .f32⟩
  | 25 => ⟨S4096x512, .f32⟩
  | 26 => ⟨S4096x512, .f32⟩
  | 27 => ⟨S1x512, .f32⟩
  | 28 => ⟨S4096x512, .f32⟩
  | 29 => ⟨S4096x512, .f32⟩
  | 30 => ⟨S4096x512, .f32⟩
  | 31 => ⟨S4096x512, .f32⟩
  | 32 => ⟨S1x512, .f32⟩
  | 33 => ⟨S4096x512, .f32⟩
  | 34 => ⟨S4096x512, .f32⟩
  | 35 => ⟨S4096x512, .f32⟩
  | 36 => ⟨S4096x512, .f32⟩
  | 37 => ⟨S4096x512, .f32⟩
  | 38 => ⟨S4096x8x64, .f32⟩
  | 39 => ⟨S8x64x4096, .f32⟩
  | 40 => ⟨S4096x8x64, .f32⟩
  | 41 => ⟨S4096x8x64, .f32⟩
  | 42 => ⟨S4096x8x64, .f32⟩
  | 43 => ⟨S4096x8x64, .f32⟩
  | 44 => ⟨S4096x8x64, .f32⟩
  | 45 => ⟨S_, .f32⟩
  | 46 => ⟨S4096x8x64, .f32⟩
  | 47 => ⟨S4096x8x64, .f32⟩
  | 48 => ⟨S_, .f32⟩
  | 49 => ⟨S4096x8x64, .f32⟩
  | 50 => ⟨S4096x8x64, .f32⟩
  | 51 => ⟨S8x64x4096, .f32⟩
  | 52 => ⟨S4096x8x64, .f32⟩
  | 53 => ⟨S4096x8x64, .f32⟩
  | 54 => ⟨S4096x8x64, .f32⟩
  | 55 => ⟨S4096x8x64, .f32⟩
  | 56 => ⟨S4096x8x64, .f32⟩
  | 57 => ⟨S_, .f32⟩
  | 58 => ⟨S4096x8x64, .f32⟩
  | 59 => ⟨S4096x8x64, .f32⟩
  | 60 => ⟨S_, .f32⟩
  | 61 => ⟨S4096x8x64, .f32⟩
  | 62 => ⟨S4096x8x64, .f32⟩
  | 63 => ⟨S_, .f32⟩
  | 64 => ⟨S4096x8x64, .f32⟩
  | 65 => ⟨S4096x8x64, .f32⟩
  | 66 => ⟨S1x8x64, .f32⟩
  | 67 => ⟨S1x8x64, .f32⟩
  | 68 => ⟨S_, .f32⟩
  | 69 => ⟨S1x8x64, .f32⟩
  | 70 => ⟨S1x8x64, .f32⟩
  | 71 => ⟨S1x8x64, .f32⟩
  | 72 => ⟨S1x8x64, .f32⟩
  | 73 => ⟨S1x8x64, .i1⟩
  | 74 => ⟨S1x8x64, .f32⟩
  | 75 => ⟨S1x8x64, .f32⟩
  | 76 => ⟨S1x8x64, .f32⟩
  | 77 => ⟨S1x8x64, .f32⟩
  | 78 => ⟨S1x8x64, .f32⟩
  | 79 => ⟨S1x8x64, .f32⟩
  | 80 => ⟨S1x8x64, .f32⟩
  | 81 => ⟨S1x8x64, .f32⟩
  | 82 => ⟨S4096x8x64, .f32⟩
  | 83 => ⟨S4096x8x64, .f32⟩
  | 84 => ⟨S_, .f32⟩
  | 85 => ⟨S4096x8x64, .f32⟩
  | 86 => ⟨S4096x8x64, .f32⟩
  | 87 => ⟨S4096x8x64, .f32⟩
  | 88 => ⟨S4096x8x64, .f32⟩
  | 89 => ⟨S4096x8x64, .f32⟩
  | 90 => ⟨S4096x8x64, .f32⟩
  | 91 => ⟨S4096x8x64, .f32⟩
  | 92 => ⟨S4096x8x64, .f32⟩
  | 93 => ⟨S2048x8x64, .f32⟩
  | 94 => ⟨S2048x8x64, .f32⟩
  | 95 => ⟨S2048x8x64, .f32⟩
  | 96 => ⟨S2048x8x64, .f32⟩
  | 97 => ⟨S2048x8x64, .f32⟩
  | 98 => ⟨S2048x8x64, .f32⟩
  | 99 => ⟨S2048x8x64, .f32⟩
  | 100 => ⟨S1024x8x64, .f32⟩
  | 101 => ⟨S1024x8x64, .f32⟩
  | 102 => ⟨S1024x8x64, .f32⟩
  | 103 => ⟨S1024x8x64, .f32⟩
  | 104 => ⟨S1024x8x64, .f32⟩
  | 105 => ⟨S1024x8x64, .f32⟩
  | 106 => ⟨S1024x8x64, .f32⟩
  | 107 => ⟨S512x8x64, .f32⟩
  | 108 => ⟨S512x8x64, .f32⟩
  | 109 => ⟨S512x8x64, .f32⟩
  | 110 => ⟨S512x8x64, .f32⟩
  | 111 => ⟨S512x8x64, .f32⟩
  | 112 => ⟨S512x8x64, .f32⟩
  | 113 => ⟨S512x8x64, .f32⟩
  | 114 => ⟨S256x8x64, .f32⟩
  | 115 => ⟨S256x8x64, .f32⟩
  | 116 => ⟨S256x8x64, .f32⟩
  | 117 => ⟨S256x8x64, .f32⟩
  | 118 => ⟨S256x8x64, .f32⟩
  | 119 => ⟨S256x8x64, .f32⟩
  | 120 => ⟨S256x8x64, .f32⟩
  | 121 => ⟨S128x8x64, .f32⟩
  | 122 => ⟨S128x8x64, .f32⟩
  | 123 => ⟨S128x8x64, .f32⟩
  | 124 => ⟨S128x8x64, .f32⟩
  | 125 => ⟨S128x8x64, .f32⟩
  | 126 => ⟨S128x8x64, .f32⟩
  | 127 => ⟨S128x8x64, .f32⟩
  | _ => ⟨S4096x2560, .f32⟩

abbrev hbmTy0_1 (i : Nat) : BufTy := match i % 128 with
  | 0 => ⟨S64x8x64, .f32⟩
  | 1 => ⟨S64x8x64, .f32⟩
  | 2 => ⟨S64x8x64, .f32⟩
  | 3 => ⟨S64x8x64, .f32⟩
  | 4 => ⟨S64x8x64, .f32⟩
  | 5 => ⟨S64x8x64, .f32⟩
  | 6 => ⟨S64x8x64, .f32⟩
  | 7 => ⟨S32x8x64, .f32⟩
  | 8 => ⟨S32x8x64, .f32⟩
  | 9 => ⟨S32x8x64, .f32⟩
  | 10 => ⟨S32x8x64, .f32⟩
  | 11 => ⟨S32x8x64, .f32⟩
  | 12 => ⟨S32x8x64, .f32⟩
  | 13 => ⟨S32x8x64, .f32⟩
  | 14 => ⟨S16x8x64, .f32⟩
  | 15 => ⟨S16x8x64, .f32⟩
  | 16 => ⟨S16x8x64, .f32⟩
  | 17 => ⟨S16x8x64, .f32⟩
  | 18 => ⟨S16x8x64, .f32⟩
  | 19 => ⟨S16x8x64, .f32⟩
  | 20 => ⟨S16x8x64, .f32⟩
  | 21 => ⟨S8x8x64, .f32⟩
  | 22 => ⟨S8x8x64, .f32⟩
  | 23 => ⟨S8x8x64, .f32⟩
  | 24 => ⟨S8x8x64, .f32⟩
  | 25 => ⟨S8x8x64, .f32⟩
  | 26 => ⟨S8x8x64, .f32⟩
  | 27 => ⟨S8x8x64, .f32⟩
  | 28 => ⟨S4x8x64, .f32⟩
  | 29 => ⟨S4x8x64, .f32⟩
  | 30 => ⟨S4x8x64, .f32⟩
  | 31 => ⟨S4x8x64, .f32⟩
  | 32 => ⟨S4x8x64, .f32⟩
  | 33 => ⟨S4x8x64, .f32⟩
  | 34 => ⟨S4x8x64, .f32⟩
  | 35 => ⟨S2x8x64, .f32⟩
  | 36 => ⟨S2x8x64, .f32⟩
  | 37 => ⟨S2x8x64, .f32⟩
  | 38 => ⟨S2x8x64, .f32⟩
  | 39 => ⟨S2x8x64, .f32⟩
  | 40 => ⟨S2x8x64, .f32⟩
  | 41 => ⟨S2x8x64, .f32⟩
  | 42 => ⟨S1x8x64, .f32⟩
  | 43 => ⟨S1x8x64, .f32⟩
  | 44 => ⟨S1x8x64, .f32⟩
  | 45 => ⟨S1x8x64, .f32⟩
  | 46 => ⟨S1x8x64, .f32⟩
  | 47 => ⟨S1x8x64, .f32⟩
  | 48 => ⟨S1x8x64, .f32⟩
  | 49 => ⟨S0x8x64, .f32⟩
  | 50 => ⟨S0x8x64, .f32⟩
  | 51 => ⟨S0x8x64, .f32⟩
  | 52 => ⟨S0x8x64, .f32⟩
  | 53 => ⟨S0x8x64, .f32⟩
  | 54 => ⟨S0x8x64, .f32⟩
  | 55 => ⟨S0x8x64, .f32⟩
  | 56 => ⟨S1x8x64, .f32⟩
  | 57 => ⟨S1x8x64, .f32⟩
  | 58 => ⟨S1x8x64, .f32⟩
  | 59 => ⟨S1x8x64, .f32⟩
  | 60 => ⟨S_, .f32⟩
  | 61 => ⟨S2x8x64, .f32⟩
  | 62 => ⟨S_, .f32⟩
  | 63 => ⟨S2x8x64, .f32⟩
  | 64 => ⟨S2x8x64, .f32⟩
  | 65 => ⟨S_, .f32⟩
  | 66 => ⟨S2x8x64, .f32⟩
  | 67 => ⟨S_, .f32⟩
  | 68 => ⟨S2x8x64, .f32⟩
  | 69 => ⟨S2x8x64, .f32⟩
  | 70 => ⟨S1x8x64, .f32⟩
  | 71 => ⟨S1x8x64, .f32⟩
  | 72 => ⟨S1x8x64, .f32⟩
  | 73 => ⟨S1x8x64, .f32⟩
  | 74 => ⟨S1x8x64, .f32⟩
  | 75 => ⟨S1x8x64, .f32⟩
  | 76 => ⟨S1x8x64, .f32⟩
  | 77 => ⟨S1x8x64, .f32⟩
  | 78 => ⟨S2x8x64, .f32⟩
  | 79 => ⟨S1x8x64, .f32⟩
  | 80 => ⟨S2x8x64, .f32⟩
  | 81 => ⟨S_, .f32⟩
  | 82 => ⟨S4x8x64, .f32⟩
  | 83 => ⟨S_, .f32⟩
  | 84 => ⟨S4x8x64, .f32⟩
  | 85 => ⟨S4x8x64, .f32⟩
  | 86 => ⟨S_, .f32⟩
  | 87 => ⟨S4x8x64, .f32⟩
  | 88 => ⟨S_, .f32⟩
  | 89 => ⟨S4x8x64, .f32⟩
  | 90 => ⟨S4x8x64, .f32⟩
  | 91 => ⟨S3x8x64, .f32⟩
  | 92 => ⟨S3x8x64, .f32⟩
  | 93 => ⟨S3x8x64, .f32⟩
  | 94 => ⟨S3x8x64, .f32⟩
  | 95 => ⟨S3x8x64, .f32⟩
  | 96 => ⟨S3x8x64, .f32⟩
  | 97 => ⟨S3x8x64, .f32⟩
  | 98 => ⟨S1x8x64, .f32⟩
  | 99 => ⟨S4x8x64, .f32⟩
  | 100 => ⟨S1x8x64, .f32⟩
  | 101 => ⟨S4x8x64, .f32⟩
  | 102 => ⟨S_, .f32⟩
  | 103 => ⟨S8x8x64, .f32⟩
  | 104 => ⟨S_, .f32⟩
  | 105 => ⟨S8x8x64, .f32⟩
  | 106 => ⟨S8x8x64, .f32⟩
  | 107 => ⟨S_, .f32⟩
  | 108 => ⟨S8x8x64, .f32⟩
  | 109 => ⟨S_, .f32⟩
  | 110 => ⟨S8x8x64, .f32⟩
  | 111 => ⟨S8x8x64, .f32⟩
  | 112 => ⟨S7x8x64, .f32⟩
  | 113 => ⟨S7x8x64, .f32⟩
  | 114 => ⟨S7x8x64, .f32⟩
  | 115 => ⟨S7x8x64, .f32⟩
  | 116 => ⟨S7x8x64, .f32⟩
  | 117 => ⟨S7x8x64, .f32⟩
  | 118 => ⟨S7x8x64, .f32⟩
  | 119 => ⟨S1x8x64, .f32⟩
  | 120 => ⟨S8x8x64, .f32⟩
  | 121 => ⟨S1x8x64, .f32⟩
  | 122 => ⟨S8x8x64, .f32⟩
  | 123 => ⟨S_, .f32⟩
  | 124 => ⟨S16x8x64, .f32⟩
  | 125 => ⟨S_, .f32⟩
  | 126 => ⟨S16x8x64, .f32⟩
  | 127 => ⟨S16x8x64, .f32⟩
  | _ => ⟨S4096x2560, .f32⟩

abbrev hbmTy0_2 (i : Nat) : BufTy := match i % 128 with
  | 0 => ⟨S_, .f32⟩
  | 1 => ⟨S16x8x64, .f32⟩
  | 2 => ⟨S_, .f32⟩
  | 3 => ⟨S16x8x64, .f32⟩
  | 4 => ⟨S16x8x64, .f32⟩
  | 5 => ⟨S15x8x64, .f32⟩
  | 6 => ⟨S15x8x64, .f32⟩
  | 7 => ⟨S15x8x64, .f32⟩
  | 8 => ⟨S15x8x64, .f32⟩
  | 9 => ⟨S15x8x64, .f32⟩
  | 10 => ⟨S15x8x64, .f32⟩
  | 11 => ⟨S15x8x64, .f32⟩
  | 12 => ⟨S1x8x64, .f32⟩
  | 13 => ⟨S16x8x64, .f32⟩
  | 14 => ⟨S1x8x64, .f32⟩
  | 15 => ⟨S16x8x64, .f32⟩
  | 16 => ⟨S_, .f32⟩
  | 17 => ⟨S32x8x64, .f32⟩
  | 18 => ⟨S_, .f32⟩
  | 19 => ⟨S32x8x64, .f32⟩
  | 20 => ⟨S32x8x64, .f32⟩
  | 21 => ⟨S_, .f32⟩
  | 22 => ⟨S32x8x64, .f32⟩
  | 23 => ⟨S_, .f32⟩
  | 24 => ⟨S32x8x64, .f32⟩
  | 25 => ⟨S32x8x64, .f32⟩
  | 26 => ⟨S31x8x64, .f32⟩
  | 27 => ⟨S31x8x64, .f32⟩
  | 28 => ⟨S31x8x64, .f32⟩
  | 29 => ⟨S31x8x64, .f32⟩
  | 30 => ⟨S31x8x64, .f32⟩
  | 31 => ⟨S31x8x64, .f32⟩
  | 32 => ⟨S31x8x64, .f32⟩
  | 33 => ⟨S1x8x64, .f32⟩
  | 34 => ⟨S32x8x64, .f32⟩
  | 35 => ⟨S1x8x64, .f32⟩
  | 36 => ⟨S32x8x64, .f32⟩
  | 37 => ⟨S_, .f32⟩
  | 38 => ⟨S64x8x64, .f32⟩
  | 39 => ⟨S_, .f32⟩
  | 40 => ⟨S64x8x64, .f32⟩
  | 41 => ⟨S64x8x64, .f32⟩
  | 42 => ⟨S_, .f32⟩
  | 43 => ⟨S64x8x64, .f32⟩
  | 44 => ⟨S_, .f32⟩
  | 45 => ⟨S64x8x64, .f32⟩
  | 46 => ⟨S64x8x64, .f32⟩
  | 47 => ⟨S63x8x64, .f32⟩
  | 48 => ⟨S63x8x64, .f32⟩
  | 49 => ⟨S63x8x64, .f32⟩
  | 50 => ⟨S63x8x64, .f32⟩
  | 51 => ⟨S63x8x64, .f32⟩
  | 52 => ⟨S63x8x64, .f32⟩
  | 53 => ⟨S63x8x64, .f32⟩
  | 54 => ⟨S1x8x64, .f32⟩
  | 55 => ⟨S64x8x64, .f32⟩
  | 56 => ⟨S1x8x64, .f32⟩
  | 57 => ⟨S64x8x64, .f32⟩
  | 58 => ⟨S_, .f32⟩
  | 59 => ⟨S128x8x64, .f32⟩
  | 60 => ⟨S_, .f32⟩
  | 61 => ⟨S128x8x64, .f32⟩
  | 62 => ⟨S128x8x64, .f32⟩
  | 63 => ⟨S_, .f32⟩
  | 64 => ⟨S128x8x64, .f32⟩
  | 65 => ⟨S_, .f32⟩
  | 66 => ⟨S128x8x64, .f32⟩
  | 67 => ⟨S128x8x64, .f32⟩
  | 68 => ⟨S127x8x64, .f32⟩
  | 69 => ⟨S127x8x64, .f32⟩
  | 70 => ⟨S127x8x64, .f32⟩
  | 71 => ⟨S127x8x64, .f32⟩
  | 72 => ⟨S127x8x64, .f32⟩
  | 73 => ⟨S127x8x64, .f32⟩
  | 74 => ⟨S127x8x64, .f32⟩
  | 75 => ⟨S1x8x64, .f32⟩
  | 76 => ⟨S128x8x64, .f32⟩
  | 77 => ⟨S1x8x64, .f32⟩
  | 78 => ⟨S128x8x64, .f32⟩
  | 79 => ⟨S_, .f32⟩
  | 80 => ⟨S256x8x64, .f32⟩
  | 81 => ⟨S_, .f32⟩
  | 82 => ⟨S256x8x64, .f32⟩
  | 83 => ⟨S256x8x64, .f32⟩
  | 84 => ⟨S_, .f32⟩
  | 85 => ⟨S256x8x64, .f32⟩
  | 86 => ⟨S_, .f32⟩
  | 87 => ⟨S256x8x64, .f32⟩
  | 88 => ⟨S256x8x64, .f32⟩
  | 89 => ⟨S255x8x64, .f32⟩
  | 90 => ⟨S255x8x64, .f32⟩
  | 91 => ⟨S255x8x64, .f32⟩
  | 92 => ⟨S255x8x64, .f32⟩
  | 93 => ⟨S255x8x64, .f32⟩
  | 94 => ⟨S255x8x64, .f32⟩
  | 95 => ⟨S255x8x64, .f32⟩
  | 96 => ⟨S1x8x64, .f32⟩
  | 97 => ⟨S256x8x64, .f32⟩
  | 98 => ⟨S1x8x64, .f32⟩
  | 99 => ⟨S256x8x64, .f32⟩
  | 100 => ⟨S_, .f32⟩
  | 101 => ⟨S512x8x64, .f32⟩
  | 102 => ⟨S_, .f32⟩
  | 103 => ⟨S512x8x64, .f32⟩
  | 104 => ⟨S512x8x64, .f32⟩
  | 105 => ⟨S_, .f32⟩
  | 106 => ⟨S512x8x64, .f32⟩
  | 107 => ⟨S_, .f32⟩
  | 108 => ⟨S512x8x64, .f32⟩
  | 109 => ⟨S512x8x64, .f32⟩
  | 110 => ⟨S511x8x64, .f32⟩
  | 111 => ⟨S511x8x64, .f32⟩
  | 112 => ⟨S511x8x64, .f32⟩
  | 113 => ⟨S511x8x64, .f32⟩
  | 114 => ⟨S511x8x64, .f32⟩
  | 115 => ⟨S511x8x64, .f32⟩
  | 116 => ⟨S511x8x64, .f32⟩
  | 117 => ⟨S1x8x64, .f32⟩
  | 118 => ⟨S512x8x64, .f32⟩
  | 119 => ⟨S1x8x64, .f32⟩
  | 120 => ⟨S512x8x64, .f32⟩
  | 121 => ⟨S_, .f32⟩
  | 122 => ⟨S1024x8x64, .f32⟩
  | 123 => ⟨S_, .f32⟩
  | 124 => ⟨S1024x8x64, .f32⟩
  | 125 => ⟨S1024x8x64, .f32⟩
  | 126 => ⟨S_, .f32⟩
  | 127 => ⟨S1024x8x64, .f32⟩
  | _ => ⟨S4096x2560, .f32⟩

abbrev hbmTy0_3 (i : Nat) : BufTy := match i % 128 with
  | 0 => ⟨S_, .f32⟩
  | 1 => ⟨S1024x8x64, .f32⟩
  | 2 => ⟨S1024x8x64, .f32⟩
  | 3 => ⟨S1023x8x64, .f32⟩
  | 4 => ⟨S1023x8x64, .f32⟩
  | 5 => ⟨S1023x8x64, .f32⟩
  | 6 => ⟨S1023x8x64, .f32⟩
  | 7 => ⟨S1023x8x64, .f32⟩
  | 8 => ⟨S1023x8x64, .f32⟩
  | 9 => ⟨S1023x8x64, .f32⟩
  | 10 => ⟨S1x8x64, .f32⟩
  | 11 => ⟨S1024x8x64, .f32⟩
  | 12 => ⟨S1x8x64, .f32⟩
  | 13 => ⟨S1024x8x64, .f32⟩
  | 14 => ⟨S_, .f32⟩
  | 15 => ⟨S2048x8x64, .f32⟩
  | 16 => ⟨S_, .f32⟩
  | 17 => ⟨S2048x8x64, .f32⟩
  | 18 => ⟨S2048x8x64, .f32⟩
  | 19 => ⟨S_, .f32⟩
  | 20 => ⟨S2048x8x64, .f32⟩
  | 21 => ⟨S_, .f32⟩
  | 22 => ⟨S2048x8x64, .f32⟩
  | 23 => ⟨S2048x8x64, .f32⟩
  | 24 => ⟨S2047x8x64, .f32⟩
  | 25 => ⟨S2047x8x64, .f32⟩
  | 26 => ⟨S2047x8x64, .f32⟩
  | 27 => ⟨S2047x8x64, .f32⟩
  | 28 => ⟨S2047x8x64, .f32⟩
  | 29 => ⟨S2047x8x64, .f32⟩
  | 30 => ⟨S2047x8x64, .f32⟩
  | 31 => ⟨S1x8x64, .f32⟩
  | 32 => ⟨S2048x8x64, .f32⟩
  | 33 => ⟨S1x8x64, .f32⟩
  | 34 => ⟨S2048x8x64, .f32⟩
  | 35 => ⟨S_, .f32⟩
  | 36 => ⟨S4096x8x64, .f32⟩
  | 37 => ⟨S_, .f32⟩
  | 38 => ⟨S4096x8x64, .f32⟩
  | 39 => ⟨S4096x8x64, .f32⟩
  | 40 => ⟨S_, .f32⟩
  | 41 => ⟨S4096x8x64, .f32⟩
  | 42 => ⟨S_, .f32⟩
  | 43 => ⟨S4096x8x64, .f32⟩
  | 44 => ⟨S4096x8x64, .f32⟩
  | 45 => ⟨S4096x512, .f32⟩
  | 46 => ⟨S2x8x64x64, .f32⟩
  | 47 => ⟨S2x2, .i32⟩
  | 48 => ⟨S2x2, .i32⟩
  | 49 => ⟨S_, .i32⟩
  | 50 => ⟨S2x2, .i32⟩
  | 51 => ⟨S2x2, .i32⟩
  | 52 => ⟨S2x2, .i1⟩
  | 53 => ⟨S2x2, .f32⟩
  | 54 => ⟨S2x4x2x64x1x64, .f32⟩
  | 55 => ⟨S1x2x1x2x1, .f32⟩
  | 56 => ⟨S1x1x2x1x2x1, .f32⟩
  | 57 => ⟨S2x4x2x64x2x64, .f32⟩
  | 58 => ⟨S2x4x2x64x2x64, .f32⟩
  | 59 => ⟨S2x4x2x64x2x64, .f32⟩
  | 60 => ⟨S2x4x128x128, .f32⟩
  | 61 => ⟨S2x4x128x128, .bf16⟩
  | 62 => ⟨S1x512, .f32⟩
  | 63 => ⟨S1x512, .f32⟩
  | 64 => ⟨S3x512, .f32⟩
  | 65 => ⟨S1x4x128x128, .bf16⟩
  | 66 => ⟨S4x128x128, .bf16⟩
  | 67 => ⟨S1x4x128x128, .bf16⟩
  | 68 => ⟨S4x128x128, .bf16⟩
  | 69 => ⟨S4096x2560, .bf16⟩
  | 70 => ⟨S16x512, .f32⟩
  | 71 => ⟨S4x128x128, .f32⟩
  | 72 => ⟨S4x128x128, .f32⟩
  | 73 => ⟨S4096x1536, .bf16⟩
  | 74 => ⟨S3x512, .f32⟩
  | _ => ⟨S4096x2560, .f32⟩

abbrev hbmTy (i : Nat) : BufTy := match i / 128 with
  | 0 => hbmTy0_0 i
  | 1 => hbmTy0_1 i
  | 2 => hbmTy0_2 i
  | 3 => hbmTy0_3 i
  | _ => ⟨S4096x2560, .f32⟩

abbrev bufTy : (tb : Table) → Fin (tcTables nBuf tb) → BufTy
  | .hbm, ⟨i, _⟩ => hbmTy i
  | .local _ .vmem, ⟨0, _⟩ => ⟨S256x2560, .f32⟩
  | .local _ .vmem, ⟨1, _⟩ => ⟨S256x2560, .f32⟩
  | .local _ .vmem, ⟨2, _⟩ => ⟨S8x2560, .f32⟩
  | .local _ .vmem, ⟨3, _⟩ => ⟨S8x2560, .f32⟩
  | .local _ .vmem, ⟨4, _⟩ => ⟨S8x2560, .f32⟩
  | .local _ .vmem, ⟨5, _⟩ => ⟨S8x2560, .f32⟩
  | .local _ .vmem, ⟨6, _⟩ => ⟨S256x1024, .bf16⟩
  | .local _ .vmem, ⟨7, _⟩ => ⟨S256x1024, .bf16⟩
  | .local _ .vmem, ⟨8, _⟩ => ⟨S16x1024, .bf16⟩
  | .local _ .vmem, ⟨9, _⟩ => ⟨S16x1024, .bf16⟩
  | .local _ .vmem, ⟨10, _⟩ => ⟨S256x512, .f32⟩
  | .local _ .vmem, ⟨11, _⟩ => ⟨S256x512, .f32⟩
  | .local _ .vmem, ⟨12, _⟩ => ⟨S8x512, .f32⟩
  | .local _ .vmem, ⟨13, _⟩ => ⟨S8x512, .f32⟩
  | .local _ .vmem, ⟨14, _⟩ => ⟨S3x512, .f32⟩
  | .local _ .vmem, ⟨15, _⟩ => ⟨S4x512, .f32⟩
  | .local _ .vmem, ⟨16, _⟩ => ⟨S1x512, .f32⟩
  | .local _ .vmem, ⟨17, _⟩ => ⟨S4x128x128, .bf16⟩
  | .local _ .vmem, ⟨18, _⟩ => ⟨S4x128x128, .bf16⟩
  | .local _ .vmem, ⟨19, _⟩ => ⟨S1x512, .f32⟩
  | .local _ .vmem, ⟨20, _⟩ => ⟨S1x512, .f32⟩
  | .local _ .vmem, ⟨21, _⟩ => ⟨S1x512, .f32⟩
  | .local _ .vmem, ⟨22, _⟩ => ⟨S256x2560, .bf16⟩
  | .local _ .vmem, ⟨23, _⟩ => ⟨S256x2560, .bf16⟩
  | .local _ .vmem, ⟨24, _⟩ => ⟨S16x512, .f32⟩
  | .local _ .vmem, ⟨25, _⟩ => ⟨S4x128x128, .f32⟩
  | .local _ .vmem, ⟨26, _⟩ => ⟨S4x128x128, .f32⟩
  | .local _ .vmem, ⟨27, _⟩ => ⟨S8x512, .f32⟩
  | .local _ .vmem, ⟨28, _⟩ => ⟨S8x512, .f32⟩
  | .local _ .vmem, ⟨29, _⟩ => ⟨S8x512, .f32⟩
  | .local _ .vmem, ⟨30, _⟩ => ⟨S8x272x128, .f32⟩
  | _, _ => ⟨S4096x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_0 : Ref sig .tc := ⟨.hbm, 45, rfl⟩
abbrev main_v34 : Ref sig .tc := ⟨.hbm, 46, rfl⟩
abbrev main_v35 : Ref sig .tc := ⟨.hbm, 47, rfl⟩
abbrev main_cst_1 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_cst_2 : Ref sig .tc := ⟨.hbm, 57, rfl⟩
abbrev main_v44 : Ref sig .tc := ⟨.hbm, 58, rfl⟩
abbrev main_v45 : Ref sig .tc := ⟨.hbm, 59, rfl⟩
abbrev main_cst_3 : Ref sig .tc := ⟨.hbm, 60, rfl⟩
abbrev main_v46 : Ref sig .tc := ⟨.hbm, 61, rfl⟩
abbrev main_v47 : Ref sig .tc := ⟨.hbm, 62, rfl⟩
abbrev main_cst_4 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_call0_cst : Ref sig .tc := ⟨.hbm, 68, rfl⟩
abbrev main_call0_v0 : Ref sig .tc := ⟨.hbm, 69, rfl⟩
abbrev main_call0_v1 : Ref sig .tc := ⟨.hbm, 70, rfl⟩
abbrev main_call0_v2 : Ref sig .tc := ⟨.hbm, 71, rfl⟩
abbrev main_call0_v3 : Ref sig .tc := ⟨.hbm, 72, rfl⟩
abbrev main_call0_v4 : Ref sig .tc := ⟨.hbm, 73, rfl⟩
abbrev main_call0_v5 : Ref sig .tc := ⟨.hbm, 74, rfl⟩
abbrev main_call0_v6 : Ref sig .tc := ⟨.hbm, 75, rfl⟩
abbrev main_call0_v7 : Ref sig .tc := ⟨.hbm, 76, rfl⟩
abbrev main_call0_v8 : Ref sig .tc := ⟨.hbm, 77, rfl⟩
abbrev main_call0_v9 : Ref sig .tc := ⟨.hbm, 78, rfl⟩
abbrev main_call0_v10 : Ref sig .tc := ⟨.hbm, 79, rfl⟩
abbrev main_call0_v11 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_cst_5 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩
abbrev main_v121 : Ref sig .tc := ⟨.hbm, 151, rfl⟩
abbrev main_v122 : Ref sig .tc := ⟨.hbm, 152, rfl⟩
abbrev main_v123 : Ref sig .tc := ⟨.hbm, 153, rfl⟩
abbrev main_v124 : Ref sig .tc := ⟨.hbm, 154, rfl⟩
abbrev main_v125 : Ref sig .tc := ⟨.hbm, 155, rfl⟩
abbrev main_v126 : Ref sig .tc := ⟨.hbm, 156, rfl⟩
abbrev main_v127 : Ref sig .tc := ⟨.hbm, 157, rfl⟩
abbrev main_v128 : Ref sig .tc := ⟨.hbm, 158, rfl⟩
abbrev main_v129 : Ref sig .tc := ⟨.hbm, 159, rfl⟩
abbrev main_v130 : Ref sig .tc := ⟨.hbm, 160, rfl⟩
abbrev main_v131 : Ref sig .tc := ⟨.hbm, 161, rfl⟩
abbrev main_v132 : Ref sig .tc := ⟨.hbm, 162, rfl⟩
abbrev main_v133 : Ref sig .tc := ⟨.hbm, 163, rfl⟩
abbrev main_v134 : Ref sig .tc := ⟨.hbm, 164, rfl⟩
abbrev main_v135 : Ref sig .tc := ⟨.hbm, 165, rfl⟩
abbrev main_v136 : Ref sig .tc := ⟨.hbm, 166, rfl⟩
abbrev main_v137 : Ref sig .tc := ⟨.hbm, 167, rfl⟩
abbrev main_v138 : Ref sig .tc := ⟨.hbm, 168, rfl⟩
abbrev main_v139 : Ref sig .tc := ⟨.hbm, 169, rfl⟩
abbrev main_v140 : Ref sig .tc := ⟨.hbm, 170, rfl⟩
abbrev main_v141 : Ref sig .tc := ⟨.hbm, 171, rfl⟩
abbrev main_v142 : Ref sig .tc := ⟨.hbm, 172, rfl⟩
abbrev main_v143 : Ref sig .tc := ⟨.hbm, 173, rfl⟩
abbrev main_v144 : Ref sig .tc := ⟨.hbm, 174, rfl⟩
abbrev main_v145 : Ref sig .tc := ⟨.hbm, 175, rfl⟩
abbrev main_v146 : Ref sig .tc := ⟨.hbm, 176, rfl⟩
abbrev main_v147 : Ref sig .tc := ⟨.hbm, 177, rfl⟩
abbrev main_v148 : Ref sig .tc := ⟨.hbm, 178, rfl⟩
abbrev main_v149 : Ref sig .tc := ⟨.hbm, 179, rfl⟩
abbrev main_v150 : Ref sig .tc := ⟨.hbm, 180, rfl⟩
abbrev main_v151 : Ref sig .tc := ⟨.hbm, 181, rfl⟩
abbrev main_v152 : Ref sig .tc := ⟨.hbm, 182, rfl⟩
abbrev main_v153 : Ref sig .tc := ⟨.hbm, 183, rfl⟩
abbrev main_v154 : Ref sig .tc := ⟨.hbm, 184, rfl⟩
abbrev main_v155 : Ref sig .tc := ⟨.hbm, 185, rfl⟩
abbrev main_v156 : Ref sig .tc := ⟨.hbm, 186, rfl⟩
abbrev main_v157 : Ref sig .tc := ⟨.hbm, 187, rfl⟩
abbrev main_cst_6 : Ref sig .tc := ⟨.hbm, 188, rfl⟩
abbrev main_v158 : Ref sig .tc := ⟨.hbm, 189, rfl⟩
abbrev main_cst_7 : Ref sig .tc := ⟨.hbm, 190, rfl⟩
abbrev main_v159 : Ref sig .tc := ⟨.hbm, 191, rfl⟩
abbrev main_v160 : Ref sig .tc := ⟨.hbm, 192, rfl⟩
abbrev main_cst_8 : Ref sig .tc := ⟨.hbm, 193, rfl⟩
abbrev main_v161 : Ref sig .tc := ⟨.hbm, 194, rfl⟩
abbrev main_cst_9 : Ref sig .tc := ⟨.hbm, 195, rfl⟩
abbrev main_v162 : Ref sig .tc := ⟨.hbm, 196, rfl⟩
abbrev main_v163 : Ref sig .tc := ⟨.hbm, 197, rfl⟩
abbrev main_v164 : Ref sig .tc := ⟨.hbm, 198, rfl⟩
abbrev main_v165 : Ref sig .tc := ⟨.hbm, 199, rfl⟩
abbrev main_v166 : Ref sig .tc := ⟨.hbm, 200, rfl⟩
abbrev main_v167 : Ref sig .tc := ⟨.hbm, 201, rfl⟩
abbrev main_v168 : Ref sig .tc := ⟨.hbm, 202, rfl⟩
abbrev main_v169 : Ref sig .tc := ⟨.hbm, 203, rfl⟩
abbrev main_v170 : Ref sig .tc := ⟨.hbm, 204, rfl⟩
abbrev main_v171 : Ref sig .tc := ⟨.hbm, 205, rfl⟩
abbrev main_v172 : Ref sig .tc := ⟨.hbm, 206, rfl⟩
abbrev main_v173 : Ref sig .tc := ⟨.hbm, 207, rfl⟩
abbrev main_v174 : Ref sig .tc := ⟨.hbm, 208, rfl⟩
abbrev main_cst_10 : Ref sig .tc := ⟨.hbm, 209, rfl⟩
abbrev main_v175 : Ref sig .tc := ⟨.hbm, 210, rfl⟩
abbrev main_cst_11 : Ref sig .tc := ⟨.hbm, 211, rfl⟩
abbrev main_v176 : Ref sig .tc := ⟨.hbm, 212, rfl⟩
abbrev main_v177 : Ref sig .tc := ⟨.hbm, 213, rfl⟩
abbrev main_cst_12 : Ref sig .tc := ⟨.hbm, 214, rfl⟩
abbrev main_v178 : Ref sig .tc := ⟨.hbm, 215, rfl⟩
abbrev main_cst_13 : Ref sig .tc := ⟨.hbm, 216, rfl⟩
abbrev main_v179 : Ref sig .tc := ⟨.hbm, 217, rfl⟩
abbrev main_v180 : Ref sig .tc := ⟨.hbm, 218, rfl⟩
abbrev main_v181 : Ref sig .tc := ⟨.hbm, 219, rfl⟩
abbrev main_v182 : Ref sig .tc := ⟨.hbm, 220, rfl⟩
abbrev main_v183 : Ref sig .tc := ⟨.hbm, 221, rfl⟩
abbrev main_v184 : Ref sig .tc := ⟨.hbm, 222, rfl⟩
abbrev main_v185 : Ref sig .tc := ⟨.hbm, 223, rfl⟩
abbrev main_v186 : Ref sig .tc := ⟨.hbm, 224, rfl⟩
abbrev main_v187 : Ref sig .tc := ⟨.hbm, 225, rfl⟩
abbrev main_v188 : Ref sig .tc := ⟨.hbm, 226, rfl⟩
abbrev main_v189 : Ref sig .tc := ⟨.hbm, 227, rfl⟩
abbrev main_v190 : Ref sig .tc := ⟨.hbm, 228, rfl⟩
abbrev main_v191 : Ref sig .tc := ⟨.hbm, 229, rfl⟩
abbrev main_cst_14 : Ref sig .tc := ⟨.hbm, 230, rfl⟩
abbrev main_v192 : Ref sig .tc := ⟨.hbm, 231, rfl⟩
abbrev main_cst_15 : Ref sig .tc := ⟨.hbm, 232, rfl⟩
abbrev main_v193 : Ref sig .tc := ⟨.hbm, 233, rfl⟩
abbrev main_v194 : Ref sig .tc := ⟨.hbm, 234, rfl⟩
abbrev main_cst_16 : Ref sig .tc := ⟨.hbm, 235, rfl⟩
abbrev main_v195 : Ref sig .tc := ⟨.hbm, 236, rfl⟩
abbrev main_cst_17 : Ref sig .tc := ⟨.hbm, 237, rfl⟩
abbrev main_v196 : Ref sig .tc := ⟨.hbm, 238, rfl⟩
abbrev main_v197 : Ref sig .tc := ⟨.hbm, 239, rfl⟩
abbrev main_v198 : Ref sig .tc := ⟨.hbm, 240, rfl⟩
abbrev main_v199 : Ref sig .tc := ⟨.hbm, 241, rfl⟩
abbrev main_v200 : Ref sig .tc := ⟨.hbm, 242, rfl⟩
abbrev main_v201 : Ref sig .tc := ⟨.hbm, 243, rfl⟩
abbrev main_v202 : Ref sig .tc := ⟨.hbm, 244, rfl⟩
abbrev main_v203 : Ref sig .tc := ⟨.hbm, 245, rfl⟩
abbrev main_v204 : Ref sig .tc := ⟨.hbm, 246, rfl⟩
abbrev main_v205 : Ref sig .tc := ⟨.hbm, 247, rfl⟩
abbrev main_v206 : Ref sig .tc := ⟨.hbm, 248, rfl⟩
abbrev main_v207 : Ref sig .tc := ⟨.hbm, 249, rfl⟩
abbrev main_v208 : Ref sig .tc := ⟨.hbm, 250, rfl⟩
abbrev main_cst_18 : Ref sig .tc := ⟨.hbm, 251, rfl⟩
abbrev main_v209 : Ref sig .tc := ⟨.hbm, 252, rfl⟩
abbrev main_cst_19 : Ref sig .tc := ⟨.hbm, 253, rfl⟩
abbrev main_v210 : Ref sig .tc := ⟨.hbm, 254, rfl⟩
abbrev main_v211 : Ref sig .tc := ⟨.hbm, 255, rfl⟩
abbrev main_cst_20 : Ref sig .tc := ⟨.hbm, 256, rfl⟩
abbrev main_v212 : Ref sig .tc := ⟨.hbm, 257, rfl⟩
abbrev main_cst_21 : Ref sig .tc := ⟨.hbm, 258, rfl⟩
abbrev main_v213 : Ref sig .tc := ⟨.hbm, 259, rfl⟩
abbrev main_v214 : Ref sig .tc := ⟨.hbm, 260, rfl⟩
abbrev main_v215 : Ref sig .tc := ⟨.hbm, 261, rfl⟩
abbrev main_v216 : Ref sig .tc := ⟨.hbm, 262, rfl⟩
abbrev main_v217 : Ref sig .tc := ⟨.hbm, 263, rfl⟩
abbrev main_v218 : Ref sig .tc := ⟨.hbm, 264, rfl⟩
abbrev main_v219 : Ref sig .tc := ⟨.hbm, 265, rfl⟩
abbrev main_v220 : Ref sig .tc := ⟨.hbm, 266, rfl⟩
abbrev main_v221 : Ref sig .tc := ⟨.hbm, 267, rfl⟩
abbrev main_v222 : Ref sig .tc := ⟨.hbm, 268, rfl⟩
abbrev main_v223 : Ref sig .tc := ⟨.hbm, 269, rfl⟩
abbrev main_v224 : Ref sig .tc := ⟨.hbm, 270, rfl⟩
abbrev main_v225 : Ref sig .tc := ⟨.hbm, 271, rfl⟩
abbrev main_cst_22 : Ref sig .tc := ⟨.hbm, 272, rfl⟩
abbrev main_v226 : Ref sig .tc := ⟨.hbm, 273, rfl⟩
abbrev main_cst_23 : Ref sig .tc := ⟨.hbm, 274, rfl⟩
abbrev main_v227 : Ref sig .tc := ⟨.hbm, 275, rfl⟩
abbrev main_v228 : Ref sig .tc := ⟨.hbm, 276, rfl⟩
abbrev main_cst_24 : Ref sig .tc := ⟨.hbm, 277, rfl⟩
abbrev main_v229 : Ref sig .tc := ⟨.hbm, 278, rfl⟩
abbrev main_cst_25 : Ref sig .tc := ⟨.hbm, 279, rfl⟩
abbrev main_v230 : Ref sig .tc := ⟨.hbm, 280, rfl⟩
abbrev main_v231 : Ref sig .tc := ⟨.hbm, 281, rfl⟩
abbrev main_v232 : Ref sig .tc := ⟨.hbm, 282, rfl⟩
abbrev main_v233 : Ref sig .tc := ⟨.hbm, 283, rfl⟩
abbrev main_v234 : Ref sig .tc := ⟨.hbm, 284, rfl⟩
abbrev main_v235 : Ref sig .tc := ⟨.hbm, 285, rfl⟩
abbrev main_v236 : Ref sig .tc := ⟨.hbm, 286, rfl⟩
abbrev main_v237 : Ref sig .tc := ⟨.hbm, 287, rfl⟩
abbrev main_v238 : Ref sig .tc := ⟨.hbm, 288, rfl⟩
abbrev main_v239 : Ref sig .tc := ⟨.hbm, 289, rfl⟩
abbrev main_v240 : Ref sig .tc := ⟨.hbm, 290, rfl⟩
abbrev main_v241 : Ref sig .tc := ⟨.hbm, 291, rfl⟩
abbrev main_v242 : Ref sig .tc := ⟨.hbm, 292, rfl⟩
abbrev main_cst_26 : Ref sig .tc := ⟨.hbm, 293, rfl⟩
abbrev main_v243 : Ref sig .tc := ⟨.hbm, 294, rfl⟩
abbrev main_cst_27 : Ref sig .tc := ⟨.hbm, 295, rfl⟩
abbrev main_v244 : Ref sig .tc := ⟨.hbm, 296, rfl⟩
abbrev main_v245 : Ref sig .tc := ⟨.hbm, 297, rfl⟩
abbrev main_cst_28 : Ref sig .tc := ⟨.hbm, 298, rfl⟩
abbrev main_v246 : Ref sig .tc := ⟨.hbm, 299, rfl⟩
abbrev main_cst_29 : Ref sig .tc := ⟨.hbm, 300, rfl⟩
abbrev main_v247 : Ref sig .tc := ⟨.hbm, 301, rfl⟩
abbrev main_v248 : Ref sig .tc := ⟨.hbm, 302, rfl⟩
abbrev main_v249 : Ref sig .tc := ⟨.hbm, 303, rfl⟩
abbrev main_v250 : Ref sig .tc := ⟨.hbm, 304, rfl⟩
abbrev main_v251 : Ref sig .tc := ⟨.hbm, 305, rfl⟩
abbrev main_v252 : Ref sig .tc := ⟨.hbm, 306, rfl⟩
abbrev main_v253 : Ref sig .tc := ⟨.hbm, 307, rfl⟩
abbrev main_v254 : Ref sig .tc := ⟨.hbm, 308, rfl⟩
abbrev main_v255 : Ref sig .tc := ⟨.hbm, 309, rfl⟩
abbrev main_v256 : Ref sig .tc := ⟨.hbm, 310, rfl⟩
abbrev main_v257 : Ref sig .tc := ⟨.hbm, 311, rfl⟩
abbrev main_v258 : Ref sig .tc := ⟨.hbm, 312, rfl⟩
abbrev main_v259 : Ref sig .tc := ⟨.hbm, 313, rfl⟩
abbrev main_cst_30 : Ref sig .tc := ⟨.hbm, 314, rfl⟩
abbrev main_v260 : Ref sig .tc := ⟨.hbm, 315, rfl⟩
abbrev main_cst_31 : Ref sig .tc := ⟨.hbm, 316, rfl⟩
abbrev main_v261 : Ref sig .tc := ⟨.hbm, 317, rfl⟩
abbrev main_v262 : Ref sig .tc := ⟨.hbm, 318, rfl⟩
abbrev main_cst_32 : Ref sig .tc := ⟨.hbm, 319, rfl⟩
abbrev main_v263 : Ref sig .tc := ⟨.hbm, 320, rfl⟩
abbrev main_cst_33 : Ref sig .tc := ⟨.hbm, 321, rfl⟩
abbrev main_v264 : Ref sig .tc := ⟨.hbm, 322, rfl⟩
abbrev main_v265 : Ref sig .tc := ⟨.hbm, 323, rfl⟩
abbrev main_v266 : Ref sig .tc := ⟨.hbm, 324, rfl⟩
abbrev main_v267 : Ref sig .tc := ⟨.hbm, 325, rfl⟩
abbrev main_v268 : Ref sig .tc := ⟨.hbm, 326, rfl⟩
abbrev main_v269 : Ref sig .tc := ⟨.hbm, 327, rfl⟩
abbrev main_v270 : Ref sig .tc := ⟨.hbm, 328, rfl⟩
abbrev main_v271 : Ref sig .tc := ⟨.hbm, 329, rfl⟩
abbrev main_v272 : Ref sig .tc := ⟨.hbm, 330, rfl⟩
abbrev main_v273 : Ref sig .tc := ⟨.hbm, 331, rfl⟩
abbrev main_v274 : Ref sig .tc := ⟨.hbm, 332, rfl⟩
abbrev main_v275 : Ref sig .tc := ⟨.hbm, 333, rfl⟩
abbrev main_v276 : Ref sig .tc := ⟨.hbm, 334, rfl⟩
abbrev main_cst_34 : Ref sig .tc := ⟨.hbm, 335, rfl⟩
abbrev main_v277 : Ref sig .tc := ⟨.hbm, 336, rfl⟩
abbrev main_cst_35 : Ref sig .tc := ⟨.hbm, 337, rfl⟩
abbrev main_v278 : Ref sig .tc := ⟨.hbm, 338, rfl⟩
abbrev main_v279 : Ref sig .tc := ⟨.hbm, 339, rfl⟩
abbrev main_cst_36 : Ref sig .tc := ⟨.hbm, 340, rfl⟩
abbrev main_v280 : Ref sig .tc := ⟨.hbm, 341, rfl⟩
abbrev main_cst_37 : Ref sig .tc := ⟨.hbm, 342, rfl⟩
abbrev main_v281 : Ref sig .tc := ⟨.hbm, 343, rfl⟩
abbrev main_v282 : Ref sig .tc := ⟨.hbm, 344, rfl⟩
abbrev main_v283 : Ref sig .tc := ⟨.hbm, 345, rfl⟩
abbrev main_v284 : Ref sig .tc := ⟨.hbm, 346, rfl⟩
abbrev main_v285 : Ref sig .tc := ⟨.hbm, 347, rfl⟩
abbrev main_v286 : Ref sig .tc := ⟨.hbm, 348, rfl⟩
abbrev main_v287 : Ref sig .tc := ⟨.hbm, 349, rfl⟩
abbrev main_v288 : Ref sig .tc := ⟨.hbm, 350, rfl⟩
abbrev main_v289 : Ref sig .tc := ⟨.hbm, 351, rfl⟩
abbrev main_v290 : Ref sig .tc := ⟨.hbm, 352, rfl⟩
abbrev main_v291 : Ref sig .tc := ⟨.hbm, 353, rfl⟩
abbrev main_v292 : Ref sig .tc := ⟨.hbm, 354, rfl⟩
abbrev main_v293 : Ref sig .tc := ⟨.hbm, 355, rfl⟩
abbrev main_cst_38 : Ref sig .tc := ⟨.hbm, 356, rfl⟩
abbrev main_v294 : Ref sig .tc := ⟨.hbm, 357, rfl⟩
abbrev main_cst_39 : Ref sig .tc := ⟨.hbm, 358, rfl⟩
abbrev main_v295 : Ref sig .tc := ⟨.hbm, 359, rfl⟩
abbrev main_v296 : Ref sig .tc := ⟨.hbm, 360, rfl⟩
abbrev main_cst_40 : Ref sig .tc := ⟨.hbm, 361, rfl⟩
abbrev main_v297 : Ref sig .tc := ⟨.hbm, 362, rfl⟩
abbrev main_cst_41 : Ref sig .tc := ⟨.hbm, 363, rfl⟩
abbrev main_v298 : Ref sig .tc := ⟨.hbm, 364, rfl⟩
abbrev main_v299 : Ref sig .tc := ⟨.hbm, 365, rfl⟩
abbrev main_v300 : Ref sig .tc := ⟨.hbm, 366, rfl⟩
abbrev main_v301 : Ref sig .tc := ⟨.hbm, 367, rfl⟩
abbrev main_v302 : Ref sig .tc := ⟨.hbm, 368, rfl⟩
abbrev main_v303 : Ref sig .tc := ⟨.hbm, 369, rfl⟩
abbrev main_v304 : Ref sig .tc := ⟨.hbm, 370, rfl⟩
abbrev main_v305 : Ref sig .tc := ⟨.hbm, 371, rfl⟩
abbrev main_v306 : Ref sig .tc := ⟨.hbm, 372, rfl⟩
abbrev main_v307 : Ref sig .tc := ⟨.hbm, 373, rfl⟩
abbrev main_v308 : Ref sig .tc := ⟨.hbm, 374, rfl⟩
abbrev main_v309 : Ref sig .tc := ⟨.hbm, 375, rfl⟩
abbrev main_v310 : Ref sig .tc := ⟨.hbm, 376, rfl⟩
abbrev main_cst_42 : Ref sig .tc := ⟨.hbm, 377, rfl⟩
abbrev main_v311 : Ref sig .tc := ⟨.hbm, 378, rfl⟩
abbrev main_cst_43 : Ref sig .tc := ⟨.hbm, 379, rfl⟩
abbrev main_v312 : Ref sig .tc := ⟨.hbm, 380, rfl⟩
abbrev main_v313 : Ref sig .tc := ⟨.hbm, 381, rfl⟩
abbrev main_cst_44 : Ref sig .tc := ⟨.hbm, 382, rfl⟩
abbrev main_v314 : Ref sig .tc := ⟨.hbm, 383, rfl⟩
abbrev main_cst_45 : Ref sig .tc := ⟨.hbm, 384, rfl⟩
abbrev main_v315 : Ref sig .tc := ⟨.hbm, 385, rfl⟩
abbrev main_v316 : Ref sig .tc := ⟨.hbm, 386, rfl⟩
abbrev main_v317 : Ref sig .tc := ⟨.hbm, 387, rfl⟩
abbrev main_v318 : Ref sig .tc := ⟨.hbm, 388, rfl⟩
abbrev main_v319 : Ref sig .tc := ⟨.hbm, 389, rfl⟩
abbrev main_v320 : Ref sig .tc := ⟨.hbm, 390, rfl⟩
abbrev main_v321 : Ref sig .tc := ⟨.hbm, 391, rfl⟩
abbrev main_v322 : Ref sig .tc := ⟨.hbm, 392, rfl⟩
abbrev main_v323 : Ref sig .tc := ⟨.hbm, 393, rfl⟩
abbrev main_v324 : Ref sig .tc := ⟨.hbm, 394, rfl⟩
abbrev main_v325 : Ref sig .tc := ⟨.hbm, 395, rfl⟩
abbrev main_v326 : Ref sig .tc := ⟨.hbm, 396, rfl⟩
abbrev main_v327 : Ref sig .tc := ⟨.hbm, 397, rfl⟩
abbrev main_cst_46 : Ref sig .tc := ⟨.hbm, 398, rfl⟩
abbrev main_v328 : Ref sig .tc := ⟨.hbm, 399, rfl⟩
abbrev main_cst_47 : Ref sig .tc := ⟨.hbm, 400, rfl⟩
abbrev main_v329 : Ref sig .tc := ⟨.hbm, 401, rfl⟩
abbrev main_v330 : Ref sig .tc := ⟨.hbm, 402, rfl⟩
abbrev main_cst_48 : Ref sig .tc := ⟨.hbm, 403, rfl⟩
abbrev main_v331 : Ref sig .tc := ⟨.hbm, 404, rfl⟩
abbrev main_cst_49 : Ref sig .tc := ⟨.hbm, 405, rfl⟩
abbrev main_v332 : Ref sig .tc := ⟨.hbm, 406, rfl⟩
abbrev main_v333 : Ref sig .tc := ⟨.hbm, 407, rfl⟩
abbrev main_v334 : Ref sig .tc := ⟨.hbm, 408, rfl⟩
abbrev main_v335 : Ref sig .tc := ⟨.hbm, 409, rfl⟩
abbrev main_v336 : Ref sig .tc := ⟨.hbm, 410, rfl⟩
abbrev main_v337 : Ref sig .tc := ⟨.hbm, 411, rfl⟩
abbrev main_v338 : Ref sig .tc := ⟨.hbm, 412, rfl⟩
abbrev main_v339 : Ref sig .tc := ⟨.hbm, 413, rfl⟩
abbrev main_v340 : Ref sig .tc := ⟨.hbm, 414, rfl⟩
abbrev main_v341 : Ref sig .tc := ⟨.hbm, 415, rfl⟩
abbrev main_v342 : Ref sig .tc := ⟨.hbm, 416, rfl⟩
abbrev main_v343 : Ref sig .tc := ⟨.hbm, 417, rfl⟩
abbrev main_v344 : Ref sig .tc := ⟨.hbm, 418, rfl⟩
abbrev main_cst_50 : Ref sig .tc := ⟨.hbm, 419, rfl⟩
abbrev main_v345 : Ref sig .tc := ⟨.hbm, 420, rfl⟩
abbrev main_cst_51 : Ref sig .tc := ⟨.hbm, 421, rfl⟩
abbrev main_v346 : Ref sig .tc := ⟨.hbm, 422, rfl⟩
abbrev main_v347 : Ref sig .tc := ⟨.hbm, 423, rfl⟩
abbrev main_cst_52 : Ref sig .tc := ⟨.hbm, 424, rfl⟩
abbrev main_v348 : Ref sig .tc := ⟨.hbm, 425, rfl⟩
abbrev main_cst_53 : Ref sig .tc := ⟨.hbm, 426, rfl⟩
abbrev main_v349 : Ref sig .tc := ⟨.hbm, 427, rfl⟩
abbrev main_v350 : Ref sig .tc := ⟨.hbm, 428, rfl⟩
abbrev main_v351 : Ref sig .tc := ⟨.hbm, 429, rfl⟩
abbrev main_v352 : Ref sig .tc := ⟨.hbm, 430, rfl⟩
abbrev main_v353 : Ref sig .tc := ⟨.hbm, 431, rfl⟩
abbrev main_v354 : Ref sig .tc := ⟨.hbm, 432, rfl⟩
abbrev main_c : Ref sig .tc := ⟨.hbm, 433, rfl⟩
abbrev main_v355 : Ref sig .tc := ⟨.hbm, 434, rfl⟩
abbrev main_v356 : Ref sig .tc := ⟨.hbm, 435, rfl⟩
abbrev main_v357 : Ref sig .tc := ⟨.hbm, 436, rfl⟩
abbrev main_v358 : Ref sig .tc := ⟨.hbm, 437, rfl⟩
abbrev main_v359 : Ref sig .tc := ⟨.hbm, 438, rfl⟩
abbrev main_v360 : Ref sig .tc := ⟨.hbm, 439, rfl⟩
abbrev main_v361 : Ref sig .tc := ⟨.hbm, 440, rfl⟩
abbrev main_v362 : Ref sig .tc := ⟨.hbm, 441, rfl⟩
abbrev main_v363 : Ref sig .tc := ⟨.hbm, 442, rfl⟩
abbrev main_v364 : Ref sig .tc := ⟨.hbm, 443, rfl⟩
abbrev main_v365 : Ref sig .tc := ⟨.hbm, 444, rfl⟩
abbrev main_v366 : Ref sig .tc := ⟨.hbm, 445, rfl⟩
abbrev main_v367 : Ref sig .tc := ⟨.hbm, 446, rfl⟩
abbrev main_v368 : Ref sig .tc := ⟨.hbm, 447, rfl⟩
abbrev main_v369 : Ref sig .tc := ⟨.hbm, 448, rfl⟩
abbrev main_v370 : Ref sig .tc := ⟨.hbm, 449, rfl⟩
abbrev main_v371 : Ref sig .tc := ⟨.hbm, 450, rfl⟩
abbrev main_v372 : Ref sig .tc := ⟨.hbm, 451, rfl⟩
abbrev main_v373 : Ref sig .tc := ⟨.hbm, 452, rfl⟩
abbrev main_v374_0 : Ref sig .tc := ⟨.hbm, 453, rfl⟩
abbrev main_v374_1 : Ref sig .tc := ⟨.hbm, 454, rfl⟩
abbrev main_v374_2 : Ref sig .tc := ⟨.hbm, 455, rfl⟩
abbrev main_v374_3 : Ref sig .tc := ⟨.hbm, 456, rfl⟩
abbrev main_v375 : Ref sig .tc := ⟨.hbm, 457, rfl⟩
abbrev main_v376 : Ref sig .tc := ⟨.hbm, 458, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg17_0 : Ref sig .tc := ⟨.vmem, 25, rfl⟩
abbrev cc0_stg18_0 : Ref sig .tc := ⟨.vmem, 26, rfl⟩
abbrev cc0_scratch0 : Ref sig .tc := ⟨.vmem, 27, rfl⟩
abbrev cc0_scratch1 : Ref sig .tc := ⟨.vmem, 28, rfl⟩
abbrev cc0_scratch2 : Ref sig .tc := ⟨.vmem, 29, rfl⟩
abbrev cc0_scratch3 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem15_0 : DmaSem sig := 22
abbrev cc0_sem15_1 : DmaSem sig := 23
abbrev cc0_sem16_0 : DmaSem sig := 24
abbrev cc0_sem17_0 : DmaSem sig := 25
abbrev cc0_sem18_0 : DmaSem sig := 26

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c15_i32 : BitVec 32 := 15#32
  let v0 : BitVec 32 := Scalar.subi c15_i32 arg0
  let c32_i32 : BitVec 32 := 32#32
  let v1 : BitVec 32 := Scalar.muli v0 c32_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_2 (i : grid0.Coords) : Fin 2 → Nat :=
  let arg0 : BitVec 32 := BitVec.ofNat 32 (i 0).val
  let c15_i32 : BitVec 32 := 15#32
  let v0 : BitVec 32 := Scalar.subi c15_i32 arg0
  let c1_i32 : BitVec 32 := 1#32
  let v1 : BitVec 32 := Scalar.addi v0 c1_i32
  let c32_i32 : BitVec 32 := 32#32
  let v2 : BitVec 32 := Scalar.muli v1 c32_i32
  let c511_i32 : BitVec 32 := 511#32
  let v3 : BitVec 32 := Scalar.minsi v2 c511_i32
  let c0_i32 : BitVec 32 := 0#32
  let c0_i32_0 : BitVec 32 := 0#32
  ![v3.toNat, c0_i32.toNat]

def cc0_transform_3 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c15_i32 : BitVec 32 := 15#32
  let v0 : BitVec 32 := Scalar.subi c15_i32 arg0
  let c1_i32 : BitVec 32 := 1#32
  let v1 : BitVec 32 := Scalar.addi v0 c1_i32
  let c16_i32 : BitVec 32 := 16#32
  let v2 : BitVec 32 := Scalar.muli v1 c16_i32
  let c255_i32 : BitVec 32 := 255#32
  let v3 : BitVec 32 := Scalar.minsi v2 c255_i32
  let c0_i32 : BitVec 32 := 0#32
  let c0_i32_0 : BitVec 32 := 0#32
  ![v3.toNat, c0_i32.toNat]

def cc0_transform_5 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c15_i32 : BitVec 32 := 15#32
  let v0 : BitVec 32 := Scalar.subi c15_i32 arg0
  let c32_i32 : BitVec 32 := 32#32
  let v1 : BitVec 32 := Scalar.muli v0 c32_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S256x2560 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x2560 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x2560 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S3x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S4x128x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S4x128x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S256x2560 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S16x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S4x128x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S4x128x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]
-- ==== Reference2Ideal.lean ====
abbrev S4096x2560 : Shape := ⟨2, ![4096, 2560]⟩
abbrev S1x3x512 : Shape := ⟨3, ![1, 3, 512]⟩
abbrev S1x4x512 : Shape := ⟨3, ![1, 4, 512]⟩
abbrev S1x512 : Shape := ⟨2, ![1, 512]⟩
abbrev S1x8x64x64 : Shape := ⟨4, ![1, 8, 64, 64]⟩
abbrev S1x8x64 : Shape := ⟨3, ![1, 8, 64]⟩
abbrev S4096x1024 : Shape := ⟨2, ![4096, 1024]⟩
abbrev S4096x1536 : Shape := ⟨2, ![4096, 1536]⟩
abbrev S1x4096x1536 : Shape := ⟨3, ![1, 4096, 1536]⟩
abbrev S1x4096x512 : Shape := ⟨3, ![1, 4096, 512]⟩
abbrev S3x512 : Shape := ⟨2, ![3, 512]⟩
abbrev S_ : Shape := ⟨0, ![]⟩
abbrev S1x2x512 : Shape := ⟨3, ![1, 2, 512]⟩
abbrev S1x4098x512 : Shape := ⟨3, ![1, 4098, 512]⟩
abbrev S512 : Shape := ⟨1, ![512]⟩
abbrev S1x1x512 : Shape := ⟨3, ![1, 1, 512]⟩
abbrev S4096x512 : Shape := ⟨2, ![4096, 512]⟩

abbrev nBuf : Space → Nat
  | .hbm => 107
  | .vmem => 0
  | .smem => 0
  | _ => 0

abbrev bufTy : (tb : Table) → Fin (tcTables nBuf tb) → BufTy
  | .hbm, ⟨0, _⟩ => ⟨S4096x2560, .f32⟩
  | .hbm, ⟨1, _⟩ => ⟨S1x3x512, .f32⟩
  | .hbm, ⟨2, _⟩ => ⟨S1x4x512, .f32⟩
  | .hbm, ⟨3, _⟩ => ⟨S1x512, .f32⟩
  | .hbm, ⟨4, _⟩ => ⟨S1x8x64x64, .f32⟩
  | .hbm, ⟨5, _⟩ => ⟨S1x8x64, .f32⟩
  | .hbm, ⟨6, _⟩ => ⟨S1x8x64x64, .f32⟩
  | .hbm, ⟨7, _⟩ => ⟨S1x8x64, .f32⟩
  | .hbm, ⟨8, _⟩ => ⟨S1x512, .f32⟩
  | .hbm, ⟨9, _⟩ => ⟨S4096x1024, .bf16⟩
  | .hbm, ⟨10, _⟩ => ⟨S4096x1536, .f32⟩
  | .hbm, ⟨11, _⟩ => ⟨S1x4096x1536, .f32⟩
  | .hbm, ⟨12, _⟩ => ⟨S1x4096x512, .f32⟩
  | .hbm, ⟨13, _⟩ => ⟨S1x4096x512, .f32⟩
  | .hbm, ⟨14, _⟩ => ⟨S1x4096x512, .f32⟩
  | .hbm, ⟨15, _⟩ => ⟨S1x4096x512, .f32⟩
  | .hbm, ⟨16, _⟩ => ⟨S3x512, .f32⟩
  | .hbm, ⟨17, _⟩ => ⟨S_, .f32⟩
  | .hbm, ⟨18, _⟩ => ⟨S1x2x512, .f32⟩
  | .hbm, ⟨19, _⟩ => ⟨S1x4098x512, .f32⟩
  | .hbm, ⟨20, _⟩ => ⟨S_, .f32⟩
  | .hbm, ⟨21, _⟩ => ⟨S1x2x512, .f32⟩
  | .hbm, ⟨22, _⟩ => ⟨S1x4096x512, .f32⟩
  | .hbm, ⟨23, _⟩ => ⟨S1x512, .f32⟩
  | .hbm, ⟨24, _⟩ => ⟨S512, .f32⟩
  | .hbm, ⟨25, _⟩ => ⟨S1x1x512, .f32⟩
  | .hbm, ⟨26, _⟩ => ⟨S1x4096x512, .f32⟩
  | .hbm, ⟨27, _⟩ => ⟨S1x4096x512, .f32⟩
  | .hbm, ⟨28, _⟩ => ⟨S1x4096x512, .f32⟩
  | .hbm, ⟨29, _⟩ => ⟨S1x512, .f32⟩
  | .hbm, ⟨30, _⟩ => ⟨S512, .f32⟩
  | .hbm, ⟨31, _⟩ => ⟨S1x1x512, .f32⟩
  | .hbm, ⟨32, _⟩ => ⟨S1x4096x512, .f32⟩
  | .hbm, ⟨33, _⟩ => ⟨S1x4096x512, .f32⟩
  | .hbm, ⟨34, _⟩ => ⟨S1x4096x512, .f32⟩
  | .hbm, ⟨35, _⟩ => ⟨S1x4096x512, .f32⟩
  | .hbm, ⟨36, _⟩ => ⟨S1x512, .f32⟩
  | .hbm, ⟨37, _⟩ => ⟨S512, .f32⟩
  | .hbm, ⟨38, _⟩ => ⟨S1x1x512, .f32⟩
  | .hbm, ⟨39, _⟩ => ⟨S1x4096x512, .f32⟩
  | .hbm, ⟨40, _⟩ => ⟨S1x4096x512, .f32⟩
  | .hbm, ⟨41, _⟩ => ⟨S1x4096x512, .f32⟩
  | .hbm, ⟨42, _⟩ => ⟨S1x4096x512, .f32⟩
  | .hbm, ⟨43, _⟩ => ⟨S4096x512, .bf16⟩
  | .hbm, ⟨44, _⟩ => ⟨S4096x512, .f32⟩
  | .hbm, ⟨45, _⟩ => ⟨S1x4096x512, .f32⟩
  | .hbm, ⟨46, _⟩ => ⟨S1x4096x512, .f32⟩
  | .hbm, ⟨47, _⟩ => ⟨S1x4096x512, .f32⟩
  | .hbm, ⟨48, _⟩ => ⟨S1x4096x512, .f32⟩
  | .hbm, ⟨49, _⟩ => ⟨S_, .f32⟩
  | .hbm, ⟨50, _⟩ => ⟨S1x512, .f32⟩
  | .hbm, ⟨51, _⟩ => ⟨S1x1x512, .f32⟩
  | .hbm, ⟨52, _⟩ => ⟨S1x4096x512, .f32⟩
  | .hbm, ⟨53, _⟩ => ⟨S1x4096x512, .f32⟩
  | .hbm, ⟨54, _⟩ => ⟨S_, .f32⟩
  | .hbm, ⟨55, _⟩ => ⟨S512, .f32⟩
  | .hbm, ⟨56, _⟩ => ⟨S1x512, .f32⟩
  | .hbm, ⟨57, _⟩ => ⟨S_, .f32⟩
  | .hbm, ⟨58, _⟩ => ⟨S3x512, .f32⟩
  | .hbm, ⟨59, _⟩ => ⟨S_, .f32⟩
  | .hbm, ⟨60, _⟩ => ⟨S1x4098x512, .f32⟩
  | .hbm, ⟨61, _⟩ => ⟨S1x4096x512, .f32⟩
  | .hbm, ⟨62, _⟩ => ⟨S_, .f32⟩
  | .hbm, ⟨63, _⟩ => ⟨S1x512, .f32⟩
  | .hbm, ⟨64, _⟩ => ⟨S1x1x512, .f32⟩
  | .hbm, ⟨65, _⟩ => ⟨S1x4096x512, .f32⟩
  | .hbm, ⟨66, _⟩ => ⟨S1x4096x512, .f32⟩
  | .hbm, ⟨67, _⟩ => ⟨S_, .f32⟩
  | .hbm, ⟨68, _⟩ => ⟨S512, .f32⟩
  | .hbm, ⟨69, _⟩ => ⟨S1x512, .f32⟩
  | .hbm, ⟨70, _⟩ => ⟨S_, .f32⟩
  | .hbm, ⟨71, _⟩ => ⟨S3x512, .f32⟩
  | .hbm, ⟨72, _⟩ => ⟨S3x512, .f32⟩
  | .hbm, ⟨73, _⟩ => ⟨S_, .f32⟩
  | .hbm, ⟨74, _⟩ => ⟨S1x4098x512, .f32⟩
  | .hbm, ⟨75, _⟩ => ⟨S1x4098x512, .f32⟩
  | .hbm, ⟨76, _⟩ => ⟨S1x4096x512, .f32⟩
  | .hbm, ⟨77, _⟩ => ⟨S_, .f32⟩
  | .hbm, ⟨78, _⟩ => ⟨S1x512, .f32⟩
  | .hbm, ⟨79, _⟩ => ⟨S1x1x512, .f32⟩
  | .hbm, ⟨80, _⟩ => ⟨S1x4096x512, .f32⟩
  | .hbm, ⟨81, _⟩ => ⟨S1x4096x512, .f32⟩
  | .hbm, ⟨82, _⟩ => ⟨S_, .f32⟩
  | .hbm, ⟨83, _⟩ => ⟨S512, .f32⟩
  | .hbm, ⟨84, _⟩ => ⟨S1x512, .f32⟩
  | .hbm, ⟨85, _⟩ => ⟨S_, .f32⟩
  | .hbm, ⟨86, _⟩ => ⟨S3x512, .f32⟩
  | .hbm, ⟨87, _⟩ => ⟨S3x512, .f32⟩
  | .hbm, ⟨88, _⟩ => ⟨S_, .f32⟩
  | .hbm, ⟨89, _⟩ => ⟨S1x4098x512, .f32⟩
  | .hbm, ⟨90, _⟩ => ⟨S1x4098x512, .f32⟩
  | .hbm, ⟨91, _⟩ => ⟨S1x2x512, .f32⟩
  | .hbm, ⟨92, _⟩ => ⟨S1x4096x512, .f32⟩
  | .hbm, ⟨93, _⟩ => ⟨S1x3x512, .f32⟩
  | .hbm, ⟨94, _⟩ => ⟨S1x4096x512, .f32⟩
  | .hbm, ⟨95, _⟩ => ⟨S1x4096x512, .f32⟩
  | .hbm, ⟨96, _⟩ => ⟨S_, .f32⟩
  | .hbm, ⟨97, _⟩ => ⟨S1x4096x1536, .f32⟩
  | .hbm, ⟨98, _⟩ => ⟨S_, .f32⟩
  | .hbm, ⟨99, _⟩ => ⟨S1x4096x1536, .f32⟩
  | .hbm, ⟨100, _⟩ => ⟨S1x4096x1536, .f32⟩
  | .hbm, ⟨101, _⟩ => ⟨S_, .f32⟩
  | .hbm, ⟨102, _⟩ => ⟨S1x4096x1536, .f32⟩
  | .hbm, ⟨103, _⟩ => ⟨S1x4096x1536, .f32⟩
  | .hbm, ⟨104, _⟩ => ⟨S4096x1536, .f32⟩
  | .hbm, ⟨105, _⟩ => ⟨S4096x1536, .bf16⟩
  | .hbm, ⟨106, _⟩ => ⟨S3x512, .f32⟩
  | _, _ => ⟨S4096x2560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_1 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_2 : Ref sig .tc := ⟨.hbm, 54, rfl⟩
abbrev main_v41 : Ref sig .tc := ⟨.hbm, 55, rfl⟩
abbrev main_v42 : Ref sig .tc := ⟨.hbm, 56, rfl⟩
abbrev main_cst_3 : Ref sig .tc := ⟨.hbm, 57, rfl⟩
abbrev main_v43 : Ref sig .tc := ⟨.hbm, 58, rfl⟩
abbrev main_cst_4 : Ref sig .tc := ⟨.hbm, 59, rfl⟩
abbrev main_v44 : Ref sig .tc := ⟨.hbm, 60, rfl⟩
abbrev main_v45 : Ref sig .tc := ⟨.hbm, 61, rfl⟩
abbrev main_cst_5 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_6 : Ref sig .tc := ⟨.hbm, 67, rfl⟩
abbrev main_v50 : Ref sig .tc := ⟨.hbm, 68, rfl⟩
abbrev main_v51 : Ref sig .tc := ⟨.hbm, 69, rfl⟩
abbrev main_cst_7 : Ref sig .tc := ⟨.hbm, 70, rfl⟩
abbrev main_v52 : Ref sig .tc := ⟨.hbm, 71, rfl⟩
abbrev main_v53 : Ref sig .tc := ⟨.hbm, 72, rfl⟩
abbrev main_cst_8 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_cst_9 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_cst_10 : Ref sig .tc := ⟨.hbm, 82, rfl⟩
abbrev main_v61 : Ref sig .tc := ⟨.hbm, 83, rfl⟩
abbrev main_v62 : Ref sig .tc := ⟨.hbm, 84, rfl⟩
abbrev main_cst_11 : Ref sig .tc := ⟨.hbm, 85, rfl⟩
abbrev main_v63 : Ref sig .tc := ⟨.hbm, 86, rfl⟩
abbrev main_v64 : Ref sig .tc := ⟨.hbm, 87, rfl⟩
abbrev main_cst_12 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_cst_13 : Ref sig .tc := ⟨.hbm, 96, rfl⟩
abbrev main_v72 : Ref sig .tc := ⟨.hbm, 97, rfl⟩
abbrev main_cst_14 : Ref sig .tc := ⟨.hbm, 98, rfl⟩
abbrev main_v73 : Ref sig .tc := ⟨.hbm, 99, rfl⟩
abbrev main_v74 : Ref sig .tc := ⟨.hbm, 100, rfl⟩
abbrev main_cst_15 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩

abbrev nD : Nat := 1
abbrev τ : Topo := Topo.v7x

variable {F : FTy → Type} [FloatOps F]
-- ==== Kernel3.lean ====
abbrev S4096x1024 : Shape := ⟨2, ![4096, 1024]⟩
abbrev S1x4096x1024 : Shape := ⟨3, ![1, 4096, 1024]⟩
abbrev S1x1024x1024 : Shape := ⟨3, ![1, 1024, 1024]⟩
abbrev S1x6144 : Shape := ⟨2, ![1, 6144]⟩
abbrev S1x1024 : Shape := ⟨2, ![1, 1024]⟩
abbrev S_ : Shape := ⟨0, ![]⟩
abbrev S8x1024 : Shape := ⟨2, ![8, 1024]⟩
abbrev S6x1024 : Shape := ⟨2, ![6, 1024]⟩
abbrev S1 : Shape := ⟨1, ![1]⟩
abbrev S1024x1024 : Shape := ⟨2, ![1024, 1024]⟩
abbrev S1024 : Shape := ⟨1, ![1024]⟩
abbrev S1024x1 : Shape := ⟨2, ![1024, 1]⟩
abbrev S512x1024 : Shape := ⟨2, ![512, 1024]⟩
abbrev S512 : Shape := ⟨1, ![512]⟩
abbrev S512x1 : Shape := ⟨2, ![512, 1]⟩

abbrev nBuf : Space → Nat
  | .hbm => 23
  | .vmem => 32
  | .smem => 0
  | _ => 0

abbrev bufTy : (tb : Table) → Fin (tcTables nBuf tb) → BufTy
  | .hbm, ⟨0, _⟩ => ⟨S4096x1024, .bf16⟩
  | .hbm, ⟨1, _⟩ => ⟨S1x4096x1024, .f32⟩
  | .hbm, ⟨2, _⟩ => ⟨S1x1024x1024, .f32⟩
  | .hbm, ⟨3, _⟩ => ⟨S1x6144, .f32⟩
  | .hbm, ⟨4, _⟩ => ⟨S1x1024, .f32⟩
  | .hbm, ⟨5, _⟩ => ⟨S4096x1024, .bf16⟩
  | .hbm, ⟨6, _⟩ => ⟨S4096x1024, .bf16⟩
  | .hbm, ⟨7, _⟩ => ⟨S_, .f32⟩
  | .hbm, ⟨8, _⟩ => ⟨S8x1024, .f32⟩
  | .hbm, ⟨9, _⟩ => ⟨S6x1024, .f32⟩
  | .hbm, ⟨10, _⟩ => ⟨S_, .i32⟩
  | .hbm, ⟨11, _⟩ => ⟨S1, .i32⟩
  | .hbm, ⟨12, _⟩ => ⟨S8x1024, .f32⟩
  | .hbm, ⟨13, _⟩ => ⟨S1024x1024, .f32⟩
  | .hbm, ⟨14, _⟩ => ⟨S1024x1024, .bf16⟩
  | .hbm, ⟨15, _⟩ => ⟨S4096x1024, .f32⟩
  | .hbm, ⟨16, _⟩ => ⟨S4096x1024, .bf16⟩
  | .hbm, ⟨17, _⟩ => ⟨S4096x1024, .f32⟩
  | .hbm, ⟨18, _⟩ => ⟨S4096x1024, .bf16⟩
  | .hbm, ⟨19, _⟩ => ⟨S4096x1024, .bf16⟩
  | .hbm, ⟨20, _⟩ => ⟨S4096x1024, .bf16⟩
  | .hbm, ⟨21, _⟩ => ⟨S1024x1024, .f32⟩
  | .hbm, ⟨22, _⟩ => ⟨S8x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .bf16⟩
  | .local _ .vmem, ⟨5, _⟩ => ⟨S8x1024, .f32⟩
  | .local _ .vmem, ⟨6, _⟩ => ⟨S1x1024, .f32⟩
  | .local _ .vmem, ⟨7, _⟩ => ⟨S1024x1024, .bf16⟩
  | .local _ .vmem, ⟨8, _⟩ => ⟨S1024x1024, .bf16⟩
  | .local _ .vmem, ⟨9, _⟩ => ⟨S1024x1024, .f32⟩
  | .local _ .vmem, ⟨10, _⟩ => ⟨S1024x1024, .f32⟩
  | .local _ .vmem, ⟨11, _⟩ => ⟨S1024x1024, .bf16⟩
  | .local _ .vmem, ⟨12, _⟩ => ⟨S1024x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .f32⟩
  | .local _ .vmem, ⟨16, _⟩ => ⟨S512x1024, .f32⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | .local _ .vmem, ⟨22, _⟩ => ⟨S512x1024, .bf16⟩
  | .local _ .vmem, ⟨23, _⟩ => ⟨S1024x1024, .bf16⟩
  | .local _ .vmem, ⟨24, _⟩ => ⟨S8x1024, .f32⟩
  | .local _ .vmem, ⟨25, _⟩ => ⟨S1x1024, .f32⟩
  | .local _ .vmem, ⟨26, _⟩ => ⟨S512x1024, .bf16⟩
  | .local _ .vmem, ⟨27, _⟩ => ⟨S512x1024, .bf16⟩
  | .local _ .vmem, ⟨28, _⟩ => ⟨S512x1024, .bf16⟩
  | .local _ .vmem, ⟨29, _⟩ => ⟨S512x1024, .bf16⟩
  | .local _ .vmem, ⟨30, _⟩ => ⟨S1024x1024, .f32⟩
  | .local _ .vmem, ⟨31, _⟩ => ⟨S8x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7_0 : Ref sig .tc := ⟨.hbm, 16, rfl⟩
abbrev main_v7_1 : Ref sig .tc := ⟨.hbm, 17, rfl⟩
abbrev main_v7_2 : Ref sig .tc := ⟨.hbm, 18, rfl⟩
abbrev main_v8_0 : Ref sig .tc := ⟨.hbm, 19, rfl⟩
abbrev main_v8_1 : Ref sig .tc := ⟨.hbm, 20, rfl⟩
abbrev main_v8_2 : Ref sig .tc := ⟨.hbm, 21, rfl⟩
abbrev main_v8_3 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg3_1 : Ref sig .tc := ⟨.vmem, 20, rfl⟩
abbrev cc1_stg4_0 : Ref sig .tc := ⟨.vmem, 21, rfl⟩
abbrev cc1_stg4_1 : Ref sig .tc := ⟨.vmem, 22, rfl⟩
abbrev cc1_stg5_0 : Ref sig .tc := ⟨.vmem, 23, rfl⟩
abbrev cc1_stg6_0 : Ref sig .tc := ⟨.vmem, 24, rfl⟩
abbrev cc1_stg7_0 : Ref sig .tc := ⟨.vmem, 25, rfl⟩
abbrev cc1_stg8_0 : Ref sig .tc := ⟨.vmem, 26, rfl⟩
abbrev cc1_stg8_1 : Ref sig .tc := ⟨.vmem, 27, rfl⟩
abbrev cc1_stg9_0 : Ref sig .tc := ⟨.vmem, 28, rfl⟩
abbrev cc1_stg9_1 : Ref sig .tc := ⟨.vmem, 29, rfl⟩
abbrev cc1_stg10_0 : Ref sig .tc := ⟨.vmem, 30, rfl⟩
abbrev cc1_stg11_0 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem2_1 : DmaSem sig := 18
abbrev cc1_sem3_0 : DmaSem sig := 19
abbrev cc1_sem3_1 : DmaSem sig := 20
abbrev cc1_sem4_0 : DmaSem sig := 21
abbrev cc1_sem4_1 : DmaSem sig := 22
abbrev cc1_sem5_0 : DmaSem sig := 23
abbrev cc1_sem6_0 : DmaSem sig := 24
abbrev cc1_sem7_0 : DmaSem sig := 25
abbrev cc1_sem8_0 : DmaSem sig := 26
abbrev cc1_sem8_1 : DmaSem sig := 27
abbrev cc1_sem9_0 : DmaSem sig := 28
abbrev cc1_sem9_1 : DmaSem sig := 29
abbrev cc1_sem10_0 : DmaSem sig := 30
abbrev cc1_sem11_0 : DmaSem sig := 31

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S512x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S512x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S512x1024 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S1024x1024 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S8x1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x1024 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S512x1024 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S512x1024 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 1 → Memref sig .tc .vmem S1024x1024 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S8x1024 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]
-- ==== Reference3Ideal.lean ====
abbrev S4096x1024 : Shape := ⟨2, ![4096, 1024]⟩
abbrev S1x4096x1024 : Shape := ⟨3, ![1, 4096, 1024]⟩
abbrev S1x1024x1024 : Shape := ⟨3, ![1, 1024, 1024]⟩
abbrev S1x6144 : Shape := ⟨2, ![1, 6144]⟩
abbrev S1x1024 : Shape := ⟨2, ![1, 1024]⟩
abbrev S1024x1024 : Shape := ⟨2, ![1024, 1024]⟩
abbrev S1x1x1024 : Shape := ⟨3, ![1, 1, 1024]⟩
abbrev S1024 : Shape := ⟨1, ![1024]⟩
abbrev S_ : Shape := ⟨0, ![]⟩
abbrev S1x4096 : Shape := ⟨2, ![1, 4096]⟩
abbrev S1x4096x1 : Shape := ⟨3, ![1, 4096, 1]⟩
abbrev S4096 : Shape := ⟨1, ![4096]⟩
abbrev S4x1024 : Shape := ⟨2, ![4, 1024]⟩
abbrev S8x1024 : Shape := ⟨2, ![8, 1024]⟩

abbrev nBuf : Space → Nat
  | .hbm => 124
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1x4096x1024, .f32⟩
  | .hbm, ⟨2, _⟩ => ⟨S1x1024x1024, .f32⟩
  | .hbm, ⟨3, _⟩ => ⟨S1x6144, .f32⟩
  | .hbm, ⟨4, _⟩ => ⟨S1x1024, .f32⟩
  | .hbm, ⟨5, _⟩ => ⟨S4096x1024, .bf16⟩
  | .hbm, ⟨6, _⟩ => ⟨S4096x1024, .bf16⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S4096x1024, .f32⟩
  | .hbm, ⟨11, _⟩ => ⟨S1x4096x1024, .f32⟩
  | .hbm, ⟨12, _⟩ => ⟨S1024x1024, .f32⟩
  | .hbm, ⟨13, _⟩ => ⟨S1x4096x1024, .f32⟩
  | .hbm, ⟨14, _⟩ => ⟨S1x1x1024, .f32⟩
  | .hbm, ⟨15, _⟩ => ⟨S1x4096x1024, .f32⟩
  | .hbm, ⟨16, _⟩ => ⟨S1x4096x1024, .f32⟩
  | .hbm, ⟨17, _⟩ => ⟨S1x4096x1024, .f32⟩
  | .hbm, ⟨18, _⟩ => ⟨S1024, .f32⟩
  | .hbm, ⟨19, _⟩ => ⟨S1x4096x1024, .f32⟩
  | .hbm, ⟨20, _⟩ => ⟨S_, .f32⟩
  | .hbm, ⟨21, _⟩ => ⟨S1x4096, .f32⟩
  | .hbm, ⟨22, _⟩ => ⟨S1x4096x1, .f32⟩
  | .hbm, ⟨23, _⟩ => ⟨S_, .f32⟩
  | .hbm, ⟨24, _⟩ => ⟨S1x4096x1, .f32⟩
  | .hbm, ⟨25, _⟩ => ⟨S1x4096x1, .f32⟩
  | .hbm, ⟨26, _⟩ => ⟨S_, .f32⟩
  | .hbm, ⟨27, _⟩ => ⟨S1x4096x1, .f32⟩
  | .hbm, ⟨28, _⟩ => ⟨S1x4096x1, .f32⟩
  | .hbm, ⟨29, _⟩ => ⟨S1x4096x1, .f32⟩
  | .hbm, ⟨30, _⟩ => ⟨S1x4096x1, .f32⟩
  | .hbm, ⟨31, _⟩ => ⟨S_, .f32⟩
  | .hbm, ⟨32, _⟩ => ⟨S1x4096x1, .f32⟩
  | .hbm, ⟨33, _⟩ => ⟨S1x4096x1, .f32⟩
  | .hbm, ⟨34, _⟩ => ⟨S1x4096x1024, .f32⟩
  | .hbm, ⟨35, _⟩ => ⟨S1x4096x1024, .f32⟩
  | .hbm, ⟨36, _⟩ => ⟨S1x1x1024, .f32⟩
  | .hbm, ⟨37, _⟩ => ⟨S1x4096x1024, .f32⟩
  | .hbm, ⟨38, _⟩ => ⟨S1x4096x1024, .f32⟩
  | .hbm, ⟨39, _⟩ => ⟨S1x1x1024, .f32⟩
  | .hbm, ⟨40, _⟩ => ⟨S_, .f32⟩
  | .hbm, ⟨41, _⟩ => ⟨S1x1x1024, .f32⟩
  | .hbm, ⟨42, _⟩ => ⟨S1x1x1024, .f32⟩
  | .hbm, ⟨43, _⟩ => ⟨S1x4096x1024, .f32⟩
  | .hbm, ⟨44, _⟩ => ⟨S1x4096x1024, .f32⟩
  | .hbm, ⟨45, _⟩ => ⟨S1x1x1024, .f32⟩
  | .hbm, ⟨46, _⟩ => ⟨S1x4096x1024, .f32⟩
  | .hbm, ⟨47, _⟩ => ⟨S1x4096x1024, .f32⟩
  | .hbm, ⟨48, _⟩ => ⟨S_, .f32⟩
  | .hbm, ⟨49, _⟩ => ⟨S1x4096x1024, .f32⟩
  | .hbm, ⟨50, _⟩ => ⟨S4096x1024, .f32⟩
  | .hbm, ⟨51, _⟩ => ⟨S1x4096x1024, .f32⟩
  | .hbm, ⟨52, _⟩ => ⟨S4096x1024, .f32⟩
  | .hbm, ⟨53, _⟩ => ⟨S1x4096x1024, .f32⟩
  | .hbm, ⟨54, _⟩ => ⟨S_, .f32⟩
  | .hbm, ⟨55, _⟩ => ⟨S1x1024, .f32⟩
  | .hbm, ⟨56, _⟩ => ⟨S1x1x1024, .f32⟩
  | .hbm, ⟨57, _⟩ => ⟨S_, .f32⟩
  | .hbm, ⟨58, _⟩ => ⟨S1024, .f32⟩
  | .hbm, ⟨59, _⟩ => ⟨S1x1024, .f32⟩
  | .hbm, ⟨60, _⟩ => ⟨S1x4096x1024, .f32⟩
  | .hbm, ⟨61, _⟩ => ⟨S_, .f32⟩
  | .hbm, ⟨62, _⟩ => ⟨S1x1024, .f32⟩
  | .hbm, ⟨63, _⟩ => ⟨S1x1x1024, .f32⟩
  | .hbm, ⟨64, _⟩ => ⟨S1x4096x1024, .f32⟩
  | .hbm, ⟨65, _⟩ => ⟨S1x4096x1024, .f32⟩
  | .hbm, ⟨66, _⟩ => ⟨S_, .f32⟩
  | .hbm, ⟨67, _⟩ => ⟨S1024, .f32⟩
  | .hbm, ⟨68, _⟩ => ⟨S1x1024, .f32⟩
  | .hbm, ⟨69, _⟩ => ⟨S1x4096x1024, .f32⟩
  | .hbm, ⟨70, _⟩ => ⟨S_, .f32⟩
  | .hbm, ⟨71, _⟩ => ⟨S1x1024, .f32⟩
  | .hbm, ⟨72, _⟩ => ⟨S1x1x1024, .f32⟩
  | .hbm, ⟨73, _⟩ => ⟨S1x4096x1024, .f32⟩
  | .hbm, ⟨74, _⟩ => ⟨S1x4096x1024, .f32⟩
  | .hbm, ⟨75, _⟩ => ⟨S_, .f32⟩
  | .hbm, ⟨76, _⟩ => ⟨S1024, .f32⟩
  | .hbm, ⟨77, _⟩ => ⟨S1x4096x1024, .f32⟩
  | .hbm, ⟨78, _⟩ => ⟨S_, .f32⟩
  | .hbm, ⟨79, _⟩ => ⟨S1x4096, .f32⟩
  | .hbm, ⟨80, _⟩ => ⟨S1x4096x1, .f32⟩
  | .hbm, ⟨81, _⟩ => ⟨S1x4096x1024, .f32⟩
  | .hbm, ⟨82, _⟩ => ⟨S1x4096x1024, .f32⟩
  | .hbm, ⟨83, _⟩ => ⟨S1x4096x1024, .f32⟩
  | .hbm, ⟨84, _⟩ => ⟨S1x4096x1, .f32⟩
  | .hbm, ⟨85, _⟩ => ⟨S_, .f32⟩
  | .hbm, ⟨86, _⟩ => ⟨S1x4096x1, .f32⟩
  | .hbm, ⟨87, _⟩ => ⟨S1x4096x1, .f32⟩
  | .hbm, ⟨88, _⟩ => ⟨S_, .f32⟩
  | .hbm, ⟨89, _⟩ => ⟨S4096, .f32⟩
  | .hbm, ⟨90, _⟩ => ⟨S1x4096, .f32⟩
  | .hbm, ⟨91, _⟩ => ⟨S1x4096x1024, .f32⟩
  | .hbm, ⟨92, _⟩ => ⟨S1x4096x1024, .f32⟩
  | .hbm, ⟨93, _⟩ => ⟨S1x4096x1024, .f32⟩
  | .hbm, ⟨94, _⟩ => ⟨S1x4096x1024, .f32⟩
  | .hbm, ⟨95, _⟩ => ⟨S1x4096x1024, .f32⟩
  | .hbm, ⟨96, _⟩ => ⟨S1x1024, .f32⟩
  | .hbm, ⟨97, _⟩ => ⟨S1x4096x1024, .f32⟩
  | .hbm, ⟨98, _⟩ => ⟨S1x4096x1024, .f32⟩
  | .hbm, ⟨99, _⟩ => ⟨S1x4096x1024, .f32⟩
  | .hbm, ⟨100, _⟩ => ⟨S1x4096x1024, .f32⟩
  | .hbm, ⟨101, _⟩ => ⟨S_, .f32⟩
  | .hbm, ⟨102, _⟩ => ⟨S1x1024, .f32⟩
  | .hbm, ⟨103, _⟩ => ⟨S1x1x1024, .f32⟩
  | .hbm, ⟨104, _⟩ => ⟨S_, .f32⟩
  | .hbm, ⟨105, _⟩ => ⟨S1024, .f32⟩
  | .hbm, ⟨106, _⟩ => ⟨S1x1024, .f32⟩
  | .hbm, ⟨107, _⟩ => ⟨S1024x1024, .f32⟩
  | .hbm, ⟨108, _⟩ => ⟨S1024x1024, .f32⟩
  | .hbm, ⟨109, _⟩ => ⟨S1x4096x1024, .f32⟩
  | .hbm, ⟨110, _⟩ => ⟨S1x1024x1024, .f32⟩
  | .hbm, ⟨111, _⟩ => ⟨S_, .f32⟩
  | .hbm, ⟨112, _⟩ => ⟨S4x1024, .f32⟩
  | .hbm, ⟨113, _⟩ => ⟨S8x1024, .f32⟩
  | .hbm, ⟨114, _⟩ => ⟨S4096x1024, .f32⟩
  | .hbm, ⟨115, _⟩ => ⟨S4096x1024, .bf16⟩
  | .hbm, ⟨116, _⟩ => ⟨S4096x1024, .f32⟩
  | .hbm, ⟨117, _⟩ => ⟨S4096x1024, .f32⟩
  | .hbm, ⟨118, _⟩ => ⟨S4096x1024, .bf16⟩
  | .hbm, ⟨119, _⟩ => ⟨S4096x1024, .f32⟩
  | .hbm, ⟨120, _⟩ => ⟨S4096x1024, .bf16⟩
  | .hbm, ⟨121, _⟩ => ⟨S4096x1024, .f32⟩
  | .hbm, ⟨122, _⟩ => ⟨S4096x1024, .bf16⟩
  | .hbm, ⟨123, _⟩ => ⟨S1024x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_cst_0 : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_3 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_4 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_5 : Ref sig .tc := ⟨.hbm, 54, rfl⟩
abbrev main_v41 : Ref sig .tc := ⟨.hbm, 55, rfl⟩
abbrev main_v42 : Ref sig .tc := ⟨.hbm, 56, rfl⟩
abbrev main_cst_6 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_7 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_cst_8 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_cst_9 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_cst_10 : Ref sig .tc := ⟨.hbm, 75, rfl⟩
abbrev main_v57 : Ref sig .tc := ⟨.hbm, 76, rfl⟩
abbrev main_v58 : Ref sig .tc := ⟨.hbm, 77, rfl⟩
abbrev main_cst_11 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_cst_12 : Ref sig .tc := ⟨.hbm, 85, rfl⟩
abbrev main_v65 : Ref sig .tc := ⟨.hbm, 86, rfl⟩
abbrev main_v66 : Ref sig .tc := ⟨.hbm, 87, rfl⟩
abbrev main_cst_13 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_cst_14 : Ref sig .tc := ⟨.hbm, 101, rfl⟩
abbrev main_v79 : Ref sig .tc := ⟨.hbm, 102, rfl⟩
abbrev main_v80 : Ref sig .tc := ⟨.hbm, 103, rfl⟩
abbrev main_cst_15 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_cst_16 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩

abbrev nD : Nat := 1
abbrev τ : Topo := Topo.v7x

variable {F : FTy → Type} [FloatOps F]
-- ==== Kernel4.lean ====
abbrev S4096x1024 : Shape := ⟨2, ![4096, 1024]⟩
abbrev S1x1024x4096 : Shape := ⟨3, ![1, 1024, 4096]⟩
abbrev S1x4096x1024 : Shape := ⟨3, ![1, 4096, 1024]⟩
abbrev S1024x4096 : Shape := ⟨2, ![1024, 4096]⟩
abbrev S4096x4096 : Shape := ⟨2, ![4096, 4096]⟩
abbrev S_ : Shape := ⟨0, ![]⟩
abbrev S1024x1024 : Shape := ⟨2, ![1024, 1024]⟩

abbrev nBuf : Space → Nat
  | .hbm => 18
  | .vmem => 13
  | .smem => 0
  | _ => 0

abbrev bufTy : (tb : Table) → Fin (tcTables nBuf tb) → BufTy
  | .hbm, ⟨0, _⟩ => ⟨S4096x1024, .bf16⟩
  | .hbm, ⟨1, _⟩ => ⟨S1x1024x4096, .f32⟩
  | .hbm, ⟨2, _⟩ => ⟨S1x4096x1024, .f32⟩
  | .hbm, ⟨3, _⟩ => ⟨S4096x1024, .bf16⟩
  | .hbm, ⟨4, _⟩ => ⟨S1024x4096, .f32⟩
  | .hbm, ⟨5, _⟩ => ⟨S4096x1024, .f32⟩
  | .hbm, ⟨6, _⟩ => ⟨S4096x1024, .bf16⟩
  | .hbm, ⟨7, _⟩ => ⟨S4096x1024, .f32⟩
  | .hbm, ⟨8, _⟩ => ⟨S4096x1024, .bf16⟩
  | .hbm, ⟨9, _⟩ => ⟨S4096x1024, .f32⟩
  | .hbm, ⟨10, _⟩ => ⟨S1024x4096, .f32⟩
  | .hbm, ⟨11, _⟩ => ⟨S4096x4096, .f32⟩
  | .hbm, ⟨12, _⟩ => ⟨S_, .f32⟩
  | .hbm, ⟨13, _⟩ => ⟨S4096x4096, .f32⟩
  | .hbm, ⟨14, _⟩ => ⟨S4096x4096, .f32⟩
  | .hbm, ⟨15, _⟩ => ⟨S4096x4096, .bf16⟩
  | .hbm, ⟨16, _⟩ => ⟨S4096x4096, .bf16⟩
  | .hbm, ⟨17, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_call0_cst : Ref sig .tc := ⟨.hbm, 12, rfl⟩
abbrev main_call0_v0 : Ref sig .tc := ⟨.hbm, 13, rfl⟩
abbrev main_v8 : Ref sig .tc := ⟨.hbm, 14, rfl⟩
abbrev main_v9 : Ref sig .tc := ⟨.hbm, 15, rfl⟩
abbrev main_v10_0 : Ref sig .tc := ⟨.hbm, 16, rfl⟩
abbrev main_v10_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v23 : BitVec 1 := Scalar.cmpi .eq arg1 c3_i32
  let v24 : BitVec 32 := Scalar.extui v23
  let c0_i32_16 : BitVec 32 := 0#32
  let v25 : BitVec 1 := Scalar.cmpi .ne v24 c0_i32_16
  v25

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference4Ideal.lean ====
abbrev S4096x1024 : Shape := ⟨2, ![4096, 1024]⟩
abbrev S1x1024x4096 : Shape := ⟨3, ![1, 1024, 4096]⟩
abbrev S1x4096x1024 : Shape := ⟨3, ![1, 4096, 1024]⟩
abbrev S1024x4096 : Shape := ⟨2, ![1024, 4096]⟩
abbrev S4096x4096 : Shape := ⟨2, ![4096, 4096]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1x1024x4096, .f32⟩
  | .hbm, ⟨2, _⟩ => ⟨S1x4096x1024, .f32⟩
  | .hbm, ⟨3, _⟩ => ⟨S4096x1024, .bf16⟩
  | .hbm, ⟨4, _⟩ => ⟨S4096x1024, .f32⟩
  | .hbm, ⟨5, _⟩ => ⟨S1024x4096, .f32⟩
  | .hbm, ⟨6, _⟩ => ⟨S4096x4096, .f32⟩
  | .hbm, ⟨7, _⟩ => ⟨S_, .f32⟩
  | .hbm, ⟨8, _⟩ => ⟨S4096x4096, .f32⟩
  | .hbm, ⟨9, _⟩ => ⟨S4096x4096, .f32⟩
  | .hbm, ⟨10, _⟩ => ⟨S_, .f32⟩
  | .hbm, ⟨11, _⟩ => ⟨S4096x4096, .f32⟩
  | .hbm, ⟨12, _⟩ => ⟨S4096x4096, .i1⟩
  | .hbm, ⟨13, _⟩ => ⟨S_, .f32⟩
  | .hbm, ⟨14, _⟩ => ⟨S4096x4096, .f32⟩
  | .hbm, ⟨15, _⟩ => ⟨S_, .f32⟩
  | .hbm, ⟨16, _⟩ => ⟨S4096x4096, .f32⟩
  | .hbm, ⟨17, _⟩ => ⟨S4096x4096, .f32⟩
  | .hbm, ⟨18, _⟩ => ⟨S_, .f32⟩
  | .hbm, ⟨19, _⟩ => ⟨S4096x4096, .f32⟩
  | .hbm, ⟨20, _⟩ => ⟨S4096x4096, .i1⟩
  | .hbm, ⟨21, _⟩ => ⟨S_, .f32⟩
  | .hbm, ⟨22, _⟩ => ⟨S4096x4096, .f32⟩
  | .hbm, ⟨23, _⟩ => ⟨S4096x4096, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x4096, .f32⟩
  | .hbm, ⟨28, _⟩ => ⟨S4096x4096, .f32⟩
  | .hbm, ⟨29, _⟩ => ⟨S4096x4096, .f32⟩
  | .hbm, ⟨30, _⟩ => ⟨S_, .f32⟩
  | .hbm, ⟨31, _⟩ => ⟨S4096x4096, .f32⟩
  | .hbm, ⟨32, _⟩ => ⟨S4096x4096, .f32⟩
  | .hbm, ⟨33, _⟩ => ⟨S_, .f32⟩
  | .hbm, ⟨34, _⟩ => ⟨S4096x4096, .f32⟩
  | .hbm, ⟨35, _⟩ => ⟨S4096x4096, .f32⟩
  | .hbm, ⟨36, _⟩ => ⟨S4096x4096, .f32⟩
  | .hbm, ⟨37, _⟩ => ⟨S4096x1024, .f32⟩
  | .hbm, ⟨38, _⟩ => ⟨S4096x4096, .bf16⟩
  | .hbm, ⟨39, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_cst : Ref sig .tc := ⟨.hbm, 7, rfl⟩
abbrev main_call0_v0 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_call1_cst : Ref sig .tc := ⟨.hbm, 15, rfl⟩
abbrev main_call1_v0 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_cst_4 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel5.lean ====
abbrev S4096x1024 : Shape := ⟨2, ![4096, 1024]⟩
abbrev S1x1024x4096 : Shape := ⟨3, ![1, 1024, 4096]⟩
abbrev S1x4096x1024 : Shape := ⟨3, ![1, 4096, 1024]⟩
abbrev S1x6144 : Shape := ⟨2, ![1, 6144]⟩
abbrev S1024 : Shape := ⟨1, ![1024]⟩
abbrev S_ : Shape := ⟨0, ![]⟩
abbrev S8x1024 : Shape := ⟨2, ![8, 1024]⟩
abbrev S6x1024 : Shape := ⟨2, ![6, 1024]⟩
abbrev S1 : Shape := ⟨1, ![1]⟩
abbrev S1024x4096 : Shape := ⟨2, ![1024, 4096]⟩
abbrev S1x1024 : Shape := ⟨2, ![1, 1024]⟩
abbrev S4096x4096 : Shape := ⟨2, ![4096, 4096]⟩
abbrev S1024x1024 : Shape := ⟨2, ![1024, 1024]⟩
abbrev S2 : Shape := ⟨1, ![2]⟩
abbrev S1024x1 : Shape := ⟨2, ![1024, 1]⟩

abbrev nBuf : Space → Nat
  | .hbm => 24
  | .vmem => 18
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S1x1024x4096, .f32⟩
  | .hbm, ⟨3, _⟩ => ⟨S1x4096x1024, .f32⟩
  | .hbm, ⟨4, _⟩ => ⟨S1x4096x1024, .f32⟩
  | .hbm, ⟨5, _⟩ => ⟨S1x6144, .f32⟩
  | .hbm, ⟨6, _⟩ => ⟨S1024, .f32⟩
  | .hbm, ⟨7, _⟩ => ⟨S_, .f32⟩
  | .hbm, ⟨8, _⟩ => ⟨S8x1024, .f32⟩
  | .hbm, ⟨9, _⟩ => ⟨S6x1024, .f32⟩
  | .hbm, ⟨10, _⟩ => ⟨S_, .i32⟩
  | .hbm, ⟨11, _⟩ => ⟨S1, .i32⟩
  | .hbm, ⟨12, _⟩ => ⟨S8x1024, .f32⟩
  | .hbm, ⟨13, _⟩ => ⟨S1024x4096, .f32⟩
  | .hbm, ⟨14, _⟩ => ⟨S4096x1024, .f32⟩
  | .hbm, ⟨15, _⟩ => ⟨S4096x1024, .bf16⟩
  | .hbm, ⟨16, _⟩ => ⟨S4096x1024, .f32⟩
  | .hbm, ⟨17, _⟩ => ⟨S4096x1024, .bf16⟩
  | .hbm, ⟨18, _⟩ => ⟨S4096x1024, .f32⟩
  | .hbm, ⟨19, _⟩ => ⟨S1x1024, .f32⟩
  | .hbm, ⟨20, _⟩ => ⟨S4096x4096, .bf16⟩
  | .hbm, ⟨21, _⟩ => ⟨S4096x1024, .bf16⟩
  | .hbm, ⟨22, _⟩ => ⟨S4096x1024, .bf16⟩
  | .hbm, ⟨23, _⟩ => ⟨S8x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S8x1024, .f32⟩
  | .local _ .vmem, ⟨7, _⟩ => ⟨S1x1024, .f32⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S8x1024, .f32⟩
  | .local _ .vmem, ⟨15, _⟩ => ⟨S1024x1024, .f32⟩
  | .local _ .vmem, ⟨16, _⟩ => ⟨S1024x1024, .f32⟩
  | .local _ .vmem, ⟨17, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11_0 : Ref sig .tc := ⟨.hbm, 20, rfl⟩
abbrev main_v11_1 : Ref sig .tc := ⟨.hbm, 21, rfl⟩
abbrev main_v11_2 : Ref sig .tc := ⟨.hbm, 22, rfl⟩
abbrev main_v11_3 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c0_i32_2 : BitVec 32 := 0#32
  let v5 : BitVec 1 := Scalar.cmpi .eq arg1 c0_i32_2
  let v6 : BitVec 32 := Scalar.extui v5
  let c0_i32_3 : BitVec 32 := 0#32
  let v7 : BitVec 1 := Scalar.cmpi .ne v6 c0_i32_3
  v7

def k0_mult1 (i : grid0.Coords) : BitVec 32 :=
  let arg0 : BitVec 32 := BitVec.ofNat 32 (i 0).val
  let c1024_i32 : BitVec 32 := 1024#32
  let v29 : BitVec 32 := Scalar.muli arg0 c1024_i32
  v29
def k0_off1 (i : grid0.Coords) : Fin 2 → Nat :=
  let arg0 : BitVec 32 := BitVec.ofNat 32 (i 0).val
  let c1024_i32 : BitVec 32 := 1024#32
  let v29 : BitVec 32 := Scalar.muli arg0 c1024_i32
  let v30 : BitVec 32 := v29
  let c0_i32_19 : BitVec 32 := 0#32
  ![v30.toNat, 0]
def k0_cond3 (i : grid0.Coords) : BitVec 1 :=
  let arg1 : BitVec 32 := BitVec.ofNat 32 (i 1).val
  let c3_i32 : BitVec 32 := 3#32
  let v26 : BitVec 1 := Scalar.cmpi .eq arg1 c3_i32
  let v27 : BitVec 32 := Scalar.extui v26
  let c0_i32_17 : BitVec 32 := 0#32
  let v28 : BitVec 1 := Scalar.cmpi .ne v27 c0_i32_17
  v28

def k0_mult2 (i : grid0.Coords) : BitVec 32 :=
  let arg0 : BitVec 32 := BitVec.ofNat 32 (i 0).val
  let c1024_i32 : BitVec 32 := 1024#32
  let v29 : BitVec 32 := Scalar.muli arg0 c1024_i32
  v29
def k0_off2 (i : grid0.Coords) : Fin 2 → Nat :=
  let arg0 : BitVec 32 := BitVec.ofNat 32 (i 0).val
  let c1024_i32 : BitVec 32 := 1024#32
  let v29 : BitVec 32 := Scalar.muli arg0 c1024_i32
  let v30 : BitVec 32 := v29
  let c0_i32_19 : BitVec 32 := 0#32
  ![v30.toNat, 0]
def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]
-- ==== Reference5Ideal.lean ====
abbrev S4096x1024 : Shape := ⟨2, ![4096, 1024]⟩
abbrev S1x1024x4096 : Shape := ⟨3, ![1, 1024, 4096]⟩
abbrev S1x4096x1024 : Shape := ⟨3, ![1, 4096, 1024]⟩
abbrev S1x6144 : Shape := ⟨2, ![1, 6144]⟩
abbrev S1024 : Shape := ⟨1, ![1024]⟩
abbrev S1x1024 : Shape := ⟨2, ![1, 1024]⟩
abbrev S1024x4096 : Shape := ⟨2, ![1024, 4096]⟩
abbrev S4096x4096 : Shape := ⟨2, ![4096, 4096]⟩
abbrev S_ : Shape := ⟨0, ![]⟩
abbrev S1x1x1024 : Shape := ⟨3, ![1, 1, 1024]⟩
abbrev S1x4096 : Shape := ⟨2, ![1, 4096]⟩
abbrev S1x4096x1 : Shape := ⟨3, ![1, 4096, 1]⟩
abbrev S4096 : Shape := ⟨1, ![4096]⟩
abbrev S5x1024 : Shape := ⟨2, ![5, 1024]⟩
abbrev S8x1024 : Shape := ⟨2, ![8, 1024]⟩

abbrev nBuf : Space → Nat
  | .hbm => 112
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S1x1024x4096, .f32⟩
  | .hbm, ⟨3, _⟩ => ⟨S1x4096x1024, .f32⟩
  | .hbm, ⟨4, _⟩ => ⟨S1x4096x1024, .f32⟩
  | .hbm, ⟨5, _⟩ => ⟨S1x6144, .f32⟩
  | .hbm, ⟨6, _⟩ => ⟨S1024, .f32⟩
  | .hbm, ⟨7, _⟩ => ⟨S1x1024, .f32⟩
  | .hbm, ⟨8, _⟩ => ⟨S4096x1024, .f32⟩
  | .hbm, ⟨9, _⟩ => ⟨S1024x4096, .f32⟩
  | .hbm, ⟨10, _⟩ => ⟨S4096x4096, .f32⟩
  | .hbm, ⟨11, _⟩ => ⟨S_, .f32⟩
  | .hbm, ⟨12, _⟩ => ⟨S4096x4096, .f32⟩
  | .hbm, ⟨13, _⟩ => ⟨S4096x4096, .f32⟩
  | .hbm, ⟨14, _⟩ => ⟨S1x4096x1024, .f32⟩
  | .hbm, ⟨15, _⟩ => ⟨S4096x4096, .f32⟩
  | .hbm, ⟨16, _⟩ => ⟨S4096x1024, .f32⟩
  | .hbm, ⟨17, _⟩ => ⟨S4096x1024, .f32⟩
  | .hbm, ⟨18, _⟩ => ⟨S1x4096x1024, .f32⟩
  | .hbm, ⟨19, _⟩ => ⟨S1x1x1024, .f32⟩
  | .hbm, ⟨20, _⟩ => ⟨S1x4096x1024, .f32⟩
  | .hbm, ⟨21, _⟩ => ⟨S1x4096x1024, .f32⟩
  | .hbm, ⟨22, _⟩ => ⟨S1x4096x1024, .f32⟩
  | .hbm, ⟨23, _⟩ => ⟨S1x4096x1024, .f32⟩
  | .hbm, ⟨24, _⟩ => ⟨S_, .f32⟩
  | .hbm, ⟨25, _⟩ => ⟨S1x4096, .f32⟩
  | .hbm, ⟨26, _⟩ => ⟨S1x4096x1, .f32⟩
  | .hbm, ⟨27, _⟩ => ⟨S_, .f32⟩
  | .hbm, ⟨28, _⟩ => ⟨S1x4096x1, .f32⟩
  | .hbm, ⟨29, _⟩ => ⟨S1x4096x1, .f32⟩
  | .hbm, ⟨30, _⟩ => ⟨S_, .f32⟩
  | .hbm, ⟨31, _⟩ => ⟨S1x4096x1, .f32⟩
  | .hbm, ⟨32, _⟩ => ⟨S1x4096x1, .f32⟩
  | .hbm, ⟨33, _⟩ => ⟨S1x4096x1, .f32⟩
  | .hbm, ⟨34, _⟩ => ⟨S1x4096x1, .f32⟩
  | .hbm, ⟨35, _⟩ => ⟨S_, .f32⟩
  | .hbm, ⟨36, _⟩ => ⟨S1x4096x1, .f32⟩
  | .hbm, ⟨37, _⟩ => ⟨S1x4096x1, .f32⟩
  | .hbm, ⟨38, _⟩ => ⟨S1x4096x1024, .f32⟩
  | .hbm, ⟨39, _⟩ => ⟨S1x4096x1024, .f32⟩
  | .hbm, ⟨40, _⟩ => ⟨S1x1x1024, .f32⟩
  | .hbm, ⟨41, _⟩ => ⟨S1x4096x1024, .f32⟩
  | .hbm, ⟨42, _⟩ => ⟨S1x4096x1024, .f32⟩
  | .hbm, ⟨43, _⟩ => ⟨S1x4096x1024, .f32⟩
  | .hbm, ⟨44, _⟩ => ⟨S1x4096x1024, .f32⟩
  | .hbm, ⟨45, _⟩ => ⟨S_, .f32⟩
  | .hbm, ⟨46, _⟩ => ⟨S1x4096x1024, .f32⟩
  | .hbm, ⟨47, _⟩ => ⟨S1x4096x1024, .f32⟩
  | .hbm, ⟨48, _⟩ => ⟨S_, .f32⟩
  | .hbm, ⟨49, _⟩ => ⟨S1x4096, .f32⟩
  | .hbm, ⟨50, _⟩ => ⟨S_, .f32⟩
  | .hbm, ⟨51, _⟩ => ⟨S1x4096, .f32⟩
  | .hbm, ⟨52, _⟩ => ⟨S1x4096, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S1x4096, .f32⟩
  | .hbm, ⟨61, _⟩ => ⟨S_, .f32⟩
  | .hbm, ⟨62, _⟩ => ⟨S1x4096, .f32⟩
  | .hbm, ⟨63, _⟩ => ⟨S1x4096, .f32⟩
  | .hbm, ⟨64, _⟩ => ⟨S1x4096x1024, .f32⟩
  | .hbm, ⟨65, _⟩ => ⟨S1x4096x1024, .f32⟩
  | .hbm, ⟨66, _⟩ => ⟨S1x4096x1024, .f32⟩
  | .hbm, ⟨67, _⟩ => ⟨S_, .f32⟩
  | .hbm, ⟨68, _⟩ => ⟨S1x1024, .f32⟩
  | .hbm, ⟨69, _⟩ => ⟨S1x1x1024, .f32⟩
  | .hbm, ⟨70, _⟩ => ⟨S1x4096x1024, .f32⟩
  | .hbm, ⟨71, _⟩ => ⟨S1x4096x1024, .f32⟩
  | .hbm, ⟨72, _⟩ => ⟨S_, .f32⟩
  | .hbm, ⟨73, _⟩ => ⟨S1024, .f32⟩
  | .hbm, ⟨74, _⟩ => ⟨S1x4096x1024, .f32⟩
  | .hbm, ⟨75, _⟩ => ⟨S_, .f32⟩
  | .hbm, ⟨76, _⟩ => ⟨S1x4096, .f32⟩
  | .hbm, ⟨77, _⟩ => ⟨S1x4096x1, .f32⟩
  | .hbm, ⟨78, _⟩ => ⟨S1x4096x1024, .f32⟩
  | .hbm, ⟨79, _⟩ => ⟨S1x4096x1024, .f32⟩
  | .hbm, ⟨80, _⟩ => ⟨S1x4096x1, .f32⟩
  | .hbm, ⟨81, _⟩ => ⟨S_, .f32⟩
  | .hbm, ⟨82, _⟩ => ⟨S1x4096x1, .f32⟩
  | .hbm, ⟨83, _⟩ => ⟨S1x4096x1, .f32⟩
  | .hbm, ⟨84, _⟩ => ⟨S_, .f32⟩
  | .hbm, ⟨85, _⟩ => ⟨S4096, .f32⟩
  | .hbm, ⟨86, _⟩ => ⟨S1x4096, .f32⟩
  | .hbm, ⟨87, _⟩ => ⟨S1x4096x1024, .f32⟩
  | .hbm, ⟨88, _⟩ => ⟨S1x4096x1024, .f32⟩
  | .hbm, ⟨89, _⟩ => ⟨S1x4096x1024, .f32⟩
  | .hbm, ⟨90, _⟩ => ⟨S1x4096x1024, .f32⟩
  | .hbm, ⟨91, _⟩ => ⟨S1x4096x1024, .f32⟩
  | .hbm, ⟨92, _⟩ => ⟨S1x4096x1024, .f32⟩
  | .hbm, ⟨93, _⟩ => ⟨S1x4096x1024, .f32⟩
  | .hbm, ⟨94, _⟩ => ⟨S1x4096x1024, .f32⟩
  | .hbm, ⟨95, _⟩ => ⟨S_, .f32⟩
  | .hbm, ⟨96, _⟩ => ⟨S1x1024, .f32⟩
  | .hbm, ⟨97, _⟩ => ⟨S1x1x1024, .f32⟩
  | .hbm, ⟨98, _⟩ => ⟨S_, .f32⟩
  | .hbm, ⟨99, _⟩ => ⟨S1024, .f32⟩
  | .hbm, ⟨100, _⟩ => ⟨S1x1024, .f32⟩
  | .hbm, ⟨101, _⟩ => ⟨S1x1024, .f32⟩
  | .hbm, ⟨102, _⟩ => ⟨S_, .f32⟩
  | .hbm, ⟨103, _⟩ => ⟨S1x1024, .f32⟩
  | .hbm, ⟨104, _⟩ => ⟨S_, .f32⟩
  | .hbm, ⟨105, _⟩ => ⟨S5x1024, .f32⟩
  | .hbm, ⟨106, _⟩ => ⟨S8x1024, .f32⟩
  | .hbm, ⟨107, _⟩ => ⟨S4096x4096, .bf16⟩
  | .hbm, ⟨108, _⟩ => ⟨S4096x1024, .f32⟩
  | .hbm, ⟨109, _⟩ => ⟨S4096x1024, .bf16⟩
  | .hbm, ⟨110, _⟩ => ⟨S4096x1024, .f32⟩
  | .hbm, ⟨111, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_call0_cst : Ref sig .tc := ⟨.hbm, 11, rfl⟩
abbrev main_call0_v0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst : Ref sig .tc := ⟨.hbm, 24, rfl⟩
abbrev main_v15 : Ref sig .tc := ⟨.hbm, 25, rfl⟩
abbrev main_v16 : Ref sig .tc := ⟨.hbm, 26, rfl⟩
abbrev main_cst_0 : Ref sig .tc := ⟨.hbm, 27, rfl⟩
abbrev main_v17 : Ref sig .tc := ⟨.hbm, 28, rfl⟩
abbrev main_v18 : Ref sig .tc := ⟨.hbm, 29, rfl⟩
abbrev main_cst_1 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_2 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_3 : Ref sig .tc := ⟨.hbm, 45, rfl⟩
abbrev main_v32 : Ref sig .tc := ⟨.hbm, 46, rfl⟩
abbrev main_v33 : Ref sig .tc := ⟨.hbm, 47, rfl⟩
abbrev main_cst_4 : Ref sig .tc := ⟨.hbm, 48, rfl⟩
abbrev main_v34 : Ref sig .tc := ⟨.hbm, 49, rfl⟩
abbrev main_cst_5 : Ref sig .tc := ⟨.hbm, 50, rfl⟩
abbrev main_v35 : Ref sig .tc := ⟨.hbm, 51, rfl⟩
abbrev main_v36 : Ref sig .tc := ⟨.hbm, 52, rfl⟩
abbrev main_cst_6 : Ref sig .tc := ⟨.hbm, 53, rfl⟩
abbrev main_v37 : Ref sig .tc := ⟨.hbm, 54, rfl⟩
abbrev main_cst_7 : Ref sig .tc := ⟨.hbm, 55, rfl⟩
abbrev main_v38 : Ref sig .tc := ⟨.hbm, 56, rfl⟩
abbrev main_cst_8 : Ref sig .tc := ⟨.hbm, 57, rfl⟩
abbrev main_cst_9 : Ref sig .tc := ⟨.hbm, 58, rfl⟩
abbrev main_v39 : Ref sig .tc := ⟨.hbm, 59, rfl⟩
abbrev main_v40 : Ref sig .tc := ⟨.hbm, 60, rfl⟩
abbrev main_cst_10 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_11 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_cst_12 : Ref sig .tc := ⟨.hbm, 72, rfl⟩
abbrev main_v50 : Ref sig .tc := ⟨.hbm, 73, rfl⟩
abbrev main_v51 : Ref sig .tc := ⟨.hbm, 74, rfl⟩
abbrev main_cst_13 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_14 : Ref sig .tc := ⟨.hbm, 81, rfl⟩
abbrev main_v57 : Ref sig .tc := ⟨.hbm, 82, rfl⟩
abbrev main_v58 : Ref sig .tc := ⟨.hbm, 83, rfl⟩
abbrev main_cst_15 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_cst_16 : Ref sig .tc := ⟨.hbm, 95, rfl⟩
abbrev main_v69 : Ref sig .tc := ⟨.hbm, 96, rfl⟩
abbrev main_v70 : Ref sig .tc := ⟨.hbm, 97, rfl⟩
abbrev main_cst_17 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_cst_18 : Ref sig .tc := ⟨.hbm, 102, rfl⟩
abbrev main_v74 : Ref sig .tc := ⟨.hbm, 103, rfl⟩
abbrev main_cst_19 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩

abbrev nD : Nat := 1
abbrev τ : Topo := Topo.v7x

variable {F : FTy → Type} [FloatOps F]
-- ==== Kernel6.lean ====
abbrev S8x1024 : Shape := ⟨2, ![8, 1024]⟩
abbrev S1x1024x768 : Shape := ⟨3, ![1, 1024, 768]⟩
abbrev S1x768 : Shape := ⟨2, ![1, 768]⟩
abbrev S1024x768 : Shape := ⟨2, ![1024, 768]⟩
abbrev S8x768 : Shape := ⟨2, ![8, 768]⟩

abbrev nBuf : Space → Nat
  | .hbm => 6
  | .vmem => 5
  | .smem => 0
  | _ => 0

abbrev bufTy : (tb : Table) → Fin (tcTables nBuf tb) → BufTy
  | .hbm, ⟨0, _⟩ => ⟨S8x1024, .f32⟩
  | .hbm, ⟨1, _⟩ => ⟨S1x1024x768, .f32⟩
  | .hbm, ⟨2, _⟩ => ⟨S1x768, .f32⟩
  | .hbm, ⟨3, _⟩ => ⟨S1024x768, .f32⟩
  | .hbm, ⟨4, _⟩ => ⟨S8x768, .f32⟩
  | .hbm, ⟨5, _⟩ => ⟨S8x1024, .f32⟩
  | .local _ .vmem, ⟨0, _⟩ => ⟨S8x1024, .f32⟩
  | .local _ .vmem, ⟨1, _⟩ => ⟨S1024x768, .f32⟩
  | .local _ .vmem, ⟨2, _⟩ => ⟨S1x768, .f32⟩
  | .local _ .vmem, ⟨3, _⟩ => ⟨S8x768, .f32⟩
  | .local _ .vmem, ⟨4, _⟩ => ⟨S8x1024, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Reference6Ideal.lean ====
abbrev S8x1024 : Shape := ⟨2, ![8, 1024]⟩
abbrev S1x1024x768 : Shape := ⟨3, ![1, 1024, 768]⟩
abbrev S1x768 : Shape := ⟨2, ![1, 768]⟩
abbrev S_ : Shape := ⟨0, ![]⟩
abbrev S1024x768 : Shape := ⟨2, ![1024, 768]⟩
abbrev S8x768 : Shape := ⟨2, ![8, 768]⟩

abbrev nBuf : Space → Nat
  | .hbm => 16
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S1x1024x768, .f32⟩
  | .hbm, ⟨2, _⟩ => ⟨S1x768, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S1024x768, .f32⟩
  | .hbm, ⟨13, _⟩ => ⟨S8x768, .f32⟩
  | .hbm, ⟨14, _⟩ => ⟨S8x768, .f32⟩
  | .hbm, ⟨15, _⟩ => ⟨S8x768, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== Kernel7.lean ====
abbrev S4096x1024 : Shape := ⟨2, ![4096, 1024]⟩
abbrev S1x1024x4096 : Shape := ⟨3, ![1, 1024, 4096]⟩
abbrev S1x4096x1024 : Shape := ⟨3, ![1, 4096, 1024]⟩
abbrev S4096x4096 : Shape := ⟨2, ![4096, 4096]⟩
abbrev S1024x4096 : Shape := ⟨2, ![1024, 4096]⟩
abbrev S_ : Shape := ⟨0, ![]⟩
abbrev S1024x1024 : Shape := ⟨2, ![1024, 1024]⟩

abbrev nBuf : Space → Nat
  | .hbm => 14
  | .vmem => 12
  | .smem => 0
  | _ => 0

abbrev bufTy : (tb : Table) → Fin (tcTables nBuf tb) → BufTy
  | .hbm, ⟨0, _⟩ => ⟨S4096x1024, .bf16⟩
  | .hbm, ⟨1, _⟩ => ⟨S1x1024x4096, .f32⟩
  | .hbm, ⟨2, _⟩ => ⟨S1x4096x1024, .f32⟩
  | .hbm, ⟨3, _⟩ => ⟨S4096x4096, .bf16⟩
  | .hbm, ⟨4, _⟩ => ⟨S4096x1024, .bf16⟩
  | .hbm, ⟨5, _⟩ => ⟨S4096x1024, .f32⟩
  | .hbm, ⟨6, _⟩ => ⟨S1024x4096, .f32⟩
  | .hbm, ⟨7, _⟩ => ⟨S4096x4096, .f32⟩
  | .hbm, ⟨8, _⟩ => ⟨S_, .f32⟩
  | .hbm, ⟨9, _⟩ => ⟨S4096x4096, .f32⟩
  | .hbm, ⟨10, _⟩ => ⟨S4096x4096, .f32⟩
  | .hbm, ⟨11, _⟩ => ⟨S4096x4096, .bf16⟩
  | .hbm, ⟨12, _⟩ => ⟨S4096x1024, .f32⟩
  | .hbm, ⟨13, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_call0_cst : Ref sig .tc := ⟨.hbm, 8, rfl⟩
abbrev main_call0_v0 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference7Ideal.lean ====
abbrev S4096x1024 : Shape := ⟨2, ![4096, 1024]⟩
abbrev S1x1024x4096 : Shape := ⟨3, ![1, 1024, 4096]⟩
abbrev S1x4096x1024 : Shape := ⟨3, ![1, 4096, 1024]⟩
abbrev S4096x4096 : Shape := ⟨2, ![4096, 4096]⟩
abbrev S1024x4096 : Shape := ⟨2, ![1024, 4096]⟩
abbrev S_ : Shape := ⟨0, ![]⟩

abbrev nBuf : Space → Nat
  | .hbm => 28
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1x1024x4096, .f32⟩
  | .hbm, ⟨2, _⟩ => ⟨S1x4096x1024, .f32⟩
  | .hbm, ⟨3, _⟩ => ⟨S4096x4096, .bf16⟩
  | .hbm, ⟨4, _⟩ => ⟨S4096x1024, .bf16⟩
  | .hbm, ⟨5, _⟩ => ⟨S4096x1024, .f32⟩
  | .hbm, ⟨6, _⟩ => ⟨S1024x4096, .f32⟩
  | .hbm, ⟨7, _⟩ => ⟨S4096x4096, .f32⟩
  | .hbm, ⟨8, _⟩ => ⟨S_, .f32⟩
  | .hbm, ⟨9, _⟩ => ⟨S4096x4096, .f32⟩
  | .hbm, ⟨10, _⟩ => ⟨S4096x4096, .f32⟩
  | .hbm, ⟨11, _⟩ => ⟨S_, .f32⟩
  | .hbm, ⟨12, _⟩ => ⟨S4096x4096, .f32⟩
  | .hbm, ⟨13, _⟩ => ⟨S4096x4096, .f32⟩
  | .hbm, ⟨14, _⟩ => ⟨S4096x4096, .f32⟩
  | .hbm, ⟨15, _⟩ => ⟨S4096x1024, .f32⟩
  | .hbm, ⟨16, _⟩ => ⟨S4096x1024, .f32⟩
  | .hbm, ⟨17, _⟩ => ⟨S4096x4096, .f32⟩
  | .hbm, ⟨18, _⟩ => ⟨S4096x1024, .f32⟩
  | .hbm, ⟨19, _⟩ => ⟨S1024x4096, .f32⟩
  | .hbm, ⟨20, _⟩ => ⟨S1x1024x4096, .f32⟩
  | .hbm, ⟨21, _⟩ => ⟨S4096x1024, .f32⟩
  | .hbm, ⟨22, _⟩ => ⟨S1024x4096, .f32⟩
  | .hbm, ⟨23, _⟩ => ⟨S4096x1024, .f32⟩
  | .hbm, ⟨24, _⟩ => ⟨S1x4096x1024, .f32⟩
  | .hbm, ⟨25, _⟩ => ⟨S4096x1024, .f32⟩
  | .hbm, ⟨26, _⟩ => ⟨S1024x4096, .f32⟩
  | .hbm, ⟨27, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_call0_cst : Ref sig .tc := ⟨.hbm, 8, rfl⟩
abbrev main_call0_v0 : Ref sig .tc := ⟨.hbm, 9, rfl⟩
abbrev main_v3 : Ref sig .tc := ⟨.hbm, 10, rfl⟩
abbrev main_call1_cst : Ref sig .tc := ⟨.hbm, 11, rfl⟩
abbrev main_call1_v0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩

abbrev nD : Nat := 1
abbrev τ : Topo := Topo.v7x

variable {F : FTy → Type} [FloatOps F]
-- ==== Kernel8.lean ====
abbrev S1x4096x1024 : Shape := ⟨3, ![1, 4096, 1024]⟩
abbrev S1x6144 : Shape := ⟨2, ![1, 6144]⟩
abbrev S1x1024 : Shape := ⟨2, ![1, 1024]⟩
abbrev S1x1024x2560 : Shape := ⟨3, ![1, 1024, 2560]⟩
abbrev S4096x2560 : Shape := ⟨2, ![4096, 2560]⟩
abbrev S1024 : Shape := ⟨1, ![1024]⟩
abbrev S_ : Shape := ⟨0, ![]⟩
abbrev S1x4096 : Shape := ⟨2, ![1, 4096]⟩
abbrev S1x4096x1 : Shape := ⟨3, ![1, 4096, 1]⟩
abbrev S1x1x1024 : Shape := ⟨3, ![1, 1, 1024]⟩
abbrev S4096x1024 : Shape := ⟨2, ![4096, 1024]⟩
abbrev S2560x1024 : Shape := ⟨2, ![2560, 1024]⟩
abbrev S2048x1280 : Shape := ⟨2, ![2048, 1280]⟩
abbrev S2048x1024 : Shape := ⟨2, ![2048, 1024]⟩
abbrev S1280x1024 : Shape := ⟨2, ![1280, 1024]⟩

abbrev nBuf : Space → Nat
  | .hbm => 36
  | .vmem => 6
  | .smem => 0
  | _ => 0

abbrev bufTy : (tb : Table) → Fin (tcTables nBuf tb) → BufTy
  | .hbm, ⟨0, _⟩ => ⟨S1x4096x1024, .f32⟩
  | .hbm, ⟨1, _⟩ => ⟨S1x6144, .f32⟩
  | .hbm, ⟨2, _⟩ => ⟨S1x1024, .f32⟩
  | .hbm, ⟨3, _⟩ => ⟨S1x1024x2560, .f32⟩
  | .hbm, ⟨4, _⟩ => ⟨S4096x2560, .bf16⟩
  | .hbm, ⟨5, _⟩ => ⟨S1x1024, .f32⟩
  | .hbm, ⟨6, _⟩ => ⟨S1x1024, .f32⟩
  | .hbm, ⟨7, _⟩ => ⟨S1024, .f32⟩
  | .hbm, ⟨8, _⟩ => ⟨S1x4096x1024, .f32⟩
  | .hbm, ⟨9, _⟩ => ⟨S_, .f32⟩
  | .hbm, ⟨10, _⟩ => ⟨S1x4096, .f32⟩
  | .hbm, ⟨11, _⟩ => ⟨S1x4096x1, .f32⟩
  | .hbm, ⟨12, _⟩ => ⟨S_, .f32⟩
  | .hbm, ⟨13, _⟩ => ⟨S1x4096x1, .f32⟩
  | .hbm, ⟨14, _⟩ => ⟨S1x4096x1, .f32⟩
  | .hbm, ⟨15, _⟩ => ⟨S_, .f32⟩
  | .hbm, ⟨16, _⟩ => ⟨S1x4096x1, .f32⟩
  | .hbm, ⟨17, _⟩ => ⟨S1x4096x1, .f32⟩
  | .hbm, ⟨18, _⟩ => ⟨S1x4096x1, .f32⟩
  | .hbm, ⟨19, _⟩ => ⟨S1x4096x1024, .f32⟩
  | .hbm, ⟨20, _⟩ => ⟨S1x4096x1024, .f32⟩
  | .hbm, ⟨21, _⟩ => ⟨S1x1x1024, .f32⟩
  | .hbm, ⟨22, _⟩ => ⟨S1x4096x1024, .f32⟩
  | .hbm, ⟨23, _⟩ => ⟨S1x4096x1024, .f32⟩
  | .hbm, ⟨24, _⟩ => ⟨S1x1x1024, .f32⟩
  | .hbm, ⟨25, _⟩ => ⟨S_, .f32⟩
  | .hbm, ⟨26, _⟩ => ⟨S1x1x1024, .f32⟩
  | .hbm, ⟨27, _⟩ => ⟨S1x1x1024, .f32⟩
  | .hbm, ⟨28, _⟩ => ⟨S1x4096x1024, .f32⟩
  | .hbm, ⟨29, _⟩ => ⟨S1x4096x1024, .f32⟩
  | .hbm, ⟨30, _⟩ => ⟨S1x1x1024, .f32⟩
  | .hbm, ⟨31, _⟩ => ⟨S1x4096x1024, .f32⟩
  | .hbm, ⟨32, _⟩ => ⟨S1x4096x1024, .f32⟩
  | .hbm, ⟨33, _⟩ => ⟨S4096x1024, .f32⟩
  | .hbm, ⟨34, _⟩ => ⟨S4096x1024, .bf16⟩
  | .hbm, ⟨35, _⟩ => ⟨S2560x1024, .f32⟩
  | .local _ .vmem, ⟨0, _⟩ => ⟨S2048x1280, .bf16⟩
  | .local _ .vmem, ⟨1, _⟩ => ⟨S2048x1280, .bf16⟩
  | .local _ .vmem, ⟨2, _⟩ => ⟨S2048x1024, .bf16⟩
  | .local _ .vmem, ⟨3, _⟩ => ⟨S2048x1024, .bf16⟩
  | .local _ .vmem, ⟨4, _⟩ => ⟨S1280x1024, .f32⟩
  | .local _ .vmem, ⟨5, _⟩ => ⟨S1280x1024, .f32⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1280x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference8Ideal.lean ====
abbrev S1x4096x1024 : Shape := ⟨3, ![1, 4096, 1024]⟩
abbrev S1x6144 : Shape := ⟨2, ![1, 6144]⟩
abbrev S1x1024 : Shape := ⟨2, ![1, 1024]⟩
abbrev S1x1024x2560 : Shape := ⟨3, ![1, 1024, 2560]⟩
abbrev S4096x2560 : Shape := ⟨2, ![4096, 2560]⟩
abbrev S1024 : Shape := ⟨1, ![1024]⟩
abbrev S_ : Shape := ⟨0, ![]⟩
abbrev S1x4096 : Shape := ⟨2, ![1, 4096]⟩
abbrev S1x4096x1 : Shape := ⟨3, ![1, 4096, 1]⟩
abbrev S1x1x1024 : Shape := ⟨3, ![1, 1, 1024]⟩
abbrev S1024x2560 : Shape := ⟨2, ![1024, 2560]⟩
abbrev S1x4096x2560 : Shape := ⟨3, ![1, 4096, 2560]⟩
abbrev S2560x1024 : Shape := ⟨2, ![2560, 1024]⟩

abbrev nBuf : Space → Nat
  | .hbm => 42
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S1x6144, .f32⟩
  | .hbm, ⟨2, _⟩ => ⟨S1x1024, .f32⟩
  | .hbm, ⟨3, _⟩ => ⟨S1x1024x2560, .f32⟩
  | .hbm, ⟨4, _⟩ => ⟨S4096x2560, .bf16⟩
  | .hbm, ⟨5, _⟩ => ⟨S1x1024, .f32⟩
  | .hbm, ⟨6, _⟩ => ⟨S1x1024, .f32⟩
  | .hbm, ⟨7, _⟩ => ⟨S1024, .f32⟩
  | .hbm, ⟨8, _⟩ => ⟨S1x4096x1024, .f32⟩
  | .hbm, ⟨9, _⟩ => ⟨S_, .f32⟩
  | .hbm, ⟨10, _⟩ => ⟨S1x4096, .f32⟩
  | .hbm, ⟨11, _⟩ => ⟨S1x4096x1, .f32⟩
  | .hbm, ⟨12, _⟩ => ⟨S_, .f32⟩
  | .hbm, ⟨13, _⟩ => ⟨S1x4096x1, .f32⟩
  | .hbm, ⟨14, _⟩ => ⟨S1x4096x1, .f32⟩
  | .hbm, ⟨15, _⟩ => ⟨S_, .f32⟩
  | .hbm, ⟨16, _⟩ => ⟨S1x4096x1, .f32⟩
  | .hbm, ⟨17, _⟩ => ⟨S1x4096x1, .f32⟩
  | .hbm, ⟨18, _⟩ => ⟨S1x4096x1, .f32⟩
  | .hbm, ⟨19, _⟩ => ⟨S1x4096x1024, .f32⟩
  | .hbm, ⟨20, _⟩ => ⟨S1x4096x1024, .f32⟩
  | .hbm, ⟨21, _⟩ => ⟨S1x1x1024, .f32⟩
  | .hbm, ⟨22, _⟩ => ⟨S1x4096x1024, .f32⟩
  | .hbm, ⟨23, _⟩ => ⟨S1x4096x1024, .f32⟩
  | .hbm, ⟨24, _⟩ => ⟨S1x1x1024, .f32⟩
  | .hbm, ⟨25, _⟩ => ⟨S_, .f32⟩
  | .hbm, ⟨26, _⟩ => ⟨S1x1x1024, .f32⟩
  | .hbm, ⟨27, _⟩ => ⟨S1x1x1024, .f32⟩
  | .hbm, ⟨28, _⟩ => ⟨S1x4096x1024, .f32⟩
  | .hbm, ⟨29, _⟩ => ⟨S1x4096x1024, .f32⟩
  | .hbm, ⟨30, _⟩ => ⟨S1x1x1024, .f32⟩
  | .hbm, ⟨31, _⟩ => ⟨S1x4096x1024, .f32⟩
  | .hbm, ⟨32, _⟩ => ⟨S1x4096x1024, .f32⟩
  | .hbm, ⟨33, _⟩ => ⟨S1024x2560, .f32⟩
  | .hbm, ⟨34, _⟩ => ⟨S1x4096x2560, .f32⟩
  | .hbm, ⟨35, _⟩ => ⟨S4096x2560, .f32⟩
  | .hbm, ⟨36, _⟩ => ⟨S1x4096x2560, .f32⟩
  | .hbm, ⟨37, _⟩ => ⟨S2560x1024, .f32⟩
  | .hbm, ⟨38, _⟩ => ⟨S1024x2560, .f32⟩
  | .hbm, ⟨39, _⟩ => ⟨S1x1024x2560, .f32⟩
  | .hbm, ⟨40, _⟩ => ⟨S1024x2560, .f32⟩
  | .hbm, ⟨41, _⟩ => ⟨S2560x1024, .f32⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩

abbrev nD : Nat := 1
abbrev τ : Topo := Topo.v7x

variable {F : FTy → Type} [FloatOps F]
-- ==== Kernel9.lean ====
abbrev S8x1024 : Shape := ⟨2, ![8, 1024]⟩
abbrev S1x1024x768 : Shape := ⟨3, ![1, 1024, 768]⟩
abbrev S8x768 : Shape := ⟨2, ![8, 768]⟩
abbrev S_ : Shape := ⟨0, ![]⟩
abbrev S1024x768 : Shape := ⟨2, ![1024, 768]⟩
abbrev S8x256 : Shape := ⟨2, ![8, 256]⟩
abbrev S256x768 : Shape := ⟨2, ![256, 768]⟩
abbrev S16x256 : Shape := ⟨2, ![16, 256]⟩
abbrev S16x768 : Shape := ⟨2, ![16, 768]⟩

abbrev nBuf : Space → Nat
  | .hbm => 21
  | .vmem => 17
  | .smem => 0
  | _ => 0

abbrev bufTy : (tb : Table) → Fin (tcTables nBuf tb) → BufTy
  | .hbm, ⟨0, _⟩ => ⟨S8x1024, .f32⟩
  | .hbm, ⟨1, _⟩ => ⟨S1x1024x768, .f32⟩
  | .hbm, ⟨2, _⟩ => ⟨S8x768, .f32⟩
  | .hbm, ⟨3, _⟩ => ⟨S1x1024x768, .f32⟩
  | .hbm, ⟨4, _⟩ => ⟨S1x1024x768, .f32⟩
  | .hbm, ⟨5, _⟩ => ⟨S8x1024, .f32⟩
  | .hbm, ⟨6, _⟩ => ⟨S8x1024, .f32⟩
  | .hbm, ⟨7, _⟩ => ⟨S_, .f32⟩
  | .hbm, ⟨8, _⟩ => ⟨S8x1024, .f32⟩
  | .hbm, ⟨9, _⟩ => ⟨S8x1024, .f32⟩
  | .hbm, ⟨10, _⟩ => ⟨S_, .f32⟩
  | .hbm, ⟨11, _⟩ => ⟨S8x1024, .f32⟩
  | .hbm, ⟨12, _⟩ => ⟨S8x1024, .f32⟩
  | .hbm, ⟨13, _⟩ => ⟨S8x1024, .f32⟩
  | .hbm, ⟨14, _⟩ => ⟨S1024x768, .f32⟩
  | .hbm, ⟨15, _⟩ => ⟨S1024x768, .f32⟩
  | .hbm, ⟨16, _⟩ => ⟨S1024x768, .f32⟩
  | .hbm, ⟨17, _⟩ => ⟨S1024x768, .f32⟩
  | .hbm, ⟨18, _⟩ => ⟨S1024x768, .f32⟩
  | .hbm, ⟨19, _⟩ => ⟨S1024x768, .f32⟩
  | .hbm, ⟨20, _⟩ => ⟨S1024x768, .f32⟩
  | .local _ .vmem, ⟨0, _⟩ => ⟨S8x256, .f32⟩
  | .local _ .vmem, ⟨1, _⟩ => ⟨S8x256, .f32⟩
  | .local _ .vmem, ⟨2, _⟩ => ⟨S8x768, .f32⟩
  | .local _ .vmem, ⟨3, _⟩ => ⟨S256x768, .f32⟩
  | .local _ .vmem, ⟨4, _⟩ => ⟨S256x768, .f32⟩
  | .local _ .vmem, ⟨5, _⟩ => ⟨S256x768, .f32⟩
  | .local _ .vmem, ⟨6, _⟩ => ⟨S256x768, .f32⟩
  | .local _ .vmem, ⟨7, _⟩ => ⟨S256x768, .f32⟩
  | .local _ .vmem, ⟨8, _⟩ => ⟨S256x768, .f32⟩
  | .local _ .vmem, ⟨9, _⟩ => ⟨S256x768, .f32⟩
  | .local _ .vmem, ⟨10, _⟩ => ⟨S256x768, .f32⟩
  | .local _ .vmem, ⟨11, _⟩ => ⟨S256x768, .f32⟩
  | .local _ .vmem, ⟨12, _⟩ => ⟨S256x768, .f32⟩
  | .local _ .vmem, ⟨13, _⟩ => ⟨S256x768, .f32⟩
  | .local _ .vmem, ⟨14, _⟩ => ⟨S256x768, .f32⟩
  | .local _ .vmem, ⟨15, _⟩ => ⟨S256x768, .f32⟩
  | .local _ .vmem, ⟨16, _⟩ => ⟨S256x768, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4_0 : Ref sig .tc := ⟨.hbm, 17, rfl⟩
abbrev main_v4_1 : Ref sig .tc := ⟨.hbm, 18, rfl⟩
abbrev main_v4_2 : Ref sig .tc := ⟨.hbm, 19, rfl⟩
abbrev main_v4_3 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference9Ideal.lean ====
abbrev S8x1024 : Shape := ⟨2, ![8, 1024]⟩
abbrev S1x1024x768 : Shape := ⟨3, ![1, 1024, 768]⟩
abbrev S8x768 : Shape := ⟨2, ![8, 768]⟩
abbrev S_ : Shape := ⟨0, ![]⟩
abbrev S1024x768 : Shape := ⟨2, ![1024, 768]⟩
abbrev S768x1024 : Shape := ⟨2, ![768, 1024]⟩

abbrev nBuf : Space → Nat
  | .hbm => 56
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S1x1024x768, .f32⟩
  | .hbm, ⟨2, _⟩ => ⟨S8x768, .f32⟩
  | .hbm, ⟨3, _⟩ => ⟨S1x1024x768, .f32⟩
  | .hbm, ⟨4, _⟩ => ⟨S1x1024x768, .f32⟩
  | .hbm, ⟨5, _⟩ => ⟨S8x1024, .f32⟩
  | .hbm, ⟨6, _⟩ => ⟨S8x1024, .f32⟩
  | .hbm, ⟨7, _⟩ => ⟨S_, .f32⟩
  | .hbm, ⟨8, _⟩ => ⟨S8x1024, .f32⟩
  | .hbm, ⟨9, _⟩ => ⟨S8x1024, .f32⟩
  | .hbm, ⟨10, _⟩ => ⟨S_, .f32⟩
  | .hbm, ⟨11, _⟩ => ⟨S8x1024, .f32⟩
  | .hbm, ⟨12, _⟩ => ⟨S8x1024, .f32⟩
  | .hbm, ⟨13, _⟩ => ⟨S8x1024, .f32⟩
  | .hbm, ⟨14, _⟩ => ⟨S1024x768, .f32⟩
  | .hbm, ⟨15, _⟩ => ⟨S8x768, .f32⟩
  | .hbm, ⟨16, _⟩ => ⟨S768x1024, .f32⟩
  | .hbm, ⟨17, _⟩ => ⟨S1024x768, .f32⟩
  | .hbm, ⟨18, _⟩ => ⟨S1x1024x768, .f32⟩
  | .hbm, ⟨19, _⟩ => ⟨S_, .f32⟩
  | .hbm, ⟨20, _⟩ => ⟨S1x1024x768, .f32⟩
  | .hbm, ⟨21, _⟩ => ⟨S1x1024x768, .f32⟩
  | .hbm, ⟨22, _⟩ => ⟨S_, .f32⟩
  | .hbm, ⟨23, _⟩ => ⟨S1x1024x768, .f32⟩
  | .hbm, ⟨24, _⟩ => ⟨S1x1024x768, .f32⟩
  | .hbm, ⟨25, _⟩ => ⟨S1x1024x768, .f32⟩
  | .hbm, ⟨26, _⟩ => ⟨S_, .f32⟩
  | .hbm, ⟨27, _⟩ => ⟨S1x1024x768, .f32⟩
  | .hbm, ⟨28, _⟩ => ⟨S1x1024x768, .f32⟩
  | .hbm, ⟨29, _⟩ => ⟨S1x1024x768, .f32⟩
  | .hbm, ⟨30, _⟩ => ⟨S_, .f32⟩
  | .hbm, ⟨31, _⟩ => ⟨S1x1024x768, .f32⟩
  | .hbm, ⟨32, _⟩ => ⟨S1x1024x768, .f32⟩
  | .hbm, ⟨33, _⟩ => ⟨S1x1024x768, .f32⟩
  | .hbm, ⟨34, _⟩ => ⟨S_, .f32⟩
  | .hbm, ⟨35, _⟩ => ⟨S1x1024x768, .f32⟩
  | .hbm, ⟨36, _⟩ => ⟨S1x1024x768, .f32⟩
  | .hbm, ⟨37, _⟩ => ⟨S_, .f32⟩
  | .hbm, ⟨38, _⟩ => ⟨S1x1024x768, .f32⟩
  | .hbm, ⟨39, _⟩ => ⟨S1x1024x768, .f32⟩
  | .hbm, ⟨40, _⟩ => ⟨S1x1024x768, .f32⟩
  | .hbm, ⟨41, _⟩ => ⟨S_, .f32⟩
  | .hbm, ⟨42, _⟩ => ⟨S1x1024x768, .f32⟩
  | .hbm, ⟨43, _⟩ => ⟨S1x1024x768, .f32⟩
  | .hbm, ⟨44, _⟩ => ⟨S1x1024x768, .f32⟩
  | .hbm, ⟨45, _⟩ => ⟨S_, .f32⟩
  | .hbm, ⟨46, _⟩ => ⟨S1x1024x768, .f32⟩
  | .hbm, ⟨47, _⟩ => ⟨S1x1024x768, .f32⟩
  | .hbm, ⟨48, _⟩ => ⟨S1x1024x768, .f32⟩
  | .hbm, ⟨49, _⟩ => ⟨S_, .f32⟩
  | .hbm, ⟨50, _⟩ => ⟨S1x1024x768, .f32⟩
  | .hbm, ⟨51, _⟩ => ⟨S1x1024x768, .f32⟩
  | .hbm, ⟨52, _⟩ => ⟨S1024x768, .f32⟩
  | .hbm, ⟨53, _⟩ => ⟨S1024x768, .f32⟩
  | .hbm, ⟨54, _⟩ => ⟨S1024x768, .f32⟩
  | .hbm, ⟨55, _⟩ => ⟨S1024x768, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_cst : Ref sig .tc := ⟨.hbm, 19, rfl⟩
abbrev main_v6 : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_2 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_cst_3 : Ref sig .tc := ⟨.hbm, 34, rfl⟩
abbrev main_v17 : Ref sig .tc := ⟨.hbm, 35, rfl⟩
abbrev main_v18 : Ref sig .tc := ⟨.hbm, 36, rfl⟩
abbrev main_cst_4 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_cst_5 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_cst_6 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_cst_7 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩

abbrev nD : Nat := 1
abbrev τ : Topo := Topo.v7x

variable {F : FTy → Type} [FloatOps F]
-- ==== Proof.Reals.lean ====
/- Finite extended reals: sums, quotients and inverse square roots of real numbers stay real. -/
module

public import Idealize.ShloMosaic.Lib.Pointwise
public import Idealize.ShloMosaic.Lib.IdealHost

@[expose] public section

noncomputable section

namespace Cert.Proof.Reals

open Idealize.ShloMosaic

/-- A sum of real numbers, taken among the extended reals, is the real sum. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- An extended real whose absolute value is below infinity is a real number. -/
theorem eq_coe_of_abs_lt_top (x : EReal) (h : max x (-x) < ⊤) : x = ((x.toReal : ℝ) : EReal) := by
  induction x using EReal.rec with
  | bot => simp at h
  | coe r => rfl
  | top => simp at h

theorem rsqrt_pos {v : ℝ} (h : 0 < v) : Ideal.rsqrt ((v : ℝ) : EReal) = (((Real.sqrt v)⁻¹ : ℝ) : EReal) := by
  rw [Ideal.rsqrt_coe, if_neg (not_lt.mpr h.le), if_neg h.ne']

theorem div_real {y : ℝ} (h : y ≠ 0) (x : ℝ) : Ideal.div ((x : ℝ) : EReal) ((y : ℝ) : EReal) = ((x / y : ℝ) : EReal) := by
  rw [Ideal.div_coe h, ← EReal.coe_mul, mul_one_div]

/-- The number of entries of a row. -/
theorem ofBits_1024 : Ideal.ofBits .f32 0x44800000#32 = ((1024 : ℝ) : EReal) := by
  simp [Ideal.ofBits, Ideal.ieee, -EReal.coe_mul]; norm_num

theorem ofBits_neg_half : Ideal.ofBits .f32 0xBF000000#32 = ((-(1 / 2) : ℝ) : EReal) := by
  simp [Ideal.ofBits, Ideal.ieee, -EReal.coe_mul]; norm_num

/-- The number that the rounded `1e-6` stands for. -/
def eps : ℝ := 8796093 / 8796093022208

theorem ofBits_eps : Ideal.ofBits .f32 0x358637BD#32 = ((eps : ℝ) : EReal) := by
  unfold eps
  simp [Ideal.ofBits, Ideal.ieee, -EReal.coe_mul]; norm_num

theorem eps_pos : 0 < eps := by unfold eps; norm_num

theorem ofBits_one : Ideal.ofBits .f32 0x3F800000#32 = ((1 : ℝ) : EReal) := by
  simp [Ideal.ofBits, Ideal.ieee, -EReal.coe_mul]; norm_num

end Cert.Proof.Reals

end
-- ==== Proof.Finite.lean ====
/- A printed precondition `all (|x| < ∞)`, read back: every entry is a real number. -/
module

public import proofs.«01_k».proof.Proof.Reals
public import Idealize.ShloMosaic.Lib.ReduceAll
public import Idealize.ShloMosaic.Lib.StableHlo.Predicate
public import Idealize.ShloMosaic.Lib.KernelVsHost

@[expose] public section

noncomputable section

namespace Cert.Proof.Finite

open Idealize.ShloMosaic

variable {s u : Shape} {φ : FTy}

/-- Every entry of the array is (the coercion of) a real number. -/
def AllReal (x : s.Idx → EReal) : Prop := ∀ i, x i = ((x i).toReal : EReal)

theorem real_of_lt {x : EReal} (h : FloatOps.cmpf (F := Ideal) .olt (φ := .f32) (FloatOps.hostAbsf (F := Ideal) (φ := .f32) x) (FloatOps.ofBits (F := Ideal) .f32 0x7F800000#32) = 1#1) :
    x = (x.toReal : EReal) := by
  have htop : Ideal.ofBits .f32 0x7F800000#32 = ⊤ := by simp [Ideal.ofBits, Ideal.ieee]
  have h' : Ideal.cmp .olt (max x (-x)) (Ideal.ofBits .f32 0x7F800000#32) = 1#1 := h
  rw [htop] at h'
  unfold Ideal.cmp at h'
  exact Reals.eq_coe_of_abs_lt_top _ (of_decide_eq_true ((StableHlo.Predicate.ofBool_eq_one_iff _).1 h'))

theorem and_left {a b : BitVec 1} (h : IntOp.andi a b = 1#1) : a = 1#1 := by revert a b; decide
theorem and_right {a b : BitVec 1} (h : IntOp.andi a b = 1#1) : b = 1#1 := by revert a b; decide

/-- A conjunction of two flags that holds. -/
theorem split {x y : (⟨0, ![]⟩ : Shape).Idx → BitVec 1} (h : andi x y = fun _ => 1#1) : x = (fun _ => 1#1) ∧ y = fun _ => 1#1 :=
  ⟨funext fun j => and_left (congrFun h j), funext fun j => and_right (congrFun h j)⟩

/-- The flag `all (|x| < ∞)` that holds. -/
theorem all_real {axes : List (Fin s.rank)} (x : FVec Ideal s .f32) (init : u.Idx → BitVec 1) (hb : (⟨0, ![]⟩ : Shape).BroadcastsInDim s (![] : Fin 0 → Fin s.rank))
    (h : s.ReducesTo axes ⟨0, ![]⟩) (hu : 0 < u.numel)
    (e : Host.reduce IntOp.andi (cmpf .olt (Host.absf x) (broadcastInDim s ![] hb (constant ⟨0, ![]⟩ .f32 0x7F800000#32))) init h hu = fun _ => 1#1) :
    AllReal x := fun i =>
  haveI : Subsingleton (⟨0, ![]⟩ : Shape).Idx := ⟨fun a b => funext fun k => k.elim0⟩
  real_of_lt (Host.reduce_andi_all _ init h hu (fun k => k.elim0) (congrFun e _) i)

end Cert.Proof.Finite

end
-- ==== Proof.Rows.lean ====
/- A block of eight rows in which a kernel keeps running sums, one sum per row: what the block holds after its first rows
   have been stored anew. -/
module

public import Idealize.ShloMosaic.Lib.Pointwise
public import Idealize.ShloMosaic.Lib.WritesUnit
public import Idealize.ShloMosaic.Lib.Pipeline.Value
public import Idealize.ShloMosaic.Lib.Pipeline.RowLoads
public import Idealize.ShloMosaic.Lib.Pipeline.ReadBack

@[expose] public section

noncomputable section

namespace Cert.Proof.Rows

open Idealize.ShloMosaic

variable {sig : RefSig} {κ : Kind} {sp : Space} {Val : EltTy → Type} {e : EltTy} {R n : ℕ}

/-- The block `v` with row `r` replaced by the row `p`. -/
def setRow (r : ℕ) (p : (⟨2, ![1, n]⟩ : Shape).Idx → Val e) (v : (⟨2, ![R, n]⟩ : Shape).Idx → Val e) : (⟨2, ![R, n]⟩ : Shape).Idx → Val e :=
  fun y => if (y 0).val = r then p (ix2 0 (y 1)) else v y

/-- A store of row `r` on top of earlier stores replaces row `r` of what they left. -/
theorem read_setRow (v : View sig κ sp (⟨2, ![R, n]⟩ : Shape) e) (f : v.ty.Contents Val) (r : ℕ) (inb)
    (p : (⟨2, ![1, n]⟩ : Shape).Idx → Val e) (L : List (View.Piece Val (⟨2, ![R, n]⟩ : Shape) e)) :
    v.read Val (v.writes Val f ((⟨Rect.unit (s := ⟨2, ![R, n]⟩) ![r, 0] ![1, n] inb, p⟩ : View.Piece Val (⟨2, ![R, n]⟩ : Shape) e) :: L))
      = setRow r p (v.read Val (v.writes Val f L)) := by
  funext y
  unfold setRow
  by_cases h : (y 0).val = r
  · rw [if_pos h]
    exact View.read_writes_cons_rows_of_mem v f inb p L y (ix2 0 (y 1)) rfl (by rw [h]; rfl) rfl
  · rw [if_neg h]
    exact View.read_writes_cons_rows_of_not_mem (W := 1) v f inb p L y rfl rfl (by omega)

theorem read_nil (v : View sig κ sp (⟨2, ![R, n]⟩ : Shape) e) (f : v.ty.Contents Val) : v.read Val (v.writes Val f []) = v.read Val f := rfl

/-- Row `r` of a block, read at a lane. -/
theorem ld_row (v : (⟨2, ![R, n]⟩ : Shape).Idx → Val e) (r : ℕ) (hr : r < R) (inb) (l : Fin n) :
    View.ld v (Rect.unit (s := ⟨2, ![R, n]⟩) ![r, 0] ![1, n] inb) (ix2 0 l) = v (ix2 ⟨r, hr⟩ l) :=
  congrArg v (funext fun a => Fin.ext (by match a with | ⟨0, _⟩ => rfl | ⟨1, _⟩ => show 0 + 1 * l.val = l.val; omega))

section Cov

variable [∀ e, Nonempty (Val e)]

/-- A store of another row does not change what a load of row `r` reads. -/
theorem readCov_other (v : View sig κ sp (⟨2, ![R, n]⟩ : Shape) e) (r r' : ℕ) (hr : r ≠ r') (inb inb')
    (p : (⟨2, ![1, n]⟩ : Shape).Idx → Val e) (L : List (View.Piece Val (⟨2, ![R, n]⟩ : Shape) e)) :
    v.readCov ((⟨Rect.unit (s := ⟨2, ![R, n]⟩) ![r, 0] ![1, n] inb, p⟩ : View.Piece Val (⟨2, ![R, n]⟩ : Shape) e) :: L)
        (Rect.unit (s := ⟨2, ![R, n]⟩) ![r', 0] ![1, n] inb').toLoadRect
      = v.readCov L (Rect.unit (s := ⟨2, ![R, n]⟩) ![r', 0] ![1, n] inb').toLoadRect :=
  View.readCov_cons_of_rows_disjoint v r r' (by omega) p L inb inb'

/-- After a store of the whole block a load of a part of it reads that part of what was stored. -/
theorem readCov_all (v : View sig κ sp (⟨2, ![R, n]⟩ : Shape) e) (inb) (Z : (⟨2, ![R, n]⟩ : Shape).Idx → Val e)
    (r : Rect (⟨2, ![R, n]⟩ : Shape)) :
    v.readCov [(⟨Rect.unit (s := ⟨2, ![R, n]⟩) ![0, 0] ![R, n] inb, Z⟩ : View.Piece Val (⟨2, ![R, n]⟩ : Shape) e)] r.toLoadRect = View.ld Z r :=
  View.readCov_fill v inb Z [] r (fun a => by match a with | ⟨0, _⟩ => rfl | ⟨1, _⟩ => rfl)

/-- A store of the whole block leaves what was stored. -/
theorem read_all (v : View sig κ sp (⟨2, ![R, n]⟩ : Shape) e) (inb) (f : v.ty.Contents Val) (Z : (⟨2, ![R, n]⟩ : Shape).Idx → Val e)
    (L : List (View.Piece Val (⟨2, ![R, n]⟩ : Shape) e)) :
    v.read Val (v.writes Val f ((⟨Rect.unit (s := ⟨2, ![R, n]⟩) ![0, 0] ![R, n] inb, Z⟩ : View.Piece Val (⟨2, ![R, n]⟩ : Shape) e) :: L)) = Z := by
  funext y
  exact View.read_writes_cons_rows_of_mem v f inb Z L y y rfl (by show (y 0).val = 0 + (y 0).val; omega) rfl

end Cov

end Cert.Proof.Rows

end
-- ==== Proof.MixInBlocks.lean ====
/- What one grid step of the mixer-input backward kernel leaves in its two output blocks: the rows of the gradient of `x`,
   and the three rows of column sums that the kernel carries from step to step. -/
module

public import proofs.«01_k».proof.Proof.Gen.KernelIdeal.Value
public import Idealize.ShloMosaic.Lib.Pointwise
public import Idealize.ShloMosaic.Lib.Tactic
public import proofs.«01_k».proof.Proof.Rows

@[expose] public section

noncomputable section

namespace Cert.Proof.MixIn

open Cert.KernelIdeal Cert.KernelIdeal.Gen Idealize.ShloMosaic Idealize.ShloMosaic.TcCoe Idealize.SL.Sem

variable {F : FTy → Type} [FloatOps F]

theorem hz : (![0, 0] : Fin 2 → Nat) = fun _ => 0 := funext fun a => by fin_cases a <;> rfl

/-- The block of the gradient of `x` from the blocks of the inputs (`sc` is row 1 of the modulation block). -/
def gxBlk (dp : Vec F S1024x2560 .bf16) (x : Vec F S1024x1024 .f32) (dx2 : Vec F S1024x1024 .bf16) (w : Vec F S2560x1024 .bf16)
    (sc : Vec F S1x1024 .f32) (g : Vec F S1x1024 .f32) : Vec F S1024x1024 .f32 :=
  k0_pay1 (k0_pay8 x) (k0_pay11 dx2) (k0_pay12 dp w sc g) (k0_pay13 dp w x sc g)

/-- Row `1` of an eight-row block. -/
abbrev row1 (v : Vec F S8x1024 .f32) : Vec F S1x1024 .f32 := View.ld v (Rect.unit ![1, 0] ![1, 1024] inb_S8x1024_S1x1024_1_0)

/-- The block of column sums after a step, from the block before it. -/
def stNext (dp : Vec F S1024x2560 .bf16) (x : Vec F S1024x1024 .f32) (w : Vec F S2560x1024 .bf16) (sc : Vec F S1x1024 .f32)
    (g : Vec F S1x1024 .f32) (st : Vec F S8x1024 .f32) : Vec F S8x1024 .f32 :=
  Rows.setRow (Val := Elt F) (e := .f32) 2 (k0_pay4 (k0_pay9 x) (k0_pay10 dp w sc) (View.ld st (Rect.unit ![2, 0] ![1, 1024] inb_S8x1024_S1x1024_2_0)))
    (Rows.setRow (Val := Elt F) (e := .f32) 1 (k0_pay3 (k0_pay6 dp w) (k0_pay9 x) (View.ld st (Rect.unit ![1, 0] ![1, 1024] inb_S8x1024_S1x1024_1_0)) g)
      (Rows.setRow (Val := Elt F) (e := .f32) 0 (k0_pay2 (k0_pay6 dp w) (View.ld st (Rect.unit ![0, 0] ![1, 1024] inb_S8x1024_S1x1024_0_0))) st))

theorem out_B6 (c : Dev nD) (i : grid0.Coords) (arg1 : Memref sig .tc .vmem S1024x2560 .bf16) (harg1 : arg1.IsWhole) (arg2 : Memref sig .tc .vmem S1024x1024 .f32) (harg2 : arg2.IsWhole) (arg3 : Memref sig .tc .vmem S1024x1024 .bf16) (harg3 : arg3.IsWhole) (arg4 : Memref sig .tc .vmem S2560x1024 .bf16) (harg4 : arg4.IsWhole) (arg5 : Memref sig .tc .vmem S8x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S8x1024 .f32) (harg8 : arg8.IsWhole) (hc0 : ¬cond0_0 i)
    (x0 : Vec F S1024x2560 .bf16) (x1 : Vec F S1024x1024 .f32) (x2 : Vec F S1024x1024 .bf16) (x3 : Vec F S2560x1024 .bf16) (x4 : Vec F S8x1024 .f32) (x5 : Vec F S1x1024 .f32) (xo7 : Vec F S8x1024 .f32) :
    out0_B_6 c i arg1 harg1 arg2 harg2 arg3 harg3 arg4 harg4 arg5 harg5 arg6 harg6 arg7 harg7 arg8 harg8 hc0 x0 x1 x2 x3 x4 x5 xo7
      = gxBlk x0 x1 x2 x3 (row1 x4) x5 := by
  unfold out0_B_6
  rw [View.read_writes_eq_canon _ _ _ (cover0_B_6 c i arg1 harg1 arg2 harg2 arg3 harg3 arg4 harg4 arg5 harg5 arg6 harg6 arg7 harg7 arg8 harg8 hc0 x0 x1 x2 x3 x4 x5 xo7)]
  unfold kernelRun0_B
  dsimp only
  sl_unfold_words
  rw [View.canon_unit_zero (S := S1024x1024) hz]
  simp only [View.readAt_eq_ld, harg1.read_unread, harg2.read_unread, harg3.read_unread, harg4.read_unread, harg5.read_unread, harg6.read_unread,
     View.ld_unit_zero (S:=S1024x2560) hz, View.ld_unit_zero (S:=S1024x1024) hz, View.ld_unit_zero (S:=S2560x1024) hz, View.ld_unit_zero (S:=S1x1024) hz]
  rfl

theorem out_B7 (c : Dev nD) (i : grid0.Coords) (arg1 : Memref sig .tc .vmem S1024x2560 .bf16) (harg1 : arg1.IsWhole) (arg2 : Memref sig .tc .vmem S1024x1024 .f32) (harg2 : arg2.IsWhole) (arg3 : Memref sig .tc .vmem S1024x1024 .bf16) (harg3 : arg3.IsWhole) (arg4 : Memref sig .tc .vmem S2560x1024 .bf16) (harg4 : arg4.IsWhole) (arg5 : Memref sig .tc .vmem S8x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S8x1024 .f32) (harg8 : arg8.IsWhole) (hc0 : ¬cond0_0 i)
    (x0 : Vec F S1024x2560 .bf16) (x1 : Vec F S1024x1024 .f32) (x2 : Vec F S1024x1024 .bf16) (x3 : Vec F S2560x1024 .bf16) (x4 : Vec F S8x1024 .f32) (x5 : Vec F S1x1024 .f32) (xo7 : Vec F S8x1024 .f32) :
    out0_B_7 c i arg1 harg1 arg2 harg2 arg3 harg3 arg4 harg4 arg5 harg5 arg6 harg6 arg7 harg7 arg8 harg8 hc0 x0 x1 x2 x3 x4 x5 xo7
      = stNext x0 x1 x3 (row1 x4) x5 xo7 := by
  unfold out0_B_7
  unfold kernelRun0_B
  dsimp only
  sl_unfold_words
  simp only [View.readAt_eq_ld, harg1.read_unread, harg2.read_unread, harg3.read_unread, harg4.read_unread, harg5.read_unread, harg6.read_unread, harg8.read_unread,
     View.ld_unit_zero (S:=S1024x2560) hz, View.ld_unit_zero (S:=S1024x1024) hz, View.ld_unit_zero (S:=S2560x1024) hz, View.ld_unit_zero (S:=S1x1024) hz]
  rw [Rows.read_setRow, Rows.read_setRow, Rows.read_setRow, Rows.read_nil, harg8.read_unread]
  rfl

theorem out_A7 (c : Dev nD) (i : grid0.Coords) (arg1 : Memref sig .tc .vmem S1024x2560 .bf16) (harg1 : arg1.IsWhole) (arg2 : Memref sig .tc .vmem S1024x1024 .f32) (harg2 : arg2.IsWhole) (arg3 : Memref sig .tc .vmem S1024x1024 .bf16) (harg3 : arg3.IsWhole) (arg4 : Memref sig .tc .vmem S2560x1024 .bf16) (harg4 : arg4.IsWhole) (arg5 : Memref sig .tc .vmem S8x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S8x1024 .f32) (harg8 : arg8.IsWhole) (hc0 : cond0_0 i)
    (x0 : Vec F S1024x2560 .bf16) (x1 : Vec F S1024x1024 .f32) (x2 : Vec F S1024x1024 .bf16) (x3 : Vec F S2560x1024 .bf16) (x4 : Vec F S8x1024 .f32) (x5 : Vec F S1x1024 .f32) :
    out0_A_7 c i arg1 harg1 arg2 harg2 arg3 harg3 arg4 harg4 arg5 harg5 arg6 harg6 arg7 harg7 arg8 harg8 hc0 x0 x1 x2 x3 x4 x5
      = stNext x0 x1 x3 (row1 x4) x5 k0_pay5 := by
  unfold out0_A_7
  unfold kernelRun0_A
  dsimp only
  sl_unfold_words
  simp only [View.readAt_eq_ld, harg1.read_unread, harg2.read_unread, harg3.read_unread, harg4.read_unread, harg5.read_unread, harg6.read_unread, harg8.read_unread,
     View.ld_unit_zero (S:=S1024x2560) hz, View.ld_unit_zero (S:=S1024x1024) hz, View.ld_unit_zero (S:=S2560x1024) hz, View.ld_unit_zero (S:=S1x1024) hz]
  rw [Rows.read_setRow, Rows.read_setRow, Rows.read_setRow]
  rw [Rows.read_all]
  simp only [Rows.readCov_other _ 0 1 (by omega), Rows.readCov_other _ 0 2 (by omega), Rows.readCov_other _ 1 2 (by omega), Rows.readCov_all]
  rfl

theorem out_A6 (c : Dev nD) (i : grid0.Coords) (arg1 : Memref sig .tc .vmem S1024x2560 .bf16) (harg1 : arg1.IsWhole) (arg2 : Memref sig .tc .vmem S1024x1024 .f32) (harg2 : arg2.IsWhole) (arg3 : Memref sig .tc .vmem S1024x1024 .bf16) (harg3 : arg3.IsWhole) (arg4 : Memref sig .tc .vmem S2560x1024 .bf16) (harg4 : arg4.IsWhole) (arg5 : Memref sig .tc .vmem S8x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S8x1024 .f32) (harg8 : arg8.IsWhole) (hc0 : cond0_0 i)
    (x0 : Vec F S1024x2560 .bf16) (x1 : Vec F S1024x1024 .f32) (x2 : Vec F S1024x1024 .bf16) (x3 : Vec F S2560x1024 .bf16) (x4 : Vec F S8x1024 .f32) (x5 : Vec F S1x1024 .f32) :
    out0_A_6 c i arg1 harg1 arg2 harg2 arg3 harg3 arg4 harg4 arg5 harg5 arg6 harg6 arg7 harg7 arg8 harg8 hc0 x0 x1 x2 x3 x4 x5
      = gxBlk x0 x1 x2 x3 (row1 x4) x5 := by
  unfold out0_A_6
  rw [View.read_writes_eq_canon _ _ _ (cover0_A_6 c i arg1 harg1 arg2 harg2 arg3 harg3 arg4 harg4 arg5 harg5 arg6 harg6 arg7 harg7 arg8 harg8 hc0 x0 x1 x2 x3 x4 x5)]
  unfold kernelRun0_A
  dsimp only
  sl_unfold_words
  rw [View.canon_unit_zero (S := S1024x1024) hz]
  simp only [View.readAt_eq_ld, harg1.read_unread, harg2.read_unread, harg3.read_unread, harg4.read_unread, harg5.read_unread, harg6.read_unread,
     View.ld_unit_zero (S:=S1024x2560) hz, View.ld_unit_zero (S:=S1024x1024) hz, View.ld_unit_zero (S:=S2560x1024) hz, View.ld_unit_zero (S:=S1x1024) hz]
  rfl

end Cert.Proof.MixIn
-- ==== Proof.Rms.lean ====
/- The gradient of the root-mean-square normalisation of a row of 1024 entries, over the extended reals: the form a kernel
   computes, `r · (u − x̂ · mean(u · x̂))`, and the form of the chain rule through `r = 1/√(mean(x²) + ε)`. On rows of real
   numbers the two are one real number. -/
module

public import proofs.«01_k».proof.Proof.Reals

@[expose] public section

noncomputable section

namespace Cert.Proof.Rms

open Idealize.ShloMosaic Cert.Proof.Reals

/-- The mean of the squares of a row, plus `ε`. -/
def ms (x : Fin 1024 → EReal) : EReal := Ideal.div (∑ k, x k * x k) (Ideal.ofBits .f32 0x44800000#32) + Ideal.ofBits .f32 0x358637BD#32

/-- The reciprocal root of it. -/
def inv (x : Fin 1024 → EReal) : EReal := Ideal.rsqrt (ms x)

/-- The gradient of the row in the kernel's form, from the cotangent `u` of the normalised row. -/
def back (x u : Fin 1024 → EReal) (l : Fin 1024) : EReal :=
  inv x * (u l - x l * inv x * Ideal.div (∑ k, u k * (x k * inv x)) (Ideal.ofBits .f32 0x44800000#32))

/-- The factor the chain rule puts on the row, from the cotangent of the squares' mean. -/
def chain (x u : Fin 1024 → EReal) : EReal :=
  Ideal.div ((∑ k, x k * u k) * (Ideal.ofBits .f32 0xBF000000#32 * Ideal.div (inv x) (ms x))) (Ideal.ofBits .f32 0x44800000#32)

/-- The same over the real numbers. -/
def msR (x : Fin 1024 → ℝ) : ℝ := (∑ k, x k * x k) / 1024 + eps

def invR (x : Fin 1024 → ℝ) : ℝ := (Real.sqrt (msR x))⁻¹

def backR (x u : Fin 1024 → ℝ) (l : Fin 1024) : ℝ := invR x * (u l - x l * invR x * ((∑ k, u k * (x k * invR x)) / 1024))

theorem msR_pos (x : Fin 1024 → ℝ) : 0 < msR x :=
  add_pos_of_nonneg_of_pos (div_nonneg (Finset.sum_nonneg fun k _ => mul_self_nonneg (x k)) (by norm_num)) eps_pos

theorem ms_coe (x : Fin 1024 → ℝ) : ms (fun k => (x k : EReal)) = (msR x : EReal) := by
  unfold ms msR
  simp only [← EReal.coe_mul, ← coe_sum, ofBits_1024, ofBits_eps]
  rw [div_real (by norm_num), ← EReal.coe_add]

theorem inv_coe (x : Fin 1024 → ℝ) : inv (fun k => (x k : EReal)) = (invR x : EReal) := by
  unfold inv invR
  rw [ms_coe, rsqrt_pos (msR_pos x)]

theorem back_coe (x u : Fin 1024 → ℝ) (l : Fin 1024) : back (fun k => (x k : EReal)) (fun k => (u k : EReal)) l = (backR x u l : EReal) := by
  unfold back backR
  simp only [inv_coe, ← EReal.coe_mul, ← coe_sum, ofBits_1024]
  rw [div_real (by norm_num), ← EReal.coe_mul, ← EReal.coe_sub, ← EReal.coe_mul]

/-- The chain rule's form is the kernel's form. -/
theorem chain_eq (x u : Fin 1024 → ℝ) (l : Fin 1024) :
    (u l : EReal) * inv (fun k => (x k : EReal))
        + ((x l : EReal) * chain (fun k => (x k : EReal)) (fun k => (u k : EReal)) + chain (fun k => (x k : EReal)) (fun k => (u k : EReal)) * (x l : EReal))
      = (backR x u l : EReal) := by
  have hv := msR_pos x
  have hs : (invR x) * (invR x) * msR x = 1 := by
    unfold invR
    rw [← mul_inv, Real.mul_self_sqrt hv.le, inv_mul_cancel₀ hv.ne']
  have hsum : (∑ k, u k * (x k * invR x)) = (∑ k, x k * u k) * invR x := by
    rw [Finset.sum_mul]; exact Finset.sum_congr rfl fun k _ => by ring
  unfold chain
  simp only [inv_coe, ms_coe, ← EReal.coe_mul, ← coe_sum, ofBits_1024, ofBits_neg_half, div_real hv.ne', div_real (by norm_num : (1024 : ℝ) ≠ 0),
    ← EReal.coe_add]
  congr 1
  unfold backR
  rw [hsum]
  have hd : invR x / msR x = invR x * (invR x * invR x) := by
    rw [div_eq_iff hv.ne', mul_assoc, hs, mul_one]
  rw [hd]
  ring

end Cert.Proof.Rms

end
-- ==== Proof.MixInRead.lean ====
/- The mixer-input backward kernel's step read at an index, over the extended reals. -/
module

public import proofs.«01_k».proof.Proof.MixInBlocks
public import proofs.«01_k».proof.Proof.Rms

@[expose] public section

noncomputable section

namespace Cert.Proof.MixIn

open Cert.KernelIdeal Cert.KernelIdeal.Gen Idealize.ShloMosaic Idealize.ShloMosaic.TcCoe Idealize.SL.Sem

variable (dp : Vec Ideal S1024x2560 .bf16) (x : Vec Ideal S1024x1024 .f32) (dx2 : Vec Ideal S1024x1024 .bf16)
  (w : Vec Ideal S2560x1024 .bf16) (sc g row : Vec Ideal S1x1024 .f32)

theorem pay6_apply (r l : Fin 1024) : k0_pay6 dp w (ix2 r l) = ∑ k : Fin 2560, dp (ix2 r k) * w (ix2 k l) := by
  pointwise [k0_pay6]

theorem pay8_apply (r : Fin 1024) : k0_pay8 x (ix2 r 0) = Rms.inv fun k => x (ix2 r k) := by
  unfold Rms.inv Rms.ms
  pointwise [k0_pay8, k0_pay7]

theorem pay2_apply (v6 : Vec Ideal S1024x1024 .f32) (l : Fin 1024) :
    k0_pay2 v6 row (ix2 0 l) = row (ix2 0 l) + ∑ r : Fin 1024, v6 (ix2 r l) := by
  pointwise [k0_pay2]

theorem pay3_apply (l : Fin 1024) : k0_pay3 (k0_pay6 dp w) (k0_pay9 x) row g (ix2 0 l)
    = row (ix2 0 l) + ∑ r : Fin 1024, k0_pay6 dp w (ix2 r l) * (x (ix2 r l) * k0_pay8 x (ix2 r 0) * g (ix2 0 l)) := by
  pointwise [k0_pay3, k0_pay9, k0_pay7]

theorem pay4_apply (l : Fin 1024) : k0_pay4 (k0_pay9 x) (k0_pay10 dp w sc) row (ix2 0 l)
    = row (ix2 0 l) + ∑ r : Fin 1024, k0_pay6 dp w (ix2 r l) * (1 + sc (ix2 0 l)) * (x (ix2 r l) * k0_pay8 x (ix2 r 0)) := by
  pointwise [k0_pay4, k0_pay9, k0_pay7, k0_pay10]

/-- The three column sums' summands, and zero for the other rows, from a row's entries: `h` is the cotangent of the
    modulated row, `xr` the row of `x`. -/
def part (p : ℕ) (h : EReal) (xr : Fin 1024 → EReal) (s gl : EReal) (l : Fin 1024) : EReal :=
  if p = 0 then h else if p = 1 then h * (xr l * Rms.inv xr * gl) else if p = 2 then h * (1 + s) * (xr l * Rms.inv xr) else 0

theorem gx_apply (r l : Fin 1024) : gxBlk dp x dx2 w sc g (ix2 r l)
    = dx2 (ix2 r l) + Rms.back (fun k => x (ix2 r k)) (fun k => k0_pay6 dp w (ix2 r k) * (1 + sc (ix2 0 k)) * g (ix2 0 k)) l := by
  unfold Rms.back
  rw [← pay8_apply]
  pointwise [gxBlk, k0_pay1, k0_pay11, k0_pay12, k0_pay13, k0_pay10, k0_pay9, k0_pay7]

theorem stNext_apply (st : Vec Ideal S8x1024 .f32) (p : Fin 8) (l : Fin 1024) : stNext dp x w sc g st (ix2 p l)
    = st (ix2 p l) + ∑ r : Fin 1024, part p.val (k0_pay6 dp w (ix2 r l)) (fun k => x (ix2 r k)) (sc (ix2 0 l)) (g (ix2 0 l)) l := by
  unfold stNext Rows.setRow
  have e0 : ((ix2 p l : (⟨2, ![8, 1024]⟩ : Shape).Idx) 0).val = p.val := rfl
  have e1 : ((ix2 p l : (⟨2, ![8, 1024]⟩ : Shape).Idx) 1) = l := rfl
  unfold part
  by_cases h2 : p.val = 2
  · have hp : p = ⟨2, by decide⟩ := Fin.ext h2
    subst hp
    rw [if_pos e0, e1, pay4_apply, Rows.ld_row (e := .f32) st 2 (by omega)]
    simp [pay8_apply]
  rw [if_neg (by rw [e0]; exact h2)]
  by_cases h1 : p.val = 1
  · have hp : p = ⟨1, by decide⟩ := Fin.ext h1
    subst hp
    rw [if_pos e0, e1, pay3_apply, Rows.ld_row (e := .f32) st 1 (by omega)]
    simp [pay8_apply]
  rw [if_neg (by rw [e0]; exact h1)]
  by_cases h0 : p.val = 0
  · have hp : p = ⟨0, by decide⟩ := Fin.ext h0
    subst hp
    rw [if_pos e0, e1, pay2_apply, Rows.ld_row (e := .f32) st 0 (by omega)]
    simp
  rw [if_neg (by rw [e0]; exact h0)]
  simp [h0, h1, h2]

theorem pay5_apply (i : S8x1024.Idx) : (k0_pay5 (F := Ideal)) i = 0 := by
  unfold k0_pay5
  exact Ideal.ofBits_zero_f32

end Cert.Proof.MixIn

end
-- ==== Proof.MixInRun.lean ====
/- What the mixer-input backward kernel leaves in its two result arrays, over the extended reals: the gradient of `x` row
   by row, and the three column sums over all 4096 rows, as functions of the arrays that the kernel's grid reads. -/
module

public import proofs.«01_k».proof.Proof.MixInRead

@[expose] public section

noncomputable section

namespace Cert.Proof.MixIn

open Cert.KernelIdeal Cert.KernelIdeal.Gen Cert.KernelIdeal.Value Idealize.ShloMosaic Idealize.ShloMosaic.TcCoe Idealize.SL.Sem

/-- Row `1024·t + r` of the 4096, for `t < 4`. -/
def rowOf (t : ℕ) (r : Fin 1024) : Fin 4096 := ⟨(t * 1024 + r.val) % 4096, Nat.mod_lt _ (by decide)⟩

theorem rowOf_val {t : ℕ} (h : t < 4) (r : Fin 1024) : (rowOf t r).val = t * 1024 + r.val := by
  show (t * 1024 + r.val) % 4096 = _
  have := r.isLt
  omega

/-- The cotangent of the modulated row: the product of a row of `dp` with a column of `w`. -/
def dh (dp : Vec Ideal S4096x2560 .bf16) (w : Vec Ideal S2560x1024 .bf16) (i : Fin 4096) (l : Fin 1024) : EReal :=
  ∑ k : Fin 2560, dp (ix2 i k) * w (ix2 k l)

/-- The gradient of `x`. -/
def gx (dp : Vec Ideal S4096x2560 .bf16) (x : Vec Ideal S4096x1024 .f32) (dx2 : Vec Ideal S4096x1024 .bf16) (w : Vec Ideal S2560x1024 .bf16)
    (md : Vec Ideal S8x1024 .f32) (g : Vec Ideal S1x1024 .f32) : Vec Ideal S4096x1024 .f32 := fun j =>
  dx2 j + Rms.back (fun k => x (ix2 (j 0) k)) (fun k => dh dp w (j 0) k * (1 + md (ix2 1 k)) * g (ix2 0 k)) (j 1)

theorem gx_at (dp : Vec Ideal S4096x2560 .bf16) (x : Vec Ideal S4096x1024 .f32) (dx2 : Vec Ideal S4096x1024 .bf16) (w : Vec Ideal S2560x1024 .bf16)
    (md : Vec Ideal S8x1024 .f32) (g : Vec Ideal S1x1024 .f32) (i : Fin 4096) (l : Fin 1024) : gx dp x dx2 w md g (ix2 i l)
      = dx2 (ix2 i l) + Rms.back (fun k => x (ix2 i k)) (fun k => dh dp w i k * (1 + md (ix2 1 k)) * g (ix2 0 k)) l := rfl

/-- Row `i`'s summand of column sum `p` at column `l`. -/
def term (dp : Vec Ideal S4096x2560 .bf16) (x : Vec Ideal S4096x1024 .f32) (w : Vec Ideal S2560x1024 .bf16)
    (md : Vec Ideal S8x1024 .f32) (g : Vec Ideal S1x1024 .f32) (p : ℕ) (l : Fin 1024) (i : Fin 4096) : EReal :=
  part p (dh dp w i l) (fun k => x (ix2 i k)) (md (ix2 1 l)) (g (ix2 0 l)) l

/-- The column sums. -/
def st (dp : Vec Ideal S4096x2560 .bf16) (x : Vec Ideal S4096x1024 .f32) (w : Vec Ideal S2560x1024 .bf16)
    (md : Vec Ideal S8x1024 .f32) (g : Vec Ideal S1x1024 .f32) : Vec Ideal S8x1024 .f32 := fun j =>
  ∑ i : Fin 4096, term dp x w md g (j 0).val (j 1) i

variable (m : (ℓ : Loc nD τ sig) → Buf (Elt Ideal) ℓ) (ρ : Dev nD → PrngReg)

/-- The block indices of the windows that move with the grid point, and of those that stay. -/
theorem idx0 : ∀ t : Fin cfg0.N, win0_0.index t (0 : Fin 2) = t.val ∧ win0_0.index t (1 : Fin 2) = 0 := (by decide +kernel : ∀ t : Fin grid0.N, _)
theorem idx1 : ∀ t : Fin cfg0.N, win0_1.index t (0 : Fin 2) = t.val ∧ win0_1.index t (1 : Fin 2) = 0 := (by decide +kernel : ∀ t : Fin grid0.N, _)
theorem idx2 : ∀ t : Fin cfg0.N, win0_2.index t (0 : Fin 2) = t.val ∧ win0_2.index t (1 : Fin 2) = 0 := (by decide +kernel : ∀ t : Fin grid0.N, _)
theorem idx3 : ∀ t : Fin cfg0.N, win0_3.index t (0 : Fin 2) = 0 ∧ win0_3.index t (1 : Fin 2) = 0 := (by decide +kernel : ∀ t : Fin grid0.N, _)
theorem idx4 : ∀ t : Fin cfg0.N, win0_4.index t (0 : Fin 2) = 0 ∧ win0_4.index t (1 : Fin 2) = 0 := (by decide +kernel : ∀ t : Fin grid0.N, _)
theorem idx5 : ∀ t : Fin cfg0.N, win0_5.index t (0 : Fin 2) = 0 ∧ win0_5.index t (1 : Fin 2) = 0 := (by decide +kernel : ∀ t : Fin grid0.N, _)
theorem idx6 : ∀ t : Fin cfg0.N, win0_6.index t (0 : Fin 2) = t.val ∧ win0_6.index t (1 : Fin 2) = 0 := (by decide +kernel : ∀ t : Fin grid0.N, _)
theorem idx7 : ∀ t : Fin cfg0.N, win0_7.index t (0 : Fin 2) = 0 ∧ win0_7.index t (1 : Fin 2) = 0 := (by decide +kernel : ∀ t : Fin grid0.N, _)

theorem lt4 (t : Fin cfg0.N) : t.val < 4 := lt_of_lt_of_eq t.isLt (show cfg0.N = 4 from N_0)

/-- A block of the input `dp` is its rows. -/
theorem blk0 (c : Dev nD) (t : Fin cfg0.N) (r : Fin 1024) (k : Fin 2560) :
    iblk m c 0 t (ix2 r k) = V m c main_arg4 (ix2 (rowOf t.val r) k) := by
  have e := idx0 t
  have hr := rowOf_val (lt4 t) r
  refine congrArg (V m c main_arg4) (funext fun a => Fin.ext ?_)
  match a with
  | ⟨0, _⟩ => show win0_0.index t (0 : Fin 2) * 1024 + 1 * r.val = (rowOf t.val r).val; omega
  | ⟨1, _⟩ => show win0_0.index t (1 : Fin 2) * 2560 + 1 * k.val = k.val; omega

theorem blk1 (c : Dev nD) (t : Fin cfg0.N) (r : Fin 1024) (k : Fin 1024) :
    iblk m c 1 t (ix2 r k) = V m c main_v7 (ix2 (rowOf t.val r) k) := by
  have e := idx1 t
  have hr := rowOf_val (lt4 t) r
  refine congrArg (V m c main_v7) (funext fun a => Fin.ext ?_)
  match a with
  | ⟨0, _⟩ => show win0_1.index t (0 : Fin 2) * 1024 + 1 * r.val = (rowOf t.val r).val; omega
  | ⟨1, _⟩ => show win0_1.index t (1 : Fin 2) * 1024 + 1 * k.val = k.val; omega

theorem blk2 (c : Dev nD) (t : Fin cfg0.N) (r : Fin 1024) (k : Fin 1024) :
    iblk m c 2 t (ix2 r k) = V m c main_arg5 (ix2 (rowOf t.val r) k) := by
  have e := idx2 t
  have hr := rowOf_val (lt4 t) r
  refine congrArg (V m c main_arg5) (funext fun a => Fin.ext ?_)
  match a with
  | ⟨0, _⟩ => show win0_2.index t (0 : Fin 2) * 1024 + 1 * r.val = (rowOf t.val r).val; omega
  | ⟨1, _⟩ => show win0_2.index t (1 : Fin 2) * 1024 + 1 * k.val = k.val; omega

theorem blk3 (c : Dev nD) (t : Fin cfg0.N) : (iblk m c 3 t : Vec Ideal S2560x1024 .bf16) = V m c main_v2 := by
  have e := idx3 t
  funext j
  refine congrArg (V m c main_v2) (funext fun a => Fin.ext ?_)
  match a with
  | ⟨0, _⟩ => show win0_3.index t (0 : Fin 2) * 2560 + 1 * (j 0).val = (j 0).val; omega
  | ⟨1, _⟩ => show win0_3.index t (1 : Fin 2) * 1024 + 1 * (j 1).val = (j 1).val; omega

theorem blk4 (c : Dev nD) (t : Fin cfg0.N) : (iblk m c 4 t : Vec Ideal S8x1024 .f32) = V m c main_v6 := by
  have e := idx4 t
  funext j
  refine congrArg (V m c main_v6) (funext fun a => Fin.ext ?_)
  match a with
  | ⟨0, _⟩ => show win0_4.index t (0 : Fin 2) * 8 + 1 * (j 0).val = (j 0).val; omega
  | ⟨1, _⟩ => show win0_4.index t (1 : Fin 2) * 1024 + 1 * (j 1).val = (j 1).val; omega

theorem blk5 (c : Dev nD) (t : Fin cfg0.N) : (iblk m c 5 t : Vec Ideal S1x1024 .f32) = V m c main_arg2 := by
  have e := idx5 t
  funext j
  refine congrArg (V m c main_arg2) (funext fun a => Fin.ext ?_)
  match a with
  | ⟨0, _⟩ => show win0_5.index t (0 : Fin 2) * 1 + 1 * (j 0).val = (j 0).val; omega
  | ⟨1, _⟩ => show win0_5.index t (1 : Fin 2) * 1024 + 1 * (j 1).val = (j 1).val; omega

/-- The arrays as the grid finds them. -/
abbrev gxV (c : Dev nD) : Vec Ideal S4096x1024 .f32 :=
  gx (V m c main_arg4) (V m c main_v7) (V m c main_arg5) (V m c main_v2) (V m c main_v6) (V m c main_arg2)
abbrev termV (c : Dev nD) := term (V m c main_arg4) (V m c main_v7) (V m c main_v2) (V m c main_v6) (V m c main_arg2)
abbrev stV (c : Dev nD) : Vec Ideal S8x1024 .f32 := st (V m c main_arg4) (V m c main_v7) (V m c main_v2) (V m c main_v6) (V m c main_arg2)

theorem row1_apply (v : Vec Ideal S8x1024 .f32) (l : Fin 1024) : row1 v (ix2 0 l) = v (ix2 1 l) :=
  Rows.ld_row (e := .f32) v 1 (by omega) _ l

theorem md_blk (c : Dev nD) (t : Fin cfg0.N) (l : Fin 1024) :
    row1 (iblk m c 4 t : Vec Ideal S8x1024 .f32) (ix2 0 l) = V m c main_v6 (ix2 1 l) := by
  rw [blk4]
  exact row1_apply _ l

theorem pay6_blk (c : Dev nD) (t : Fin cfg0.N) (r l : Fin 1024) :
    k0_pay6 (iblk m c 0 t : Vec Ideal S1024x2560 .bf16) (iblk m c 3 t : Vec Ideal S2560x1024 .bf16) (ix2 r l)
      = dh (V m c main_arg4) (V m c main_v2) (rowOf t.val r) l := by
  rw [pay6_apply, blk3]
  exact Finset.sum_congr rfl fun k _ => by rw [blk0]

/-- A grid step's block of the gradient is its rows of the whole gradient. -/
theorem gx_blk (c : Dev nD) (t : Fin cfg0.N) (r l : Fin 1024) :
    gxBlk (F := Ideal) (iblk m c 0 t) (iblk m c 1 t) (iblk m c 2 t) (iblk m c 3 t) (row1 (iblk m c 4 t)) (iblk m c 5 t) (ix2 r l)
      = gxV m c (ix2 (rowOf t.val r) l) := by
  rw [gx_apply, blk2]
  simp only [pay6_blk, blk1, md_blk, blk5]
  exact (gx_at _ _ _ _ _ _ _ _).symm

/-- A grid step adds its rows' summands to the column sums. -/
theorem st_blk (c : Dev nD) (t : Fin cfg0.N) (s : Vec Ideal S8x1024 .f32) (p : Fin 8) (l : Fin 1024) :
    stNext (F := Ideal) (iblk m c 0 t) (iblk m c 1 t) (iblk m c 3 t) (row1 (iblk m c 4 t)) (iblk m c 5 t) s (ix2 p l)
      = s (ix2 p l) + ∑ r : Fin 1024, termV m c p.val l (rowOf t.val r) := by
  rw [stNext_apply]
  simp only [pay6_blk, blk1, md_blk, blk5, term]

/-- After a grid step the first output block holds its rows of the gradient. -/
theorem out6 (c : Dev nD) (t : Fin cfg0.N) : (outsAt0 m c t.val t.isLt).1
    = gxBlk (F := Ideal) (iblk m c 0 t) (iblk m c 1 t) (iblk m c 2 t) (iblk m c 3 t) (row1 (iblk m c 4 t)) (iblk m c 5 t) := by
  by_cases h : t.val % 4 = 0
  · rw [outsAt0_A m c t h]; dsimp only; rw [out_A6]
  · rw [outsAt0_B m c t h]; dsimp only; rw [out_B6]

/-- After grid step `n` the second output block holds the column sums over the rows up to there. -/
theorem out7 (c : Dev nD) : ∀ (n : ℕ) (h : n < cfg0.N) (p : Fin 8) (l : Fin 1024), (outsAt0 m c n h).2 (ix2 p l)
    = ∑ s ∈ Finset.range (n + 1), ∑ r : Fin 1024, termV m c p.val l (rowOf s r)
  | 0, h, p, l => by
    rw [outsAt0_A m c ⟨0, h⟩ rfl]
    dsimp only
    rw [out_A7, st_blk, pay5_apply, zero_add, Finset.sum_range_one]
  | n + 1, h, p, l => by
    have h4 := lt4 ⟨n + 1, h⟩
    have hB : ¬(⟨n + 1, h⟩ : Fin cfg0.N).val % 4 = 0 := by dsimp only at h4 ⊢; omega
    rw [outsAt0_B m c ⟨n + 1, h⟩ hB]
    dsimp only
    rw [out_B7, st_blk, Finset.sum_range_succ _ (n + 1)]
    exact congrArg (· + _) (out7 c n (Nat.lt_of_succ_lt h) p l)

/-- The sums over the four blocks are the sums over all rows. -/
theorem sum_rows (f : Fin 4096 → EReal) : ∑ s ∈ Finset.range 4, ∑ r : Fin 1024, f (rowOf s r) = ∑ i : Fin 4096, f i := by
  rw [Fin.sum_univ_tiles 4 1024 (by decide) f, Finset.sum_range]
  exact Finset.sum_congr rfl fun s _ => Finset.sum_congr rfl fun r _ => congrArg f (Fin.ext (rowOf_val s.isLt r))

theorem emb6 (t : Fin cfg0.N) (j : S1024x1024.Idx) : ((cfg0.win 6).blk t).view.emb j = ix2 (rowOf t.val (j 0)) (j 1) := by
  have e := idx6 t
  have hr := rowOf_val (lt4 t) (j 0)
  funext a; apply Fin.ext
  match a with
  | ⟨0, _⟩ => show win0_6.index t (0 : Fin 2) * 1024 + 1 * (j 0).val = (rowOf t.val (j 0)).val; omega
  | ⟨1, _⟩ => show win0_6.index t (1 : Fin 2) * 1024 + 1 * (j 1).val = (j 1).val; omega

theorem emb7 (t : Fin cfg0.N) (j : S8x1024.Idx) : ((cfg0.win 7).blk t).view.emb j = j := by
  have e := idx7 t
  funext a; apply Fin.ext
  match a with
  | ⟨0, _⟩ => show win0_7.index t (0 : Fin 2) * 8 + 1 * (j 0).val = (j 0).val; omega
  | ⟨1, _⟩ => show win0_7.index t (1 : Fin 2) * 1024 + 1 * (j 1).val = (j 1).val; omega

theorem ix2_eta {a b : ℕ} (j : (⟨2, ![a, b]⟩ : Shape).Idx) : j = ix2 (j 0) (j 1) :=
  funext fun k => match k with | ⟨0, _⟩ => rfl | ⟨1, _⟩ => rfl

theorem flushed6_eq (c : Dev nD) (t : Fin cfg0.N) : (dats m 0 c).flushed 6 t = ((cfg0.win 6).blk t).view.read (Elt Ideal) (gxV m c) := by
  rw [flushed6, out6]
  funext j
  show gxBlk (F := Ideal) _ _ _ _ _ _ j = gxV m c (((cfg0.win 6).blk t).view.emb j)
  rw [emb6]
  exact (congrArg _ (ix2_eta (a := 1024) (b := 1024) j)).trans (gx_blk m c t _ _)

theorem flushed7_eq (c : Dev nD) (t : Fin cfg0.N) (hf : (cfg0.win 7).flush t = true) :
    (dats m 0 c).flushed 7 t = ((cfg0.win 7).blk t).view.read (Elt Ideal) (stV m c) := by
  have h3 : t.val = 3 := by have := (flush0_7 t).mp hf; have := lt4 t; omega
  rw [flushed7]
  funext j
  show (outsAt0 m c t.val t.isLt).2 j = stV m c (((cfg0.win 7).blk t).view.emb j)
  rw [emb7]
  obtain ⟨n, hn⟩ := t
  dsimp only at h3
  subst h3
  refine (congrArg _ (ix2_eta (a := 8) (b := 1024) j)).trans ((out7 m c 3 hn _ _).trans ?_)
  exact sum_rows _

theorem covered6 (i : S4096x1024.Idx) : ∃ t : Fin cfg0.N, (cfg0.win 6).flush t = true ∧ i ∈ ((cfg0.win 6).blk t).view.set := by
  have hi : (i 0).val < 4096 := (i 0).isLt
  have ht : (i 0).val / 1024 < cfg0.N := by rw [show cfg0.N = 4 from N_0]; omega
  refine ⟨⟨(i 0).val / 1024, ht⟩, flush0_6 _, ?_⟩
  have h := ((cfg0.win 6).blk ⟨(i 0).val / 1024, ht⟩).view.emb_mem_set (ix2 ⟨(i 0).val % 1024, Nat.mod_lt _ (by decide)⟩ (i 1) : S1024x1024.Idx)
  rw [emb6] at h
  refine Eq.mp (congrArg (· ∈ _) (funext fun a => Fin.ext ?_)) h
  match a with
  | ⟨0, _⟩ => exact ((rowOf_val (lt4 _) _).trans (by show (i 0).val / 1024 * 1024 + (i 0).val % 1024 = (i 0).val; omega))
  | ⟨1, _⟩ => rfl

theorem covered7 (i : S8x1024.Idx) : ∃ t : Fin cfg0.N, (cfg0.win 7).flush t = true ∧ i ∈ ((cfg0.win 7).blk t).view.set := by
  have h3 : 3 < cfg0.N := by rw [show cfg0.N = 4 from N_0]; decide
  refine ⟨⟨3, h3⟩, (flush0_7 _).mpr rfl, ?_⟩
  have h := ((cfg0.win 7).blk ⟨3, h3⟩).view.emb_mem_set i
  rwa [emb7] at h

/-- The two result arrays after the run. -/
theorem run : θ_run defs (onTc (τ := τ) (main (F := Ideal))) ⟨m, fun _ => 0, ρ⟩ fun r => ∀ c : Dev nD,
      r.2.mem ((c : Thread nD τ).loc main_v8_0) = gxV m c
      ∧ r.2.mem ((c : Thread nD τ).loc main_v8_1) = stV m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans ((dats m 0 c).arrAt_eq_of_cover 6 (gxV m c) (fun t _ => flushed6_eq m c t) covered6),
    (h c).2.1.trans ((dats m 0 c).arrAt_eq_of_cover 7 (stV m c) (flushed7_eq m c) covered7), (h c).2.2⟩) (run_blocks m ρ)

end Cert.Proof.MixIn

end
-- ==== Proof.FirstRows.lean ====
/- `x.at[0:K].set(u)` on a matrix: the first `K` rows are the update's, the others stay. -/
module

public import Idealize.ShloMosaic.Lib.Routing.OpsSet
public import Idealize.ShloMosaic.Lib.Routing.OpsPair
public import Idealize.ShloMosaic.Lib.Pointwise

@[expose] public section

noncomputable section

namespace Cert.Proof.FirstRows

open Idealize.ShloMosaic Idealize.ShloMosaic.ValueIdx Idealize.ShloMosaic.Routing

variable {R C K w : ℕ}

/-- Entry `(p, l)` of the update lands at `(r, c)` exactly when the two are the same place. -/
theorem lands (wf) (idx : IVec (shape1 1) w) (h0 : idx (ValueIdx.ix1 0) = 0) (p : Fin K) (l c : Fin C) (r : Fin R) :
    (⟨[0, 1], [], [0], 0, wf⟩ : ScatterDims (shape2 R C) (shape1 1) (shape2 K C)).resultIdx? (ValueIdx.ix2 p l) idx = some (ValueIdx.ix2 r c)
      ↔ p.val = r.val ∧ l = c := by
  have hs0 : (⟨[0, 1], [], [0], 0, wf⟩ : ScatterDims (shape2 R C) (shape1 1) (shape2 K C)).start (ValueIdx.ix2 p l) idx 0 = 0 := by
    unfold ScatterDims.start
    rw [dif_pos (List.mem_singleton.2 rfl)]
    have hsi : (⟨[0, 1], [], [0], 0, wf⟩ : ScatterDims (shape2 R C) (shape1 1) (shape2 K C)).siIdx (ValueIdx.ix2 p l)
        ⟨_, List.idxOf_lt_length_iff.2 (List.mem_singleton.2 rfl)⟩ = ValueIdx.ix1 (0 : Fin 1) :=
      funext fun b => match b with | ⟨0, _⟩ => Subsingleton.elim (α := Fin 1) _ _
    rw [hsi, h0]
    simp
  have hs1 : (⟨[0, 1], [], [0], 0, wf⟩ : ScatterDims (shape2 R C) (shape1 1) (shape2 K C)).start (ValueIdx.ix2 p l) idx 1 = 0 := rfl
  have hw0 : (⟨[0, 1], [], [0], 0, wf⟩ : ScatterDims (shape2 R C) (shape1 1) (shape2 K C)).window (ValueIdx.ix2 p l) 0 = p.val := rfl
  have hw1 : (⟨[0, 1], [], [0], 0, wf⟩ : ScatterDims (shape2 R C) (shape1 1) (shape2 K C)).window (ValueIdx.ix2 p l) 1 = l.val := rfl
  rw [Fin.ext_iff, resultIdx?_ix2, hs0, hs1, hw0, hw1]
  omega

/-- A row below `K` reads the update's row. -/
theorem scatter_row {α : Type} (wf) (x : (shape2 R C).Idx → α) (idx : IVec (shape1 1) w) (h0 : idx (ValueIdx.ix1 0) = 0) (u : (shape2 K C).Idx → α)
    (r : Fin R) (p : Fin K) (hp : p.val = r.val) (c : Fin C) :
    Host.scatter (⟨[0, 1], [], [0], 0, wf⟩ : ScatterDims (shape2 R C) (shape1 1) (shape2 K C)) (fun _ b => b) x idx u (ValueIdx.ix2 r c)
      = u (ValueIdx.ix2 p c) := by
  refine scatter_set_hit _ x idx u _ _ (fun k hk => ?_) (ValueIdx.ix2 p c) ((lands wf idx h0 p c c r).2 ⟨hp, rfl⟩)
  have ek : k = ValueIdx.ix2 (k 0) (k 1) := funext fun a => match a with | ⟨0, _⟩ => rfl | ⟨1, _⟩ => rfl
  rw [ek] at hk ⊢
  obtain ⟨h1, h2⟩ := (lands wf idx h0 _ _ c r).1 hk
  rw [Fin.ext (h1.trans hp.symm), h2]
  rfl

end Cert.Proof.FirstRows

end
-- ==== Proof.MixInHost.lean ====
/- What the mixer-input backward kernel's host lines hand to the grid, in the arguments' entries. -/
module

public import proofs.«01_k».proof.Proof.MixInRun
public import proofs.«01_k».proof.Proof.FirstRows
public import Idealize.ShloMosaic.Lib.StableHlo.ReadAt

@[expose] public section

noncomputable section

namespace Cert.Proof.MixIn

open Cert.KernelIdeal Cert.KernelIdeal.Gen Cert.KernelIdeal.Value Idealize.ShloMosaic Idealize.ShloMosaic.TcCoe Idealize.SL.Sem

variable (m : (ℓ : Loc nD τ sig) → Buf (Elt Ideal) ℓ)

theorem host_x (c : Dev nD) (i : Fin 4096) (l : Fin 1024) :
    (V m c main_v7 : Vec Ideal S4096x1024 .f32) (ix2 i l) = (m ((c : Thread nD τ).loc main_arg0) : Vec Ideal S1x4096x1024 .f32) (ix3 0 i l) := by
  unfold V
  after_reads_at

theorem host_w (c : Dev nD) (k : Fin 2560) (l : Fin 1024) :
    (V m c main_v2 : Vec Ideal S2560x1024 .bf16) (ix2 k l) = (m ((c : Thread nD τ).loc main_arg3) : Vec Ideal S1x1024x2560 .f32) (ix3 0 l k) := by
  unfold V
  after_reads_at

theorem host_md (c : Dev nD) (l : Fin 1024) (l' : Fin 6144) (hl : l'.val = 1024 + l.val) :
    (V m c main_v6 : Vec Ideal S8x1024 .f32) (ix2 1 l) = (m ((c : Thread nD τ).loc main_arg1) : Vec Ideal S1x6144 .f32) (ix2 0 l') := by
  unfold V
  after_reads_simp
  refine (FirstRows.scatter_row (R := 8) (C := 1024) (K := 6) _ _ _ ?_ _ 1 1 rfl l).trans ?_
  · rfl
  · exact shapeCast_apply _ shapeCasts_S1x6144_S6x1024 _ (ix2 0 l') (by
      rewrite [Shape.rowMajor_val_two, Shape.rowMajor_val_two]
      show 0 * 6144 + l'.val = 1 * 1024 + l.val
      omega)

end Cert.Proof.MixIn

end
-- ==== Proof.HostSums.lean ====
/- Host sums over several axes of size one: the sum is its one entry. -/
module

public import Idealize.ShloMosaic.Lib.Pointwise
public import Idealize.ShloMosaic.PureOps.Ideal.Laws

@[expose] public section

noncomputable section

namespace Cert.Proof.HostSums

open Idealize.ShloMosaic

/-- A sum whose result entry has one source. -/
theorem of_one {s t : Shape} {axes : List (Fin s.rank)} (h : s.ReducesTo axes t) (x : s.Idx → EReal) (init : EReal) (j : t.Idx) (i₀ : s.Idx)
    (h₀ : h.drop i₀ = j) (h₁ : ∀ i, h.drop i = j → i = i₀) : Ideal.hostReduceAdd h x init j = init + x i₀ := by
  unfold Ideal.hostReduceAdd
  rw [show (Finset.univ.filter fun i => h.drop i = j) = {i₀} from
    Finset.ext fun i => by simpa using ⟨h₁ i, fun e => e ▸ h₀⟩, Finset.sum_singleton]

/-- Over the two leading axes of `[1, 1, n]`. -/
theorem leading {n : ℕ} (h : (⟨3, ![1, 1, n]⟩ : Shape).ReducesTo [0, 1] ⟨1, ![n]⟩) (x : (⟨3, ![1, 1, n]⟩ : Shape).Idx → EReal) (init : EReal) (l : Fin n) :
    Ideal.hostReduceAdd h x init (ix1 l) = init + x (ix3 0 0 l) := by
  have hd : ∀ i : (⟨3, ![1, 1, n]⟩ : Shape).Idx, (h.drop i 0 : ℕ) = i 2 := fun i => rfl
  refine of_one h x init _ _ (funext fun b => ?_) fun i hi => funext fun a => ?_
  · match b with | ⟨0, _⟩ => rfl
  · match a with
    | ⟨0, _⟩ => exact Subsingleton.elim (α := Fin 1) _ _
    | ⟨1, _⟩ => exact Subsingleton.elim (α := Fin 1) _ _
    | ⟨2, _⟩ => exact Fin.ext ((hd i).symm.trans (congrArg (fun z => (z 0).val) hi))

/-- Over the first and the last axis of `[1, n, 1]`. -/
theorem ends {n : ℕ} (h : (⟨3, ![1, n, 1]⟩ : Shape).ReducesTo [0, 2] ⟨1, ![n]⟩) (x : (⟨3, ![1, n, 1]⟩ : Shape).Idx → EReal) (init : EReal) (l : Fin n) :
    Ideal.hostReduceAdd h x init (ix1 l) = init + x (ix3 0 l 0) := by
  have hd : ∀ i : (⟨3, ![1, n, 1]⟩ : Shape).Idx, (h.drop i 0 : ℕ) = i 1 := fun i => rfl
  refine of_one h x init _ _ (funext fun b => ?_) fun i hi => funext fun a => ?_
  · match b with | ⟨0, _⟩ => rfl
  · match a with
    | ⟨0, _⟩ => exact Subsingleton.elim (α := Fin 1) _ _
    | ⟨1, _⟩ => exact Fin.ext ((hd i).symm.trans (congrArg (fun z => (z 0).val) hi))
    | ⟨2, _⟩ => exact Subsingleton.elim (α := Fin 1) _ _

end Cert.Proof.HostSums

end
-- ==== Proof.MixInRef.lean ====
/- The chain rule's gradient of the mixer's input, as the reference computes it, read at an index. -/
module

public import proofs.«01_k».proof.Proof.Gen.ReferenceIdeal.Read
public import proofs.«01_k».proof.Proof.Rms
public import proofs.«01_k».proof.Proof.HostSums

@[expose] public section

noncomputable section

namespace Cert.Proof.MixInRef

open Cert.ReferenceIdeal Cert.ReferenceIdeal.Gen Cert.ReferenceIdeal.Read Idealize.ShloMosaic Idealize.ShloMosaic.TcCoe Idealize.SL.Sem

variable (x0 : (⟨S1x4096x1024, .f32⟩ : BufTy).Contents (Elt Ideal)) (x1 : (⟨S1x6144, .f32⟩ : BufTy).Contents (Elt Ideal))
  (x2 : (⟨S1x1024, .f32⟩ : BufTy).Contents (Elt Ideal)) (x3 : (⟨S1x1024x2560, .f32⟩ : BufTy).Contents (Elt Ideal))
  (x4 : (⟨S4096x2560, .bf16⟩ : BufTy).Contents (Elt Ideal)) (x5 : (⟨S4096x1024, .bf16⟩ : BufTy).Contents (Elt Ideal))

theorem v9_at (i : Fin 4096) : val_main_v9 (F := Ideal) x0 (ix3 0 i 0) = Rms.ms fun k => x0 (ix3 0 i k) := by
  unfold Rms.ms
  pointwise [val_main_v9, val_main_v8, val_main_v7, val_main_v6, val_main_v5, val_main_v4, val_main_v3, val_main_cst, val_main_cst_0, val_main_cst_1]

theorem v10_at (i : Fin 4096) : val_main_v10 (F := Ideal) x0 (ix3 0 i 0) = Rms.inv fun k => x0 (ix3 0 i k) := by
  unfold Rms.inv
  rw [← v9_at]
  pointwise [val_main_v10]

theorem v33_at (i : Fin 4096) (l : Fin 1024) : val_main_v33 (F := Ideal) x3 x4 (ix3 0 i l) = ∑ k : Fin 2560, x4 (ix2 i k) * x3 (ix3 0 l k) := by
  pointwise [val_main_v33, val_main_v32, val_main_v31, val_main_v27]

theorem v21_at (l : Fin 1024) (l' : Fin 6144) (hl : l'.val = 1024 + l.val) : val_main_v21 (F := Ideal) x1 (ix3 0 0 l) = 1 + x1 (ix2 0 l') := by
  pointwise [val_main_v21, val_main_v20, val_main_v19, val_main_cst_3, val_main_v1]
  exact congrArg (fun z => 1 + x1 (ix2 0 z)) (Fin.ext hl.symm)

/-- The cotangent of the normalised row. -/
theorem v49_at (i : Fin 4096) (l : Fin 1024) (l' : Fin 6144) (hl : l'.val = 1024 + l.val) : val_main_v49 (F := Ideal) x1 x2 x3 x4 (ix3 0 i l)
    = val_main_v33 (F := Ideal) x3 x4 (ix3 0 i l) * (1 + x1 (ix2 0 l')) * x2 (ix2 0 l) := by
  rw [← v21_at x1 l l' hl]
  pointwise [val_main_v49, val_main_v48, val_main_v42, val_main_v41, val_main_v16, val_main_v2]

theorem v59_at (i : Fin 4096) : val_main_v59 (F := Ideal) x0 x1 x2 x3 x4 (ix3 0 i 0)
    = Rms.chain (fun k => x0 (ix3 0 i k)) fun k => val_main_v49 (F := Ideal) x1 x2 x3 x4 (ix3 0 i k) := by
  unfold Rms.chain
  rw [← v9_at, ← v10_at]
  pointwise [val_main_v59, val_main_v58, val_main_v57, val_main_v53, val_main_v52, val_main_v51, val_main_v13, val_main_v12, val_main_v11, val_main_cst_2,
    val_main_cst_10, val_main_cst_11]

theorem v60_at (i : Fin 4096) : val_main_v60 (F := Ideal) x0 x1 x2 x3 x4 (ix1 i) = val_main_v59 (F := Ideal) x0 x1 x2 x3 x4 (ix3 0 i 0) := by
  pointwise [val_main_v60, val_main_cst_12]
  rw [HostSums.ends]
  pointwise

/-- The gradient of `x`. -/
theorem v68_at (i : Fin 4096) (l : Fin 1024) : val_main_v68 (F := Ideal) x0 x1 x2 x3 x4 x5 (ix2 i l)
    = x5 (ix2 i l) + (val_main_v49 (F := Ideal) x1 x2 x3 x4 (ix3 0 i l) * Rms.inv (fun k => x0 (ix3 0 i k))
      + (x0 (ix3 0 i l) * Rms.chain (fun k => x0 (ix3 0 i k)) (fun k => val_main_v49 (F := Ideal) x1 x2 x3 x4 (ix3 0 i k))
        + Rms.chain (fun k => x0 (ix3 0 i k)) (fun k => val_main_v49 (F := Ideal) x1 x2 x3 x4 (ix3 0 i k)) * x0 (ix3 0 i l))) := by
  rw [← v10_at, ← v59_at, ← v60_at]
  pointwise [val_main_v68, val_main_v66, val_main_v65, val_main_v64, val_main_v63, val_main_v62, val_main_v61, val_main_v56, val_main_v55, val_main_v54,
    val_main_v30, val_main_v29]
  rw [add_assoc, add_assoc]

/-- The gradient of the shift, of the scale and of the norm's weight: sums over the rows. -/
theorem v36_at (l : Fin 1024) : val_main_v36 (F := Ideal) x3 x4 (ix1 l) = ∑ i : Fin 4096, val_main_v33 (F := Ideal) x3 x4 (ix3 0 i l) := by
  pointwise [val_main_v36, val_main_cst_5]
  rw [HostSums.leading]
  pointwise [val_main_v35, val_main_v34, val_main_cst_4]

theorem v43_at (l : Fin 1024) : val_main_v43 (F := Ideal) x0 x2 x3 x4 (ix1 l)
    = ∑ i : Fin 4096, x0 (ix3 0 i l) * Rms.inv (fun k => x0 (ix3 0 i k)) * x2 (ix2 0 l) * val_main_v33 (F := Ideal) x3 x4 (ix3 0 i l) := by
  simp only [← v10_at]
  pointwise [val_main_v43, val_main_cst_7]
  rw [HostSums.leading]
  pointwise [val_main_v40, val_main_v39, val_main_v38, val_main_v18, val_main_v17, val_main_v16, val_main_v15, val_main_v14, val_main_v2, val_main_cst_6]

theorem v50_at (l : Fin 1024) (l' : Fin 6144) (hl : l'.val = 1024 + l.val) : val_main_v50 (F := Ideal) x0 x1 x3 x4 (ix1 l)
    = ∑ i : Fin 4096, x0 (ix3 0 i l) * Rms.inv (fun k => x0 (ix3 0 i k)) * (val_main_v33 (F := Ideal) x3 x4 (ix3 0 i l) * (1 + x1 (ix2 0 l'))) := by
  simp only [← v10_at, ← v21_at x1 l l' hl]
  pointwise [val_main_v50, val_main_cst_9]
  rw [HostSums.leading]
  pointwise [val_main_v47, val_main_v46, val_main_v45, val_main_v42, val_main_v41, val_main_v15, val_main_v14, val_main_cst_8]

theorem v70_at (p : Fin 8) (l : Fin 1024) : val_main_v70 (F := Ideal) x0 x1 x2 x3 x4 (ix2 p l)
    = if p.val = 0 then val_main_v36 (F := Ideal) x3 x4 (ix1 l) else if p.val = 1 then val_main_v43 (F := Ideal) x0 x2 x3 x4 (ix1 l)
      else if p.val = 2 then val_main_v50 (F := Ideal) x0 x1 x3 x4 (ix1 l) else 0 := by
  pointwise [val_main_v70, val_main_v37, val_main_v44, val_main_v67, val_main_v69, val_main_cst_13]
  generalize val_main_v36 (F := Ideal) x3 x4 (ix1 l) = a
  generalize val_main_v43 (F := Ideal) x0 x2 x3 x4 (ix1 l) = b
  generalize val_main_v50 (F := Ideal) x0 x1 x3 x4 (ix1 l) = d
  split_ifs <;> first | omega | rfl

end Cert.Proof.MixInRef

end
-- ==== Proof.MixInEq.lean ====
/- The gradient of the mixer's input stage: kernel and reference compute one function of finite arguments. -/
module

public import proofs.«01_k».proof.Defs
public import proofs.«01_k».proof.Proof.Finite
public import proofs.«01_k».proof.Proof.MixInHost
public import proofs.«01_k».proof.Proof.MixInRef
public import proofs.«01_k».proof.Proof.Gen.Pre_finite
public import proofs.«01_k».proof.Proof.Gen.Kernel.Frame
public import proofs.«01_k».proof.Proof.Gen.KernelIdeal.Frame
public import Idealize.ShloMosaic.Lib.Quiescent

@[expose] public section

noncomputable section

namespace Cert.Proof.MixInEq

open Idealize.ShloMosaic Idealize.ShloMosaic.TcCoe Idealize.SL.Sem
open Cert.ReferenceIdeal.Read Finite

/-- What the precondition says of the arguments. -/
theorem finite_args (x : FVec Ideal Cert.Pre_finite.S1x4096x1024 .f32) (md : FVec Ideal Cert.Pre_finite.S1x6144 .f32) (g : FVec Ideal Cert.Pre_finite.S1x1024 .f32)
    (w : FVec Ideal Cert.Pre_finite.S1x1024x2560 .f32) (dp : FVec Ideal Cert.Pre_finite.S4096x2560 .bf16) (dx2 : FVec Ideal Cert.Pre_finite.S4096x1024 .bf16)
    (h : Cert.Pre_finite.fn (F := Ideal) x md g w dp dx2 = fun _ => 1#1) :
    AllReal x ∧ AllReal md ∧ AllReal g ∧ AllReal w ∧ AllReal (s := Cert.Pre_finite.S4096x2560) dp := by
  obtain ⟨h, h4⟩ := split h
  obtain ⟨h, h3⟩ := split h
  obtain ⟨h, h2⟩ := split h
  obtain ⟨h0, h1⟩ := split h
  exact ⟨all_real x _ _ _ _ h0, all_real md _ _ _ _ h1, all_real g _ _ _ _ h2, all_real w _ _ _ _ h3, all_real _ _ _ _ _ h4⟩

section
open Cert.KernelIdeal Cert.KernelIdeal.Gen Cert.Proof.MixIn

variable (m : (ℓ : Loc nD τ sig) → Buf (Elt Ideal) ℓ) (c : Dev nD)

abbrev a0 : Vec Ideal S1x4096x1024 .f32 := m ((c.tc : Thread nD τ).loc main_arg0)
abbrev a1 : Vec Ideal S1x6144 .f32 := m ((c.tc : Thread nD τ).loc main_arg1)
abbrev a2 : Vec Ideal S1x1024 .f32 := m ((c.tc : Thread nD τ).loc main_arg2)
abbrev a3 : Vec Ideal S1x1024x2560 .f32 := m ((c.tc : Thread nD τ).loc main_arg3)
abbrev a4 : Vec Ideal S4096x2560 .bf16 := m ((c.tc : Thread nD τ).loc main_arg4)
abbrev a5 : Vec Ideal S4096x1024 .bf16 := m ((c.tc : Thread nD τ).loc main_arg5)

theorem host_2 : (V m c main_arg2 : Vec Ideal S1x1024 .f32) = a2 m c := by unfold V; after_reads_simp
theorem host_4 : (V m c main_arg4 : Vec Ideal S4096x2560 .bf16) = a4 m c := by unfold V; after_reads_simp
theorem host_5 : (V m c main_arg5 : Vec Ideal S4096x1024 .bf16) = a5 m c := by unfold V; after_reads_simp

/-- The place in the modulation vector of the scale at column `l`. -/
def sc (l : Fin 1024) : Fin 6144 := ⟨1024 + l.val, by omega⟩

theorem dh_eq (i : Fin 4096) (l : Fin 1024) : dh (V m c main_arg4) (V m c main_v2) i l = val_main_v33 (F := Ideal) (a3 m c) (a4 m c) (ix3 0 i l) := by
  rw [MixInRef.v33_at, host_4]
  exact Finset.sum_congr rfl fun k _ => by rw [host_w]

/-- The gradient of `x`, at a place. -/
theorem gx_at_eq (i : Fin 4096) (l : Fin 1024) (h0 : AllReal (a0 m c)) (h1 : AllReal (a1 m c)) (h2 : AllReal (a2 m c)) (h3 : AllReal (a3 m c)) (h4 : AllReal (s := S4096x2560) (a4 m c)) :
    gxV m c (ix2 i l) = val_main_v68 (F := Ideal) (a0 m c) (a1 m c) (a2 m c) (a3 m c) (a4 m c) (a5 m c) (ix2 i l) := by
  obtain ⟨x, hx⟩ : ∃ x : Fin 1024 → ℝ, (fun k => a0 m c (ix3 0 i k)) = fun k => (x k : EReal) := ⟨_, funext fun k => h0 _⟩
  obtain ⟨d, hd⟩ : ∃ d : Fin 1024 → ℝ, ∀ k, val_main_v33 (F := Ideal) (a3 m c) (a4 m c) (ix3 0 i k) = (d k : EReal) := by
    refine ⟨fun l => ∑ k, (a4 m c (ix2 i k)).toReal * (a3 m c (ix3 0 l k)).toReal, fun l => ?_⟩
    rw [MixInRef.v33_at, Reals.coe_sum]
    refine Finset.sum_congr rfl fun k _ => ?_
    rw [EReal.coe_mul, ← h3, ← h4]
  obtain ⟨u, hu⟩ : ∃ u : Fin 1024 → ℝ, ∀ k, val_main_v49 (F := Ideal) (a1 m c) (a2 m c) (a3 m c) (a4 m c) (ix3 0 i k) = (u k : EReal) := by
    refine ⟨fun k => d k * (1 + (a1 m c (ix2 0 (sc k))).toReal) * (a2 m c (ix2 0 k)).toReal, fun k => ?_⟩
    rw [MixInRef.v49_at _ _ _ _ _ k (sc k) rfl, hd, EReal.coe_mul, EReal.coe_mul, EReal.coe_add, ← h1, ← h2, EReal.coe_one]
  have hu' : (fun k => dh (V m c main_arg4) (V m c main_v2) i k * (1 + (V m c main_v6 : Vec Ideal S8x1024 .f32) (ix2 1 k)) * (V m c main_arg2 : Vec Ideal S1x1024 .f32) (ix2 0 k))
      = fun k => (u k : EReal) := by
    funext k
    rw [dh_eq, host_md m c k (sc k) rfl, host_2, ← hu, MixInRef.v49_at _ _ _ _ _ k (sc k) rfl]
  have hx' : (fun k => (V m c main_v7 : Vec Ideal S4096x1024 .f32) (ix2 i k)) = fun k => (x k : EReal) := by
    rw [← hx]; funext k; exact host_x m c _ k
  rw [MixInRef.v68_at]
  refine (gx_at _ _ _ _ _ _ _ _).trans ?_
  rw [hu', hx', host_5, Rms.back_coe, hx, funext hu, hu, congrFun hx l]
  exact congrArg (a5 m c (ix2 i l) + ·) (Rms.chain_eq x u l).symm

/-- The gradient of `x`. -/
theorem gx_eq (h0 : AllReal (a0 m c)) (h1 : AllReal (a1 m c)) (h2 : AllReal (a2 m c)) (h3 : AllReal (a3 m c)) (h4 : AllReal (s := S4096x2560) (a4 m c)) :
    gxV m c = val_main_v68 (F := Ideal) (a0 m c) (a1 m c) (a2 m c) (a3 m c) (a4 m c) (a5 m c) := by
  funext j
  rw [ix2_eta (a := 4096) (b := 1024) j]
  exact gx_at_eq m c _ _ h0 h1 h2 h3 h4

/-- The column sums. -/
theorem term_eq (p : ℕ) (l : Fin 1024) (i : Fin 4096) : termV m c p l i
    = part p (val_main_v33 (F := Ideal) (a3 m c) (a4 m c) (ix3 0 i l)) (fun k => a0 m c (ix3 0 i k)) (a1 m c (ix2 0 (sc l))) (a2 m c (ix2 0 l)) l := by
  have hx : (fun k => (V m c main_v7 : Vec Ideal S4096x1024 .f32) (ix2 i k)) = fun k => a0 m c (ix3 0 i k) := funext fun k => host_x m c i k
  have hg := congrFun (host_2 m c) (ix2 0 l)
  unfold termV term
  rw [dh_eq, host_md m c l (sc l) rfl, hx, hg]

theorem parts_eq (p : ℕ) (l : Fin 1024) (d : Fin 4096 → EReal) (x : Fin 4096 → Fin 1024 → EReal) (s g : EReal) :
    ∑ i, part p (d i) (x i) s g l = if p = 0 then ∑ i, d i else if p = 1 then ∑ i, x i l * Rms.inv (x i) * g * d i
      else if p = 2 then ∑ i, x i l * Rms.inv (x i) * (d i * (1 + s)) else 0 := by
  unfold part
  split_ifs
  · rfl
  · exact Finset.sum_congr rfl fun i _ => mul_comm _ _
  · exact Finset.sum_congr rfl fun i _ => mul_comm _ _
  · exact Finset.sum_const_zero

theorem st_ref (x0 : Vec Ideal S1x4096x1024 .f32) (x1 : Vec Ideal S1x6144 .f32) (x2 : Vec Ideal S1x1024 .f32) (x3 : Vec Ideal S1x1024x2560 .f32)
    (x4 : Vec Ideal S4096x2560 .bf16) (p : Fin 8) (l : Fin 1024) : val_main_v70 (F := Ideal) x0 x1 x2 x3 x4 (ix2 p l)
      = ∑ i, part p.val (val_main_v33 (F := Ideal) x3 x4 (ix3 0 i l)) (fun k => x0 (ix3 0 i k)) (x1 (ix2 0 (sc l))) (x2 (ix2 0 l)) l := by
  rw [MixInRef.v70_at, MixInRef.v36_at, MixInRef.v43_at, MixInRef.v50_at _ _ _ _ _ (sc l) rfl]
  exact (parts_eq p.val l (fun i => val_main_v33 (F := Ideal) x3 x4 (ix3 0 i l)) (fun i k => x0 (ix3 0 i k)) (x1 (ix2 0 (sc l))) (x2 (ix2 0 l))).symm

theorem st_at_eq (p : Fin 8) (l : Fin 1024) : stV m c (ix2 p l) = val_main_v70 (F := Ideal) (a0 m c) (a1 m c) (a2 m c) (a3 m c) (a4 m c) (ix2 p l) :=
  (Finset.sum_congr rfl fun i _ => term_eq m c p.val l i).trans (st_ref _ _ _ _ _ p l).symm

theorem st_eq : stV m c = val_main_v70 (F := Ideal) (a0 m c) (a1 m c) (a2 m c) (a3 m c) (a4 m c) := by
  funext j
  rw [ix2_eta (a := 8) (b := 1024) j]
  exact st_at_eq m c _ _

end

/-! ## The claims -/

theorem frame_p : Cert.quiescent_Kernel := fun m ρ _ => Cert.Kernel.Gen.frame m ρ

theorem frame_pi : Cert.quiescent_KernelIdeal := fun m ρ _ => Cert.KernelIdeal.Gen.frame m ρ

theorem frame_ri : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)

theorem algebraic : Cert.algebraic_KernelIdeal_ReferenceIdeal_pre_finite := by
  intro m ρ m' ρ' hpre hagree
  refine ⟨_, _, Cert.Proof.MixIn.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨e0, e1, e2, e3, e4, e5⟩ := hagree c
    obtain ⟨h0, h1, h2, h3, h4⟩ := finite_args _ _ _ _ _ _ (hpre c)
    rw [val_main_v68_eq, e0, e1, e2, e3, e4, e5]
    exact (gx_eq m c h0 h1 h2 h3 h4).symm
  · obtain ⟨e0, e1, e2, e3, e4, e5⟩ := hagree c
    rw [e0, e1, e2, e3, e4]
    exact (val_main_v70_eq _ _ _ _ _).trans (st_eq m c).symm

end Cert.Proof.MixInEq

end
-- ==== Proof.MixerFrame.lean ====
/- The frame of the mixer's backward kernel: one run for any float values. The generated modules give the body's triple
   per case (`kernelRun0_A` at the first point, `kernelRun0_B` after it); here each is taken at point `t` once
   (`runA`, `runB`), and what a point leaves is a record of the four outputs and the three carried scratches (`Left`). -/
module

public import proofs.«01_k».proof.Proof.Gen.Kernel2Ideal.Frame.RunB
public import Idealize.ShloMosaic.Lib.Claim

@[expose] public section

set_option maxRecDepth 16384

noncomputable section

namespace Cert.Kernel2Ideal.Mixer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal.Gen

variable {F : FTy → Type} [FloatOps F]

variable (m : (ℓ : Loc nD τ sig) → Buf (Elt F) ℓ) (ρ : Dev nD → PrngReg)

/-- What a point leaves: the four outputs' staging buffers, then the three carried scratches. -/
structure Left (F : FTy → Type) where
  proj : Vec F S256x2560 .bf16
  small : Vec F S16x512 .f32
  wa : Vec F S4x128x128 .f32
  wx : Vec F S4x128x128 .f32
  an : Vec F S8x512 .f32
  gn : Vec F S8x512 .f32
  dun : Vec F S8x512 .f32

/-- The body's run at the first point. -/
abbrev runA (c : Dev nD) (t : Fin cfg0.N) (h : t.val % 16 = 0) :=
  kernelRun0_A (F := F) c (grid0.coords t)
    (ms0_0 t) (hs0_0 t) (ms0_1 t) (hs0_1 t) (ms0_2 t) (hs0_2 t) (ms0_3 t) (hs0_3 t) (ms0_4 t) (hs0_4 t) (ms0_5 t)
    (hs0_5 t) (ms0_6 t) (hs0_6 t) (ms0_7 t) (hs0_7 t) (ms0_8 t) (hs0_8 t) (ms0_9 t) (hs0_9 t) (ms0_10 t)
    (hs0_10 t) (ms0_11 t) (hs0_11 t) (ms0_12 t) (hs0_12 t) (ms0_13 t) (hs0_13 t) (ms0_14 t) (hs0_14 t) (ms0_15 t)
    (hs0_15 t) (ms0_16 t) (hs0_16 t) (ms0_17 t) (hs0_17 t) (ms0_18 t) (hs0_18 t) scM0_0 (Memref.isWhole_whole _)
    scM0_1 (Memref.isWhole_whole _) scM0_2 (Memref.isWhole_whole _) scM0_3 (Memref.isWhole_whole _) ((hcond0_0 t).mpr h)
    (iblk m c 0 t) (iblk m c 1 t) (iblk m c 2 t) (iblk m c 3 t) (iblk m c 4 t) (iblk m c 5 t) (iblk m c 6 t)
    (iblk m c 7 t) (iblk m c 8 t) (iblk m c 9 t) (iblk m c 10 t) (iblk m c 11 t) (iblk m c 12 t) (iblk m c 13 t)
    (iblk m c 14 t)

/-- The body's run at a later point, over what the point before left. -/
abbrev runB (c : Dev nD) (t : Fin cfg0.N) (h : ¬t.val % 16 = 0) (p : Left F) :=
  kernelRun0_B (F := F) c (grid0.coords t)
    (ms0_0 t) (hs0_0 t) (ms0_1 t) (hs0_1 t) (ms0_2 t) (hs0_2 t) (ms0_3 t) (hs0_3 t) (ms0_4 t) (hs0_4 t) (ms0_5 t)
    (hs0_5 t) (ms0_6 t) (hs0_6 t) (ms0_7 t) (hs0_7 t) (ms0_8 t) (hs0_8 t) (ms0_9 t) (hs0_9 t) (ms0_10 t)
    (hs0_10 t) (ms0_11 t) (hs0_11 t) (ms0_12 t) (hs0_12 t) (ms0_13 t) (hs0_13 t) (ms0_14 t) (hs0_14 t) (ms0_15 t)
    (hs0_15 t) (ms0_16 t) (hs0_16 t) (ms0_17 t) (hs0_17 t) (ms0_18 t) (hs0_18 t) scM0_0 (Memref.isWhole_whole _)
    scM0_1 (Memref.isWhole_whole _) scM0_2 (Memref.isWhole_whole _) scM0_3 (Memref.isWhole_whole _) (fun e => h ((hcond0_0 t).mp e))
    (iblk m c 0 t) (iblk m c 1 t) (iblk m c 2 t) (iblk m c 3 t) (iblk m c 4 t) (iblk m c 5 t) (iblk m c 6 t)
    (iblk m c 7 t) (iblk m c 8 t) (iblk m c 9 t) (iblk m c 10 t) (iblk m c 11 t) (iblk m c 12 t) (iblk m c 13 t)
    (iblk m c 14 t) p.small p.wa p.wx p.an p.gn p.dun

theorem coverA_proj (c : Dev nD) (t : Fin cfg0.N) (h : t.val % 16 = 0) :
    ∀ y, ∃ pc ∈ (runA m c t h).1, y ∈ pc.1.set := fun y =>
  View.cover_of_tiledL (runA m c t h).1 S256x128.size (by sl_kernel_rfl) y

theorem coverA_small (c : Dev nD) (t : Fin cfg0.N) (h : t.val % 16 = 0) :
    ∀ y, ∃ pc ∈ (runA m c t h).2.1, y ∈ pc.1.set := fun y =>
  View.cover_of_tiledBy (runA m c t h).2.1 ![1, 128] (by sl_kernel_rfl) y

theorem coverA_wa (c : Dev nD) (t : Fin cfg0.N) (h : t.val % 16 = 0) :
    ∀ y, ∃ pc ∈ (runA m c t h).2.2.1, y ∈ pc.1.set := fun y =>
  View.cover_of_tiledBy (runA m c t h).2.2.1 ![1, 128, 128] (by sl_kernel_rfl) y

theorem coverA_wx (c : Dev nD) (t : Fin cfg0.N) (h : t.val % 16 = 0) :
    ∀ y, ∃ pc ∈ (runA m c t h).2.2.2.1, y ∈ pc.1.set := fun y =>
  View.cover_of_tiledBy (runA m c t h).2.2.2.1 ![1, 128, 128] (by sl_kernel_rfl) y

theorem coverA_an (c : Dev nD) (t : Fin cfg0.N) (h : t.val % 16 = 0) :
    ∀ y, ∃ pc ∈ (runA m c t h).2.2.2.2.1, y ∈ pc.1.set := fun y =>
  View.cover_of_wholeMem (runA m c t h).2.2.2.2.1 (by sl_whole_mem) y

theorem coverA_gn (c : Dev nD) (t : Fin cfg0.N) (h : t.val % 16 = 0) :
    ∀ y, ∃ pc ∈ (runA m c t h).2.2.2.2.2.1, y ∈ pc.1.set := fun y =>
  View.cover_of_wholeMem (runA m c t h).2.2.2.2.2.1 (by sl_whole_mem) y

theorem coverA_dun (c : Dev nD) (t : Fin cfg0.N) (h : t.val % 16 = 0) :
    ∀ y, ∃ pc ∈ (runA m c t h).2.2.2.2.2.2.1, y ∈ pc.1.set := fun y =>
  View.cover_of_wholeMem (runA m c t h).2.2.2.2.2.2.1 (by sl_whole_mem) y

theorem coverB_proj (c : Dev nD) (t : Fin cfg0.N) (h : ¬t.val % 16 = 0) (p : Left F) :
    ∀ y, ∃ pc ∈ (runB m c t h p).1, y ∈ pc.1.set := fun y =>
  View.cover_of_tiledL (runB m c t h p).1 S256x128.size (by sl_kernel_rfl) y

theorem coverB_wa (c : Dev nD) (t : Fin cfg0.N) (h : ¬t.val % 16 = 0) (p : Left F) :
    ∀ y, ∃ pc ∈ (runB m c t h p).2.2.1, y ∈ pc.1.set := fun y =>
  View.cover_of_tiledL (runB m c t h p).2.2.1 S1x128x128.size (by sl_kernel_rfl) y

theorem coverB_wx (c : Dev nD) (t : Fin cfg0.N) (h : ¬t.val % 16 = 0) (p : Left F) :
    ∀ y, ∃ pc ∈ (runB m c t h p).2.2.2.1, y ∈ pc.1.set := fun y =>
  View.cover_of_tiledL (runB m c t h p).2.2.2.1 S1x128x128.size (by sl_kernel_rfl) y

theorem coverB_dun (c : Dev nD) (t : Fin cfg0.N) (h : ¬t.val % 16 = 0) (p : Left F) :
    ∀ y, ∃ pc ∈ (runB m c t h p).2.2.2.2.2.2.1, y ∈ pc.1.set := fun y =>
  View.cover_of_tiledL (runB m c t h p).2.2.2.2.2.2.1 S8x128.size (by sl_kernel_rfl) y

/-- What the first point leaves. -/
def leftA (c : Dev nD) (t : Fin cfg0.N) (h : t.val % 16 = 0) : Left F where
  proj := VO0_15.read (Elt F) (VO0_15.writes (Elt F) VO0_15.junk (runA m c t h).1)
  small := VO0_16.read (Elt F) (VO0_16.writes (Elt F) VO0_16.junk (runA m c t h).2.1)
  wa := VO0_17.read (Elt F) (VO0_17.writes (Elt F) VO0_17.junk (runA m c t h).2.2.1)
  wx := VO0_18.read (Elt F) (VO0_18.writes (Elt F) VO0_18.junk (runA m c t h).2.2.2.1)
  an := VS0_0.read (Elt F) (VS0_0.writes (Elt F) VS0_0.junk (runA m c t h).2.2.2.2.1)
  gn := VS0_1.read (Elt F) (VS0_1.writes (Elt F) VS0_1.junk (runA m c t h).2.2.2.2.2.1)
  dun := VS0_2.read (Elt F) (VS0_2.writes (Elt F) VS0_2.junk (runA m c t h).2.2.2.2.2.2.1)

/-- What a later point leaves. -/
def leftB (c : Dev nD) (t : Fin cfg0.N) (h : ¬t.val % 16 = 0) (p : Left F) : Left F where
  proj := VO0_15.read (Elt F) (VO0_15.writes (Elt F) VO0_15.junk (runB m c t h p).1)
  small := (ms0_16 t).view.read (Elt F) ((ms0_16 t).view.writes (Elt F) ((hs0_16 t).unread p.small) (runB m c t h p).2.1)
  wa := VO0_17.read (Elt F) (VO0_17.writes (Elt F) VO0_17.junk (runB m c t h p).2.2.1)
  wx := VO0_18.read (Elt F) (VO0_18.writes (Elt F) VO0_18.junk (runB m c t h p).2.2.2.1)
  an := VS0_0.read (Elt F) (VS0_0.writes (Elt F) ((Memref.isWhole_whole _ : scM0_0.IsWhole).unread p.an) (runB m c t h p).2.2.2.2.1)
  gn := VS0_1.read (Elt F) (VS0_1.writes (Elt F) ((Memref.isWhole_whole _ : scM0_1.IsWhole).unread p.gn) (runB m c t h p).2.2.2.2.2.1)
  dun := VS0_2.read (Elt F) (VS0_2.writes (Elt F) VS0_2.junk (runB m c t h p).2.2.2.2.2.2.1)

/-- What the points leave, one after the other. -/
def left (c : Dev nD) : (n : ℕ) → n < cfg0.N → Left F
  | 0, hn => leftA m c ⟨0, hn⟩ (Nat.zero_mod _)
  | n + 1, hn =>
    if h : (n + 1) % 16 = 0 then leftA m c ⟨n + 1, hn⟩ h
    else leftB m c ⟨n + 1, hn⟩ h (left c n (Nat.lt_of_succ_lt hn))

theorem left_first (c : Dev nD) (t : Fin cfg0.N) (h : t.val % 16 = 0) :
    left m c t.val t.isLt = leftA m c t h := by
  obtain ⟨n, hn⟩ := t
  cases n with
  | zero => exact rfl
  | succ n => exact dif_pos h

theorem left_later (c : Dev nD) (t : Fin cfg0.N) (h : ¬t.val % 16 = 0) :
    left m c t.val t.isLt
      = leftB m c t h (left m c (t.val - 1) (Nat.lt_of_le_of_lt (Nat.sub_le _ _) t.isLt)) := by
  obtain ⟨n, hn⟩ := t
  cases n with
  | zero => exact absurd (Nat.zero_mod _) h
  | succ n => exact dif_neg h

/-- The carried scratches at `p`'s contents, the staging scratch at anything, and the generator register. -/
def held (c : Dev nD) (p : Left F) : sProp (MT nD τ sig Unit (Elt F) ℕ (UR sig nD τ) ℕ) :=
  iprop(iprop(owns (c : Thread nD τ) scM0_0 fullShare p.an ∗ owns (c : Thread nD τ) scM0_1 fullShare p.gn
    ∗ owns (c : Thread nD τ) scM0_2 fullShare p.dun ∗ (∃ d, owns (c : Thread nD τ) scM0_3 fullShare d))
    ∗ (∃ r, prngReg c r))

/-- The invariant before position `n`. -/
def inv (c : Dev nD) : (n : ℕ) → n ≤ cfg0.N → sProp (MT nD τ sig Unit (Elt F) ℕ (UR sig nD τ) ℕ)
  | 0, _ => Pipeline.ΦA spec0 c
  | n + 1, hn => held c (left m c n hn)

theorem inv_pos (c : Dev nD) (n : ℕ) (h : n ≤ cfg0.N) (hz : n ≠ 0) :
    inv m c n h = held c (left m c (n - 1) (by omega)) := by
  cases n with
  | zero => exact absurd rfl hz
  | succ n => rfl

/-- The proof data: inputs at their blocks, outputs at what the point left. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => (left m c t.val t.isLt).proj
    | ⟨16, _⟩ => (left m c t.val t.isLt).small
    | ⟨17, _⟩ => (left m c t.val t.isLt).wa
    | ⟨18, _⟩ => (left m c t.val t.isLt).wx
    | ⟨_ + 19, h⟩ => absurd h (Nat.not_lt.2 (Nat.le_add_left _ _))
  Φ t := inv m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem inv_start (c : Dev nD) (t : Fin cfg0.N) :
    (dats m 0 c).Φ t.castSucc = inv m c t.val (Nat.le_of_lt t.isLt) := by
  dsimp only [dats]; exact Pipeline.Dat.Φ_castSucc (inv m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]
theorem after_13 (c : Dev nD) (t : Fin cfg0.N) : (dats m 0 c).after 13 t = iblk m c 13 t := by dsimp only [dats]
theorem after_14 (c : Dev nD) (t : Fin cfg0.N) : (dats m 0 c).after 14 t = iblk m c 14 t := by dsimp only [dats]
theorem after_15 (c : Dev nD) (t : Fin cfg0.N) :
    (dats m 0 c).after 15 t = (left m c t.val t.isLt).proj := by dsimp only [dats]
theorem after_16 (c : Dev nD) (t : Fin cfg0.N) :
    (dats m 0 c).after 16 t = (left m c t.val t.isLt).small := by dsimp only [dats]
theorem after_17 (c : Dev nD) (t : Fin cfg0.N) :
    (dats m 0 c).after 17 t = (left m c t.val t.isLt).wa := by dsimp only [dats]
theorem after_18 (c : Dev nD) (t : Fin cfg0.N) :
    (dats m 0 c).after 18 t = (left m c t.val t.isLt).wx := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d
theorem before_10 (c : Dev nD) (t : Fin cfg0.N) (d) : (dats m 0 c).before 10 t d = iblk m c 10 t :=
  before0_10_of m (dats m 0 c) (A_eq m c 10) (after_10 m c) t d
theorem before_11 (c : Dev nD) (t : Fin cfg0.N) (d) : (dats m 0 c).before 11 t d = iblk m c 11 t :=
  before0_11_of m (dats m 0 c) (A_eq m c 11) (after_11 m c) t d
theorem before_12 (c : Dev nD) (t : Fin cfg0.N) (d) : (dats m 0 c).before 12 t d = iblk m c 12 t :=
  before0_12_of m (dats m 0 c) (A_eq m c 12) (after_12 m c) t d
theorem before_13 (c : Dev nD) (t : Fin cfg0.N) (d) : (dats m 0 c).before 13 t d = iblk m c 13 t :=
  before0_13_of m (dats m 0 c) (A_eq m c 13) (after_13 m c) t d
theorem before_14 (c : Dev nD) (t : Fin cfg0.N) (d) : (dats m 0 c).before 14 t d = iblk m c 14 t :=
  before0_14_of m (dats m 0 c) (A_eq m c 14) (after_14 m c) t d

/-! At a later point the three accumulated outputs hold what the point before left. -/

theorem before_16 (c : Dev nD) (t : Fin cfg0.N) (h : ¬t.val % 16 = 0) (d) :
    (dats m 0 c).before 16 t d
      = (left m c (t.val - 1) (Nat.lt_of_le_of_lt (Nat.sub_le _ _) t.isLt)).small := by
  have hN : t.val < 16 := lt_of_lt_of_eq t.isLt (show cfg0.N = 16 from N_0)
  rw [Dat.before_out_kept _ 16 rfl t (by omega) (Bool.eq_false_iff.mpr fun h => by
    have := (flush0_16 _).mp h; dsimp only at this; omega) (fun _ => rfl) (fun _ _ => rfl)]
  dsimp only [dats]

theorem before_17 (c : Dev nD) (t : Fin cfg0.N) (h : ¬t.val % 16 = 0) (d) :
    (dats m 0 c).before 17 t d
      = (left m c (t.val - 1) (Nat.lt_of_le_of_lt (Nat.sub_le _ _) t.isLt)).wa := by
  have hN : t.val < 16 := lt_of_lt_of_eq t.isLt (show cfg0.N = 16 from N_0)
  rw [Dat.before_out_kept _ 17 rfl t (by omega) (Bool.eq_false_iff.mpr fun h => by
    have := (flush0_17 _).mp h; dsimp only at this; omega) (fun _ => rfl) (fun _ _ => rfl)]
  dsimp only [dats]

theorem before_18 (c : Dev nD) (t : Fin cfg0.N) (h : ¬t.val % 16 = 0) (d) :
    (dats m 0 c).before 18 t d
      = (left m c (t.val - 1) (Nat.lt_of_le_of_lt (Nat.sub_le _ _) t.isLt)).wx := by
  have hN : t.val < 16 := lt_of_lt_of_eq t.isLt (show cfg0.N = 16 from N_0)
  rw [Dat.before_out_kept _ 18 rfl t (by omega) (Bool.eq_false_iff.mpr fun h => by
    have := (flush0_18 _).mp h; dsimp only at this; omega) (fun _ => rfl) (fun _ _ => rfl)]
  dsimp only [dats]

/-- What the body is called with at point `t`, -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d)))

/-- and what it returns. -/
def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t))

set_option maxHeartbeats 16000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11, before_12, before_13, before_14]
  rw [show (dats m 0 c).owesAt () t.succ = (dats m 0 c).owesAt () t.castSucc from rfl, after_0, after_1, after_2, after_3, after_4, after_5, after_6, after_7, after_8, after_9, after_10, after_11, after_12, after_13, after_14, after_15, after_16, after_17, after_18]
  rw [show (dats m 0 c).Φ t.succ = held c (left m c t.val t.isLt) from rfl, inv_start m c t]
  have hN : t.val < 16 := lt_of_lt_of_eq t.isLt (show cfg0.N = 16 from N_0)
  by_cases h : t.val % 16 = 0
  · rw [show inv m c t.val (Nat.le_of_lt t.isLt) = Pipeline.ΦA spec0 c by
      have hz : t.val = 0 := by omega
      obtain ⟨n, hn⟩ := t; dsimp only at hz; subst hz; rfl, PhiA0_eq, left_first m c t h]
    unfold held leftA; dsimp only
    iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩,
      ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
    iapply ((runA m c t h).2.2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexists _; iexact H15
    isplitl [H16]; · iexists _; iexact H16
    isplitl [H17]; · iexists _; iexact H17
    isplitl [H18]; · iexists _; iexact H18
    isplitl [HS0]; · iexact HS0
    isplitl [HS1]; · iexact HS1
    isplitl [HS2]; · iexact HS2
    isplitl [HS3]; · iexact HS3
    iintro ⟨H0, H1, H2, H3, H4, H5, H6, H7, H8, H9, H10, H11, H12, H13, H14,
      ⟨%e15, H15⟩, ⟨%e16, H16⟩, ⟨%e17, H17⟩, ⟨%e18, H18⟩, ⟨%es0, HS0⟩, ⟨%es1, HS1⟩, ⟨%es2, HS2⟩, HS3⟩
    isplitl [HS0 HS1 HS2 HS3 Hg]
    · isplitl [HS0 HS1 HS2 HS3]
      · isplitl [HS0]
        · unfold owns; iexists _; isplitr; swap; · iexact HS0
          ipureintro; exact View.read_writes_of_cover _ _ _ _ _ (coverA_an m c t h)
        isplitl [HS1]
        · unfold owns; iexists _; isplitr; swap; · iexact HS1
          ipureintro; exact View.read_writes_of_cover _ _ _ _ _ (coverA_gn m c t h)
        isplitl [HS2]
        · unfold owns; iexists _; isplitr; swap; · iexact HS2
          ipureintro; exact View.read_writes_of_cover _ _ _ _ _ (coverA_dun m c t h)
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]
    · unfold owns; iexists _; isplitr; swap; · iexact H15
      ipureintro; exact View.read_writes_of_cover _ _ _ _ _ (coverA_proj m c t h)
    isplitl [H16]
    · unfold owns; iexists _; isplitr; swap; · iexact H16
      ipureintro; exact View.read_writes_of_cover _ _ _ _ _ (coverA_small m c t h)
    isplitl [H17]
    · unfold owns; iexists _; isplitr; swap; · iexact H17
      ipureintro; exact View.read_writes_of_cover _ _ _ _ _ (coverA_wa m c t h)
    unfold owns; iexists _; isplitr; swap; · iexact H18
    ipureintro; exact View.read_writes_of_cover _ _ _ _ _ (coverA_wx m c t h)
  · rw [inv_pos m c _ _ (by omega), left_later m c t h]
    simp only [before_16 m c t h, before_17 m c t h, before_18 m c t h]
    unfold held leftB; dsimp only
    iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩,
      ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
    iapply ((runB m c t h (left m c (t.val - 1) _)).2.2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexists _; iexact H15
    isplitl [H16]; · iexact H16
    isplitl [H17]; · iexact H17
    isplitl [H18]; · iexact H18
    isplitl [HS0]; · iexact HS0
    isplitl [HS1]; · iexact HS1
    isplitl [HS2]; · iexact HS2
    isplitl [HS3]; · iexact HS3
    iintro ⟨H0, H1, H2, H3, H4, H5, H6, H7, H8, H9, H10, H11, H12, H13, H14,
      ⟨%e15, H15⟩, H16, ⟨%e17, H17⟩, ⟨%e18, H18⟩, HS0, HS1, ⟨%es2, HS2⟩, HS3⟩
    isplitl [HS0 HS1 HS2 HS3 Hg]
    · isplitl [HS0 HS1 HS2 HS3]
      · isplitl [HS0]
        · unfold owns; iexists _; isplitr; swap; · iexact HS0
          ipureintro; rfl
        isplitl [HS1]
        · unfold owns; iexists _; isplitr; swap; · iexact HS1
          ipureintro; rfl
        isplitl [HS2]
        · unfold owns; iexists _; isplitr; swap; · iexact HS2
          ipureintro; exact View.read_writes_of_cover _ _ _ _ _ (coverB_dun m c t h _)
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]
    · unfold owns; iexists _; isplitr; swap; · iexact H15
      ipureintro; exact View.read_writes_of_cover _ _ _ _ _ (coverB_proj m c t h _)
    isplitl [H16]
    · unfold owns; iexists _; isplitr; swap; · iexact H16
      ipureintro; rfl
    isplitl [H17]
    · unfold owns; iexists _; isplitr; swap; · iexact H17
      ipureintro; exact View.read_writes_of_cover _ _ _ _ _ (coverB_wa m c t h _)
    unfold owns; iexists _; isplitr; swap; · iexact H18
    ipureintro; exact View.read_writes_of_cover _ _ _ _ _ (coverB_wx m c t h _)

theorem body_obligation (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t by
    unfold defs₀; rw [Defs.onTc_tc]]
  exact triple_restated (sound_body m c t) rfl .rfl fun _ => .rfl

theorem hin (c : Dev nD) : Pipeline.ΦA spec0 c ⊢ (dats m 0 c).Φ 0 := by
  rw [show (dats m 0 c).Φ 0 = Pipeline.ΦA spec0 c from rfl]; try exact Idealize.SL.BI.Entails.refl _

theorem hout (c : Dev nD) : (dats m 0 c).Φ (Fin.last cfg0.N) ⊢ Pipeline.ΦA spec0 c := by
  rw [show (dats m 0 c).Φ (Fin.last cfg0.N) = inv m c (Fin.last cfg0.N).val (Nat.le_of_lt_succ (Fin.last cfg0.N).isLt) from rfl,
    inv_pos m c _ _ (by rw [Fin.val_last]; have : cfg0.N = 16 := N_0; omega), PhiA0_eq]
  unfold held
  iintro ⟨⟨HS0, HS1, HS2, HS3⟩, Hg⟩
  isplitl [HS0 HS1 HS2 HS3]
  · isplitl [HS0]; · iexists _; iexact HS0
    isplitl [HS1]; · iexists _; iexact HS1
    isplitl [HS2]; · iexists _; iexact HS2
    iexact HS3
  iexact Hg

set_option backward.isDefEq.respectTransparency.types false in
set_option maxHeartbeats 800000 in
/-- The run: every array of the pipeline at what the proof data compute, every other unscoped buffer as the lines after
    the region leave it, every semaphore at zero. -/
theorem run : θ_run defs (onTc (τ := τ) (main (F := F))) (s₀ m ρ) (fun r =>
    (Pipeline.FramePost cfgs (dats m) 0 (Pipeline.afterTail₀ cfgs (dats m) 0 (V0 m) [hostOps1])) r ∧ r.2.sem = fun _ => 0) :=
  Pipeline.θ_run_frame_around_track_shared (Q' := _) cfgs (dats m) (0 : Fin 1) launch₀0 defs₀ Variants.none m ρ main
    (hbody := fun c => (body_obligation m c).loose) (hq := fun _ _ _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame. -/
theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (frame_of m ρ (dats m) (A_eq m) ((θ_run defs _ _).mono (fun _ h => h.1) (run m ρ)))
    ((θ_run defs _ _).mono (fun _ h => h.2) (run m ρ))

end Cert.Kernel2Ideal.Mixer
-- ==== Proof.Stage.lean ====
/- A scratch of eight planes of 272 rows in which a kernel stages a block before it reads it back shifted: what a store of
   rows of one plane leaves at each row, and what a load of 256 rows of one plane reads. -/
module

public import Idealize.ShloMosaic.Lib.WritesUnit
public import proofs.«01_k».proof.Proof.Gen.Kernel2Ideal.Skeleton
public import Idealize.ShloMosaic.Lib.Pointwise
public import Idealize.ShloMosaic.Lib.Pipeline.Value

@[expose] public section

noncomputable section

namespace Cert.Proof.Stage

open Idealize.ShloMosaic

variable {sig : RefSig} {κ : Kind} {sp : Space} {Val : EltTy → Type} {e : EltTy} [∀ e, Nonempty (Val e)]

local notation "S3" => (⟨3, ![8, 272, 128]⟩ : Shape)
local notation "S2" => (⟨2, ![272, 128]⟩ : Shape)

/-- Rows `o … o + n - 1` of plane `k`. -/
abbrev rows (k o n : ℕ) (h3 : ∀ a : Fin 3, (![k, 0, 0] : Fin 3 → ℕ) a + (![1, 272, 128] : Fin 3 → ℕ) a ≤ (![8, 272, 128] : Fin 3 → ℕ) a)
    (h2 : ∀ a : Fin 2, (![o, 0] : Fin 2 → ℕ) a + (![n, 128] : Fin 2 → ℕ) a ≤ (![272, 128] : Fin 2 → ℕ) a)
    (h0 : (![1, 272, 128] : Fin 3 → ℕ) 0 = 1) (hs : ∀ i : Fin 2, (![1, 272, 128] : Fin 3 → ℕ) i.succ = ![272, 128] i)
    (h1 : ∀ a, (Rect.unit (s := S3) ![k, 0, 0] ![1, 272, 128] h3).stride a = 1) : Rect S3 :=
  (Rect.unit (s := S3) ![k, 0, 0] ![1, 272, 128] h3).within
    ((Rect.unit (s := S2) ![o, 0] ![n, 128] h2).consLift (![1, 272, 128] : Fin 3 → ℕ) h0 hs) h1

/-- A store of rows of plane `k` leaves what was there but in those rows. -/
theorem canon_rows (k o n : ℕ) (h3 h2 h0 hs h1) (hR) (w : (⟨2, ![n, 128]⟩ : Shape).Idx → Val e) (L : List (View.Piece Val S3 e))
    (k' : Fin 8) (r : Fin 272) (l : Fin 128) :
    View.canon ((⟨rows k o n h3 h2 h0 hs h1, Rect.payAlong (r := Rect.unit (s := S2) ![o, 0] ![n, 128] h2) hR w⟩ : View.Piece Val S3 e) :: L) (ix3 k' r l)
      = if h : k'.val = k ∧ o ≤ r.val ∧ r.val - o < n then w (ix2 ⟨r.val - o, h.2.2⟩ l) else View.canon L (ix3 k' r l) := by
  split_ifs with h
  · obtain ⟨hk, ho, hn⟩ := h
    let x : ((Rect.unit (s := S2) ![o, 0] ![n, 128] h2).consLift (![1, 272, 128] : Fin 3 → ℕ) h0 hs).shape.Idx :=
      (ix3 (0 : Fin 1) (⟨r.val - o, hn⟩ : Fin n) l)
    have hx : ix3 k' r l = (rows k o n h3 h2 h0 hs h1).emb x := by
      funext a
      apply Fin.ext
      match a with
      | ⟨0, _⟩ => show k'.val = (k + 0) + 1 * 0; omega
      | ⟨1, _⟩ => show r.val = (0 + o) + 1 * (r.val - o); omega
      | ⟨2, _⟩ => show l.val = (0 + 0) + 1 * l.val; omega
    rw [hx]
    refine (View.canon_cons_emb (rows k o n h3 h2 h0 hs h1) _ L x).trans ?_
    refine Rect.payAlong_consLift _ _ h0 hs w hR x (ix2 ⟨r.val - o, hn⟩ l) fun i => ?_
    match i with
    | ⟨0, _⟩ => rfl
    | ⟨1, _⟩ => rfl
  · refine View.canon_cons_of_not_mem _ _ fun hm => h ?_
    obtain ⟨x, hx⟩ := (rows k o n h3 h2 h0 hs h1).exists_idx_of_mem hm
    have e0 : k + 0 + 1 * (x 0).val = k'.val := congrArg (fun y => (y (0 : Fin 3)).val) hx
    have e1 : 0 + o + 1 * (x 1).val = r.val := congrArg (fun y => (y (1 : Fin 3)).val) hx
    have l0 : (x 0).val < 1 := (x 0).isLt
    have l1 : (x 1).val < n := (x 1).isLt
    omega

/-- A load of `n` rows of plane `k` from row `o` on reads what the stores left there. -/
theorem load_rows (v : View sig κ sp S3 e) (L : List (View.Piece Val S3 e)) (k o n : ℕ) (h3 h2 h0 hs h1) (hR)
    (hk : k < 8) (ho : o + n ≤ 272) (r : Fin n) (l : Fin 128) :
    LoadRect.valAlong (lr := (Rect.unit (s := S2) ![o, 0] ![n, 128] h2).toLoadRect) hR (v.readCov L ((Rect.unit (s := S3) ![k, 0, 0] ![1, 272, 128] h3).withinL
      (LoadRect.consLift (Rect.unit (s := S2) ![o, 0] ![n, 128] h2).toLoadRect (![1, 272, 128] : Fin 3 → ℕ) h0 hs) h1)) (ix2 r l)
      = View.canon L (ix3 ⟨k, hk⟩ ⟨o + r.val, by omega⟩ l) := by
  rw [View.readCov_eq_canon']
  have hx : Shape.reshapeEquiv hR (ix2 r l) = Fin.cons ⟨0, Nat.one_pos⟩ (ix2 r l : (⟨2, ![n, 128]⟩ : Shape).Idx) :=
    Shape.reshapeEquiv_cons_one (d := ![n, 128]) _ _
  show View.canon L (LoadRect.idx _ (Shape.reshapeEquiv hR (ix2 r l))) = _
  rw [hx]
  refine congrArg (View.canon L) (funext fun a => Fin.ext ?_)
  match a with
  | ⟨0, _⟩ => show (k + 0) + 1 * 0 = k; omega
  | ⟨1, _⟩ => show (0 + o) + 1 * r.val = o + r.val; omega
  | ⟨2, _⟩ => show (0 + 0) + 1 * l.val = l.val; omega

/-- A store of `n` columns is what is read in those columns; -/
theorem canon_cols {R C : ℕ} (o n : ℕ) (inb) (w : (⟨2, ![R, n]⟩ : Shape).Idx → Val e) (L : List (View.Piece Val (⟨2, ![R, C]⟩ : Shape) e))
    (r : Fin R) (q : Fin C) (l : Fin n) (hq : q.val = o + l.val) :
    View.canon ((⟨Rect.unit (s := ⟨2, ![R, C]⟩) ![0, o] ![R, n] inb, w⟩ : View.Piece Val (⟨2, ![R, C]⟩ : Shape) e) :: L) (ix2 r q)
      = w (ix2 r l) := by
  have hx : ix2 r q = (Rect.unit (s := ⟨2, ![R, C]⟩) ![0, o] ![R, n] inb).emb (ix2 r l : (⟨2, ![R, n]⟩ : Shape).Idx) := by
    funext a
    apply Fin.ext
    match a with
    | ⟨0, _⟩ => show r.val = 0 + 1 * r.val; omega
    | ⟨1, _⟩ => show q.val = o + 1 * l.val; omega
  rw [hx]
  exact View.canon_cons_emb (Rect.unit (s := ⟨2, ![R, C]⟩) ![0, o] ![R, n] inb) w L _

/-- outside them, what was there before. -/
theorem canon_cols_off {R C : ℕ} (o n : ℕ) (inb) (w : (⟨2, ![R, n]⟩ : Shape).Idx → Val e) (L : List (View.Piece Val (⟨2, ![R, C]⟩ : Shape) e))
    (r : Fin R) (q : Fin C) (hq : q.val < o ∨ o + n ≤ q.val) :
    View.canon ((⟨Rect.unit (s := ⟨2, ![R, C]⟩) ![0, o] ![R, n] inb, w⟩ : View.Piece Val (⟨2, ![R, C]⟩ : Shape) e) :: L) (ix2 r q)
      = View.canon L (ix2 r q) := by
  refine View.canon_cons_of_not_mem _ _ fun hm => ?_
  obtain ⟨x, hx⟩ := (Rect.unit (s := ⟨2, ![R, C]⟩) ![0, o] ![R, n] inb).exists_idx_of_mem hm
  have e1 : o + 1 * (x 1).val = q.val := congrArg (fun y => (y (1 : Fin 2)).val) hx
  have l1 : (x 1).val < n := (x 1).isLt
  omega

/-- The entry of row `r` and column `q` of a block, zero beyond it. -/
def at2 {R C : ℕ} (x : (⟨2, ![R, C]⟩ : Shape).Idx → EReal) (r q : ℕ) : EReal :=
  if h : r < R ∧ q < C then x (ix2 ⟨r, h.1⟩ ⟨q, h.2⟩) else 0

theorem at2_eq {R C : ℕ} (x : (⟨2, ![R, C]⟩ : Shape).Idx → EReal) (r : Fin R) (q : Fin C) : at2 x r.val q.val = x (ix2 r q) :=
  dif_pos ⟨r.isLt, q.isLt⟩

/-- A load of a rectangle of a block reads the block's entries. -/
theorem load_at {R C : ℕ} (M : Memref sig κ sp (⟨2, ![R, C]⟩ : Shape) e) (hM : M.IsWhole)
    (x : (⟨2, ![R, C]⟩ : Shape).Idx → Val e) (k o n' n : ℕ) (inb : ∀ a : Fin 2, (![k, o] : Fin 2 → ℕ) a + (![n', n] : Fin 2 → ℕ) a ≤ (![R, C] : Fin 2 → ℕ) a)
    (r : Fin n') (l : Fin n) (hr : k + r.val < R) (hl : o + l.val < C) :
    View.readAt Val M.view (Rect.unit (s := ⟨2, ![R, C]⟩) ![k, o] ![n', n] inb).toLoadRect (hM.unread (Val := Val) x) (ix2 r l)
      = x (ix2 ⟨k + r.val, hr⟩ ⟨o + l.val, hl⟩) := by
  rw [View.readAt_eq_ld, hM.read_unread]
  refine congrArg x (funext fun a => Fin.ext ?_)
  match a with
  | ⟨0, _⟩ => show k + 1 * r.val = k + r.val; omega
  | ⟨1, _⟩ => show o + 1 * l.val = o + l.val; omega

theorem load_f32 {R C : ℕ} (M : Memref sig κ sp (⟨2, ![R, C]⟩ : Shape) .f32) (hM : M.IsWhole)
    (x : (⟨2, ![R, C]⟩ : Shape).Idx → EReal) (k o n' n : ℕ) (inb : ∀ a : Fin 2, (![k, o] : Fin 2 → ℕ) a + (![n', n] : Fin 2 → ℕ) a ≤ (![R, C] : Fin 2 → ℕ) a)
    (r : Fin n') (l : Fin n) :
    View.readAt (Elt Ideal) M.view (Rect.unit (s := ⟨2, ![R, C]⟩) ![k, o] ![n', n] inb).toLoadRect (hM.unread (Val := Elt Ideal) x) (ix2 r l)
      = at2 x (k + r.val) (o + l.val) := by
  have h0 : k + n' ≤ R := inb 0
  have h1 : o + n ≤ C := inb 1
  exact (load_at (Val := Elt Ideal) M hM x k o n' n inb r l (by omega) (by omega)).trans (at2_eq x ⟨_, _⟩ ⟨_, _⟩).symm

theorem load_bf16 {R C : ℕ} (M : Memref sig κ sp (⟨2, ![R, C]⟩ : Shape) .bf16) (hM : M.IsWhole)
    (x : (⟨2, ![R, C]⟩ : Shape).Idx → EReal) (k o n' n : ℕ) (inb : ∀ a : Fin 2, (![k, o] : Fin 2 → ℕ) a + (![n', n] : Fin 2 → ℕ) a ≤ (![R, C] : Fin 2 → ℕ) a)
    (r : Fin n') (l : Fin n) :
    View.readAt (Elt Ideal) M.view (Rect.unit (s := ⟨2, ![R, C]⟩) ![k, o] ![n', n] inb).toLoadRect (hM.unread (Val := Elt Ideal) x) (ix2 r l)
      = at2 x (k + r.val) (o + l.val) := by
  have h0 : k + n' ≤ R := inb 0
  have h1 : o + n ≤ C := inb 1
  exact (load_at (Val := Elt Ideal) M hM x k o n' n inb r l (by omega) (by omega)).trans (at2_eq x ⟨_, _⟩ ⟨_, _⟩).symm

theorem inPlane {k : ℕ} (hk : k < 8) (a : Fin 3) : (![k, 0, 0] : Fin 3 → ℕ) a + (![1, 272, 128] : Fin 3 → ℕ) a ≤ (![8, 272, 128] : Fin 3 → ℕ) a := by
  match a with
  | ⟨0, _⟩ => show k + 1 ≤ 8; omega
  | ⟨1, _⟩ => exact le_refl 272
  | ⟨2, _⟩ => exact le_refl 128

theorem inRows {o n : ℕ} (ho : o + n ≤ 272) (a : Fin 2) : (![o, 0] : Fin 2 → ℕ) a + (![n, 128] : Fin 2 → ℕ) a ≤ (![272, 128] : Fin 2 → ℕ) a := by
  match a with
  | ⟨0, _⟩ => exact ho
  | ⟨1, _⟩ => exact le_refl 128

theorem unitTail (i : Fin 2) : (![1, 272, 128] : Fin 3 → ℕ) i.succ = (![272, 128] : Fin 2 → ℕ) i := by
  match i with
  | ⟨0, _⟩ => rfl
  | ⟨1, _⟩ => rfl

/-- The store of rows `o … o + n - 1` of plane `k`. -/
abbrev piece (k o n : ℕ) (hk : k < 8) (ho : o + n ≤ 272) (w : (⟨2, ![n, 128]⟩ : Shape).Idx → Val e) : View.Piece Val S3 e :=
  ⟨rows k o n (inPlane hk) (inRows ho) rfl unitTail (fun _ => rfl),
    Rect.payAlong (r := Rect.unit (s := S2) ![o, 0] ![n, 128] (inRows ho)) (Rect.numel_consLift _ _ rfl unitTail) w⟩

/-- The load of those rows. -/
abbrev load (v : View sig κ sp S3 e) (L : List (View.Piece Val S3 e)) (k o n : ℕ) (hk : k < 8) (ho : o + n ≤ 272) :
    (⟨2, ![n, 128]⟩ : Shape).Idx → Val e :=
  LoadRect.valAlong (lr := (Rect.unit (s := S2) ![o, 0] ![n, 128] (inRows ho)).toLoadRect) (LoadRect.numel_consLift _ _ rfl unitTail)
    (v.readCov L ((Rect.unit (s := S3) ![k, 0, 0] ![1, 272, 128] (inPlane hk)).withinL
      (LoadRect.consLift (Rect.unit (s := S2) ![o, 0] ![n, 128] (inRows ho)).toLoadRect (![1, 272, 128] : Fin 3 → ℕ) rfl unitTail) (fun _ => rfl)))

theorem canon_piece (k o n : ℕ) (hk : k < 8) (ho : o + n ≤ 272) (w : (⟨2, ![n, 128]⟩ : Shape).Idx → Val e)
    (L : List (View.Piece Val S3 e)) (k' : Fin 8) (r : Fin 272) (l : Fin 128) :
    View.canon (piece k o n hk ho w :: L) (ix3 k' r l)
      = if h : k'.val = k ∧ o ≤ r.val ∧ r.val - o < n then w (ix2 ⟨r.val - o, h.2.2⟩ l) else View.canon L (ix3 k' r l) :=
  canon_rows _ _ _ _ _ _ _ _ _ _ _ _ _ _

theorem load_piece (v : View sig κ sp S3 e) (L : List (View.Piece Val S3 e)) (k o n : ℕ) (hk : k < 8) (ho : o + n ≤ 272) (r : Fin n) (l : Fin 128) :
    load v L k o n hk ho (ix2 r l) = View.canon L (ix3 ⟨k, hk⟩ ⟨o + r.val, by omega⟩ l) :=
  load_rows v L k o n _ _ _ _ _ _ hk ho r l

/-- 256 rows read back from row `o ≤ 8` on, where the block was staged from row 8 on and the eight rows before it above it. -/
theorem read_prev (v : View sig κ sp S3 e) (k o : ℕ) (hk : k < 8) (ho : o ≤ 8)
    (w : (⟨2, ![256, 128]⟩ : Shape).Idx → Val e) (p : (⟨2, ![8, 128]⟩ : Shape).Idx → Val e) (L : List (View.Piece Val S3 e))
    (f g : ℕ → ℕ → Val e) (hw : ∀ (r : Fin 256) (l : Fin 128), w (ix2 r l) = f r.val l.val)
    (hp : ∀ (r : Fin 8) (l : Fin 128), p (ix2 r l) = g r.val l.val) (r : Fin 256) (l : Fin 128) :
    load v (piece k 8 256 hk (by decide) w :: piece k 0 8 hk (by decide) p :: L) k o 256 hk (by omega) (ix2 r l)
      = if 8 ≤ o + r.val then f (o + r.val - 8) l.val else g (o + r.val) l.val := by
  rw [load_piece, canon_piece]
  split_ifs with h h'
  · exact hw _ _
  · exact absurd h.2.1 h'
  · exact absurd ⟨rfl, ‹_›, by dsimp only; omega⟩ h
  · rw [canon_piece, dif_pos ⟨rfl, Nat.zero_le _, by dsimp only; omega⟩, hp]
    rfl

/-- 256 rows read back from row `o ≥ 8` on, where the block was staged from row 8 on and the eight rows after it below it. -/
theorem read_next (v : View sig κ sp S3 e) (k o : ℕ) (hk : k < 8) (ho : 8 ≤ o ∧ o ≤ 16)
    (w : (⟨2, ![256, 128]⟩ : Shape).Idx → Val e) (p : (⟨2, ![8, 128]⟩ : Shape).Idx → Val e) (L : List (View.Piece Val S3 e))
    (f g : ℕ → ℕ → Val e) (hw : ∀ (r : Fin 256) (l : Fin 128), w (ix2 r l) = f r.val l.val)
    (hp : ∀ (r : Fin 8) (l : Fin 128), p (ix2 r l) = g r.val l.val) (r : Fin 256) (l : Fin 128) :
    load v (piece k 264 8 hk (by decide) p :: piece k 8 256 hk (by decide) w :: L) k o 256 hk (by omega) (ix2 r l)
      = if 264 ≤ o + r.val then g (o + r.val - 264) l.val else f (o + r.val - 8) l.val := by
  rw [load_piece, canon_piece]
  split_ifs with h h'
  · exact hp _ _
  · exact absurd h.2.1 h'
  · exact absurd ⟨rfl, ‹_›, by dsimp only; omega⟩ h
  · rw [canon_piece, dif_pos ⟨rfl, by dsimp only; omega, by dsimp only; omega⟩, hw]

/-- A read of the 128 lanes of one row stored last. -/
theorem cell_hit {R C : ℕ} (v : View sig κ sp (⟨2, ![R, C]⟩ : Shape) e) (f : v.ty.Contents Val) (k o : ℕ) (inb)
    (w : (⟨2, ![1, 128]⟩ : Shape).Idx → Val e) (L : List (View.Piece Val (⟨2, ![R, C]⟩ : Shape) e)) (r : Fin R) (q : Fin C) (l : Fin 128)
    (hr : r.val = k) (hq : q.val = o + l.val) :
    v.read Val (v.writes Val f ((⟨Rect.unit (s := ⟨2, ![R, C]⟩) ![k, o] ![1, 128] inb, w⟩ : View.Piece Val (⟨2, ![R, C]⟩ : Shape) e) :: L)) (ix2 r q)
      = w (ix2 (0 : Fin 1) l) :=
  View.read_writes_cons_unit_of_mem v f inb w L _ (ix2 (0 : Fin 1) l) rfl fun a => by
    match a with
    | ⟨0, _⟩ => show r.val = k + 0; omega
    | ⟨1, _⟩ => exact hq

/-- A read beside them. -/
theorem cell_off {R C : ℕ} (v : View sig κ sp (⟨2, ![R, C]⟩ : Shape) e) (f : v.ty.Contents Val) (k o : ℕ) (inb)
    (w : (⟨2, ![1, 128]⟩ : Shape).Idx → Val e) (L : List (View.Piece Val (⟨2, ![R, C]⟩ : Shape) e)) (r : Fin R) (q : Fin C)
    (h : r.val ≠ k ∨ q.val < o ∨ o + 128 ≤ q.val) :
    v.read Val (v.writes Val f ((⟨Rect.unit (s := ⟨2, ![R, C]⟩) ![k, o] ![1, 128] inb, w⟩ : View.Piece Val (⟨2, ![R, C]⟩ : Shape) e) :: L)) (ix2 r q)
      = v.read Val (v.writes Val f L) (ix2 r q) := by
  by_cases hr : r.val = k
  · exact View.read_writes_cons_unit_of_not_mem v f inb w L _ rfl (1 : Fin 2) (h.resolve_left (not_not.mpr hr))
  · refine View.read_writes_cons_unit_of_not_mem v f inb w L _ rfl (0 : Fin 2) ?_
    show r.val < k ∨ k + 1 ≤ r.val
    omega

/-- A load of the 128 lanes of one row is the read of the row. -/
theorem readCov_cell {R C : ℕ} (v : View sig κ sp (⟨2, ![R, C]⟩ : Shape) e) (L : List (View.Piece Val (⟨2, ![R, C]⟩ : Shape) e)) (k o : ℕ) (inb)
    (hk : k < R) (l : Fin 128) (ho : o + l.val < C) :
    v.readCov L (Rect.unit (s := ⟨2, ![R, C]⟩) ![k, o] ![1, 128] inb).toLoadRect (ix2 (0 : Fin 1) l)
      = v.read Val (v.writes Val v.junk L) (ix2 ⟨k, hk⟩ ⟨o + l.val, ho⟩) := by
  refine congrArg (v.read Val (v.writes Val v.junk L)) (funext fun a => Fin.ext ?_)
  match a with
  | ⟨0, _⟩ => show k + 1 * 0 = k; omega
  | ⟨1, _⟩ => show o + 1 * l.val = o + l.val; omega

end Cert.Proof.Stage

end
-- ==== Proof.MixerShort.lean ====
/- The short convolution's part of one tile of the mixer's backward kernel, for any of its four lane blocks: what the tile
   leaves in the three sections of the projection's gradient, entry by entry, over the extended reals. -/
module

public import proofs.«01_k».proof.Proof.MixerFrame
public import proofs.«01_k».proof.Proof.Stage

@[expose] public section

set_option maxRecDepth 16384

noncomputable section

namespace Cert.Kernel2Ideal.Mixer

open Idealize.ShloMosaic Idealize.ShloMosaic.TcCoe Idealize.ShloMosaic.Tactic
open Idealize.SL Idealize.SL.Sem
open Cert.Kernel2Ideal.Gen
open Cert.Proof.Stage

section
variable (x0 : Vec Ideal S256x2560 .f32) (x1 x2 : Vec Ideal S8x2560 .f32) (x3 : Vec Ideal S256x1024 .bf16) (x4 : Vec Ideal S16x1024 .bf16)
  (x7 : Vec Ideal S3x512 .f32) (b : BitVec 1)

/-- An entry of a neighbouring tile, zero where there is none. -/
def halo {R C : ℕ} (x : (⟨2, ![R, C]⟩ : Shape).Idx → EReal) (r q : ℕ) : EReal := if b = 1#1 then at2 x r q else 0

/-- The convolution's input, at row `k` of the staged tile (8 rows of the tile before it, then the tile). -/
def conv (k q : ℕ) : EReal :=
  if 8 ≤ k then at2 x0 (k - 8) (512 + q) * at2 x0 (k - 8) (1024 + q) else halo b x1 k (512 + q) * halo b x1 k (1024 + q)

/-- The cotangent of the convolution's output, at row `k` of the staged tile (the tile from row 8 on, then 8 rows of the next). -/
def dconv (k q : ℕ) : EReal :=
  if 264 ≤ k then halo b x4 (k - 264) q * halo b x2 (k - 264) q else at2 x3 (k - 8) q * at2 x0 (k - 8) q

/-- The cotangent of the convolution's input at row `r` of the tile. -/
def dpre (r q : ℕ) : EReal :=
  (at2 x7 2 q * (at2 x3 r q * at2 x0 r q) + at2 x7 1 q * dconv x0 x2 x3 x4 b (9 + r) q) + at2 x7 0 q * dconv x0 x2 x3 x4 b (10 + r) q

/-- The gradient of the gate at row `r` of the tile. -/
def gate (r q : ℕ) : EReal :=
  at2 x3 r q * ((at2 x7 0 q * conv x0 x1 b (6 + r) q + at2 x7 1 q * conv x0 x1 b (7 + r) q) + at2 x7 2 q * (at2 x0 r (512 + q) * at2 x0 r (1024 + q)))

end

theorem pay12_at (v8 v28 v31 : FVec Ideal S256x128 .f32) (v32 v36 v41 : Vec Ideal S1x128 .f32) (v46 : Vec Ideal S256x128 .bf16) (r : Fin 256) (l : Fin 128) :
    k0_pay12 v8 v28 v31 v32 v36 v41 v46 (ix2 r l)
      = v46 (ix2 r l) * ((v32 (ix2 0 l) * v31 (ix2 r l) + v36 (ix2 0 l) * v28 (ix2 r l)) + v41 (ix2 0 l) * v8 (ix2 r l)) := by
  pointwise [k0_pay12, k0_pay11]

theorem pay17_at (v51 v73 v76 : FVec Ideal S256x128 .f32) (v77 v81 v86 : Vec Ideal S1x128 .f32) (r : Fin 256) (l : Fin 128) :
    k0_pay17 v51 v73 v76 v77 v81 v86 (ix2 r l)
      = (v77 (ix2 0 l) * v51 (ix2 r l) + v81 (ix2 0 l) * v73 (ix2 r l)) + v86 (ix2 0 l) * v76 (ix2 r l) := by
  pointwise [k0_pay17]

theorem pay10_at (v6 v7 : Vec Ideal S256x128 .f32) (r : Fin 256) (l : Fin 128) : k0_pay10 v6 v7 (ix2 r l) = v6 (ix2 r l) * v7 (ix2 r l) := by
  pointwise [k0_pay10, k0_pay8]

theorem pay8_at (v6 v7 : Vec Ideal S256x128 .f32) (r : Fin 256) (l : Fin 128) : k0_pay8 v6 v7 (ix2 r l) = v6 (ix2 r l) * v7 (ix2 r l) := by
  pointwise [k0_pay8]

theorem pay13_at (v5 : Vec Ideal S256x128 .f32) (v46 : Vec Ideal S256x128 .bf16) (r : Fin 256) (l : Fin 128) :
    k0_pay13 v5 v46 (ix2 r l) = v46 (ix2 r l) * v5 (ix2 r l) := by
  pointwise [k0_pay13, k0_pay11]

theorem pay104_at (v3 : BitVec 1) (v9 v12 : Vec Ideal S8x128 .f32) (r : Fin 8) (l : Fin 128) : k0_pay104 v3 v9 v12 (ix2 r l)
    = (if v3 = 1#1 then v9 (ix2 r l) else 0) * (if v3 = 1#1 then v12 (ix2 r l) else 0) := by
  by_cases h : v3 = 1#1
  · subst h; pointwise [k0_pay104]
  · simp only [if_neg h]
    pointwise [k0_pay104]
    simp [Scalar.select, h]

theorem pay14_at (v4 : BitVec 1) (v52 : Vec Ideal S16x128 .bf16) (v57 : Vec Ideal S8x128 .f32) (r : Fin 8) (l : Fin 128) : k0_pay14 v4 v52 v57 (ix2 r l)
    = (if v4 = 1#1 then v52 (ix2 ⟨r.val, by omega⟩ l) else 0) * (if v4 = 1#1 then v57 (ix2 r l) else 0) := by
  by_cases h : v4 = 1#1
  · subst h; pointwise [k0_pay14]
  · simp only [if_neg h]
    pointwise [k0_pay14]
    simp [Scalar.select, h]

theorem pay15_at (v : FVec Ideal S256x128 .f32) (r : Fin 256) (l : Fin 128) : k0_pay15 v (ix2 r l) = v (ix2 r l) := by
  pointwise [k0_pay15]

theorem pay16_at (v : FVec Ideal S8x128 .f32) (r : Fin 8) (l : Fin 128) : k0_pay16 v (ix2 r l) = v (ix2 r l) := by
  pointwise [k0_pay16]

theorem pay19_at (v6 : Vec Ideal S256x128 .f32) (v90 : FVec Ideal S256x128 .f32) (r : Fin 256) (l : Fin 128) :
    k0_pay19 v6 v90 (ix2 r l) = v90 (ix2 r l) * v6 (ix2 r l) := by
  pointwise [k0_pay19]

section
variable (lo : ℕ) (b b' : BitVec 1)
  (M1 : Memref sig .tc .vmem S256x2560 .f32) (w1 : M1.IsWhole) (M2 M3 : Memref sig .tc .vmem S8x2560 .f32) (w2 : M2.IsWhole) (w3 : M3.IsWhole)
  (M4 : Memref sig .tc .vmem S256x1024 .bf16) (w4 : M4.IsWhole) (M5 : Memref sig .tc .vmem S16x1024 .bf16) (w5 : M5.IsWhole)
  (M8 : Memref sig .tc .vmem S3x512 .f32) (w8 : M8.IsWhole)
  (x0 : Vec Ideal S256x2560 .f32) (x1 x2 : Vec Ideal S8x2560 .f32) (x3 : Vec Ideal S256x1024 .bf16) (x4 : Vec Ideal S16x1024 .bf16)
  (x7 : Vec Ideal S3x512 .f32)

theorem inb2 {R C k o n n' : ℕ} (h0 : k + n ≤ R) (h1 : o + n' ≤ C) (a : Fin 2) :
    (![k, o] : Fin 2 → ℕ) a + (![n, n'] : Fin 2 → ℕ) a ≤ (![R, C] : Fin 2 → ℕ) a := by
  match a with
  | ⟨0, _⟩ => exact h0
  | ⟨1, _⟩ => exact h1

/-- The tile's load of 128 columns. -/
abbrev cols (o : ℕ) (ho : o + 128 ≤ 2560) : Vec Ideal S256x128 .f32 :=
  View.readAt (Elt Ideal) M1.view (Rect.unit (s := S256x2560) ![0, o] S256x128.size (inb2 (by omega) ho)).toLoadRect (w1.unread x0)

/-- The load of 128 columns of a neighbour's eight rows. -/
abbrev cols8 (o : ℕ) (ho : o + 128 ≤ 2560) : Vec Ideal S8x128 .f32 :=
  View.readAt (Elt Ideal) M2.view (Rect.unit (s := S8x2560) ![0, o] S8x128.size (inb2 (by omega) ho)).toLoadRect (w2.unread x1)

/-- The load of 128 columns of the mixer's cotangent. -/
abbrev colsB (o : ℕ) (ho : o + 128 ≤ 1024) : Vec Ideal S256x128 .bf16 :=
  View.readAt (Elt Ideal) M4.view (Rect.unit (s := S256x1024) ![0, o] S256x128.size (inb2 (by omega) ho)).toLoadRect (w4.unread x3)

/-- The load of 128 columns of a row of the short convolution's weight. -/
abbrev wrow (k o : ℕ) (hk : k < 3) (ho : o + 128 ≤ 512) : Vec Ideal S1x128 .f32 :=
  View.readAt (Elt Ideal) M8.view (Rect.unit (s := S3x512) ![k, o] S1x128.size (inb2 (by omega) ho)).toLoadRect (w8.unread x7)

/-- The load of 128 columns of the next tile's first sixteen rows of the cotangent. -/
abbrev colsN (o : ℕ) (ho : o + 128 ≤ 1024) : Vec Ideal S16x128 .bf16 :=
  View.readAt (Elt Ideal) M5.view (Rect.unit (s := S16x1024) ![0, o] S16x128.size (inb2 (by omega) ho)).toLoadRect (w5.unread x4)

theorem cols_at (o : ℕ) (ho : o + 128 ≤ 2560) (r : Fin 256) (l : Fin 128) : cols M1 w1 x0 o ho (ix2 r l) = at2 x0 r.val (o + l.val) :=
  (load_f32 M1 w1 x0 0 o 256 128 (inb2 (by omega) ho) r l).trans (by rw [Nat.zero_add])

theorem colsK_at (k : ℕ) (ho : k + lo + 128 ≤ 2560) (r : Fin 256) (l : Fin 128) :
    cols M1 w1 x0 (k + lo) ho (ix2 r l) = at2 x0 r.val (k + (lo + l.val)) := by
  rw [cols_at, Nat.add_assoc]

theorem cols8_at (o : ℕ) (ho : o + 128 ≤ 2560) (r : Fin 8) (l : Fin 128) : cols8 M2 w2 x1 o ho (ix2 r l) = at2 x1 r.val (o + l.val) :=
  (load_f32 M2 w2 x1 0 o 8 128 (inb2 (by omega) ho) r l).trans (by rw [Nat.zero_add])

theorem colsB_at (o : ℕ) (ho : o + 128 ≤ 1024) (r : Fin 256) (l : Fin 128) : colsB M4 w4 x3 o ho (ix2 r l) = at2 x3 r.val (o + l.val) :=
  (load_bf16 M4 w4 x3 0 o 256 128 (inb2 (by omega) ho) r l).trans (by rw [Nat.zero_add])

theorem colsN_at (o : ℕ) (ho : o + 128 ≤ 1024) (r : Fin 16) (l : Fin 128) : colsN M5 w5 x4 o ho (ix2 r l) = at2 x4 r.val (o + l.val) :=
  (load_bf16 M5 w5 x4 0 o 16 128 (inb2 (by omega) ho) r l).trans (by rw [Nat.zero_add])

theorem wrow_at (k o : ℕ) (hk : k < 3) (ho : o + 128 ≤ 512) (l : Fin 128) : wrow M8 w8 x7 k o hk ho (ix2 0 l) = at2 x7 k (o + l.val) :=
  load_f32 M8 w8 x7 k o 1 128 (inb2 (by omega) ho) 0 l

/-- The staged input, read back from row `o` on. -/
abbrev convAt (hlo : lo + 128 ≤ 512) (v : View sig .tc .vmem S8x272x128 .f32) (L : List (View.Piece (Elt Ideal) S8x272x128 .f32)) (o : ℕ) (ho : o ≤ 8) :
    Vec Ideal S256x128 .f32 :=
  load v (piece (Val := Elt Ideal) 0 8 256 (by decide) (by decide)
      (k0_pay10 (cols M1 w1 x0 (512 + lo) (by omega)) (cols M1 w1 x0 (1024 + lo) (by omega)))
    :: piece 0 0 8 (by decide) (by decide) (k0_pay104 b (cols8 M2 w2 x1 (512 + lo) (by omega)) (cols8 M2 w2 x1 (1024 + lo) (by omega))) :: L)
    0 o 256 (by decide) (by omega)

theorem convAt_eq (hlo : lo + 128 ≤ 512) (v : View sig .tc .vmem S8x272x128 .f32) (L : List (View.Piece (Elt Ideal) S8x272x128 .f32))
    (o : ℕ) (ho : o ≤ 8) (r : Fin 256) (l : Fin 128) :
    convAt lo b M1 w1 M2 w2 x0 x1 hlo v L o ho (ix2 r l) = conv x0 x1 b (o + r.val) (lo + l.val) :=
  (read_prev (Val := Elt Ideal) v 0 o (by decide) ho _ _ L
    (fun r l => at2 x0 r (512 + (lo + l)) * at2 x0 r (1024 + (lo + l)))
    (fun r l => halo b x1 r (512 + (lo + l)) * halo b x1 r (1024 + (lo + l)))
    (fun r l => by rw [pay10_at, cols_at, cols_at, Nat.add_assoc, Nat.add_assoc])
    (fun r l => by
      rw [pay104_at, cols8_at, cols8_at, Nat.add_assoc, Nat.add_assoc]
      rfl) r l)

/-- The staged cotangent of the convolution's output, read back from row `o` on. -/
abbrev dconvAt (hlo : lo + 128 ≤ 512) (v : View sig .tc .vmem S8x272x128 .f32) (L : List (View.Piece (Elt Ideal) S8x272x128 .f32)) (o : ℕ)
    (ho : 8 ≤ o ∧ o ≤ 16) : Vec Ideal S256x128 .f32 :=
  load v (piece (Val := Elt Ideal) 1 264 8 (by decide) (by decide)
      (k0_pay16 (k0_pay14 b (colsN M5 w5 x4 lo (by omega)) (cols8 M3 w3 x2 lo (by omega))))
    :: piece 1 8 256 (by decide) (by decide) (k0_pay15 (k0_pay13 (cols M1 w1 x0 lo (by omega)) (colsB M4 w4 x3 lo (by omega)))) :: L)
    1 o 256 (by decide) (by omega)

theorem dconvAt_eq (hlo : lo + 128 ≤ 512) (v : View sig .tc .vmem S8x272x128 .f32) (L : List (View.Piece (Elt Ideal) S8x272x128 .f32))
    (o : ℕ) (ho : 8 ≤ o ∧ o ≤ 16) (r : Fin 256) (l : Fin 128) :
    dconvAt lo b M1 w1 M3 w3 M4 w4 M5 w5 x0 x2 x3 x4 hlo v L o ho (ix2 r l) = dconv x0 x2 x3 x4 b (o + r.val) (lo + l.val) :=
  (read_next (Val := Elt Ideal) v 1 o (by decide) ho _ _ L
    (fun r l => at2 x3 r (lo + l) * at2 x0 r (lo + l))
    (fun r l => halo b x4 r (lo + l) * halo b x2 r (lo + l))
    (fun r l => by rw [pay15_at, pay13_at, cols_at, colsB_at])
    (fun r l => by
      rw [pay16_at, pay14_at, cols8_at, colsN_at]
      rfl) r l)

/-- The convolution's input in the tile itself. -/
theorem prod_eq (hlo : lo + 128 ≤ 512) (r : Fin 256) (l : Fin 128) :
    k0_pay8 (cols M1 w1 x0 (512 + lo) (by omega)) (cols M1 w1 x0 (1024 + lo) (by omega)) (ix2 r l)
      = at2 x0 r.val (512 + (lo + l.val)) * at2 x0 r.val (1024 + (lo + l.val)) := by
  rw [pay8_at, cols_at, cols_at, Nat.add_assoc, Nat.add_assoc]

/-- The cotangent of the convolution's output in the tile itself. -/
theorem dq_eq (hlo : lo + 128 ≤ 512) (r : Fin 256) (l : Fin 128) :
    k0_pay13 (cols M1 w1 x0 lo (by omega)) (colsB M4 w4 x3 lo (by omega)) (ix2 r l) = at2 x3 r.val (lo + l.val) * at2 x0 r.val (lo + l.val) := by
  rw [pay13_at, cols_at, colsB_at]

end

section
variable {lo : ℕ} {b : BitVec 1} {x0 : Vec Ideal S256x2560 .f32} {x1 x2 : Vec Ideal S8x2560 .f32} {x3 : Vec Ideal S256x1024 .bf16}
  {x4 : Vec Ideal S16x1024 .bf16} {x7 : Vec Ideal S3x512 .f32}
  {P A B y : Vec Ideal S256x128 .f32} {ct : Vec Ideal S256x128 .bf16} {u0 u1 u2 : Vec Ideal S1x128 .f32}

theorem gate_of (hP : ∀ (r : Fin 256) (l : Fin 128), P (ix2 r l) = at2 x0 r.val (512 + (lo + l.val)) * at2 x0 r.val (1024 + (lo + l.val)))
    (hB : ∀ (r : Fin 256) (l : Fin 128), B (ix2 r l) = conv x0 x1 b (7 + r.val) (lo + l.val))
    (hA : ∀ (r : Fin 256) (l : Fin 128), A (ix2 r l) = conv x0 x1 b (6 + r.val) (lo + l.val))
    (h0 : ∀ l : Fin 128, u0 (ix2 (0 : Fin 1) l) = at2 x7 0 (lo + l.val)) (h1 : ∀ l : Fin 128, u1 (ix2 (0 : Fin 1) l) = at2 x7 1 (lo + l.val))
    (h2 : ∀ l : Fin 128, u2 (ix2 (0 : Fin 1) l) = at2 x7 2 (lo + l.val))
    (hc : ∀ (r : Fin 256) (l : Fin 128), ct (ix2 r l) = at2 x3 r.val (lo + l.val)) (r : Fin 256) (l : Fin 128) :
    k0_pay12 P B A u0 u1 u2 ct (ix2 r l) = gate x0 x1 x3 x7 b r.val (lo + l.val) := by
  rw [pay12_at, hP, hB, hA, h0, h1, h2, hc]
  rfl

theorem dpre_of (hD : ∀ (r : Fin 256) (l : Fin 128), P (ix2 r l) = at2 x3 r.val (lo + l.val) * at2 x0 r.val (lo + l.val))
    (hB : ∀ (r : Fin 256) (l : Fin 128), B (ix2 r l) = dconv x0 x2 x3 x4 b (9 + r.val) (lo + l.val))
    (hA : ∀ (r : Fin 256) (l : Fin 128), A (ix2 r l) = dconv x0 x2 x3 x4 b (10 + r.val) (lo + l.val))
    (h2 : ∀ l : Fin 128, u2 (ix2 (0 : Fin 1) l) = at2 x7 2 (lo + l.val)) (h1 : ∀ l : Fin 128, u1 (ix2 (0 : Fin 1) l) = at2 x7 1 (lo + l.val))
    (h0 : ∀ l : Fin 128, u0 (ix2 (0 : Fin 1) l) = at2 x7 0 (lo + l.val))
    (k : ℕ) (hy : ∀ (r : Fin 256) (l : Fin 128), y (ix2 r l) = at2 x0 r.val (k + (lo + l.val))) (r : Fin 256) (l : Fin 128) :
    k0_pay19 y (k0_pay17 P B A u2 u1 u0) (ix2 r l) = dpre x0 x2 x3 x4 x7 b r.val (lo + l.val) * at2 x0 r.val (k + (lo + l.val)) := by
  rw [pay19_at, pay17_at, hD, hB, hA, h0, h1, h2, hy]
  rfl

end

end Cert.Kernel2Ideal.Mixer

end
-- ==== Proof.MixerTile.lean ====
/- One tile of the mixer's backward kernel, at the first point and at a later one: what it leaves in the sections of the
   projection's gradient that belong to the short convolution. -/
module

public import proofs.«01_k».proof.Proof.MixerShort

@[expose] public section

set_option maxRecDepth 16384

noncomputable section

namespace Cert.Kernel2Ideal.Mixer

open Idealize.ShloMosaic Idealize.ShloMosaic.TcCoe Idealize.ShloMosaic.Tactic
open Idealize.SL Idealize.SL.Sem
open Cert.Kernel2Ideal.Gen
open Cert.Proof.Stage

variable (m : (ℓ : Loc nD τ sig) → Buf (Elt Ideal) ℓ)

/-- Whether the tile has one before it, as the kernel asks. -/
abbrev hasPrev (t : Fin cfg0.N) : BitVec 1 := Scalar.cmpi .slt (BitVec.ofNat 32 (grid0.coords t 0)) 15#32
abbrev hasNext (t : Fin cfg0.N) : BitVec 1 := Scalar.cmpi .sgt (BitVec.ofNat 32 (grid0.coords t 0)) 0#32

set_option maxHeartbeats 4000000 in
theorem gate_at (c : Dev nD) (t : Fin cfg0.N) (lo : ℕ) (hlo : lo = 0 ∨ lo = 128 ∨ lo = 256 ∨ lo = 384) (r : Fin 256) (l : Fin 128) :
    (∀ h, View.canon (runA m c t h).1 (ix2 r ⟨lo + l.val, by omega⟩) = gate (iblk m c 0 t) (iblk m c 1 t) (iblk m c 3 t) (iblk m c 7 t) (hasPrev t) r.val (lo + l.val))
    ∧ (∀ h p, View.canon (runB m c t h p).1 (ix2 r ⟨lo + l.val, by omega⟩) = gate (iblk m c 0 t) (iblk m c 1 t) (iblk m c 3 t) (iblk m c 7 t) (hasPrev t) r.val (lo + l.val)) := by
  have hb : lo + 128 ≤ 512 := by omega
  have eP := prod_eq lo _ (hs0_0 t) (iblk m c 0 t) hb
  have eS := fun L o ho => convAt_eq lo (hasPrev t) _ (hs0_0 t) _ (hs0_1 t) (iblk m c 0 t) (iblk m c 1 t) hb scM0_3.view L o ho
  have eW := fun k hk => wrow_at _ (hs0_7 t) (iblk m c 7 t) k lo hk hb
  have eC := colsB_at _ (hs0_3 t) (iblk m c 3 t) lo (by omega)
  refine ⟨fun h => ?_, fun h p => ?_⟩
  unfold runA kernelRun0_A
  rotate_left 1
  unfold runB kernelRun0_B
  all_goals
    dsimp only
    rcases hlo with rfl | rfl | rfl | rfl
  all_goals
    repeat rw [canon_cols_off _ _ _ _ _ _ _ (by dsimp only; omega)]
    rw [canon_cols _ _ _ _ _ _ _ l rfl]
    show k0_pay12 (F := Ideal) _ _ _ _ _ _ _ (ix2 r l) = _
    exact gate_of eP (eS _ 7 (by decide)) (eS _ 6 (by decide)) (eW 0 (by decide)) (eW 1 (by decide)) (eW 2 (by decide)) eC r l

set_option maxHeartbeats 4000000 in
theorem dpre_at (c : Dev nD) (t : Fin cfg0.N) (lo : ℕ) (hlo : lo = 0 ∨ lo = 128 ∨ lo = 256 ∨ lo = 384) (k o : ℕ)
    (hk : o = 512 ∧ k = 1024 ∨ o = 1024 ∧ k = 512) (r : Fin 256) (l : Fin 128) :
    (∀ h, View.canon (runA m c t h).1 (ix2 r ⟨o + (lo + l.val), by omega⟩)
      = dpre (iblk m c 0 t) (iblk m c 2 t) (iblk m c 3 t) (iblk m c 4 t) (iblk m c 7 t) (hasNext t) r.val (lo + l.val) * at2 (iblk m c 0 t) r.val (k + (lo + l.val)))
    ∧ (∀ h p, View.canon (runB m c t h p).1 (ix2 r ⟨o + (lo + l.val), by omega⟩)
      = dpre (iblk m c 0 t) (iblk m c 2 t) (iblk m c 3 t) (iblk m c 4 t) (iblk m c 7 t) (hasNext t) r.val (lo + l.val) * at2 (iblk m c 0 t) r.val (k + (lo + l.val))) := by
  have hb : lo + 128 ≤ 512 := by omega
  have eD := dq_eq lo _ (hs0_0 t) _ (hs0_3 t) (iblk m c 0 t) (iblk m c 3 t) hb
  have eS := fun L o ho => dconvAt_eq lo (hasNext t) _ (hs0_0 t) _ (hs0_2 t) _ (hs0_3 t) _ (hs0_4 t) (iblk m c 0 t) (iblk m c 2 t) (iblk m c 3 t) (iblk m c 4 t)
    hb scM0_3.view L o ho
  have eW := fun k hk => wrow_at _ (hs0_7 t) (iblk m c 7 t) k lo hk hb
  have eY := colsK_at lo _ (hs0_0 t) (iblk m c 0 t) k (by omega)
  refine ⟨fun h => ?_, fun h p => ?_⟩
  unfold runA kernelRun0_A
  rotate_left 1
  unfold runB kernelRun0_B
  all_goals
    dsimp only
    rcases hk with ⟨rfl, rfl⟩ | ⟨rfl, rfl⟩ <;> rcases hlo with rfl | rfl | rfl | rfl
  all_goals
    repeat rw [canon_cols_off _ _ _ _ _ _ _ (by dsimp only; omega)]
    rw [canon_cols _ _ _ _ _ _ _ l (by dsimp only; omega)]
    show k0_pay19 (F := Ideal) _ (k0_pay17 (F := Ideal) _ _ _ _ _ _) (ix2 r l) = _
    exact dpre_of eD (eS _ 9 (by decide)) (eS _ 10 (by decide)) (eW 2 (by decide)) (eW 1 (by decide)) (eW 0 (by decide)) _ eY r l

end Cert.Kernel2Ideal.Mixer

end
end
-- ==== Proof.MixerRows.lean ====
/- One tile's part in the rows of the short convolution's weights' gradient: what the rows held before, plus the sum over
   the tile's 256 rows. -/
module

public import proofs.«01_k».proof.Proof.MixerTile

@[expose] public section

set_option maxRecDepth 16384

noncomputable section

namespace Cert.Kernel2Ideal.Mixer

open Idealize.ShloMosaic Idealize.ShloMosaic.TcCoe Idealize.ShloMosaic.Tactic
open Idealize.SL Idealize.SL.Sem
open Cert.Kernel2Ideal.Gen
open Cert.Proof.Stage

variable (m : (ℓ : Loc nD τ sig) → Buf (Elt Ideal) ℓ)

theorem pay20_at (X D : Vec Ideal S256x128 .f32) (z : Vec Ideal S1x128 .f32) (l : Fin 128) :
    k0_pay20 X D z (ix2 (0 : Fin 1) l) = z (ix2 (0 : Fin 1) l) + ∑ r : Fin 256, D (ix2 r l) * X (ix2 r l) := by
  pointwise [k0_pay20]

theorem pay117_eq (X D : Vec Ideal S256x128 .f32) (z : Vec Ideal S1x128 .f32) : k0_pay117 (k0_pay115 X D) (k0_pay116 z) = k0_pay20 X D z := rfl

theorem pay2_at (y : S16x512.Idx) : k0_pay2 (F := Ideal) y = 0 := by
  unfold k0_pay2
  exact Ideal.ofBits_zero_f32

theorem read_zeros (v : View sig .tc .vmem S16x512 .f32) (f : v.ty.Contents (Elt Ideal)) (inb) (y : S16x512.Idx) :
    v.read (Elt Ideal) (v.writes (Elt Ideal) f
      [(⟨Rect.unit (s := S16x512) ![0, 0] S16x512.size inb, k0_pay2 (F := Ideal)⟩ : View.Piece (Elt Ideal) S16x512 .f32)]) y = 0 :=
  (View.read_writes_cons_unit_of_mem v f inb (k0_pay2 (F := Ideal)) [] y y rfl fun a => by
    match a with
    | ⟨0, _⟩ => exact (Nat.zero_add _).symm
    | ⟨1, _⟩ => exact (Nat.zero_add _).symm).trans (pay2_at y)

/-- Tap `k`'s sum over one tile's rows. -/
def tap (x0 : Vec Ideal S256x2560 .f32) (x1 : Vec Ideal S8x2560 .f32) (x3 : Vec Ideal S256x1024 .bf16) (b : BitVec 1) (k q : ℕ) : EReal :=
  ∑ r : Fin 256, at2 x3 r.val q * at2 x0 r.val q * conv x0 x1 b (6 + k + r.val) q

theorem tap_of {lo : ℕ} {b : BitVec 1} {x0 : Vec Ideal S256x2560 .f32} {x1 : Vec Ideal S8x2560 .f32} {x3 : Vec Ideal S256x1024 .bf16}
    {X D : Vec Ideal S256x128 .f32} {z : Vec Ideal S1x128 .f32} (k : ℕ) (z0 : Fin 128 → EReal)
    (hX : ∀ (r : Fin 256) (l : Fin 128), X (ix2 r l) = conv x0 x1 b (6 + k + r.val) (lo + l.val))
    (hD : ∀ (r : Fin 256) (l : Fin 128), D (ix2 r l) = at2 x3 r.val (lo + l.val) * at2 x0 r.val (lo + l.val))
    (hz : ∀ l : Fin 128, z (ix2 (0 : Fin 1) l) = z0 l) (l : Fin 128) :
    k0_pay20 X D z (ix2 (0 : Fin 1) l) = z0 l + tap x0 x1 x3 b k (lo + l.val) := by
  rw [pay20_at, hz]
  exact congrArg (z0 l + ·) (Finset.sum_congr rfl fun r _ => by rw [hD, hX])

set_option maxHeartbeats 4000000 in
theorem tap_at (c : Dev nD) (t : Fin cfg0.N) (k : ℕ) (hk : k = 0 ∨ k = 1 ∨ k = 2) (lo : ℕ) (hlo : lo = 0 ∨ lo = 128 ∨ lo = 256 ∨ lo = 384)
    (l : Fin 128) :
    (∀ h, (leftA m c t h).small (ix2 ⟨k, by omega⟩ ⟨lo + l.val, by omega⟩) = 0 + tap (iblk m c 0 t) (iblk m c 1 t) (iblk m c 3 t) (hasPrev t) k (lo + l.val))
    ∧ (∀ h p, (leftB m c t h p).small (ix2 ⟨k, by omega⟩ ⟨lo + l.val, by omega⟩)
      = at2 p.small k (lo + l.val) + tap (iblk m c 0 t) (iblk m c 1 t) (iblk m c 3 t) (hasPrev t) k (lo + l.val)) := by
  have hb : lo + 128 ≤ 512 := by omega
  have eD := dq_eq lo _ (hs0_0 t) _ (hs0_3 t) (iblk m c 0 t) (iblk m c 3 t) hb
  have eS := fun L o ho => convAt_eq lo (hasPrev t) _ (hs0_0 t) _ (hs0_1 t) (iblk m c 0 t) (iblk m c 1 t) hb scM0_3.view L o ho
  have eP : ∀ (r : Fin 256) (l : Fin 128), k0_pay8 (cols (ms0_0 t) (hs0_0 t) (iblk m c 0 t) (512 + lo) (by omega))
      (cols (ms0_0 t) (hs0_0 t) (iblk m c 0 t) (1024 + lo) (by omega)) (ix2 r l) = conv (iblk m c 0 t) (iblk m c 1 t) (hasPrev t) (6 + 2 + r.val) (lo + l.val) :=
    fun r l => (prod_eq lo _ (hs0_0 t) (iblk m c 0 t) hb r l).trans (by
      unfold conv
      rw [if_pos (by omega), Nat.add_sub_cancel_left])
  rcases hk with rfl | rfl | rfl
  have eX {L} := eS L 6 (by decide)
  rotate_left 1
  have eX {L} := eS L 7 (by decide)
  rotate_left 1
  have eX := eP
  rotate_left 1
  all_goals
    refine ⟨fun h => ?_, fun h p => ?_⟩
    · unfold leftA runA kernelRun0_A
      dsimp only
      rcases hlo with rfl | rfl | rfl | rfl
      all_goals
        repeat refine (cell_off _ _ _ _ _ _ _ _ _ (by dsimp only; omega)).trans ?_
        refine (cell_hit _ _ _ _ _ _ _ _ _ l (by rfl) (by rfl)).trans ?_
        first
          | show k0_pay20 (F := Ideal) _ _ _ (ix2 (0 : Fin 1) l) = _
          | (show k0_pay117 (F := Ideal) (k0_pay115 _ _) (k0_pay116 _) (ix2 (0 : Fin 1) l) = _
             rw [pay117_eq])
        refine tap_of _ (fun _ => 0) eX eD (fun l => ?_) l
        refine (readCov_cell _ _ _ _ _ (by decide) l (by omega)).trans ?_
        repeat refine (cell_off _ _ _ _ _ _ _ _ _ (by dsimp only; omega)).trans ?_
        exact read_zeros _ _ _ _
    · unfold leftB runB kernelRun0_B
      dsimp only
      have eZ : ∀ k' (hk' : k' < 16) (l : Fin 128), View.readAt (Elt Ideal) (ms0_16 t).view
          (Rect.unit (s := S16x512) ![k', lo] ![1, 128] (inb2 (by omega) (by omega))).toLoadRect ((hs0_16 t).unread p.small) (ix2 (0 : Fin 1) l)
            = at2 p.small k' (lo + l.val) := fun k' hk' l => load_f32 (ms0_16 t) (hs0_16 t) p.small k' lo 1 128 (inb2 (by omega) (by omega)) 0 l
      rcases hlo with rfl | rfl | rfl | rfl
      all_goals
        repeat refine (cell_off _ _ _ _ _ _ _ _ _ (by dsimp only; omega)).trans ?_
        refine (cell_hit _ _ _ _ _ _ _ _ _ l (by rfl) (by rfl)).trans ?_
        first
          | show k0_pay20 (F := Ideal) _ _ _ (ix2 (0 : Fin 1) l) = _
          | (show k0_pay117 (F := Ideal) (k0_pay115 _ _) (k0_pay116 _) (ix2 (0 : Fin 1) l) = _
             rw [pay117_eq])
        exact tap_of _ _ eX eD (eZ _ (by decide)) l

end Cert.Kernel2Ideal.Mixer

end
end
-- ==== Proof.MixerSpec.lean ====
/- The gradients of the short convolution over whole arrays, entry by entry: `P` the projection, `D` the cotangent of the
   mixer's output, `W` the three taps. -/
module

public import proofs.«01_k».proof.Proof.Stage

@[expose] public section

noncomputable section

namespace Cert.Proof.Mixer

open Idealize.ShloMosaic Cert.Proof.Stage

variable (P : (⟨2, ![4096, 2560]⟩ : Shape).Idx → EReal) (D : (⟨2, ![4096, 1024]⟩ : Shape).Idx → EReal)
  (W : (⟨2, ![3, 512]⟩ : Shape).Idx → EReal)

/-- The convolution's input, padded with two rows of zeros in front. -/
def pre (n q : ℕ) : EReal := if 2 ≤ n then at2 P (n - 2) (512 + q) * at2 P (n - 2) (1024 + q) else 0

/-- The cotangent of the convolution's output; zero after the last row. -/
def out (n q : ℕ) : EReal := at2 D n q * at2 P n q

/-- The gradient of the gate. -/
def gGate (n q : ℕ) : EReal := at2 D n q * ((at2 W 0 q * pre P n q + at2 W 1 q * pre P (n + 1) q) + at2 W 2 q * pre P (n + 2) q)

/-- The cotangent of the convolution's input. -/
def gPre (n q : ℕ) : EReal := (at2 W 2 q * out P D n q + at2 W 1 q * out P D (n + 1) q) + at2 W 0 q * out P D (n + 2) q

/-- The gradient of tap `k`. -/
def gTap (k q : ℕ) : EReal := ∑ n : Fin 4096, out P D n.val q * pre P (n.val + k) q

/-- The gradient of the first 1536 columns of the projection. -/
def gProj (n q : ℕ) : EReal :=
  if q < 512 then gGate P D W n q
  else if q < 1024 then gPre P D W n (q - 512) * at2 P n (1024 + (q - 512))
  else gPre P D W n (q - 1024) * at2 P n (512 + (q - 1024))

theorem gProj_gate (n : ℕ) {q : ℕ} (h : q < 512) : gProj P D W n q = gGate P D W n q := if_pos h

theorem gProj_mid (n : ℕ) {q : ℕ} (h : q < 512) : gProj P D W n (512 + q) = gPre P D W n q * at2 P n (1024 + q) := by
  unfold gProj
  rw [if_neg (by omega), if_pos (by omega), Nat.add_sub_cancel_left]

theorem gProj_last (n q : ℕ) : gProj P D W n (1024 + q) = gPre P D W n q * at2 P n (512 + q) := by
  unfold gProj
  rw [if_neg (by omega), if_neg (by omega), Nat.add_sub_cancel_left]

/-- The entries of rows `base`, … of an array, read in a block of those rows. -/
theorem at2_rows {R R' C : ℕ} {x : (⟨2, ![R, C]⟩ : Shape).Idx → EReal} {X : (⟨2, ![R', C]⟩ : Shape).Idx → EReal} (base : ℕ)
    (hb : base + R ≤ R') (h : ∀ (r : Fin R) (q : Fin C), x (ix2 r q) = X (ix2 ⟨base + r.val, by omega⟩ q)) {r : ℕ} (hr : r < R) (q : ℕ) :
    at2 x r q = at2 X (base + r) q := by
  by_cases hq : q < C
  · exact (at2_eq x ⟨r, hr⟩ ⟨q, hq⟩).trans ((h _ _).trans (at2_eq X ⟨base + r, by omega⟩ ⟨q, hq⟩).symm)
  · unfold at2
    rw [dif_neg (fun h => hq h.2), dif_neg (fun h => hq h.2)]

theorem at2_past {R C : ℕ} (x : (⟨2, ![R, C]⟩ : Shape).Idx → EReal) {r : ℕ} (hr : R ≤ r) (q : ℕ) : at2 x r q = 0 :=
  dif_neg fun h => absurd h.1 (by omega)

end Cert.Proof.Mixer

end
-- ==== Proof.MixerBlocks.lean ====
/- The blocks of the mixer's backward kernel as rows of the arrays, and one tile's entries as entries of the whole
   gradients. The tiles run from the last to the first: point `t` holds the rows from `(15 - t) * 256` on. -/
module

public import proofs.«01_k».proof.Proof.MixerTile
public import proofs.«01_k».proof.Proof.MixerSpec

@[expose] public section

set_option maxRecDepth 16384

noncomputable section

namespace Cert.Kernel2Ideal.Mixer

open Idealize.ShloMosaic Idealize.ShloMosaic.TcCoe Idealize.SL.Sem
open Cert.Kernel2Ideal.Gen
open Cert.Proof.Stage Cert.Proof.Mixer

variable (m : (ℓ : Loc nD τ sig) → Buf (Elt Ideal) ℓ)

theorem idx0 : ∀ t : Fin cfg0.N, win0_0.index t (0 : Fin 2) = 15 - t.val ∧ win0_0.index t (1 : Fin 2) = 0 := (by decide +kernel : ∀ t : Fin grid0.N, _)
theorem idx1 : ∀ t : Fin cfg0.N, win0_1.index t (0 : Fin 2) = (15 - t.val) * 32 - 1 ∧ win0_1.index t (1 : Fin 2) = 0 := (by decide +kernel : ∀ t : Fin grid0.N, _)
theorem idx2 : ∀ t : Fin cfg0.N, win0_2.index t (0 : Fin 2) = min ((15 - t.val + 1) * 32) 511 ∧ win0_2.index t (1 : Fin 2) = 0 := (by decide +kernel : ∀ t : Fin grid0.N, _)
theorem idx3 : ∀ t : Fin cfg0.N, win0_3.index t (0 : Fin 2) = 15 - t.val ∧ win0_3.index t (1 : Fin 2) = 0 := (by decide +kernel : ∀ t : Fin grid0.N, _)
theorem idx4 : ∀ t : Fin cfg0.N, win0_4.index t (0 : Fin 2) = min ((15 - t.val + 1) * 16) 255 ∧ win0_4.index t (1 : Fin 2) = 0 := (by decide +kernel : ∀ t : Fin grid0.N, _)
theorem idx7 : ∀ t : Fin cfg0.N, win0_7.index t (0 : Fin 2) = 0 ∧ win0_7.index t (1 : Fin 2) = 0 := (by decide +kernel : ∀ t : Fin grid0.N, _)
theorem idx15 : ∀ t : Fin cfg0.N, win0_15.index t (0 : Fin 2) = 15 - t.val ∧ win0_15.index t (1 : Fin 2) = 0 := (by decide +kernel : ∀ t : Fin grid0.N, _)
theorem idx16 : ∀ t : Fin cfg0.N, win0_16.index t (0 : Fin 2) = 0 ∧ win0_16.index t (1 : Fin 2) = 0 := (by decide +kernel : ∀ t : Fin grid0.N, _)

theorem hasPrev_iff : ∀ t : Fin cfg0.N, hasPrev t = 1#1 ↔ t.val < 15 := (by decide +kernel : ∀ t : Fin grid0.N, _)
theorem hasNext_iff : ∀ t : Fin cfg0.N, hasNext t = 1#1 ↔ 0 < t.val := (by decide +kernel : ∀ t : Fin grid0.N, _)

theorem lt16 (t : Fin cfg0.N) : t.val < 16 := lt_of_lt_of_eq t.isLt (show cfg0.N = 16 from N_0)

/-- The arrays as the grid finds them. -/
def P (c : Dev nD) : Vec Ideal S4096x2560 .f32 := V m c main_arg0
def D (c : Dev nD) : Vec Ideal S4096x1024 .bf16 := V m c main_arg9
def W (c : Dev nD) : Vec Ideal S3x512 .f32 := V m c main_v369

/-- The first row of a point's tile. -/
abbrev row0 (t : Fin cfg0.N) : ℕ := (15 - t.val) * 256

theorem view0 (t : Fin cfg0.N) (X : (⟨2, ![4096, 2560]⟩ : Shape).Idx → EReal) {r : ℕ} (hr : r < 256) (q : ℕ) :
    at2 (((cfg0.win 0).blk t).view.read (Elt Ideal) X : (⟨2, ![256, 2560]⟩ : Shape).Idx → EReal) r q = at2 X (row0 t + r) q := by
  have e := idx0 t
  have ht := lt16 t
  have e0 : row0 t = (15 - t.val) * 256 := rfl
  refine at2_rows (row0 t) (by omega) (fun r q => ?_) hr q
  refine congrArg X (funext fun a => Fin.ext ?_)
  match a with
  | ⟨0, _⟩ => show win0_0.index t (0 : Fin 2) * 256 + 1 * r.val = row0 t + r.val; omega
  | ⟨1, _⟩ => show win0_0.index t (1 : Fin 2) * 2560 + 1 * q.val = q.val; omega

theorem blk0 (c : Dev nD) (t : Fin cfg0.N) {r : ℕ} (hr : r < 256) (q : ℕ) : at2 (iblk m c 0 t : Vec Ideal S256x2560 .f32) r q = at2 (P m c) (row0 t + r) q :=
  view0 t (P m c) hr q

theorem view1 (t : Fin cfg0.N) (X : (⟨2, ![4096, 2560]⟩ : Shape).Idx → EReal) (h : t.val < 15) {r : ℕ} (hr : r < 8) (q : ℕ) :
    at2 (((cfg0.win 1).blk t).view.read (Elt Ideal) X : (⟨2, ![8, 2560]⟩ : Shape).Idx → EReal) r q = at2 X ((row0 t - 8) + r) q := by
  have e := idx1 t
  have ht := lt16 t
  have e0 : row0 t = (15 - t.val) * 256 := rfl
  refine at2_rows ((row0 t - 8)) (by omega) (fun r q => ?_) hr q
  refine congrArg X (funext fun a => Fin.ext ?_)
  match a with
  | ⟨0, _⟩ => show win0_1.index t (0 : Fin 2) * 8 + 1 * r.val = (row0 t - 8) + r.val; omega
  | ⟨1, _⟩ => show win0_1.index t (1 : Fin 2) * 2560 + 1 * q.val = q.val; omega

theorem blk1 (c : Dev nD) (t : Fin cfg0.N) (h : t.val < 15) {r : ℕ} (hr : r < 8) (q : ℕ) : at2 (iblk m c 1 t : Vec Ideal S8x2560 .f32) r q = at2 (P m c) ((row0 t - 8) + r) q :=
  view1 t (P m c) h hr q

theorem view2 (t : Fin cfg0.N) (X : (⟨2, ![4096, 2560]⟩ : Shape).Idx → EReal) (h : 0 < t.val) {r : ℕ} (hr : r < 8) (q : ℕ) :
    at2 (((cfg0.win 2).blk t).view.read (Elt Ideal) X : (⟨2, ![8, 2560]⟩ : Shape).Idx → EReal) r q = at2 X ((row0 t + 256) + r) q := by
  have e := idx2 t
  have ht := lt16 t
  have e0 : row0 t = (15 - t.val) * 256 := rfl
  refine at2_rows ((row0 t + 256)) (by omega) (fun r q => ?_) hr q
  refine congrArg X (funext fun a => Fin.ext ?_)
  match a with
  | ⟨0, _⟩ => show win0_2.index t (0 : Fin 2) * 8 + 1 * r.val = (row0 t + 256) + r.val; omega
  | ⟨1, _⟩ => show win0_2.index t (1 : Fin 2) * 2560 + 1 * q.val = q.val; omega

theorem blk2 (c : Dev nD) (t : Fin cfg0.N) (h : 0 < t.val) {r : ℕ} (hr : r < 8) (q : ℕ) : at2 (iblk m c 2 t : Vec Ideal S8x2560 .f32) r q = at2 (P m c) ((row0 t + 256) + r) q :=
  view2 t (P m c) h hr q

theorem view3 (t : Fin cfg0.N) (X : (⟨2, ![4096, 1024]⟩ : Shape).Idx → EReal) {r : ℕ} (hr : r < 256) (q : ℕ) :
    at2 (((cfg0.win 3).blk t).view.read (Elt Ideal) X : (⟨2, ![256, 1024]⟩ : Shape).Idx → EReal) r q = at2 X (row0 t + r) q := by
  have e := idx3 t
  have ht := lt16 t
  have e0 : row0 t = (15 - t.val) * 256 := rfl
  refine at2_rows (row0 t) (by omega) (fun r q => ?_) hr q
  refine congrArg X (funext fun a => Fin.ext ?_)
  match a with
  | ⟨0, _⟩ => show win0_3.index t (0 : Fin 2) * 256 + 1 * r.val = row0 t + r.val; omega
  | ⟨1, _⟩ => show win0_3.index t (1 : Fin 2) * 1024 + 1 * q.val = q.val; omega

theorem blk3 (c : Dev nD) (t : Fin cfg0.N) {r : ℕ} (hr : r < 256) (q : ℕ) : at2 (iblk m c 3 t : Vec Ideal S256x1024 .bf16) r q = at2 (D m c) (row0 t + r) q :=
  view3 t (D m c) hr q

theorem view4 (t : Fin cfg0.N) (X : (⟨2, ![4096, 1024]⟩ : Shape).Idx → EReal) (h : 0 < t.val) {r : ℕ} (hr : r < 16) (q : ℕ) :
    at2 (((cfg0.win 4).blk t).view.read (Elt Ideal) X : (⟨2, ![16, 1024]⟩ : Shape).Idx → EReal) r q = at2 X ((row0 t + 256) + r) q := by
  have e := idx4 t
  have ht := lt16 t
  have e0 : row0 t = (15 - t.val) * 256 := rfl
  refine at2_rows ((row0 t + 256)) (by omega) (fun r q => ?_) hr q
  refine congrArg X (funext fun a => Fin.ext ?_)
  match a with
  | ⟨0, _⟩ => show win0_4.index t (0 : Fin 2) * 16 + 1 * r.val = (row0 t + 256) + r.val; omega
  | ⟨1, _⟩ => show win0_4.index t (1 : Fin 2) * 1024 + 1 * q.val = q.val; omega

theorem blk4 (c : Dev nD) (t : Fin cfg0.N) (h : 0 < t.val) {r : ℕ} (hr : r < 16) (q : ℕ) : at2 (iblk m c 4 t : Vec Ideal S16x1024 .bf16) r q = at2 (D m c) ((row0 t + 256) + r) q :=
  view4 t (D m c) h hr q

theorem view7 (t : Fin cfg0.N) (X : (⟨2, ![3, 512]⟩ : Shape).Idx → EReal) {r : ℕ} (hr : r < 3) (q : ℕ) :
    at2 (((cfg0.win 7).blk t).view.read (Elt Ideal) X : (⟨2, ![3, 512]⟩ : Shape).Idx → EReal) r q = at2 X (0 + r) q := by
  have e := idx7 t
  have ht := lt16 t
  have e0 : row0 t = (15 - t.val) * 256 := rfl
  refine at2_rows (0) (by omega) (fun r q => ?_) hr q
  refine congrArg X (funext fun a => Fin.ext ?_)
  match a with
  | ⟨0, _⟩ => show win0_7.index t (0 : Fin 2) * 3 + 1 * r.val = 0 + r.val; omega
  | ⟨1, _⟩ => show win0_7.index t (1 : Fin 2) * 512 + 1 * q.val = q.val; omega

theorem blk7 (c : Dev nD) (t : Fin cfg0.N) {r : ℕ} (hr : r < 3) (q : ℕ) : at2 (iblk m c 7 t : Vec Ideal S3x512 .f32) r q = at2 (W m c) (0 + r) q :=
  view7 t (W m c) hr q

theorem conv_blk (c : Dev nD) (t : Fin cfg0.N) {k : ℕ} (h6 : 6 ≤ k) (hk : k < 264) (q : ℕ) :
    conv (iblk m c 0 t) (iblk m c 1 t) (hasPrev t) k q = pre (P m c) (row0 t + (k - 6)) q := by
  have ht := lt16 t
  have e0 : row0 t = (15 - t.val) * 256 := rfl
  unfold conv pre
  by_cases h8 : 8 ≤ k
  · rw [if_pos h8, if_pos (by omega), blk0 m c t (by omega), blk0 m c t (by omega), show row0 t + (k - 6) - 2 = row0 t + (k - 8) by omega]
  · rw [if_neg h8]
    unfold halo
    by_cases hp : t.val < 15
    · rw [if_pos ((hasPrev_iff t).mpr hp), if_pos ((hasPrev_iff t).mpr hp), if_pos (by omega), blk1 m c t hp (by omega), blk1 m c t hp (by omega),
        show row0 t + (k - 6) - 2 = row0 t - 8 + k by omega]
    · rw [if_neg (fun h => hp ((hasPrev_iff t).mp h)), if_neg (fun h => hp ((hasPrev_iff t).mp h)), if_neg (by omega), mul_zero]

theorem dconv_blk (c : Dev nD) (t : Fin cfg0.N) {k : ℕ} (h8 : 8 ≤ k) (hk : k < 272) (q : ℕ) :
    dconv (iblk m c 0 t) (iblk m c 2 t) (iblk m c 3 t) (iblk m c 4 t) (hasNext t) k q = out (P m c) (D m c) (row0 t + (k - 8)) q := by
  have ht := lt16 t
  have e0 : row0 t = (15 - t.val) * 256 := rfl
  unfold dconv out
  by_cases h : 264 ≤ k
  · rw [if_pos h]
    unfold halo
    by_cases hn : 0 < t.val
    · rw [if_pos ((hasNext_iff t).mpr hn), if_pos ((hasNext_iff t).mpr hn), blk4 m c t hn (by omega), blk2 m c t hn (by omega),
        show row0 t + 256 + (k - 264) = row0 t + (k - 8) by omega]
    · rw [if_neg (fun h => hn ((hasNext_iff t).mp h)), if_neg (fun h => hn ((hasNext_iff t).mp h)), at2_past _ (by omega), zero_mul, zero_mul]
  · rw [if_neg h, blk3 m c t (by omega), blk0 m c t (by omega)]

theorem gate_blk (c : Dev nD) (t : Fin cfg0.N) (r : Fin 256) (q : ℕ) :
    gate (iblk m c 0 t) (iblk m c 1 t) (iblk m c 3 t) (iblk m c 7 t) (hasPrev t) r.val q = gGate (P m c) (D m c) (W m c) (row0 t + r.val) q := by
  have hr := r.isLt
  unfold gate gGate
  rw [conv_blk m c t (by omega) (by omega), conv_blk m c t (by omega) (by omega), blk3 m c t hr, blk7 m c t (by omega), blk7 m c t (by omega),
    blk7 m c t (by omega), blk0 m c t hr, blk0 m c t hr, show row0 t + (6 + r.val - 6) = row0 t + r.val by omega,
    show row0 t + (7 + r.val - 6) = row0 t + r.val + 1 by omega]
  unfold pre
  rw [if_pos (show 2 ≤ row0 t + r.val + 2 by omega), show row0 t + r.val + 2 - 2 = row0 t + r.val by omega]

theorem dpre_blk (c : Dev nD) (t : Fin cfg0.N) (r : Fin 256) (q : ℕ) :
    dpre (iblk m c 0 t) (iblk m c 2 t) (iblk m c 3 t) (iblk m c 4 t) (iblk m c 7 t) (hasNext t) r.val q = gPre (P m c) (D m c) (W m c) (row0 t + r.val) q := by
  have hr := r.isLt
  unfold dpre gPre
  rw [dconv_blk m c t (by omega) (by omega), dconv_blk m c t (by omega) (by omega), blk3 m c t hr, blk7 m c t (by omega), blk7 m c t (by omega),
    blk7 m c t (by omega), blk0 m c t hr, show row0 t + (9 + r.val - 8) = row0 t + r.val + 1 by omega,
    show row0 t + (10 + r.val - 8) = row0 t + r.val + 2 by omega]
  rfl

/-- A column of one of the four heads. -/
theorem head_col {q : ℕ} (h : q < 512) : ∃ (lo : ℕ) (l : Fin 128), (lo = 0 ∨ lo = 128 ∨ lo = 256 ∨ lo = 384) ∧ q = lo + l.val :=
  ⟨q / 128 * 128, ⟨q % 128, Nat.mod_lt _ (by decide)⟩, by omega, by show q = q / 128 * 128 + q % 128; omega⟩

theorem tile_at (c : Dev nD) (t : Fin cfg0.N) (r : Fin 256) {q : ℕ} (hq : q < 1536) :
    (∀ h, View.canon (runA m c t h).1 (ix2 r ⟨q, by omega⟩) = gProj (P m c) (D m c) (W m c) (row0 t + r.val) q)
    ∧ (∀ h p, View.canon (runB m c t h p).1 (ix2 r ⟨q, by omega⟩) = gProj (P m c) (D m c) (W m c) (row0 t + r.val) q) := by
  have hr := r.isLt
  by_cases h1 : q < 512
  · obtain ⟨lo, l, hlo, rfl⟩ := head_col h1
    have e := (gate_blk m c t r (lo + l.val)).trans (gProj_gate _ _ _ _ h1).symm
    exact ⟨fun h => ((gate_at m c t lo hlo r l).1 h).trans e, fun h p => ((gate_at m c t lo hlo r l).2 h p).trans e⟩
  by_cases h2 : q < 1024
  · obtain ⟨lo, l, hlo, hl⟩ := head_col (q := q - 512) (by omega)
    obtain rfl : q = 512 + (lo + l.val) := by omega
    have e := (congrArg₂ (· * ·) (dpre_blk m c t r (lo + l.val)) (blk0 m c t hr (1024 + (lo + l.val)))).trans
      (gProj_mid _ _ _ _ (by omega)).symm
    exact ⟨fun h => ((dpre_at m c t lo hlo 1024 512 (by omega) r l).1 h).trans e, fun h p => ((dpre_at m c t lo hlo 1024 512 (by omega) r l).2 h p).trans e⟩
  · obtain ⟨lo, l, hlo, hl⟩ := head_col (q := q - 1024) (by omega)
    obtain rfl : q = 1024 + (lo + l.val) := by omega
    have e := (congrArg₂ (· * ·) (dpre_blk m c t r (lo + l.val)) (blk0 m c t hr (512 + (lo + l.val)))).trans
      (gProj_last _ _ _ _ _).symm
    exact ⟨fun h => ((dpre_at m c t lo hlo 512 1024 (by omega) r l).1 h).trans e, fun h p => ((dpre_at m c t lo hlo 512 1024 (by omega) r l).2 h p).trans e⟩

theorem left_proj (c : Dev nD) (t : Fin cfg0.N) (r : Fin 256) {q : ℕ} (hq : q < 1536) :
    (left m c t.val t.isLt).proj (ix2 r ⟨q, by omega⟩) = gProj (P m c) (D m c) (W m c) (row0 t + r.val) q := by
  by_cases h : t.val % 16 = 0
  · rw [left_first m c t h]
    unfold leftA; dsimp only
    exact (View.read_writes_junk_apply_eq_canon _ _ _).trans ((tile_at m c t r hq).1 h)
  · rw [left_later m c t h]
    unfold leftB; dsimp only
    exact (View.read_writes_junk_apply_eq_canon _ _ _).trans ((tile_at m c t r hq).2 h _)

end Cert.Kernel2Ideal.Mixer

end
-- ==== Proof.MixerRun.lean ====
/- The run of the mixer's backward kernel at exact values: the two results hold the short convolution's gradients. -/
module

public import proofs.«01_k».proof.Proof.MixerRows
public import proofs.«01_k».proof.Proof.MixerBlocks
public import Idealize.ShloMosaic.Lib.StableHlo.ReadAt

@[expose] public section

set_option maxRecDepth 16384

noncomputable section

namespace Cert.Kernel2Ideal.Mixer

open Idealize.ShloMosaic Idealize.ShloMosaic.TcCoe Idealize.SL.Sem
open Cert.Kernel2Ideal.Gen
open Cert.Proof.Stage Cert.Proof.Mixer

variable (m : (ℓ : Loc nD τ sig) → Buf (Elt Ideal) ℓ) (ρ : Dev nD → PrngReg)

/-- Tap `k`'s sum over the tile of point `s`, in the arrays' rows. -/
def tapRows (c : Dev nD) (k q s : ℕ) : EReal :=
  ∑ r : Fin 256, out (P m c) (D m c) ((15 - s) * 256 + r.val) q * pre (P m c) ((15 - s) * 256 + r.val + k) q

theorem tap_blk (c : Dev nD) (t : Fin cfg0.N) {k : ℕ} (hk : k < 3) (q : ℕ) :
    tap (iblk m c 0 t) (iblk m c 1 t) (iblk m c 3 t) (hasPrev t) k q = tapRows m c k q t.val :=
  Finset.sum_congr rfl fun r _ => by
    have hr := r.isLt
    rw [conv_blk m c t (by omega) (by omega), blk3 m c t hr, blk0 m c t hr, show row0 t + (6 + k + r.val - 6) = row0 t + r.val + k by omega]
    rfl

/-- What the rows of the taps' gradient hold after point `n`. -/
theorem left_small (c : Dev nD) (k : ℕ) (hk : k < 3) (q : ℕ) (hq : q < 512) : ∀ (n : ℕ) (h : n < cfg0.N),
    (left m c n h).small (ix2 ⟨k, by omega⟩ ⟨q, hq⟩) = ∑ s ∈ Finset.range (n + 1), tapRows m c k q s := by
  obtain ⟨lo, l, hlo, rfl⟩ := head_col hq
  have hk' : k = 0 ∨ k = 1 ∨ k = 2 := by omega
  intro n
  induction n with
  | zero =>
    intro h
    refine (congrArg (fun p : Left Ideal => p.small (ix2 ⟨k, by omega⟩ ⟨lo + l.val, hq⟩)) (left_first m c ⟨0, h⟩ rfl)).trans
      (((tap_at m c ⟨0, h⟩ k hk' lo hlo l).1 rfl).trans ?_)
    rw [tap_blk m c _ hk, Finset.sum_range_one, zero_add]
  | succ n ih =>
    intro h
    have h16 := lt16 ⟨n + 1, h⟩
    have hB : ¬(⟨n + 1, h⟩ : Fin cfg0.N).val % 16 = 0 := by dsimp only at h16 ⊢; omega
    refine (congrArg (fun p : Left Ideal => p.small (ix2 ⟨k, by omega⟩ ⟨lo + l.val, hq⟩)) (left_later m c ⟨n + 1, h⟩ hB)).trans
      (((tap_at m c ⟨n + 1, h⟩ k hk' lo hlo l).2 hB _).trans ?_)
    rw [tap_blk m c _ hk, Finset.sum_range_succ _ (n + 1)]
    exact congrArg (· + _) ((at2_eq (R := 16) (C := 512) _ ⟨k, by omega⟩ ⟨lo + l.val, hq⟩).trans (ih (Nat.lt_of_succ_lt h)))

/-- The tiles, taken from the last to the first, are all rows. -/
theorem sum_tiles (f : ℕ → EReal) : ∑ s ∈ Finset.range 16, ∑ r : Fin 256, f ((15 - s) * 256 + r.val) = ∑ n : Fin 4096, f n.val := by
  rw [Fin.sum_univ_tiles 16 256 (by decide) (fun n : Fin 4096 => f n.val),
    Finset.sum_range_reflect (fun s => ∑ r : Fin 256, f (s * 256 + r.val)) 16, Finset.sum_range]

theorem last_small (c : Dev nD) (k : ℕ) (hk : k < 3) (q : ℕ) (hq : q < 512) (h : 15 < cfg0.N) :
    (left m c 15 h).small (ix2 ⟨k, by omega⟩ ⟨q, hq⟩) = gTap (P m c) (D m c) k q :=
  (left_small m c k hk q hq 15 h).trans (sum_tiles fun n => out (P m c) (D m c) n q * pre (P m c) (n + k) q)

/-- The projection's gradient as the tiles leave it. -/
def projAll (c : Dev nD) : Vec Ideal S4096x2560 .bf16 := fun i =>
  (left m c (15 - (i 0).val / 256) (lt_of_lt_of_eq (by omega) (show cfg0.N = 16 from N_0).symm)).proj
    (ix2 ⟨(i 0).val % 256, Nat.mod_lt _ (by decide)⟩ (i 1))

theorem projAll_at (c : Dev nD) (n : Fin 4096) {q : ℕ} (hq : q < 1536) :
    projAll m c (ix2 n ⟨q, by omega⟩) = gProj (P m c) (D m c) (W m c) n.val q := by
  have hn := n.isLt
  have hN : 15 - n.val / 256 < cfg0.N := lt_of_lt_of_eq (by omega) (show cfg0.N = 16 from N_0).symm
  refine (left_proj m c ⟨15 - n.val / 256, hN⟩ ⟨n.val % 256, Nat.mod_lt _ (by decide)⟩ hq).trans ?_
  exact congrArg (fun k => gProj (P m c) (D m c) (W m c) k q) (by show (15 - (15 - n.val / 256)) * 256 + n.val % 256 = n.val; omega)

theorem emb15 (t : Fin cfg0.N) (r : Fin 256) (q : Fin 2560) :
    ((cfg0.win 15).blk t).view.emb (ix2 r q) = ix2 (⟨row0 t + r.val, by have := lt16 t; have : row0 t = (15 - t.val) * 256 := rfl; omega⟩ : Fin 4096) q := by
  have e := idx15 t
  funext a; apply Fin.ext
  match a with
  | ⟨0, _⟩ => show win0_15.index t (0 : Fin 2) * 256 + 1 * r.val = (15 - t.val) * 256 + r.val; omega
  | ⟨1, _⟩ => show win0_15.index t (1 : Fin 2) * 2560 + 1 * q.val = q.val; omega

theorem emb16 (t : Fin cfg0.N) (j : S16x512.Idx) : ((cfg0.win 16).blk t).view.emb j = j := by
  have e := idx16 t
  funext a; apply Fin.ext
  match a with
  | ⟨0, _⟩ => show win0_16.index t (0 : Fin 2) * 16 + 1 * (j 0).val = (j 0).val; omega
  | ⟨1, _⟩ => show win0_16.index t (1 : Fin 2) * 512 + 1 * (j 1).val = (j 1).val; omega

theorem ix2_eta {a b : ℕ} (j : (⟨2, ![a, b]⟩ : Shape).Idx) : j = ix2 (j 0) (j 1) :=
  funext fun k => match k with | ⟨0, _⟩ => rfl | ⟨1, _⟩ => rfl

theorem left_congr (c : Dev nD) {n n' : ℕ} (e : n = n') (h : n < cfg0.N) (h' : n' < cfg0.N) : left m c n h = left m c n' h' := by
  subst e; rfl

theorem proj_blk (c : Dev nD) (t : Fin cfg0.N) (r : Fin 256) (q : Fin 2560) :
    (left m c t.val t.isLt).proj (ix2 r q) = projAll m c (((cfg0.win 15).blk t).view.emb (ix2 r q)) := by
  have ht := lt16 t
  have hr := r.isLt
  rw [emb15]
  unfold projAll
  have e1 : 15 - (row0 t + r.val) / 256 = t.val := by show 15 - ((15 - t.val) * 256 + r.val) / 256 = t.val; omega
  have e2 : (row0 t + r.val) % 256 = r.val := by show ((15 - t.val) * 256 + r.val) % 256 = r.val; omega
  refine (congrArg (fun p : Left Ideal => p.proj (ix2 r q)) (left_congr m c e1.symm t.isLt (lt_of_eq_of_lt e1 t.isLt))).trans ?_
  exact congrArg (fun r => Left.proj _ (ix2 r q)) (Fin.ext e2.symm)

theorem flushed15_eq (c : Dev nD) (t : Fin cfg0.N) :
    (dats m 0 c).flushed 15 t = ((cfg0.win 15).blk t).view.read (Elt Ideal) (projAll m c) := by
  funext j
  exact (congrArg (left m c t.val t.isLt).proj (ix2_eta (a := 256) (b := 2560) j)).trans ((proj_blk m c t _ _).trans
    (congrArg (fun j => projAll m c (((cfg0.win 15).blk t).view.emb j)) (ix2_eta (a := 256) (b := 2560) j).symm))

theorem lt15 : 15 < cfg0.N := lt_of_lt_of_eq (by decide) (show cfg0.N = 16 from N_0).symm

theorem flushed16_eq (c : Dev nD) (t : Fin cfg0.N) (hf : (cfg0.win 16).flush t = true) :
    (dats m 0 c).flushed 16 t = ((cfg0.win 16).blk t).view.read (Elt Ideal) (left m c 15 lt15).small := by
  have h : t.val = 15 := by have := (flush0_16 t).mp hf; have := lt16 t; omega
  funext j
  exact (congrArg (fun p : Left Ideal => p.small j) (left_congr m c h t.isLt lt15)).trans (congrArg (left m c 15 lt15).small (emb16 t j).symm)

theorem covered15 (i : S4096x2560.Idx) : ∃ t : Fin cfg0.N, (cfg0.win 15).flush t = true ∧ i ∈ ((cfg0.win 15).blk t).view.set := by
  have hi : (i 0).val < 4096 := (i 0).isLt
  have ht : 15 - (i 0).val / 256 < cfg0.N := lt_of_lt_of_eq (by omega) (show cfg0.N = 16 from N_0).symm
  refine ⟨⟨15 - (i 0).val / 256, ht⟩, flush0_15 _, ?_⟩
  have h := ((cfg0.win 15).blk ⟨15 - (i 0).val / 256, ht⟩).view.emb_mem_set (ix2 ⟨(i 0).val % 256, Nat.mod_lt _ (by decide)⟩ (i 1) : S256x2560.Idx)
  refine Eq.mp (congrArg (· ∈ _) ((emb15 _ _ _).trans (funext fun a => Fin.ext ?_))) h
  match a with
  | ⟨0, _⟩ => show (15 - (15 - (i 0).val / 256)) * 256 + (i 0).val % 256 = (i 0).val; omega
  | ⟨1, _⟩ => rfl

theorem covered16 (i : S16x512.Idx) : ∃ t : Fin cfg0.N, (cfg0.win 16).flush t = true ∧ i ∈ ((cfg0.win 16).blk t).view.set := by
  refine ⟨⟨15, lt15⟩, (flush0_16 _).mpr rfl, ?_⟩
  have h := ((cfg0.win 16).blk ⟨15, lt15⟩).view.emb_mem_set i
  rwa [emb16] at h

theorem arr15 (c : Dev nD) : (dats m 0 c).arrAt 15 cfg0.N = projAll m c :=
  (dats m 0 c).arrAt_eq_of_cover 15 (projAll m c) (fun t _ => flushed15_eq m c t) covered15

theorem arr16 (c : Dev nD) : (dats m 0 c).arrAt 16 cfg0.N = (left m c 15 lt15).small :=
  (dats m 0 c).arrAt_eq_of_cover 16 (left m c 15 lt15).small (flushed16_eq m c) covered16

/-- The arrays as they end, at the reference of an output. -/
theorem end15 (c : Dev nD) :
    Pipeline.withArrays (τ := τ) spec0 c (V0 m c) (fun w => (dats m 0 c).arrAt w cfg0.N) (Proc.devRef .tc main_v374_0) = projAll m c :=
  ((dats m 0 c).withArrays_arrAt launch₀0.sharedIn (V0 m c) (A_eq m c) 15).trans (arr15 m c)

theorem end16 (c : Dev nD) :
    Pipeline.withArrays (τ := τ) spec0 c (V0 m c) (fun w => (dats m 0 c).arrAt w cfg0.N) (Proc.devRef .tc main_v374_1) = (left m c 15 lt15).small :=
  ((dats m 0 c).withArrays_arrAt launch₀0.sharedIn (V0 m c) (A_eq m c) 16).trans (arr16 m c)

theorem tail_x (c : Dev nD) (n : Fin 4096) (q : Fin 1536) :
    (Pipeline.afterTail₀ cfgs (dats m) 0 (V0 m) [hostOps1] c main_v375 : Vec Ideal S4096x1536 .bf16) (ix2 n q) = gProj (P m c) (D m c) (W m c) n.val q.val := by
  have hq := q.isLt
  unfold Pipeline.afterTail₀
  after_reads_simp
  refine (extractStridedSlice_apply _ _ _ _ (ix2 n ⟨q.val, by omega⟩ : S4096x2560.Idx) fun a => ?_).trans
    ((congrFun (end15 m c) _).trans (projAll_at m c n hq))
  match a with
  | ⟨0, _⟩ => exact (Nat.zero_add _).symm
  | ⟨1, _⟩ => exact (Nat.zero_add _).symm

theorem tail_w (c : Dev nD) (k : Fin 3) (q : Fin 512) :
    (Pipeline.afterTail₀ cfgs (dats m) 0 (V0 m) [hostOps1] c main_v376 : Vec Ideal S3x512 .f32) (ix2 k q) = gTap (P m c) (D m c) k.val q.val := by
  have hk := k.isLt
  unfold Pipeline.afterTail₀
  after_reads_simp
  refine (extractStridedSlice_apply _ _ _ _ (ix2 ⟨k.val, by omega⟩ q : S16x512.Idx) fun a => ?_).trans
    ((congrFun (end16 m c) _).trans (last_small m c k.val hk q.val q.isLt lt15))
  match a with
  | ⟨0, _⟩ => exact (Nat.zero_add _).symm
  | ⟨1, _⟩ => exact (Nat.zero_add _).symm

/-- The taps, in the argument's entries. -/
theorem W_at (c : Dev nD) (k : Fin 3) (l : Fin 512) :
    W m c (ix2 k l) = (m ((c : Thread nD τ).loc main_arg1) : Vec Ideal S1x3x512 .f32) (ix3 0 k l) := by
  unfold W V V0
  after_reads_at

theorem P_eq (c : Dev nD) : P m c = m ((c : Thread nD τ).loc main_arg0) := V_main_arg0 m c
theorem D_eq (c : Dev nD) : D m c = m ((c : Thread nD τ).loc main_arg9) := V_main_arg9 m c

/-- The two results after the run, and the arguments. -/
theorem run_value : θ_run defs (onTc (τ := τ) (main (F := Ideal))) ⟨m, fun _ => 0, ρ⟩ (fun r => ∀ c : Dev nD,
      (∀ n q, (r.2.mem ((c : Thread nD τ).loc main_v375) : Vec Ideal S4096x1536 .bf16) (ix2 n q) = gProj (P m c) (D m c) (W m c) n.val q.val)
      ∧ ∀ k q, (r.2.mem ((c : Thread nD τ).loc main_v376) : Vec Ideal S3x512 .f32) (ix2 k q) = gTap (P m c) (D m c) k.val q.val) :=
  (θ_run defs _ _).mono (fun r h c =>
    ⟨fun n q => (congrFun ((h.1 c).2 main_v375 (Pipeline.mem_restRefs_of main_v375 (by decide) (by decide))) (ix2 n q)).trans (tail_x m c n q),
      fun k q => (congrFun ((h.1 c).2 main_v376 (Pipeline.mem_restRefs_of main_v376 (by decide) (by decide))) (ix2 k q)).trans (tail_w m c k q)⟩)
    (run m ρ)

end Cert.Kernel2Ideal.Mixer

end
-- ==== Proof.MixerRef.lean ====
/- The short convolution's gradients as the reference computes them, read at an index. -/
module

public import proofs.«01_k».proof.Proof.Gen.Reference2Ideal.Read
public import proofs.«01_k».proof.Proof.MixerSpec
public import proofs.«01_k».proof.Proof.HostSums

@[expose] public section

noncomputable section

namespace Cert.Proof.MixerRef

open Cert.Reference2Ideal Cert.Reference2Ideal.Gen Cert.Reference2Ideal.Read Idealize.ShloMosaic Idealize.ShloMosaic.TcCoe Idealize.SL.Sem
open Cert.Proof.Stage Cert.Proof.Mixer

variable (x0 : (⟨S4096x2560, .f32⟩ : BufTy).Contents (Elt Ideal)) (x1 : (⟨S1x3x512, .f32⟩ : BufTy).Contents (Elt Ideal))
  (x9 : (⟨S4096x1024, .bf16⟩ : BufTy).Contents (Elt Ideal))

/-- The taps. -/
abbrev taps : (⟨2, ![3, 512]⟩ : Shape).Idx → EReal := fun j => x1 (ix3 0 (j 0) (j 1))

theorem v2_at (n : Fin 4096) (q : Fin 512) : val_main_v2 (F := Ideal) x0 (ix3 0 n q) = at2 x0 n.val q.val := by
  rw [show at2 x0 n.val q.val = x0 (ix2 n ⟨q.val, by omega⟩) from at2_eq x0 n ⟨q.val, by omega⟩]
  pointwise [val_main_v2, val_main_v1, val_main_v0]

theorem v3_at (n : Fin 4096) (q : Fin 512) : val_main_v3 (F := Ideal) x0 (ix3 0 n q) = at2 x0 n.val (512 + q.val) := by
  rw [show at2 x0 n.val (512 + q.val) = x0 (ix2 n ⟨512 + q.val, by omega⟩) from at2_eq x0 n ⟨512 + q.val, by omega⟩]
  pointwise [val_main_v3, val_main_v1, val_main_v0]

theorem v4_at (n : Fin 4096) (q : Fin 512) : val_main_v4 (F := Ideal) x0 (ix3 0 n q) = at2 x0 n.val (1024 + q.val) := by
  rw [show at2 x0 n.val (1024 + q.val) = x0 (ix2 n ⟨1024 + q.val, by omega⟩) from at2_eq x0 n ⟨1024 + q.val, by omega⟩]
  pointwise [val_main_v4, val_main_v1, val_main_v0]

theorem v33_at (n : Fin 4096) (q : Fin 512) : val_main_v33 (F := Ideal) x9 (ix3 0 n q) = at2 x9 n.val q.val := by
  rw [show at2 x9 n.val q.val = x9 (ix2 n ⟨q.val, by omega⟩) from at2_eq x9 n ⟨q.val, by omega⟩]
  pointwise [val_main_v33, val_main_v32, val_main_v31]

/-- The padded input. -/
theorem v8_at (n : Fin 4098) (q : Fin 512) : val_main_v8 (F := Ideal) x0 (ix3 0 n q) = pre x0 n.val q.val := by
  unfold pre
  by_cases h : 2 ≤ n.val
  · rw [if_pos h]
    rw [← v3_at x0 ⟨n.val - 2, by omega⟩ q, ← v4_at x0 ⟨n.val - 2, by omega⟩ q]
    pointwise [val_main_v8, val_main_v7, val_main_v5, val_main_cst]
    rw [dif_neg (by omega)]
  · rw [if_neg h]
    pointwise [val_main_v8, val_main_v7, val_main_v5, val_main_cst]
    rw [dif_pos (by omega)]

/-- The cotangent of the convolution's output. -/
theorem v34_at (n : Fin 4096) (q : Fin 512) : val_main_v34 (F := Ideal) x0 x9 (ix3 0 n q) = out x0 x9 n.val q.val := by
  unfold out
  rw [← v2_at, ← v33_at, mul_comm]
  pointwise [val_main_v34]

theorem v13_at (q : Fin 512) : val_main_v13 (F := Ideal) x1 (ix3 0 0 q) = at2 (taps x1) 0 q.val := by
  rw [show at2 (taps x1) 0 q.val = x1 (ix3 0 0 q) from at2_eq (taps x1) 0 q]
  pointwise [val_main_v13, val_main_v12, val_main_v11, val_main_v6]

theorem v19_at (q : Fin 512) : val_main_v19 (F := Ideal) x1 (ix3 0 0 q) = at2 (taps x1) 1 q.val := by
  rw [show at2 (taps x1) 1 q.val = x1 (ix3 0 1 q) from at2_eq (taps x1) 1 q]
  pointwise [val_main_v19, val_main_v18, val_main_v17, val_main_v6]

theorem v26_at (q : Fin 512) : val_main_v26 (F := Ideal) x1 (ix3 0 0 q) = at2 (taps x1) 2 q.val := by
  rw [show at2 (taps x1) 2 q.val = x1 (ix3 0 2 q) from at2_eq (taps x1) 2 q]
  pointwise [val_main_v26, val_main_v25, val_main_v24, val_main_v6]

theorem v10_at (n : Fin 4096) (q : Fin 512) : val_main_v10 (F := Ideal) x0 (ix3 0 n q) = pre x0 n.val q.val := by
  rw [← v8_at x0 ⟨n.val, by omega⟩ q]
  pointwise [val_main_v10]

theorem v16_at (n : Fin 4096) (q : Fin 512) : val_main_v16 (F := Ideal) x0 (ix3 0 n q) = pre x0 (n.val + 1) q.val := by
  rw [Nat.add_comm, ← v8_at x0 ⟨1 + n.val, by omega⟩ q]
  pointwise [val_main_v16]

theorem v23_at (n : Fin 4096) (q : Fin 512) : val_main_v23 (F := Ideal) x0 (ix3 0 n q) = pre x0 (n.val + 2) q.val := by
  rw [Nat.add_comm, ← v8_at x0 ⟨2 + n.val, by omega⟩ q]
  pointwise [val_main_v23]

/-- The gradient of the gate. -/
theorem v35_at (n : Fin 4096) (q : Fin 512) : val_main_v35 (F := Ideal) x0 x1 x9 (ix3 0 n q) = gGate x0 x9 (taps x1) n.val q.val := by
  unfold gGate
  rw [← v33_at, ← v10_at, ← v16_at, ← v23_at, ← v13_at, ← v19_at, ← v26_at, mul_comm (val_main_v13 _ _), mul_comm (val_main_v19 _ _), mul_comm (val_main_v26 _ _)]
  pointwise [val_main_v35, val_main_v29, val_main_v28, val_main_v27, val_main_v22, val_main_v21, val_main_v20, val_main_v15, val_main_v14]

/-- The cotangent of the convolution's input. -/
theorem v68_at (n : Fin 4096) (q : Fin 512) : val_main_v68 (F := Ideal) x0 x1 x9 (ix3 0 n q) = gPre x0 x9 (taps x1) n.val q.val := by
  have e40 (k : Fin 4096) : val_main_v40 (F := Ideal) x0 x1 x9 (ix3 0 k q) = at2 (taps x1) 2 q.val * out x0 x9 k.val q.val := by
    rw [← v34_at, ← v26_at, mul_comm]
    pointwise [val_main_v40, val_main_v39]
  have e49 (k : Fin 4096) : val_main_v49 (F := Ideal) x0 x1 x9 (ix3 0 k q) = at2 (taps x1) 1 q.val * out x0 x9 k.val q.val := by
    rw [← v34_at, ← v19_at, mul_comm]
    pointwise [val_main_v49, val_main_v48]
  have e60 (k : Fin 4096) : val_main_v60 (F := Ideal) x0 x1 x9 (ix3 0 k q) = at2 (taps x1) 0 q.val * out x0 x9 k.val q.val := by
    rw [← v34_at, ← v13_at, mul_comm]
    pointwise [val_main_v60, val_main_v59]
  unfold gPre
  pointwise [val_main_v68, val_main_v66, val_main_v65, val_main_v55, val_main_v54, val_main_v44, val_main_cst_4, val_main_cst_8, val_main_cst_12]
  rw [e40]
  refine congrArg₂ (· + ·) (congrArg (at2 (taps x1) 2 q.val * out x0 x9 n.val q.val + ·) ?_) ?_
  · by_cases h : n.val + 1 < 4096
    · rw [dif_pos (by omega), e49]
      exact congrArg (fun i => _ * out x0 x9 i q.val) (by show 2 + n.val - 1 = n.val + 1; omega)
    · rw [dif_neg (by omega)]
      unfold out
      rw [at2_past x9 (by omega), zero_mul, mul_zero]
  · by_cases h : n.val + 2 < 4096
    · rw [dif_pos (by omega), e60]
      exact congrArg (fun i => _ * out x0 x9 i q.val) (Nat.add_comm _ _)
    · rw [dif_neg (by omega)]
      unfold out
      rw [at2_past x9 (by omega), zero_mul, mul_zero]

/-- The gradient of the projection's first columns. -/
theorem v78_at (n : Fin 4096) (q : Fin 1536) : val_main_v78 (F := Ideal) x0 x1 x9 (ix2 n q) = gProj x0 x9 (taps x1) n.val q.val := by
  have hq := q.isLt
  pointwise [val_main_v78, val_main_v77, val_main_v76, val_main_v75, val_main_v74, val_main_v73, val_main_v72, val_main_v71, val_main_v70, val_main_cst_13,
    val_main_cst_14, val_main_cst_15]
  unfold gProj
  by_cases h1 : q.val < 512
  · rw [dif_neg (by omega), dif_neg (by omega), dif_pos h1, if_pos h1, v35_at, zero_add, zero_add]
  rw [if_neg h1]
  by_cases h2 : q.val < 1024
  · rw [dif_neg (by omega), dif_pos (by omega), dif_neg h1, if_pos h2, v68_at, v4_at, zero_add, add_zero]
  · rw [dif_pos (by omega), dif_neg (by omega), dif_neg h1, if_neg h2, v68_at, v3_at, add_zero, add_zero, mul_comm]

/-- The gradient of a tap. -/
theorem v41_at (q : Fin 512) : val_main_v41 (F := Ideal) x0 x9 (ix1 q) = gTap x0 x9 2 q.val := by
  unfold gTap
  simp only [← v34_at, ← v23_at]
  pointwise [val_main_v41, val_main_cst_2]
  rw [HostSums.leading]
  pointwise [val_main_v38, val_main_v37, val_main_v36, val_main_cst_1]
  exact Finset.sum_congr rfl fun _ _ => mul_comm _ _

theorem v50_at (q : Fin 512) : val_main_v50 (F := Ideal) x0 x9 (ix1 q) = gTap x0 x9 1 q.val := by
  unfold gTap
  simp only [← v34_at, ← v16_at]
  pointwise [val_main_v50, val_main_cst_6]
  rw [HostSums.leading]
  pointwise [val_main_v47, val_main_v46, val_main_v45, val_main_cst_5]
  exact Finset.sum_congr rfl fun _ _ => mul_comm _ _

theorem v61_at (q : Fin 512) : val_main_v61 (F := Ideal) x0 x9 (ix1 q) = gTap x0 x9 0 q.val := by
  unfold gTap
  simp only [← v34_at, Nat.add_zero, ← v10_at]
  pointwise [val_main_v61, val_main_cst_10]
  rw [HostSums.leading]
  pointwise [val_main_v58, val_main_v57, val_main_v56, val_main_cst_9]
  exact Finset.sum_congr rfl fun _ _ => mul_comm _ _

theorem v79_at (k : Fin 3) (q : Fin 512) : val_main_v79 (F := Ideal) x0 x9 (ix2 k q) = gTap x0 x9 k.val q.val := by
  pointwise [val_main_v79, val_main_v69, val_main_v64, val_main_v63, val_main_v62, val_main_v53, val_main_v52, val_main_v51, val_main_v43, val_main_v42,
    val_main_cst_3, val_main_cst_7, val_main_cst_11]
  fin_cases k
  · rw [dif_neg (by simp), dif_neg (by simp), dif_pos (by simp), v61_at, zero_add, zero_add]
  · rw [dif_neg (by simp), dif_pos (by simp), dif_neg (by simp), v50_at, zero_add, add_zero]
  · rw [dif_pos (by simp), dif_neg (by simp), dif_neg (by simp), v41_at, add_zero, add_zero]

end Cert.Proof.MixerRef

end
-- ==== Proof.MixerEq.lean ====
/- The short convolution's part of the mixer's backward call against the chain rule: the claims of the second pair. -/
module

public import proofs.«01_k».proof.Defs
public import proofs.«01_k».proof.Proof.MixerRun
public import proofs.«01_k».proof.Proof.MixerRef
public import proofs.«01_k».proof.Proof.Gen.Kernel2

@[expose] public section

noncomputable section

namespace Cert.Proof.MixerEq

open Cert.Kernel2Ideal Cert.Kernel2Ideal.Gen Cert.Kernel2Ideal.Mixer Cert.Proof.Mixer Idealize.ShloMosaic Idealize.ShloMosaic.TcCoe Idealize.SL.Sem
open Idealize.SL

section
variable (m : (ℓ : Loc nD τ sig) → Buf (Elt Ideal) ℓ) (c : Dev nD)

/-- The two gradients of the launch's arguments. -/
def gx : Vec Ideal S4096x1536 .bf16 := fun j => gProj (P m c) (D m c) (W m c) (j 0).val (j 1).val
def gw : Vec Ideal S3x512 .f32 := fun j => gTap (P m c) (D m c) (j 0).val (j 1).val

theorem taps_eq (x1 : Vec Ideal S1x3x512 .f32) (e : x1 = m ((c : Thread nD τ).loc main_arg1)) : MixerRef.taps x1 = W m c := by
  subst e
  funext j
  exact (W_at m c (j 0) (j 1)).symm.trans (congrArg (W m c) (ix2_eta (a := 3) (b := 512) j).symm)

theorem gx_ref (x0 : Vec Ideal S4096x2560 .f32) (x1 : Vec Ideal S1x3x512 .f32) (x9 : Vec Ideal S4096x1024 .bf16)
    (e0 : x0 = m ((c : Thread nD τ).loc main_arg0)) (e1 : x1 = m ((c : Thread nD τ).loc main_arg1)) (e9 : x9 = m ((c : Thread nD τ).loc main_arg9)) :
    Cert.Reference2Ideal.Read.val_main_v78 (F := Ideal) x0 x1 x9 = gx m c := by
  funext j
  rw [ix2_eta (a := 4096) (b := 1536) j]
  refine (MixerRef.v78_at x0 x1 x9 (j 0) (j 1)).trans ?_
  rw [taps_eq m c x1 e1, e0.trans (P_eq m c).symm, e9.trans (D_eq m c).symm]
  rfl

theorem gw_ref (x0 : Vec Ideal S4096x2560 .f32) (x9 : Vec Ideal S4096x1024 .bf16)
    (e0 : x0 = m ((c : Thread nD τ).loc main_arg0)) (e9 : x9 = m ((c : Thread nD τ).loc main_arg9)) :
    Cert.Reference2Ideal.Read.val_main_v79 (F := Ideal) x0 x9 = gw m c := by
  funext j
  rw [ix2_eta (a := 3) (b := 512) j]
  refine (MixerRef.v79_at x0 x9 (j 0) (j 1)).trans ?_
  rw [e0.trans (P_eq m c).symm, e9.trans (D_eq m c).symm]
  rfl

end

/-! ## The claims -/

/-- The frame at the machine's floats. -/
def frameBits : Prop := ∀ (m : (ℓ : Loc nD τ sig) → Buf (Elt Bits) ℓ) (ρ : Dev nD → PrngReg), True →
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0)

/-- The printed kernel and its idealization have the same text. -/
theorem same_text : Cert.quiescent_Kernel2 = frameBits := by sl_kernel_rfl

theorem frame_p : Cert.quiescent_Kernel2 := same_text.mpr fun m ρ _ => Cert.Kernel2Ideal.Mixer.quiescent (F := Bits) m ρ

theorem frame_pi : Cert.quiescent_Kernel2Ideal := fun m ρ _ => Cert.Kernel2Ideal.Mixer.quiescent (F := Ideal) m ρ

theorem frame_ri : Cert.quiescent_Reference2Ideal := fun m ρ _ =>
  (θ_run Cert.Reference2Ideal.defs _ _).mono (fun r h => ⟨fun c => (h c).2.2, sem_eq_zero_of_no_sems (by decide) r.2⟩)
    (Cert.Reference2Ideal.Value.run (F := Ideal) m ρ)

theorem algebraic : Cert.algebraic_Kernel2Ideal_Reference2Ideal := by
  intro m ρ m' ρ' _ hagree
  refine ⟨gx m, gw m, (θ_run defs _ _).mono (fun r h c => ⟨?_, ?_, h.2.1 c⟩) (θ_run_and (run_value m ρ) (Mixer.quiescent m ρ)), ?_⟩
  · funext j
    exact (congrArg _ (ix2_eta (a := 4096) (b := 1536) j)).trans ((h.1 c).1 (j 0) (j 1))
  · funext j
    exact (congrArg _ (ix2_eta (a := 3) (b := 512) j)).trans ((h.1 c).2 (j 0) (j 1))
  refine (θ_run Cert.Reference2Ideal.defs _ _).mono (fun _ h c => ⟨(h c).1.trans ?_, (h c).2.1.trans ?_, (h c).2.2⟩)
    (Cert.Reference2Ideal.Value.run (F := Ideal) m' ρ')
  · obtain ⟨e0, e1, e2, e3, e4, e5, e6, e7, e8, e9⟩ := hagree c
    exact (Cert.Reference2Ideal.Read.val_main_v78_eq m' c).trans (gx_ref m c _ _ _ e0 e1 e9)
  · obtain ⟨e0, e1, e2, e3, e4, e5, e6, e7, e8, e9⟩ := hagree c
    exact (Cert.Reference2Ideal.Read.val_main_v79_eq m' c).trans (gw_ref m c _ _ e0 e9)

end Cert.Proof.MixerEq

end
-- ==== Proof.MixOutBlocks.lean ====
/- What one grid step of the output stage's kernels leaves in its output blocks: the forward kernel's product, residual sum
   and normalised rows, the backward kernel's two gradients, and the weight's gradient and the column sums that the backward
   kernel carries from step to step. -/
module

public import proofs.«01_k».proof.Proof.Gen.Kernel3Ideal.Frame
public import Idealize.ShloMosaic.Lib.Pointwise
public import Idealize.ShloMosaic.Lib.Tactic
public import proofs.«01_k».proof.Proof.Rows

@[expose] public section

noncomputable section

namespace Cert.Proof.MixOut

open Cert.Kernel3Ideal Cert.Kernel3Ideal.Gen Idealize.ShloMosaic Idealize.ShloMosaic.TcCoe Idealize.SL.Sem

variable {F : FTy → Type} [FloatOps F]

theorem hz : (![0, 0] : Fin 2 → Nat) = fun _ => 0 := funext fun a => by fin_cases a <;> rfl

/-- Rows `2`, `3` and `4` of the modulation block: the gate, the shift and the scale. -/
abbrev row2 (v : Vec F S8x1024 .f32) : Vec F S1x1024 .f32 := View.ld v (Rect.unit ![2, 0] ![1, 1024] inb_S8x1024_S1x1024_2_0)
abbrev row3 (v : Vec F S8x1024 .f32) : Vec F S1x1024 .f32 := View.ld v (Rect.unit ![3, 0] ![1, 1024] inb_S8x1024_S1x1024_3_0)
abbrev row4 (v : Vec F S8x1024 .f32) : Vec F S1x1024 .f32 := View.ld v (Rect.unit ![4, 0] ![1, 1024] inb_S8x1024_S1x1024_4_0)

/-! ## The forward kernel -/

section Forward

variable (y : Vec F S1024x1024 .bf16) (x : Vec F S1024x1024 .f32) (w : Vec F S1024x1024 .bf16) (md : Vec F S8x1024 .f32) (g : Vec F S1x1024 .f32)

theorem out_mix : out0_5 y x w md g = k0_pay3 y w := by
  unfold out0_5
  rw [View.canon_unit_zero (S := S1024x1024) hz]
  simp only [View.ld_unit_zero (S:=S1024x1024) hz]

theorem out_x2 : out0_6 y x w md g = k0_pay4 y w x (row2 md) := by
  unfold out0_6
  rw [View.canon_unit_zero (S := S1024x1024) hz]
  simp only [View.ld_unit_zero (S:=S1024x1024) hz]

theorem out_hn : out0_7 y x w md g = k0_pay1 (k0_pay5 y w x (row2 md) g (row4 md)) (row3 md) := by
  unfold out0_7
  rw [View.canon_unit_zero (S := S1024x1024) hz]
  simp only [View.ld_unit_zero (S:=S1024x1024) hz, View.ld_unit_zero (S:=S1x1024) hz]

end Forward

/-! ## The backward kernel -/

section Steps

variable (dh : Vec F S512x1024 .bf16) (x : Vec F S512x1024 .f32) (dx3 mix y : Vec F S512x1024 .bf16) (w : Vec F S1024x1024 .bf16)
  (md : Vec F S8x1024 .f32) (g : Vec F S1x1024 .f32)

/-- The block of the residual's gradient, before it is rounded and after. -/
def dx2Blk : Vec F S512x1024 .f32 := k1_pay12 dh x (row4 md) dx3 g
def dx2Out : Vec F S512x1024 .bf16 := k1_pay13 dh x (row4 md) dx3 g

/-- The block of the gradient of the mixer's output. -/
def dyOut : Vec F S512x1024 .bf16 := k1_pay3 (dx2Blk dh x dx3 md g) (row2 md) w

/-- The weight's gradient after a step, from the sum before it. -/
def gwNext (s : Vec F S1024x1024 .f32) : Vec F S1024x1024 .f32 := k1_pay4 (dx2Blk dh x dx3 md g) (row2 md) s y

/-- The block of column sums after a step, from the block before it. -/
def stNext (s : Vec F S8x1024 .f32) : Vec F S8x1024 .f32 :=
  Rows.setRow (Val := Elt F) (e := .f32) 3 (k1_pay1 (k1_pay17 (View.ld s (Rect.unit ![3, 0] ![1, 1024] inb_S8x1024_S1x1024_3_0))) (k1_pay18 (dx2Blk dh x dx3 md g) mix))
    (Rows.setRow (Val := Elt F) (e := .f32) 2 (k1_pay16 (k1_pay10 x) (k1_pay11 dh (row4 md)) (View.ld s (Rect.unit ![2, 0] ![1, 1024] inb_S8x1024_S1x1024_2_0)))
      (Rows.setRow (Val := Elt F) (e := .f32) 1 (k1_pay15 (k1_pay7 dh) (k1_pay10 x) (View.ld s (Rect.unit ![1, 0] ![1, 1024] inb_S8x1024_S1x1024_1_0)) g)
        (Rows.setRow (Val := Elt F) (e := .f32) 0 (k1_pay14 (k1_pay7 dh) (View.ld s (Rect.unit ![0, 0] ![1, 1024] inb_S8x1024_S1x1024_0_0))) s)))

end Steps

variable (c : Dev nD) (i : grid1.Coords) (arg1 : Memref sig .tc .vmem S512x1024 .bf16) (harg1 : arg1.IsWhole) (arg2 : Memref sig .tc .vmem S512x1024 .f32) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S1024x1024 .bf16) (harg6 : arg6.IsWhole) (arg7 : Memref sig .tc .vmem S8x1024 .f32) (harg7 : arg7.IsWhole) (arg8 : Memref sig .tc .vmem S1x1024 .f32) (harg8 : arg8.IsWhole) (arg9 : Memref sig .tc .vmem S512x1024 .bf16) (harg9 : arg9.IsWhole) (arg10 : Memref sig .tc .vmem S512x1024 .bf16) (harg10 : arg10.IsWhole) (arg11 : Memref sig .tc .vmem S1024x1024 .f32) (harg11 : arg11.IsWhole) (arg12 : Memref sig .tc .vmem S8x1024 .f32) (harg12 : arg12.IsWhole)
  (x0 : Vec F S512x1024 .bf16) (x1 : Vec F S512x1024 .f32) (x2 : Vec F S512x1024 .bf16) (x3 : Vec F S512x1024 .bf16) (x4 : Vec F S512x1024 .bf16) (x5 : Vec F S1024x1024 .bf16) (x6 : Vec F S8x1024 .f32) (x7 : Vec F S1x1024 .f32) (xo10 : Vec F S1024x1024 .f32) (xo11 : Vec F S8x1024 .f32)

theorem out_A8 (hc0 : cond1_0 i) : out1_A_8 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 = dx2Out x0 x1 x2 x6 x7 := by
  unfold out1_A_8
  rw [View.read_writes_eq_canon _ _ _ (cover1_A_8 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7)]
  unfold kernelRun1_A
  dsimp only
  sl_unfold_words
  rw [View.canon_unit_zero (S := S512x1024) hz]
  simp only [View.readAt_eq_ld, harg1.read_unread, harg2.read_unread, harg3.read_unread, harg4.read_unread, harg5.read_unread, harg6.read_unread, harg7.read_unread, harg8.read_unread, harg11.read_unread, harg12.read_unread,
     View.ld_unit_zero (S:=S512x1024) hz, View.ld_unit_zero (S:=S1024x1024) hz, View.ld_unit_zero (S:=S1x1024) hz]
  rfl

theorem out_A9 (hc0 : cond1_0 i) : out1_A_9 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 = dyOut x0 x1 x2 x5 x6 x7 := by
  unfold out1_A_9
  rw [View.read_writes_eq_canon _ _ _ (cover1_A_9 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7)]
  unfold kernelRun1_A
  dsimp only
  sl_unfold_words
  rw [View.canon_unit_zero (S := S512x1024) hz]
  simp only [View.readAt_eq_ld, harg1.read_unread, harg2.read_unread, harg3.read_unread, harg4.read_unread, harg5.read_unread, harg6.read_unread, harg7.read_unread, harg8.read_unread, harg11.read_unread, harg12.read_unread,
     View.ld_unit_zero (S:=S512x1024) hz, View.ld_unit_zero (S:=S1024x1024) hz, View.ld_unit_zero (S:=S1x1024) hz]
  rfl

theorem out_A10 (hc0 : cond1_0 i) : out1_A_10 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 = gwNext x0 x1 x2 x4 x6 x7 k1_pay6 := by
  unfold out1_A_10
  unfold kernelRun1_A
  dsimp only
  sl_unfold_words
  simp only [View.readAt_eq_ld, harg1.read_unread, harg2.read_unread, harg3.read_unread, harg4.read_unread, harg5.read_unread, harg6.read_unread, harg7.read_unread, harg8.read_unread, harg11.read_unread, harg12.read_unread,
     View.ld_unit_zero (S:=S512x1024) hz, View.ld_unit_zero (S:=S1024x1024) hz, View.ld_unit_zero (S:=S1x1024) hz]
  rw [Rows.read_all, Rows.readCov_all]
  rw [View.ld_unit_zero (S:=S1024x1024) hz]
  rfl

theorem out_A11 (hc0 : cond1_0 i) : out1_A_11 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 = stNext x0 x1 x2 x3 x6 x7 k1_pay5 := by
  unfold out1_A_11
  unfold kernelRun1_A
  dsimp only
  sl_unfold_words
  simp only [View.readAt_eq_ld, harg1.read_unread, harg2.read_unread, harg3.read_unread, harg4.read_unread, harg5.read_unread, harg6.read_unread, harg7.read_unread, harg8.read_unread, harg11.read_unread, harg12.read_unread,
     View.ld_unit_zero (S:=S512x1024) hz, View.ld_unit_zero (S:=S1024x1024) hz, View.ld_unit_zero (S:=S1x1024) hz]
  rw [Rows.read_setRow, Rows.read_setRow, Rows.read_setRow, Rows.read_setRow, Rows.read_all]
  simp only [Rows.readCov_other _ 0 1 (by omega), Rows.readCov_other _ 0 2 (by omega), Rows.readCov_other _ 1 2 (by omega),
    Rows.readCov_other _ 0 3 (by omega), Rows.readCov_other _ 1 3 (by omega), Rows.readCov_other _ 2 3 (by omega), Rows.readCov_all]
  rfl

theorem out_B8 (hc0 : ¬cond1_0 i) : out1_B_8 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 xo10 xo11 = dx2Out x0 x1 x2 x6 x7 := by
  unfold out1_B_8
  rw [View.read_writes_eq_canon _ _ _ (cover1_B_8 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 xo10 xo11)]
  unfold kernelRun1_B
  dsimp only
  sl_unfold_words
  rw [View.canon_unit_zero (S := S512x1024) hz]
  simp only [View.readAt_eq_ld, harg1.read_unread, harg2.read_unread, harg3.read_unread, harg4.read_unread, harg5.read_unread, harg6.read_unread, harg7.read_unread, harg8.read_unread, harg11.read_unread, harg12.read_unread,
     View.ld_unit_zero (S:=S512x1024) hz, View.ld_unit_zero (S:=S1024x1024) hz, View.ld_unit_zero (S:=S1x1024) hz]
  rfl

theorem out_B9 (hc0 : ¬cond1_0 i) : out1_B_9 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 xo10 xo11 = dyOut x0 x1 x2 x5 x6 x7 := by
  unfold out1_B_9
  rw [View.read_writes_eq_canon _ _ _ (cover1_B_9 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 xo10 xo11)]
  unfold kernelRun1_B
  dsimp only
  sl_unfold_words
  rw [View.canon_unit_zero (S := S512x1024) hz]
  simp only [View.readAt_eq_ld, harg1.read_unread, harg2.read_unread, harg3.read_unread, harg4.read_unread, harg5.read_unread, harg6.read_unread, harg7.read_unread, harg8.read_unread, harg11.read_unread, harg12.read_unread,
     View.ld_unit_zero (S:=S512x1024) hz, View.ld_unit_zero (S:=S1024x1024) hz, View.ld_unit_zero (S:=S1x1024) hz]
  rfl

theorem out_B10 (hc0 : ¬cond1_0 i) : out1_B_10 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 xo10 xo11 = gwNext x0 x1 x2 x4 x6 x7 xo10 := by
  unfold out1_B_10
  rw [View.read_writes_eq_canon _ _ _ (cover1_B_10 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 xo10 xo11)]
  unfold kernelRun1_B
  dsimp only
  sl_unfold_words
  rw [View.canon_unit_zero (S := S1024x1024) hz]
  simp only [View.readAt_eq_ld, harg1.read_unread, harg2.read_unread, harg3.read_unread, harg4.read_unread, harg5.read_unread, harg6.read_unread, harg7.read_unread, harg8.read_unread, harg11.read_unread, harg12.read_unread,
     View.ld_unit_zero (S:=S512x1024) hz, View.ld_unit_zero (S:=S1024x1024) hz, View.ld_unit_zero (S:=S1x1024) hz]
  rfl

theorem out_B11 (hc0 : ¬cond1_0 i) : out1_B_11 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 xo10 xo11 = stNext x0 x1 x2 x3 x6 x7 xo11 := by
  unfold out1_B_11
  unfold kernelRun1_B
  dsimp only
  sl_unfold_words
  simp only [View.readAt_eq_ld, harg1.read_unread, harg2.read_unread, harg3.read_unread, harg4.read_unread, harg5.read_unread, harg6.read_unread, harg7.read_unread, harg8.read_unread, harg11.read_unread, harg12.read_unread,
     View.ld_unit_zero (S:=S512x1024) hz, View.ld_unit_zero (S:=S1024x1024) hz, View.ld_unit_zero (S:=S1x1024) hz]
  rw [Rows.read_setRow, Rows.read_setRow, Rows.read_setRow, Rows.read_setRow, Rows.read_nil, harg12.read_unread]
  rfl

end Cert.Proof.MixOut
-- ==== Proof.MixOutSpec.lean ====
/- The mixer's output stage row by row: the product with the output weights, the gated residual sum, its modulated
   normalisation, and the gradients of these. -/
module

public import proofs.«01_k».proof.Proof.Rms

@[expose] public section

noncomputable section

namespace Cert.Proof.MixOut

variable (x y dh d3 x2 g sc sh gt dx2 mx : Fin 1024 → EReal) (w : Fin 1024 → Fin 1024 → EReal) (l : Fin 1024)

/-- A row of the product. -/
def mix : EReal := ∑ k, y k * w k l

/-- A row of the residual sum, from the row of the product. -/
def res : EReal := x l + gt l * mx l

/-- A row of the modulated normalisation. -/
def hn : EReal := x2 l * Rms.inv x2 * g l * (1 + sc l) + sh l

/-- The cotangent of the normalised row. -/
def up : EReal := dh l * (1 + sc l) * g l

/-- A row of the residual's gradient. -/
def back : EReal := d3 l + Rms.back x2 (up dh g sc) l

/-- A row of the gradient of the product's left factor. -/
def dy : EReal := ∑ k, gt k * dx2 k * w l k

/-- A row's summands of the gradients of the shift, the scale, the norm's weight and the gate, and zero for the other sums. -/
def part (p : ℕ) : EReal :=
  if p = 0 then dh l else if p = 1 then dh l * (x2 l * Rms.inv x2 * g l) else if p = 2 then dh l * (1 + sc l) * (x2 l * Rms.inv x2)
  else if p = 3 then dx2 l * mx l else 0

end Cert.Proof.MixOut

end
-- ==== Proof.MixOutRead.lean ====
/- A grid step of the output stage's two kernels read at an index, over the extended reals. -/
module

public import proofs.«01_k».proof.Proof.MixOutBlocks
public import proofs.«01_k».proof.Proof.MixOutSpec

@[expose] public section

noncomputable section

namespace Cert.Proof.MixOut

open Cert.Kernel3Ideal Cert.Kernel3Ideal.Gen Idealize.ShloMosaic Idealize.ShloMosaic.TcCoe Idealize.SL.Sem

/-! ## The forward kernel -/

section Forward

variable (y : Vec Ideal S1024x1024 .bf16) (x : Vec Ideal S1024x1024 .f32) (w : Vec Ideal S1024x1024 .bf16) (gt sh sc g : Vec Ideal S1x1024 .f32)

theorem fwd2_apply (r l : Fin 1024) : k0_pay2 y w (ix2 r l) = mix (fun k => y (ix2 r k)) (fun k l => w (ix2 k l)) l := by
  unfold mix
  pointwise [k0_pay2]

theorem fwd3_apply (r l : Fin 1024) : k0_pay3 y w (ix2 r l) = mix (fun k => y (ix2 r k)) (fun k l => w (ix2 k l)) l := by
  rw [← fwd2_apply]
  pointwise [k0_pay3]

theorem fwd4_apply (r l : Fin 1024) : k0_pay4 y w x gt (ix2 r l)
    = res (fun k => x (ix2 r k)) (fun k => gt (ix2 0 k)) (mix (fun k => y (ix2 r k)) fun k l => w (ix2 k l)) l := by
  unfold res
  rw [← fwd2_apply]
  pointwise [k0_pay4]

theorem fwd1_apply (r l : Fin 1024) : k0_pay1 (k0_pay5 y w x gt g sc) sh (ix2 r l)
    = hn (fun k => k0_pay4 y w x gt (ix2 r k)) (fun k => g (ix2 0 k)) (fun k => sc (ix2 0 k)) (fun k => sh (ix2 0 k)) l := by
  unfold hn Rms.inv Rms.ms
  pointwise [k0_pay1, k0_pay5]

end Forward

/-! ## The backward kernel -/

section Backward

variable (dh : Vec Ideal S512x1024 .bf16) (x : Vec Ideal S512x1024 .f32) (dx3 mx y : Vec Ideal S512x1024 .bf16) (w : Vec Ideal S1024x1024 .bf16)
  (md : Vec Ideal S8x1024 .f32) (sc g row : Vec Ideal S1x1024 .f32) (d : FVec Ideal S512x1024 .f32)

theorem bwd9_apply (r : Fin 512) : k1_pay9 x (ix2 r 0) = Rms.inv fun k => x (ix2 r k) := by
  unfold Rms.inv Rms.ms
  pointwise [k1_pay9, k1_pay8]

theorem bwd10_apply (r : Fin 512) (l : Fin 1024) : k1_pay10 x (ix2 r l) = x (ix2 r l) * Rms.inv fun k => x (ix2 r k) := by
  rw [← bwd9_apply]
  pointwise [k1_pay10, k1_pay8]

theorem bwd11_apply (r : Fin 512) (l : Fin 1024) : k1_pay11 dh sc (ix2 r l) = dh (ix2 r l) * (1 + sc (ix2 0 l)) := by
  pointwise [k1_pay11, k1_pay7]

theorem bwd12_apply (r : Fin 512) (l : Fin 1024) : k1_pay12 dh x sc dx3 g (ix2 r l)
    = back (fun k => dh (ix2 r k)) (fun k => dx3 (ix2 r k)) (fun k => x (ix2 r k)) (fun k => g (ix2 0 k)) (fun k => sc (ix2 0 k)) l := by
  unfold back Rms.back up
  rw [← bwd9_apply]
  pointwise [k1_pay12, k1_pay11, k1_pay10, k1_pay8, k1_pay7]

theorem dx2Out_apply (r : Fin 512) (l : Fin 1024) : dx2Out dh x dx3 md g (ix2 r l) = dx2Blk dh x dx3 md g (ix2 r l) := by
  unfold dx2Out dx2Blk
  pointwise [k1_pay13]

theorem bwd2_apply (r : Fin 512) (l : Fin 1024) : k1_pay2 d row (ix2 r l) = row (ix2 0 l) * d (ix2 r l) := by
  pointwise [k1_pay2]

theorem bwd3_apply (r : Fin 512) (l : Fin 1024) : k1_pay3 d row w (ix2 r l)
    = MixOut.dy (fun k => row (ix2 0 k)) (fun k => d (ix2 r k)) (fun k l => w (ix2 k l)) l := by
  unfold MixOut.dy
  pointwise [k1_pay3]
  exact Finset.sum_congr rfl fun k _ => by rw [bwd2_apply]

theorem bwd4_apply (s : Vec Ideal S1024x1024 .f32) (k l : Fin 1024) : k1_pay4 d row s y (ix2 k l)
    = s (ix2 k l) + ∑ r : Fin 512, y (ix2 r k) * (row (ix2 0 l) * d (ix2 r l)) := by
  pointwise [k1_pay4]
  exact congrArg (_ + ·) (Finset.sum_congr rfl fun r _ => by rw [bwd2_apply])

theorem bwd14_apply (l : Fin 1024) : k1_pay14 (k1_pay7 dh) row (ix2 0 l) = row (ix2 0 l) + ∑ r : Fin 512, dh (ix2 r l) := by
  pointwise [k1_pay14, k1_pay7]

theorem bwd15_apply (l : Fin 1024) : k1_pay15 (k1_pay7 dh) (k1_pay10 x) row g (ix2 0 l)
    = row (ix2 0 l) + ∑ r : Fin 512, dh (ix2 r l) * (k1_pay10 x (ix2 r l) * g (ix2 0 l)) := by
  pointwise [k1_pay15, k1_pay7]

theorem bwd16_apply (l : Fin 1024) : k1_pay16 (k1_pay10 x) (k1_pay11 dh sc) row (ix2 0 l)
    = row (ix2 0 l) + ∑ r : Fin 512, k1_pay11 dh sc (ix2 r l) * k1_pay10 x (ix2 r l) := by
  pointwise [k1_pay16]

theorem bwd1_apply (l : Fin 1024) : k1_pay1 (k1_pay17 row) (k1_pay18 d mx) (ix2 0 l)
    = row (ix2 0 l) + ∑ r : Fin 512, d (ix2 r l) * mx (ix2 r l) := by
  pointwise [k1_pay1, k1_pay17, k1_pay18]

theorem bwd5_apply (i : S8x1024.Idx) : (k1_pay5 (F := Ideal)) i = 0 := by
  unfold k1_pay5
  exact Ideal.ofBits_zero_f32

theorem bwd6_apply (i : S1024x1024.Idx) : (k1_pay6 (F := Ideal)) i = 0 := by
  unfold k1_pay6
  exact Ideal.ofBits_zero_f32

theorem row2_apply (l : Fin 1024) : row2 md (ix2 0 l) = md (ix2 2 l) := Rows.ld_row (e := .f32) md 2 (by omega) _ l
theorem row3_apply (l : Fin 1024) : row3 md (ix2 0 l) = md (ix2 3 l) := Rows.ld_row (e := .f32) md 3 (by omega) _ l
theorem row4_apply (l : Fin 1024) : row4 md (ix2 0 l) = md (ix2 4 l) := Rows.ld_row (e := .f32) md 4 (by omega) _ l

theorem dx2Blk_apply (r : Fin 512) (l : Fin 1024) : dx2Blk dh x dx3 md g (ix2 r l)
    = back (fun k => dh (ix2 r k)) (fun k => dx3 (ix2 r k)) (fun k => x (ix2 r k)) (fun k => g (ix2 0 k)) (fun k => md (ix2 4 k)) l := by
  unfold dx2Blk
  rw [bwd12_apply]
  exact congrArg (fun s => back _ _ _ _ s l) (funext fun k => row4_apply md k)

theorem stNext_apply (st : Vec Ideal S8x1024 .f32) (p : Fin 8) (l : Fin 1024) : stNext dh x dx3 mx md g st (ix2 p l)
    = st (ix2 p l) + ∑ r : Fin 512, part (fun k => dh (ix2 r k)) (fun k => x (ix2 r k)) (fun k => g (ix2 0 k)) (fun k => md (ix2 4 k))
        (fun k => dx2Blk dh x dx3 md g (ix2 r k)) (fun k => mx (ix2 r k)) l p.val := by
  unfold stNext Rows.setRow
  have e0 : ((ix2 p l : (⟨2, ![8, 1024]⟩ : Shape).Idx) 0).val = p.val := rfl
  have e1 : ((ix2 p l : (⟨2, ![8, 1024]⟩ : Shape).Idx) 1) = l := rfl
  unfold part
  by_cases h3 : p.val = 3
  · have hp : p = ⟨3, by decide⟩ := Fin.ext h3
    subst hp
    rw [if_pos e0, e1, bwd1_apply, Rows.ld_row (e := .f32) st 3 (by omega)]
    simp
  rw [if_neg (by rw [e0]; exact h3)]
  by_cases h2 : p.val = 2
  · have hp : p = ⟨2, by decide⟩ := Fin.ext h2
    subst hp
    rw [if_pos e0, e1, bwd16_apply, Rows.ld_row (e := .f32) st 2 (by omega)]
    simp [bwd10_apply, bwd11_apply, show row4 md (ix2 0 l) = md (ix2 4 l) from row4_apply md l]
  rw [if_neg (by rw [e0]; exact h2)]
  by_cases h1 : p.val = 1
  · have hp : p = ⟨1, by decide⟩ := Fin.ext h1
    subst hp
    rw [if_pos e0, e1, bwd15_apply, Rows.ld_row (e := .f32) st 1 (by omega)]
    simp [bwd10_apply]
  rw [if_neg (by rw [e0]; exact h1)]
  by_cases h0 : p.val = 0
  · have hp : p = ⟨0, by decide⟩ := Fin.ext h0
    subst hp
    rw [if_pos e0, e1, bwd14_apply, Rows.ld_row (e := .f32) st 0 (by omega)]
    simp
  rw [if_neg (by rw [e0]; exact h0)]
  simp [h0, h1, h2, h3]

end Backward

end Cert.Proof.MixOut

end
-- ==== Proof.Tiles.lean ====
/- Blocks of whole rows of an array of 4096 rows: where a block's entries lie, and sums over blocks. -/
module

public import Idealize.ShloMosaic.Lib.Pointwise
public import Idealize.ShloMosaic.Lib.Tactic

@[expose] public section

noncomputable section

namespace Cert.Proof.Tiles

open Idealize.ShloMosaic Idealize.ShloMosaic.TcCoe Idealize.SL.Sem

variable {a b B n m : ℕ}

/-- Row `B·t + r` of the 4096, for the blocks of `B` rows within them. -/
def rowOf (B t : ℕ) (r : Fin B) : Fin 4096 := ⟨(t * B + r.val) % 4096, Nat.mod_lt _ (by decide)⟩

theorem rowOf_val {t : ℕ} (h : t * B + B ≤ 4096) (r : Fin B) : (rowOf B t r).val = t * B + r.val :=
  Nat.mod_eq_of_lt (by have := r.isLt; omega)

theorem eta (j : (⟨2, ![a, b]⟩ : Shape).Idx) : j = ix2 (j 0) (j 1) :=
  funext fun k => match k with | ⟨0, _⟩ => rfl | ⟨1, _⟩ => rfl

theorem ext {α : Type} {f g : (⟨2, ![a, b]⟩ : Shape).Idx → α} (h : ∀ i l, f (ix2 i l) = g (ix2 i l)) : f = g :=
  funext fun j => by rw [eta j]; exact h _ _

/-- The place in the array of an entry of block `t`. -/
theorem rows_eq {t : ℕ} (r : Fin B) (k : Fin b) (i : (⟨2, ![4096, b]⟩ : Shape).Idx) (ht : t * B + B ≤ 4096) (h : n = t ∧ m = 0)
    (h0 : (i 0).val = n * B + 1 * r.val) (h1 : (i 1).val = m * b + 1 * k.val) : i = ix2 (rowOf B t r) k := by
  obtain ⟨rfl, rfl⟩ := h
  rw [eta i]
  refine congrArg₂ ix2 (Fin.ext ?_) (Fin.ext ?_)
  · rw [h0, rowOf_val ht]; omega
  · rw [h1]; omega

/-- The block of an array that is the whole of it. -/
theorem whole_eq (j i : (⟨2, ![a, b]⟩ : Shape).Idx) (h : n = 0 ∧ m = 0)
    (h0 : (i 0).val = n * a + 1 * (j 0).val) (h1 : (i 1).val = m * b + 1 * (j 1).val) : i = j := by
  obtain ⟨rfl, rfl⟩ := h
  rw [eta i, eta j]
  exact congrArg₂ ix2 (Fin.ext (by rw [h0]; omega)) (Fin.ext (by rw [h1]; omega))

/-- Every place is in the block of its row. -/
theorem rows_split (hB : 0 < B) (i : (⟨2, ![4096, b]⟩ : Shape).Idx) (ht : (i 0).val / B * B + B ≤ 4096) :
    ix2 (rowOf B ((i 0).val / B) ⟨(i 0).val % B, Nat.mod_lt _ hB⟩) (i 1) = i := by
  conv_rhs => rw [eta i]
  refine congrArg (ix2 · (i 1)) (Fin.ext ?_)
  rw [rowOf_val ht]
  exact Nat.div_add_mod' _ _

/-- The sums over the blocks are the sum over all rows. -/
theorem sum_rows (N : ℕ) (hN : N * B = 4096) (f : Fin 4096 → EReal) :
    ∑ s ∈ Finset.range N, ∑ r : Fin B, f (rowOf B s r) = ∑ i : Fin 4096, f i := by
  rw [Fin.sum_univ_tiles N B hN f, Finset.sum_range]
  refine Finset.sum_congr rfl fun s _ => Finset.sum_congr rfl fun r _ => congrArg f (Fin.ext (rowOf_val ?_ r))
  have := Nat.mul_le_mul_right B (Nat.succ_le_of_lt s.isLt)
  rw [Nat.succ_mul] at this
  omega

end Cert.Proof.Tiles

end
-- ==== Proof.MixOutArrays.lean ====
/- The results of the output stage's two kernels as functions of the arrays their grids read, row by row. -/
module

public import proofs.«01_k».proof.Proof.MixOutRead
public import proofs.«01_k».proof.Proof.Tiles

@[expose] public section

noncomputable section

namespace Cert.Proof.MixOut

open Cert.Kernel3Ideal Cert.Kernel3Ideal.Gen Idealize.ShloMosaic Idealize.ShloMosaic.TcCoe Idealize.SL.Sem

/-- A row of an array. -/
abbrev row {a : ℕ} (x : (⟨2, ![a, 1024]⟩ : Shape).Idx → EReal) (i : Fin a) : Fin 1024 → EReal := fun k => x (ix2 i k)

variable (dh x x2 d3 mx y : (⟨2, ![4096, 1024]⟩ : Shape).Idx → EReal) (w : (⟨2, ![1024, 1024]⟩ : Shape).Idx → EReal)
  (md : (⟨2, ![8, 1024]⟩ : Shape).Idx → EReal) (g : (⟨2, ![1, 1024]⟩ : Shape).Idx → EReal)

def mixA : (⟨2, ![4096, 1024]⟩ : Shape).Idx → EReal := fun j => mix (row y (j 0)) (row w) (j 1)
def x2A : (⟨2, ![4096, 1024]⟩ : Shape).Idx → EReal := fun j => res (row x (j 0)) (row md 2) (mix (row y (j 0)) (row w)) (j 1)
def hnA : (⟨2, ![4096, 1024]⟩ : Shape).Idx → EReal := fun j => hn (row (x2A x y w md) (j 0)) (row g 0) (row md 4) (row md 3) (j 1)
def dx2A : (⟨2, ![4096, 1024]⟩ : Shape).Idx → EReal := fun j => back (row dh (j 0)) (row d3 (j 0)) (row x2 (j 0)) (row g 0) (row md 4) (j 1)
def dyA : (⟨2, ![4096, 1024]⟩ : Shape).Idx → EReal := fun j => dy (row md 2) (row (dx2A dh x2 d3 md g) (j 0)) (row w) (j 1)
def gwTerm (k l : Fin 1024) (i : Fin 4096) : EReal := y (ix2 i k) * (md (ix2 2 l) * dx2A dh x2 d3 md g (ix2 i l))
def gwA : (⟨2, ![1024, 1024]⟩ : Shape).Idx → EReal := fun j => ∑ i, gwTerm dh x2 d3 y md g (j 0) (j 1) i
def stTerm (p : ℕ) (l : Fin 1024) (i : Fin 4096) : EReal :=
  part (row dh i) (row x2 i) (row g 0) (row md 4) (row (dx2A dh x2 d3 md g) i) (row mx i) l p
def stA : (⟨2, ![8, 1024]⟩ : Shape).Idx → EReal := fun j => ∑ i, stTerm dh x2 d3 mx md g (j 0).val (j 1) i

theorem mixA_at (i : Fin 4096) (l : Fin 1024) : mixA y w (ix2 i l) = mix (row y i) (row w) l := rfl
theorem x2A_at (i : Fin 4096) (l : Fin 1024) : x2A x y w md (ix2 i l) = res (row x i) (row md 2) (mix (row y i) (row w)) l := rfl
theorem hnA_at (i : Fin 4096) (l : Fin 1024) : hnA x y w md g (ix2 i l) = hn (row (x2A x y w md) i) (row g 0) (row md 4) (row md 3) l := rfl
theorem dx2A_at (i : Fin 4096) (l : Fin 1024) : dx2A dh x2 d3 md g (ix2 i l) = back (row dh i) (row d3 i) (row x2 i) (row g 0) (row md 4) l := rfl
theorem dyA_at (i : Fin 4096) (l : Fin 1024) : dyA dh x2 d3 w md g (ix2 i l) = dy (row md 2) (row (dx2A dh x2 d3 md g) i) (row w) l := rfl
theorem gwA_at (k l : Fin 1024) : gwA dh x2 d3 y md g (ix2 k l) = ∑ i, gwTerm dh x2 d3 y md g k l i := rfl
theorem stA_at (p : Fin 8) (l : Fin 1024) : stA dh x2 d3 mx md g (ix2 p l) = ∑ i, stTerm dh x2 d3 mx md g p.val l i := rfl

end Cert.Proof.MixOut

end
-- ==== Proof.MixOutFwd.lean ====
/- What the output stage's forward kernel leaves in its three result arrays, over the extended reals. -/
module

public import proofs.«01_k».proof.Proof.MixOutArrays

@[expose] public section

noncomputable section

namespace Cert.Proof.MixOut

open Cert.Kernel3Ideal Cert.Kernel3Ideal.Gen Idealize.ShloMosaic Idealize.ShloMosaic.TcCoe Idealize.SL.Sem Tiles

variable (V : (c : Dev nD) → (b : Ref sig .tc) → Buf (Elt Ideal) ((c : Thread nD τ).loc b)) (c : Dev nD)

theorem idx0 : ∀ t : Fin cfg0.N, (win0_0.index t (0 : Fin 2) = t.val ∧ win0_0.index t (1 : Fin 2) = 0)
    ∧ (win0_1.index t (0 : Fin 2) = t.val ∧ win0_1.index t (1 : Fin 2) = 0) ∧ (win0_2.index t (0 : Fin 2) = 0 ∧ win0_2.index t (1 : Fin 2) = 0)
    ∧ (win0_3.index t (0 : Fin 2) = 0 ∧ win0_3.index t (1 : Fin 2) = 0) ∧ (win0_4.index t (0 : Fin 2) = 0 ∧ win0_4.index t (1 : Fin 2) = 0)
    ∧ (win0_5.index t (0 : Fin 2) = t.val ∧ win0_5.index t (1 : Fin 2) = 0) ∧ (win0_6.index t (0 : Fin 2) = t.val ∧ win0_6.index t (1 : Fin 2) = 0)
    ∧ (win0_7.index t (0 : Fin 2) = t.val ∧ win0_7.index t (1 : Fin 2) = 0) := (by decide +kernel : ∀ t : Fin grid0.N, _)

theorem in0 (t : Fin cfg0.N) : t.val * 1024 + 1024 ≤ 4096 := by
  have := lt_of_lt_of_eq t.isLt (show cfg0.N = 4 from N_0)
  omega

theorem fwd_y (t : Fin cfg0.N) (r k : Fin 1024) : iblk0 V c 0 t (ix2 r k) = V c main_arg0 (ix2 (rowOf 1024 t.val r) k) :=
  congrArg (V c main_arg0) (rows_eq (B := 1024) (b := 1024) r k _ (in0 t) (idx0 t).1 rfl rfl)
theorem fwd_x (t : Fin cfg0.N) (r k : Fin 1024) : iblk0 V c 1 t (ix2 r k) = V c main_v6 (ix2 (rowOf 1024 t.val r) k) :=
  congrArg (V c main_v6) (rows_eq (B := 1024) (b := 1024) r k _ (in0 t) (idx0 t).2.1 rfl rfl)
theorem fwd_w (t : Fin cfg0.N) : (iblk0 V c 2 t : Vec Ideal S1024x1024 .bf16) = V c main_v5 :=
  funext fun j => congrArg (V c main_v5) (whole_eq (a := 1024) (b := 1024) j _ (idx0 t).2.2.1 rfl rfl)
theorem fwd_md (t : Fin cfg0.N) : (iblk0 V c 3 t : Vec Ideal S8x1024 .f32) = V c main_v3 :=
  funext fun j => congrArg (V c main_v3) (whole_eq (a := 8) (b := 1024) j _ (idx0 t).2.2.2.1 rfl rfl)
theorem fwd_g (t : Fin cfg0.N) : (iblk0 V c 4 t : Vec Ideal S1x1024 .f32) = V c main_arg4 :=
  funext fun j => congrArg (V c main_arg4) (whole_eq (a := 1) (b := 1024) j _ (idx0 t).2.2.2.2.1 rfl rfl)

theorem emb0_5 (t : Fin cfg0.N) (j : S1024x1024.Idx) : ((cfg0.win 5).blk t).view.emb j = ix2 (rowOf 1024 t.val (j 0)) (j 1) :=
  rows_eq (B := 1024) (b := 1024) (j 0) (j 1) _ (in0 t) (idx0 t).2.2.2.2.2.1 rfl rfl
theorem emb0_6 (t : Fin cfg0.N) (j : S1024x1024.Idx) : ((cfg0.win 6).blk t).view.emb j = ix2 (rowOf 1024 t.val (j 0)) (j 1) :=
  rows_eq (B := 1024) (b := 1024) (j 0) (j 1) _ (in0 t) (idx0 t).2.2.2.2.2.2.1 rfl rfl
theorem emb0_7 (t : Fin cfg0.N) (j : S1024x1024.Idx) : ((cfg0.win 7).blk t).view.emb j = ix2 (rowOf 1024 t.val (j 0)) (j 1) :=
  rows_eq (B := 1024) (b := 1024) (j 0) (j 1) _ (in0 t) (idx0 t).2.2.2.2.2.2.2 rfl rfl

/-- The forward results as functions of the arrays the grid finds. -/
abbrev mixV : Vec Ideal S4096x1024 .bf16 := mixA (V c main_arg0) (V c main_v5)
abbrev x2V : Vec Ideal S4096x1024 .f32 := x2A (V c main_v6) (V c main_arg0) (V c main_v5) (V c main_v3)
abbrev hnV : Vec Ideal S4096x1024 .bf16 := hnA (V c main_v6) (V c main_arg0) (V c main_v5) (V c main_v3) (V c main_arg4)

theorem mix_blk (t : Fin cfg0.N) (r l : Fin 1024) : k0_pay3 (F := Ideal) (iblk0 V c 0 t) (iblk0 V c 2 t) (ix2 r l) = mixV V c (ix2 (rowOf 1024 t.val r) l) := by
  rw [fwd3_apply, fwd_w]
  exact congrArg (fun y => mix y _ l) (funext fun k => fwd_y V c t r k)

theorem x2_blk (t : Fin cfg0.N) (r l : Fin 1024) : k0_pay4 (F := Ideal) (iblk0 V c 0 t) (iblk0 V c 2 t) (iblk0 V c 1 t) (row2 (iblk0 V c 3 t)) (ix2 r l)
    = x2V V c (ix2 (rowOf 1024 t.val r) l) := by
  rw [fwd4_apply, fwd_w, fwd_md]
  have e0 : row (iblk0 V c 0 t) r = row (V c main_arg0) (rowOf 1024 t.val r) := funext fun k => fwd_y V c t r k
  have e1 : row (iblk0 V c 1 t) r = row (V c main_v6) (rowOf 1024 t.val r) := funext fun k => fwd_x V c t r k
  have e2 : row (row2 (V c main_v3 : Vec Ideal S8x1024 .f32)) 0 = row (V c main_v3 : Vec Ideal S8x1024 .f32) 2 := funext fun k => row2_apply _ k
  show res (row (iblk0 V c 1 t) r) (row (row2 (V c main_v3 : Vec Ideal S8x1024 .f32)) 0) (mix (row (iblk0 V c 0 t) r) (row (V c main_v5))) l = _
  rw [e0, e1, e2]
  rfl

theorem hn_blk (t : Fin cfg0.N) (r l : Fin 1024) : k0_pay1 (k0_pay5 (F := Ideal) (iblk0 V c 0 t) (iblk0 V c 2 t) (iblk0 V c 1 t) (row2 (iblk0 V c 3 t)) (iblk0 V c 4 t)
    (row4 (iblk0 V c 3 t))) (row3 (iblk0 V c 3 t)) (ix2 r l) = hnV V c (ix2 (rowOf 1024 t.val r) l) := by
  rw [fwd1_apply]
  have e0 : (fun k => k0_pay4 (F := Ideal) (iblk0 V c 0 t) (iblk0 V c 2 t) (iblk0 V c 1 t) (row2 (iblk0 V c 3 t)) (ix2 r k)) = row (x2V V c) (rowOf 1024 t.val r) :=
    funext fun k => x2_blk V c t r k
  rw [e0, fwd_md, fwd_g]
  have e3 : row (row3 (V c main_v3 : Vec Ideal S8x1024 .f32)) 0 = row (V c main_v3 : Vec Ideal S8x1024 .f32) 3 := funext fun k => row3_apply _ k
  have e4 : row (row4 (V c main_v3 : Vec Ideal S8x1024 .f32)) 0 = row (V c main_v3 : Vec Ideal S8x1024 .f32) 4 := funext fun k => row4_apply _ k
  show hn _ _ (row (row4 (V c main_v3 : Vec Ideal S8x1024 .f32)) 0) (row (row3 (V c main_v3 : Vec Ideal S8x1024 .f32)) 0) l = _
  rw [e3, e4]
  rfl

theorem flushed0_5 (t : Fin cfg0.N) : (dat0 V c).flushed 5 t = ((cfg0.win 5).blk t).view.read (Elt Ideal) (mixV V c) := by
  show (cfg0.win 5).cut (grid0.coords t) ((dat0 V c).after 5 t) = _
  rw [after0_5, out_mix]
  funext j
  show k0_pay3 (F := Ideal) _ _ j = mixV V c (((cfg0.win 5).blk t).view.emb j)
  rw [emb0_5]
  exact (congrArg _ (eta (a := 1024) (b := 1024) j)).trans (mix_blk V c t _ _)

theorem flushed0_6 (t : Fin cfg0.N) : (dat0 V c).flushed 6 t = ((cfg0.win 6).blk t).view.read (Elt Ideal) (x2V V c) := by
  show (cfg0.win 6).cut (grid0.coords t) ((dat0 V c).after 6 t) = _
  rw [after0_6, out_x2]
  funext j
  show k0_pay4 (F := Ideal) _ _ _ _ j = x2V V c (((cfg0.win 6).blk t).view.emb j)
  rw [emb0_6]
  exact (congrArg _ (eta (a := 1024) (b := 1024) j)).trans (x2_blk V c t _ _)

theorem flushed0_7 (t : Fin cfg0.N) : (dat0 V c).flushed 7 t = ((cfg0.win 7).blk t).view.read (Elt Ideal) (hnV V c) := by
  show (cfg0.win 7).cut (grid0.coords t) ((dat0 V c).after 7 t) = _
  rw [after0_7, out_hn]
  funext j
  show k0_pay1 (F := Ideal) _ _ j = hnV V c (((cfg0.win 7).blk t).view.emb j)
  rw [emb0_7]
  exact (congrArg _ (eta (a := 1024) (b := 1024) j)).trans (hn_blk V c t _ _)

/-- The grid point whose block holds a row, and the place there. -/
def at0 (i : S4096x1024.Idx) : Fin cfg0.N := ⟨(i 0).val / 1024, by have : (i 0).val < 4096 := (i 0).isLt; rw [show cfg0.N = 4 from N_0]; omega⟩
abbrev in0At (i : S4096x1024.Idx) : S1024x1024.Idx := ix2 ⟨(i 0).val % 1024, Nat.mod_lt _ (by decide)⟩ (i 1)
theorem split0 (i : S4096x1024.Idx) : ix2 (rowOf 1024 (at0 i).val (in0At i 0)) (in0At i 1) = i := rows_split (by decide) i (in0 (at0 i))

theorem arr_mix : (dat0 V c).arrAt 5 cfg0.N = mixV V c :=
  (dat0 V c).arrAt_eq_of_cover 5 (mixV V c) (fun t _ => flushed0_5 V c t)
    fun i => ⟨at0 i, flush0_5 _, by
      have h := ((cfg0.win 5).blk (at0 i)).view.emb_mem_set (in0At i)
      rw [emb0_5] at h
      exact Eq.mp (congrArg (· ∈ _) (split0 i)) h⟩

theorem arr_x2 : (dat0 V c).arrAt 6 cfg0.N = x2V V c :=
  (dat0 V c).arrAt_eq_of_cover 6 (x2V V c) (fun t _ => flushed0_6 V c t)
    fun i => ⟨at0 i, flush0_6 _, by
      have h := ((cfg0.win 6).blk (at0 i)).view.emb_mem_set (in0At i)
      rw [emb0_6] at h
      exact Eq.mp (congrArg (· ∈ _) (split0 i)) h⟩

theorem arr_hn : (dat0 V c).arrAt 7 cfg0.N = hnV V c :=
  (dat0 V c).arrAt_eq_of_cover 7 (hnV V c) (fun t _ => flushed0_7 V c t)
    fun i => ⟨at0 i, flush0_7 _, by
      have h := ((cfg0.win 7).blk (at0 i)).view.emb_mem_set (in0At i)
      rw [emb0_7] at h
      exact Eq.mp (congrArg (· ∈ _) (split0 i)) h⟩

end Cert.Proof.MixOut

end
-- ==== Proof.MixOutBwd.lean ====
/- What the output stage's backward kernel leaves in its four result arrays, over the extended reals. -/
module

public import proofs.«01_k».proof.Proof.MixOutArrays

@[expose] public section

noncomputable section

namespace Cert.Proof.MixOut

open Cert.Kernel3Ideal Cert.Kernel3Ideal.Gen Idealize.ShloMosaic Idealize.ShloMosaic.TcCoe Idealize.SL.Sem Tiles

variable (V : (c : Dev nD) → (b : Ref sig .tc) → Buf (Elt Ideal) ((c : Thread nD τ).loc b)) (c : Dev nD)

theorem idx1 : ∀ t : Fin cfg1.N, (win1_0.index t (0 : Fin 2) = t.val ∧ win1_0.index t (1 : Fin 2) = 0)
    ∧ (win1_1.index t (0 : Fin 2) = t.val ∧ win1_1.index t (1 : Fin 2) = 0) ∧ (win1_2.index t (0 : Fin 2) = t.val ∧ win1_2.index t (1 : Fin 2) = 0)
    ∧ (win1_3.index t (0 : Fin 2) = t.val ∧ win1_3.index t (1 : Fin 2) = 0) ∧ (win1_4.index t (0 : Fin 2) = t.val ∧ win1_4.index t (1 : Fin 2) = 0)
    ∧ (win1_5.index t (0 : Fin 2) = 0 ∧ win1_5.index t (1 : Fin 2) = 0) ∧ (win1_6.index t (0 : Fin 2) = 0 ∧ win1_6.index t (1 : Fin 2) = 0)
    ∧ (win1_7.index t (0 : Fin 2) = 0 ∧ win1_7.index t (1 : Fin 2) = 0) := (by decide +kernel : ∀ t : Fin grid1.N, _)

theorem idx1_out : ∀ t : Fin cfg1.N, (win1_8.index t (0 : Fin 2) = t.val ∧ win1_8.index t (1 : Fin 2) = 0)
    ∧ (win1_9.index t (0 : Fin 2) = t.val ∧ win1_9.index t (1 : Fin 2) = 0) ∧ (win1_10.index t (0 : Fin 2) = 0 ∧ win1_10.index t (1 : Fin 2) = 0)
    ∧ (win1_11.index t (0 : Fin 2) = 0 ∧ win1_11.index t (1 : Fin 2) = 0) := (by decide +kernel : ∀ t : Fin grid1.N, _)

theorem lt8 (t : Fin cfg1.N) : t.val < 8 := lt_of_lt_of_eq t.isLt (show cfg1.N = 8 from N_1)
theorem in1 (t : Fin cfg1.N) : t.val * 512 + 512 ≤ 4096 := by have := lt8 t; omega

theorem bwd_dh (t : Fin cfg1.N) (r : Fin 512) : row (iblk1 V c 0 t) r = row (V c main_arg5) (rowOf 512 t.val r) :=
  funext fun k => congrArg (V c main_arg5) (rows_eq (B := 512) (b := 1024) r k _ (in1 t) (idx1 t).1 rfl rfl)
theorem bwd_x2 (t : Fin cfg1.N) (r : Fin 512) : row (iblk1 V c 1 t) r = row (V c main_v7_1) (rowOf 512 t.val r) :=
  funext fun k => congrArg (V c main_v7_1) (rows_eq (B := 512) (b := 1024) r k _ (in1 t) (idx1 t).2.1 rfl rfl)
theorem bwd_d3 (t : Fin cfg1.N) (r : Fin 512) : row (iblk1 V c 2 t) r = row (V c main_arg6) (rowOf 512 t.val r) :=
  funext fun k => congrArg (V c main_arg6) (rows_eq (B := 512) (b := 1024) r k _ (in1 t) (idx1 t).2.2.1 rfl rfl)
theorem bwd_mx (t : Fin cfg1.N) (r : Fin 512) : row (iblk1 V c 3 t) r = row (V c main_v7_0) (rowOf 512 t.val r) :=
  funext fun k => congrArg (V c main_v7_0) (rows_eq (B := 512) (b := 1024) r k _ (in1 t) (idx1 t).2.2.2.1 rfl rfl)
theorem bwd_y (t : Fin cfg1.N) (r : Fin 512) : row (iblk1 V c 4 t) r = row (V c main_arg0) (rowOf 512 t.val r) :=
  funext fun k => congrArg (V c main_arg0) (rows_eq (B := 512) (b := 1024) r k _ (in1 t) (idx1 t).2.2.2.2.1 rfl rfl)
theorem bwd_w (t : Fin cfg1.N) : (iblk1 V c 5 t : Vec Ideal S1024x1024 .bf16) = V c main_v5 :=
  funext fun j => congrArg (V c main_v5) (whole_eq (a := 1024) (b := 1024) j _ (idx1 t).2.2.2.2.2.1 rfl rfl)
theorem bwd_md (t : Fin cfg1.N) : (iblk1 V c 6 t : Vec Ideal S8x1024 .f32) = V c main_v3 :=
  funext fun j => congrArg (V c main_v3) (whole_eq (a := 8) (b := 1024) j _ (idx1 t).2.2.2.2.2.2.1 rfl rfl)
theorem bwd_g (t : Fin cfg1.N) : (iblk1 V c 7 t : Vec Ideal S1x1024 .f32) = V c main_arg4 :=
  funext fun j => congrArg (V c main_arg4) (whole_eq (a := 1) (b := 1024) j _ (idx1 t).2.2.2.2.2.2.2 rfl rfl)

theorem emb1_8 (t : Fin cfg1.N) (j : S512x1024.Idx) : ((cfg1.win 8).blk t).view.emb j = ix2 (rowOf 512 t.val (j 0)) (j 1) :=
  rows_eq (B := 512) (b := 1024) (j 0) (j 1) _ (in1 t) (idx1_out t).1 rfl rfl
theorem emb1_9 (t : Fin cfg1.N) (j : S512x1024.Idx) : ((cfg1.win 9).blk t).view.emb j = ix2 (rowOf 512 t.val (j 0)) (j 1) :=
  rows_eq (B := 512) (b := 1024) (j 0) (j 1) _ (in1 t) (idx1_out t).2.1 rfl rfl
theorem emb1_10 (t : Fin cfg1.N) (j : S1024x1024.Idx) : ((cfg1.win 10).blk t).view.emb j = j :=
  whole_eq (a := 1024) (b := 1024) j _ (idx1_out t).2.2.1 rfl rfl
theorem emb1_11 (t : Fin cfg1.N) (j : S8x1024.Idx) : ((cfg1.win 11).blk t).view.emb j = j :=
  whole_eq (a := 8) (b := 1024) j _ (idx1_out t).2.2.2 rfl rfl

/-- The backward results as functions of the arrays the grid finds. -/
abbrev dx2V : Vec Ideal S4096x1024 .bf16 := dx2A (V c main_arg5) (V c main_v7_1) (V c main_arg6) (V c main_v3) (V c main_arg4)
abbrev dyV : Vec Ideal S4096x1024 .bf16 := dyA (V c main_arg5) (V c main_v7_1) (V c main_arg6) (V c main_v5) (V c main_v3) (V c main_arg4)
abbrev gwTermV := gwTerm (V c main_arg5) (V c main_v7_1) (V c main_arg6) (V c main_arg0) (V c main_v3) (V c main_arg4)
abbrev gwV : Vec Ideal S1024x1024 .f32 := gwA (V c main_arg5) (V c main_v7_1) (V c main_arg6) (V c main_arg0) (V c main_v3) (V c main_arg4)
abbrev stTermV := stTerm (V c main_arg5) (V c main_v7_1) (V c main_arg6) (V c main_v7_0) (V c main_v3) (V c main_arg4)
abbrev stV : Vec Ideal S8x1024 .f32 := stA (V c main_arg5) (V c main_v7_1) (V c main_arg6) (V c main_v7_0) (V c main_v3) (V c main_arg4)

/-- The step's block of the residual's gradient. -/
abbrev dB (t : Fin cfg1.N) : Vec Ideal S512x1024 .f32 := dx2Blk (F := Ideal) (iblk1 V c 0 t) (iblk1 V c 1 t) (iblk1 V c 2 t) (iblk1 V c 6 t) (iblk1 V c 7 t)

theorem dx2_blk (t : Fin cfg1.N) (r : Fin 512) : row (dB V c t) r = row (dx2V V c) (rowOf 512 t.val r) := by
  funext l
  refine (dx2Blk_apply _ _ _ _ _ r l).trans ?_
  rw [bwd_md, bwd_g]
  show back (row (iblk1 V c 0 t) r) (row (iblk1 V c 2 t) r) (row (iblk1 V c 1 t) r) _ _ l = _
  rw [bwd_dh, bwd_x2, bwd_d3]
  rfl

theorem dy_blk (t : Fin cfg1.N) (r : Fin 512) (l : Fin 1024) :
    dyOut (F := Ideal) (iblk1 V c 0 t) (iblk1 V c 1 t) (iblk1 V c 2 t) (iblk1 V c 5 t) (iblk1 V c 6 t) (iblk1 V c 7 t) (ix2 r l) = dyV V c (ix2 (rowOf 512 t.val r) l) := by
  refine (bwd3_apply _ _ _ r l).trans ?_
  show dy (row (row2 (iblk1 V c 6 t : Vec Ideal S8x1024 .f32)) 0) (row (dB V c t) r) (row (iblk1 V c 5 t : Vec Ideal S1024x1024 .bf16)) l = _
  rw [dx2_blk, bwd_w, bwd_md]
  exact congrArg (fun s => dy s _ _ l) (funext fun k => row2_apply (V c main_v3) k)

theorem gw_blk (t : Fin cfg1.N) (s : Vec Ideal S1024x1024 .f32) (k l : Fin 1024) :
    gwNext (F := Ideal) (iblk1 V c 0 t) (iblk1 V c 1 t) (iblk1 V c 2 t) (iblk1 V c 4 t) (iblk1 V c 6 t) (iblk1 V c 7 t) s (ix2 k l)
      = s (ix2 k l) + ∑ r : Fin 512, gwTermV V c k l (rowOf 512 t.val r) := by
  refine (bwd4_apply _ _ _ s k l).trans (congrArg (_ + ·) (Finset.sum_congr rfl fun r _ => ?_))
  refine congrArg₂ (· * ·) (congrFun (bwd_y V c t r) k) (congrArg₂ (· * ·) ?_ (congrFun (dx2_blk V c t r) l))
  rw [bwd_md]
  exact row2_apply _ l

theorem st_blk (t : Fin cfg1.N) (s : Vec Ideal S8x1024 .f32) (p : Fin 8) (l : Fin 1024) :
    stNext (F := Ideal) (iblk1 V c 0 t) (iblk1 V c 1 t) (iblk1 V c 2 t) (iblk1 V c 3 t) (iblk1 V c 6 t) (iblk1 V c 7 t) s (ix2 p l)
      = s (ix2 p l) + ∑ r : Fin 512, stTermV V c p.val l (rowOf 512 t.val r) := by
  refine (stNext_apply _ _ _ _ _ _ s p l).trans (congrArg (_ + ·) (Finset.sum_congr rfl fun r _ => ?_))
  show part (row (iblk1 V c 0 t) r) (row (iblk1 V c 1 t) r) (row (iblk1 V c 7 t : Vec Ideal S1x1024 .f32) 0) (row (iblk1 V c 6 t : Vec Ideal S8x1024 .f32) 4)
    (row (dB V c t) r) (row (iblk1 V c 3 t) r) l p.val = _
  rw [dx2_blk, bwd_md, bwd_g, bwd_dh, bwd_x2, bwd_mx]
  rfl

theorem out8 (t : Fin cfg1.N) : (outsAt1 V c t.val t.isLt).1
    = dx2Out (F := Ideal) (iblk1 V c 0 t) (iblk1 V c 1 t) (iblk1 V c 2 t) (iblk1 V c 6 t) (iblk1 V c 7 t) := by
  by_cases h : t.val % 8 = 0
  · rw [outsAt1_A V c t h]; dsimp only; rw [out_A8]
  · rw [outsAt1_B V c t h]; dsimp only; rw [out_B8]

theorem out9 (t : Fin cfg1.N) : (outsAt1 V c t.val t.isLt).2.1
    = dyOut (F := Ideal) (iblk1 V c 0 t) (iblk1 V c 1 t) (iblk1 V c 2 t) (iblk1 V c 5 t) (iblk1 V c 6 t) (iblk1 V c 7 t) := by
  by_cases h : t.val % 8 = 0
  · rw [outsAt1_A V c t h]; dsimp only; rw [out_A9]
  · rw [outsAt1_B V c t h]; dsimp only; rw [out_B9]

/-- After grid step `n` the third and fourth output blocks hold their sums over the rows up to there. -/
theorem out10 : ∀ (n : ℕ) (h : n < cfg1.N) (k l : Fin 1024), (outsAt1 V c n h).2.2.1 (ix2 k l)
    = ∑ s ∈ Finset.range (n + 1), ∑ r : Fin 512, gwTermV V c k l (rowOf 512 s r)
  | 0, h, k, l => by
    rw [outsAt1_A V c ⟨0, h⟩ rfl]
    dsimp only
    rw [out_A10, gw_blk, bwd6_apply, zero_add, Finset.sum_range_one]
  | n + 1, h, k, l => by
    have hB : ¬(⟨n + 1, h⟩ : Fin cfg1.N).val % 8 = 0 := by have := lt8 ⟨n + 1, h⟩; dsimp only at this ⊢; omega
    rw [outsAt1_B V c ⟨n + 1, h⟩ hB]
    dsimp only
    rw [out_B10, gw_blk, Finset.sum_range_succ _ (n + 1)]
    exact congrArg (· + _) (out10 n (Nat.lt_of_succ_lt h) k l)

theorem out11 : ∀ (n : ℕ) (h : n < cfg1.N) (p : Fin 8) (l : Fin 1024), (outsAt1 V c n h).2.2.2 (ix2 p l)
    = ∑ s ∈ Finset.range (n + 1), ∑ r : Fin 512, stTermV V c p.val l (rowOf 512 s r)
  | 0, h, p, l => by
    rw [outsAt1_A V c ⟨0, h⟩ rfl]
    dsimp only
    rw [out_A11, st_blk, bwd5_apply, zero_add, Finset.sum_range_one]
  | n + 1, h, p, l => by
    have hB : ¬(⟨n + 1, h⟩ : Fin cfg1.N).val % 8 = 0 := by have := lt8 ⟨n + 1, h⟩; dsimp only at this ⊢; omega
    rw [outsAt1_B V c ⟨n + 1, h⟩ hB]
    dsimp only
    rw [out_B11, st_blk, Finset.sum_range_succ _ (n + 1)]
    exact congrArg (· + _) (out11 n (Nat.lt_of_succ_lt h) p l)

theorem flushed1_8 (t : Fin cfg1.N) : (dat1 V c).flushed 8 t = ((cfg1.win 8).blk t).view.read (Elt Ideal) (dx2V V c) := by
  show (cfg1.win 8).cut (grid1.coords t) ((dat1 V c).after 8 t) = _
  rw [after1_8, out8]
  funext j
  show dx2Out (F := Ideal) _ _ _ _ _ j = dx2V V c (((cfg1.win 8).blk t).view.emb j)
  rw [emb1_8]
  exact (congrArg _ (eta (a := 512) (b := 1024) j)).trans ((dx2Out_apply _ _ _ _ _ (j 0) (j 1)).trans (congrFun (dx2_blk V c t (j 0)) (j 1)))

theorem flushed1_9 (t : Fin cfg1.N) : (dat1 V c).flushed 9 t = ((cfg1.win 9).blk t).view.read (Elt Ideal) (dyV V c) := by
  show (cfg1.win 9).cut (grid1.coords t) ((dat1 V c).after 9 t) = _
  rw [after1_9, out9]
  funext j
  show dyOut (F := Ideal) _ _ _ _ _ _ j = dyV V c (((cfg1.win 9).blk t).view.emb j)
  rw [emb1_9]
  exact (congrArg _ (eta (a := 512) (b := 1024) j)).trans (dy_blk V c t (j 0) (j 1))

theorem h7 : 7 < cfg1.N := by rw [show cfg1.N = 8 from N_1]; decide

theorem last1 {t : Fin cfg1.N} (h : t.val % 8 = 7) : t = ⟨7, h7⟩ := Fin.ext (by have := lt8 t; show t.val = 7; omega)

theorem flushed1_10 (t : Fin cfg1.N) (hf : (cfg1.win 10).flush t = true) :
    (dat1 V c).flushed 10 t = ((cfg1.win 10).blk t).view.read (Elt Ideal) (gwV V c) := by
  obtain rfl := last1 ((flush1_10 t).mp hf)
  show (cfg1.win 10).cut (grid1.coords _) ((dat1 V c).after 10 _) = _
  rw [after1_10]
  funext j
  show (outsAt1 V c 7 h7).2.2.1 j = gwV V c (((cfg1.win 10).blk ⟨7, h7⟩).view.emb j)
  rw [emb1_10]
  refine (congrArg _ (eta (a := 1024) (b := 1024) j)).trans ((out10 V c 7 h7 _ _).trans ?_)
  exact sum_rows 8 (by decide) _

theorem flushed1_11 (t : Fin cfg1.N) (hf : (cfg1.win 11).flush t = true) :
    (dat1 V c).flushed 11 t = ((cfg1.win 11).blk t).view.read (Elt Ideal) (stV V c) := by
  obtain rfl := last1 ((flush1_11 t).mp hf)
  show (cfg1.win 11).cut (grid1.coords _) ((dat1 V c).after 11 _) = _
  rw [after1_11]
  funext j
  show (outsAt1 V c 7 h7).2.2.2 j = stV V c (((cfg1.win 11).blk ⟨7, h7⟩).view.emb j)
  rw [emb1_11]
  refine (congrArg _ (eta (a := 8) (b := 1024) j)).trans ((out11 V c 7 h7 _ _).trans ?_)
  exact sum_rows 8 (by decide) _

/-- The grid point whose block holds a row, and the place there. -/
def at1 (i : S4096x1024.Idx) : Fin cfg1.N := ⟨(i 0).val / 512, by have : (i 0).val < 4096 := (i 0).isLt; rw [show cfg1.N = 8 from N_1]; omega⟩
abbrev in1At (i : S4096x1024.Idx) : S512x1024.Idx := ix2 ⟨(i 0).val % 512, Nat.mod_lt _ (by decide)⟩ (i 1)
theorem split1 (i : S4096x1024.Idx) : ix2 (rowOf 512 (at1 i).val (in1At i 0)) (in1At i 1) = i := rows_split (by decide) i (in1 (at1 i))

theorem arr_dx2 : (dat1 V c).arrAt 8 cfg1.N = dx2V V c :=
  (dat1 V c).arrAt_eq_of_cover 8 (dx2V V c) (fun t _ => flushed1_8 V c t)
    fun i => ⟨at1 i, flush1_8 _, by
      have h := ((cfg1.win 8).blk (at1 i)).view.emb_mem_set (in1At i)
      rw [emb1_8] at h
      exact Eq.mp (congrArg (· ∈ _) (split1 i)) h⟩

theorem arr_dy : (dat1 V c).arrAt 9 cfg1.N = dyV V c :=
  (dat1 V c).arrAt_eq_of_cover 9 (dyV V c) (fun t _ => flushed1_9 V c t)
    fun i => ⟨at1 i, flush1_9 _, by
      have h := ((cfg1.win 9).blk (at1 i)).view.emb_mem_set (in1At i)
      rw [emb1_9] at h
      exact Eq.mp (congrArg (· ∈ _) (split1 i)) h⟩

theorem arr_gw : (dat1 V c).arrAt 10 cfg1.N = gwV V c :=
  (dat1 V c).arrAt_eq_of_cover 10 (gwV V c) (flushed1_10 V c)
    fun i => ⟨⟨7, h7⟩, (flush1_10 _).mpr rfl, (emb1_10 ⟨7, h7⟩ i) ▸ ((cfg1.win 10).blk ⟨7, h7⟩).view.emb_mem_set i⟩

theorem arr_st : (dat1 V c).arrAt 11 cfg1.N = stV V c :=
  (dat1 V c).arrAt_eq_of_cover 11 (stV V c) (flushed1_11 V c)
    fun i => ⟨⟨7, h7⟩, (flush1_11 _).mpr rfl, (emb1_11 ⟨7, h7⟩ i) ▸ ((cfg1.win 11).blk ⟨7, h7⟩).view.emb_mem_set i⟩

end Cert.Proof.MixOut

end
-- ==== Proof.MixOutRun.lean ====
/- What a run of the output stage's program leaves: the results of its two kernels, in the arguments' entries. -/
module

public import proofs.«01_k».proof.Proof.MixOutFwd
public import proofs.«01_k».proof.Proof.MixOutBwd
public import proofs.«01_k».proof.Proof.FirstRows
public import Idealize.ShloMosaic.Lib.StableHlo.ReadAt

@[expose] public section

noncomputable section

namespace Cert.Proof.MixOut

open Cert.Kernel3Ideal Cert.Kernel3Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

section Ends

variable {F : FTy → Type} [FloatOps F] (m : (ℓ : Loc nD τ sig) → Buf (Elt F) ℓ) (ρ : Dev nD → PrngReg)

set_option backward.isDefEq.respectTransparency.types false in
/-- Every buffer of the program ends as the second kernel leaves it. -/
theorem ends : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h _ => h)

end Ends

variable (m : (ℓ : Loc nD τ sig) → Buf (Elt Ideal) ℓ) (ρ : Dev nD → PrngReg) (c : Dev nD)

/-! ## The arguments, and the arrays the host lines make of them -/

abbrev a0 : Vec Ideal S4096x1024 .bf16 := m ((c.tc : Thread nD τ).loc main_arg0)
abbrev a1 : Vec Ideal S1x4096x1024 .f32 := m ((c.tc : Thread nD τ).loc main_arg1)
abbrev a2 : Vec Ideal S1x1024x1024 .f32 := m ((c.tc : Thread nD τ).loc main_arg2)
abbrev a3 : Vec Ideal S1x6144 .f32 := m ((c.tc : Thread nD τ).loc main_arg3)
abbrev a4 : Vec Ideal S1x1024 .f32 := m ((c.tc : Thread nD τ).loc main_arg4)
abbrev a5 : Vec Ideal S4096x1024 .bf16 := m ((c.tc : Thread nD τ).loc main_arg5)
abbrev a6 : Vec Ideal S4096x1024 .bf16 := m ((c.tc : Thread nD τ).loc main_arg6)

def hx : Vec Ideal S4096x1024 .f32 := V1 m ρ c main_v6
def hw : Vec Ideal S1024x1024 .bf16 := V1 m ρ c main_v5
def hmd : Vec Ideal S8x1024 .f32 := V1 m ρ c main_v3

theorem hx_at (i : Fin 4096) (l : Fin 1024) : hx m ρ c (ix2 i l) = a1 m c (ix3 0 i l) := by
  unfold hx
  after_reads_at

theorem hw_at (k l : Fin 1024) : hw m ρ c (ix2 k l) = a2 m c (ix3 0 k l) := by
  unfold hw
  after_reads_at

theorem hmd_at (p : Fin 8) (l : Fin 1024) (l' : Fin 6144) (hp : p.val < 6) (hl : l'.val = p.val * 1024 + l.val) : hmd m ρ c (ix2 p l) = a3 m c (ix2 0 l') := by
  unfold hmd
  after_reads_simp
  refine (FirstRows.scatter_row (R := 8) (C := 1024) (K := 6) _ _ _ ?_ _ p ⟨p.val, hp⟩ rfl l).trans ?_
  · rfl
  · exact shapeCast_apply _ shapeCasts_S1x6144_S6x1024 _ (ix2 0 l') (by
      rewrite [Shape.rowMajor_val_two, Shape.rowMajor_val_two]
      show 0 * 6144 + l'.val = p.val * 1024 + l.val
      omega)

/-! ## The results -/

abbrev mixO : Vec Ideal S4096x1024 .bf16 := mixA (a0 m c) (hw m ρ c)
abbrev x2O : Vec Ideal S4096x1024 .f32 := x2A (hx m ρ c) (a0 m c) (hw m ρ c) (hmd m ρ c)
abbrev hnO : Vec Ideal S4096x1024 .bf16 := hnA (hx m ρ c) (a0 m c) (hw m ρ c) (hmd m ρ c) (a4 m c)
abbrev dx2O : Vec Ideal S4096x1024 .bf16 := dx2A (a5 m c) (x2O m ρ c) (a6 m c) (hmd m ρ c) (a4 m c)
abbrev dyO : Vec Ideal S4096x1024 .bf16 := dyA (a5 m c) (x2O m ρ c) (a6 m c) (hw m ρ c) (hmd m ρ c) (a4 m c)
abbrev gwO : Vec Ideal S1024x1024 .f32 := gwA (a5 m c) (x2O m ρ c) (a6 m c) (a0 m c) (hmd m ρ c) (a4 m c)
abbrev stO : Vec Ideal S8x1024 .f32 := stA (a5 m c) (x2O m ρ c) (a6 m c) (mixO m ρ c) (hmd m ρ c) (a4 m c)

theorem arg1 (a : Ref sig .tc) (h : a ∈ argRefs) : V1 m ρ c a = m ((c : Thread nD τ).loc a) := W1_args m ρ c a h
theorem arg2 (a : Ref sig .tc) (h : a ∈ argRefs) : V2 m ρ c a = m ((c : Thread nD τ).loc a) := W2_args m ρ c a h

theorem mid_mix : V2 m ρ c main_v7_0 = mixO m ρ c := by
  refine (W2_arr m ρ c 5).trans ((arr_mix (V1 m ρ) c).trans ?_)
  show mixA (V1 m ρ c main_arg0) (hw m ρ c) = _
  rw [arg1 m ρ c main_arg0 (by decide)]

theorem mid_x2 : V2 m ρ c main_v7_1 = x2O m ρ c := by
  refine (W2_arr m ρ c 6).trans ((arr_x2 (V1 m ρ) c).trans ?_)
  show x2A (hx m ρ c) (V1 m ρ c main_arg0) (hw m ρ c) (hmd m ρ c) = _
  rw [arg1 m ρ c main_arg0 (by decide)]

theorem mid_hn : V2 m ρ c main_v7_2 = hnO m ρ c := by
  refine (W2_arr m ρ c 7).trans ((arr_hn (V1 m ρ) c).trans ?_)
  show hnA (hx m ρ c) (V1 m ρ c main_arg0) (hw m ρ c) (hmd m ρ c) (V1 m ρ c main_arg4) = _
  rw [arg1 m ρ c main_arg0 (by decide), arg1 m ρ c main_arg4 (by decide)]

theorem mid_w : V2 m ρ c main_v5 = hw m ρ c := W2_of m ρ c main_v5 (by decide)
theorem mid_md : V2 m ρ c main_v3 = hmd m ρ c := W2_of m ρ c main_v3 (by decide)

theorem end_mix : W3 m ρ c (Proc.devRef .tc main_v7_0) = mixO m ρ c := (W3_of m ρ c main_v7_0 (by decide)).trans (mid_mix m ρ c)
theorem end_x2 : W3 m ρ c (Proc.devRef .tc main_v7_1) = x2O m ρ c := (W3_of m ρ c main_v7_1 (by decide)).trans (mid_x2 m ρ c)
theorem end_hn : W3 m ρ c (Proc.devRef .tc main_v7_2) = hnO m ρ c := (W3_of m ρ c main_v7_2 (by decide)).trans (mid_hn m ρ c)

theorem end_dx2 : W3 m ρ c (Proc.devRef .tc main_v8_0) = dx2O m ρ c := by
  refine (W3_arr m ρ c 8).trans ((arr_dx2 (V2 m ρ) c).trans ?_)
  unfold dx2V
  rw [mid_x2, mid_md, arg2 m ρ c main_arg5 (by decide), arg2 m ρ c main_arg6 (by decide), arg2 m ρ c main_arg4 (by decide)]

theorem end_dy : W3 m ρ c (Proc.devRef .tc main_v8_1) = dyO m ρ c := by
  refine (W3_arr m ρ c 9).trans ((arr_dy (V2 m ρ) c).trans ?_)
  unfold dyV
  rw [mid_x2, mid_md, mid_w, arg2 m ρ c main_arg5 (by decide), arg2 m ρ c main_arg6 (by decide), arg2 m ρ c main_arg4 (by decide)]

theorem end_gw : W3 m ρ c (Proc.devRef .tc main_v8_2) = gwO m ρ c := by
  refine (W3_arr m ρ c 10).trans ((arr_gw (V2 m ρ) c).trans ?_)
  unfold gwV
  rw [mid_x2, mid_md, arg2 m ρ c main_arg5 (by decide), arg2 m ρ c main_arg6 (by decide), arg2 m ρ c main_arg0 (by decide), arg2 m ρ c main_arg4 (by decide)]

theorem end_st : W3 m ρ c (Proc.devRef .tc main_v8_3) = stO m ρ c := by
  refine (W3_arr m ρ c 11).trans ((arr_st (V2 m ρ) c).trans ?_)
  unfold stV
  rw [mid_x2, mid_mix, mid_md, arg2 m ρ c main_arg5 (by decide), arg2 m ρ c main_arg6 (by decide), arg2 m ρ c main_arg4 (by decide)]

/-- The results and the arguments after the run. -/
theorem run : θ_run defs (onTc (τ := τ) (main (F := Ideal))) ⟨m, fun _ => 0, ρ⟩ fun r => ∀ c : Dev nD,
      r.2.mem ((c : Thread nD τ).loc main_v7_0) = mixO m ρ c
      ∧ r.2.mem ((c : Thread nD τ).loc main_v7_1) = x2O m ρ c
      ∧ r.2.mem ((c : Thread nD τ).loc main_v7_2) = hnO m ρ c
      ∧ r.2.mem ((c : Thread nD τ).loc main_v8_0) = dx2O m ρ c
      ∧ r.2.mem ((c : Thread nD τ).loc main_v8_1) = dyO m ρ c
      ∧ r.2.mem ((c : Thread nD τ).loc main_v8_2) = gwO m ρ c
      ∧ r.2.mem ((c : Thread nD τ).loc main_v8_3) = stO m ρ c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c _ (mem_uc main_v7_0 (by decide))).trans (end_mix m ρ c),
    (h c _ (mem_uc main_v7_1 (by decide))).trans (end_x2 m ρ c), (h c _ (mem_uc main_v7_2 (by decide))).trans (end_hn m ρ c),
    (h c _ (mem_uc main_v8_0 (by decide))).trans (end_dx2 m ρ c), (h c _ (mem_uc main_v8_1 (by decide))).trans (end_dy m ρ c),
    (h c _ (mem_uc main_v8_2 (by decide))).trans (end_gw m ρ c), (h c _ (mem_uc main_v8_3 (by decide))).trans (end_st m ρ c),
    (h c _ (mem_uc main_arg0 (by decide))).trans (W3_main_arg0 m ρ c), (h c _ (mem_uc main_arg1 (by decide))).trans (W3_main_arg1 m ρ c),
    (h c _ (mem_uc main_arg2 (by decide))).trans (W3_main_arg2 m ρ c), (h c _ (mem_uc main_arg3 (by decide))).trans (W3_main_arg3 m ρ c),
    (h c _ (mem_uc main_arg4 (by decide))).trans (W3_main_arg4 m ρ c), (h c _ (mem_uc main_arg5 (by decide))).trans (W3_main_arg5 m ρ c),
    (h c _ (mem_uc main_arg6 (by decide))).trans (W3_main_arg6 m ρ c)⟩) (ends m ρ)

end Cert.Proof.MixOut

end
-- ==== Proof.MixOutRef.lean ====
/- The mixer's output stage and the chain rule's gradients of it, as the reference computes them, read at an index. -/
module

public import proofs.«01_k».proof.Proof.Gen.Reference3Ideal.Read
public import proofs.«01_k».proof.Proof.MixOutSpec
public import proofs.«01_k».proof.Proof.HostSums

@[expose] public section

noncomputable section

namespace Cert.Proof.MixOutRef

open Cert.Reference3Ideal Cert.Reference3Ideal.Gen Cert.Reference3Ideal.Read Idealize.ShloMosaic Idealize.ShloMosaic.TcCoe Idealize.SL.Sem

variable (x0 : (⟨S4096x1024, .bf16⟩ : BufTy).Contents (Elt Ideal)) (x1 : (⟨S1x4096x1024, .f32⟩ : BufTy).Contents (Elt Ideal))
  (x2 : (⟨S1x1024x1024, .f32⟩ : BufTy).Contents (Elt Ideal)) (x3 : (⟨S1x6144, .f32⟩ : BufTy).Contents (Elt Ideal))
  (x4 : (⟨S1x1024, .f32⟩ : BufTy).Contents (Elt Ideal)) (x5 x6 : (⟨S4096x1024, .bf16⟩ : BufTy).Contents (Elt Ideal))

/-- Part `p` of the modulation vector at column `l`. -/
def md (p : ℕ) (hp : p < 6) (l : Fin 1024) : EReal := x3 (ix2 0 ⟨p * 1024 + l.val, by omega⟩)

abbrev W (k l : Fin 1024) : EReal := x2 (ix3 0 k l)
abbrev G (l : Fin 1024) : EReal := x4 (ix2 0 l)
abbrev mixR (i : Fin 4096) : Fin 1024 → EReal := MixOut.mix (fun k => x0 (ix2 i k)) (W x2)
abbrev resR (i : Fin 4096) : Fin 1024 → EReal := MixOut.res (fun k => x1 (ix3 0 i k)) (md x3 2 (by omega)) (mixR x0 x2 i)
abbrev upR (i : Fin 4096) : Fin 1024 → EReal := MixOut.up (fun k => x5 (ix2 i k)) (G x4) (md x3 4 (by omega))

theorem v6_at (i : Fin 4096) (l : Fin 1024) : val_main_v6 (F := Ideal) x0 x2 (ix3 0 i l) = mixR x0 x2 i l := by
  unfold mixR MixOut.mix
  pointwise [val_main_v6, val_main_v4, val_main_v3, val_main_v5]

theorem v10_at (i : Fin 4096) (l : Fin 1024) : val_main_v10 (F := Ideal) x0 x1 x2 x3 (ix3 0 i l) = resR x0 x1 x2 x3 i l := by
  unfold resR MixOut.res md
  rw [← v6_at]
  pointwise [val_main_v10, val_main_v9, val_main_v8, val_main_v7, val_main_v0]

theorem v18_at (i : Fin 4096) : val_main_v18 (F := Ideal) x0 x1 x2 x3 (ix3 0 i 0) = Rms.ms (resR x0 x1 x2 x3 i) := by
  unfold Rms.ms
  simp only [← v10_at]
  pointwise [val_main_v18, val_main_v17, val_main_v16, val_main_v15, val_main_v14, val_main_v13, val_main_v12, val_main_cst, val_main_cst_0, val_main_cst_1]

theorem v19_at (i : Fin 4096) : val_main_v19 (F := Ideal) x0 x1 x2 x3 (ix3 0 i 0) = Rms.inv (resR x0 x1 x2 x3 i) := by
  unfold Rms.inv
  rw [← v18_at]
  pointwise [val_main_v19]

theorem v30_at (l : Fin 1024) : val_main_v30 (F := Ideal) x3 (ix3 0 0 l) = 1 + md x3 4 (by omega) l := by
  unfold md
  pointwise [val_main_v30, val_main_v29, val_main_v28, val_main_cst_3, val_main_v2]

theorem v24_at (i : Fin 4096) (l : Fin 1024) : val_main_v24 (F := Ideal) x0 x1 x2 x3 (ix3 0 i l) = resR x0 x1 x2 x3 i l * Rms.inv (resR x0 x1 x2 x3 i) := by
  rw [← v10_at, ← v19_at]
  pointwise [val_main_v24, val_main_v23]

theorem v27_at (i : Fin 4096) (l : Fin 1024) : val_main_v27 (F := Ideal) x0 x1 x2 x3 x4 (ix3 0 i l)
    = resR x0 x1 x2 x3 i l * Rms.inv (resR x0 x1 x2 x3 i) * G x4 l := by
  rw [← v24_at]
  pointwise [val_main_v27, val_main_v26, val_main_v25, val_main_v11]

theorem v49_at (i : Fin 4096) (l : Fin 1024) : val_main_v49 (F := Ideal) x3 x5 (ix3 0 i l) = x5 (ix2 i l) * (1 + md x3 4 (by omega) l) := by
  rw [← v30_at]
  pointwise [val_main_v49, val_main_v48, val_main_v40, val_main_v39]

theorem v56_at (i : Fin 4096) (l : Fin 1024) : val_main_v56 (F := Ideal) x3 x4 x5 (ix3 0 i l) = upR x3 x4 x5 i l := by
  unfold upR MixOut.up
  rw [← v49_at]
  pointwise [val_main_v56, val_main_v55, val_main_v25, val_main_v11]

theorem v66_at (i : Fin 4096) : val_main_v66 (F := Ideal) x0 x1 x2 x3 x4 x5 (ix3 0 i 0) = Rms.chain (resR x0 x1 x2 x3 i) (upR x3 x4 x5 i) := by
  unfold Rms.chain
  rw [← v18_at, ← v19_at]
  simp only [← v10_at, ← v56_at]
  pointwise [val_main_v66, val_main_v65, val_main_v64, val_main_v60, val_main_v59, val_main_v58, val_main_v22, val_main_v21, val_main_v20, val_main_cst_2,
    val_main_cst_11, val_main_cst_12]

theorem v67_at (i : Fin 4096) : val_main_v67 (F := Ideal) x0 x1 x2 x3 x4 x5 (ix1 i) = val_main_v66 (F := Ideal) x0 x1 x2 x3 x4 x5 (ix3 0 i 0) := by
  pointwise [val_main_v67, val_main_cst_13]
  rw [HostSums.ends]
  pointwise

/-- The gradient of the residual, in the chain rule's form. -/
theorem v73_at (i : Fin 4096) (l : Fin 1024) : val_main_v73 (F := Ideal) x0 x1 x2 x3 x4 x5 x6 (ix3 0 i l)
    = x6 (ix2 i l) + (upR x3 x4 x5 i l * Rms.inv (resR x0 x1 x2 x3 i)
      + (resR x0 x1 x2 x3 i l * Rms.chain (resR x0 x1 x2 x3 i) (upR x3 x4 x5 i) + Rms.chain (resR x0 x1 x2 x3 i) (upR x3 x4 x5 i) * resR x0 x1 x2 x3 i l)) := by
  rw [← v19_at, ← v66_at, ← v67_at]
  simp only [← v10_at, ← v56_at]
  pointwise [val_main_v73, val_main_v72, val_main_v71, val_main_v70, val_main_v69, val_main_v68, val_main_v63, val_main_v62, val_main_v61, val_main_v38, val_main_v37]
  rw [add_assoc, add_assoc]

theorem v77_at (i : Fin 4096) (l : Fin 1024) : val_main_v77 (F := Ideal) x0 x1 x2 x3 x4 x5 x6 (ix3 0 i l)
    = md x3 2 (by omega) l * val_main_v73 (F := Ideal) x0 x1 x2 x3 x4 x5 x6 (ix3 0 i l) := by
  unfold md
  pointwise [val_main_v77, val_main_v76, val_main_v75, val_main_v7, val_main_v0, val_main_v36, val_main_cst_4]

/-! ## The results -/

theorem v90_at (i : Fin 4096) (l : Fin 1024) : val_main_v90 (F := Ideal) x0 x2 (ix2 i l) = mixR x0 x2 i l := by
  rw [← v6_at]
  pointwise [val_main_v90, val_main_v89]

theorem v91_at (i : Fin 4096) (l : Fin 1024) : val_main_v91 (F := Ideal) x0 x1 x2 x3 (ix2 i l) = resR x0 x1 x2 x3 i l := by
  rw [← v10_at]
  pointwise [val_main_v91]

theorem v93_at (i : Fin 4096) (l : Fin 1024) : val_main_v93 (F := Ideal) x0 x1 x2 x3 x4 (ix2 i l)
    = MixOut.hn (resR x0 x1 x2 x3 i) (G x4) (md x3 4 (by omega)) (md x3 3 (by omega)) l := by
  unfold MixOut.hn
  rw [← v27_at, ← v30_at]
  unfold md
  pointwise [val_main_v93, val_main_v92, val_main_v35, val_main_v34, val_main_v33, val_main_v32, val_main_v31, val_main_v1]

theorem v95_at (i : Fin 4096) (l : Fin 1024) : val_main_v95 (F := Ideal) x0 x1 x2 x3 x4 x5 x6 (ix2 i l) = val_main_v73 (F := Ideal) x0 x1 x2 x3 x4 x5 x6 (ix3 0 i l) := by
  pointwise [val_main_v95, val_main_v94]

theorem v97_at (i : Fin 4096) (l : Fin 1024) : val_main_v97 (F := Ideal) x0 x1 x2 x3 x4 x5 x6 (ix2 i l)
    = MixOut.dy (md x3 2 (by omega)) (fun k => val_main_v73 (F := Ideal) x0 x1 x2 x3 x4 x5 x6 (ix3 0 i k)) (W x2) l := by
  unfold MixOut.dy
  pointwise [val_main_v97, val_main_v96, val_main_v85, val_main_v5]
  exact Finset.sum_congr rfl fun k _ => by rw [v77_at]

theorem v98_at (k l : Fin 1024) : val_main_v98 (F := Ideal) x0 x1 x2 x3 x4 x5 x6 (ix2 k l)
    = ∑ i : Fin 4096, md x3 2 (by omega) l * val_main_v73 (F := Ideal) x0 x1 x2 x3 x4 x5 x6 (ix3 0 i l) * x0 (ix2 i k) := by
  pointwise [val_main_v98, val_main_v86, val_main_v84, val_main_v83, val_main_v4, val_main_v3]
  rw [Fin.sum_univ_one]
  exact Finset.sum_congr rfl fun i _ => by rw [v77_at]

theorem v43_at (l : Fin 1024) : val_main_v43 (F := Ideal) x5 (ix1 l) = ∑ i : Fin 4096, x5 (ix2 i l) := by
  pointwise [val_main_v43, val_main_cst_6]
  rw [HostSums.leading]
  pointwise [val_main_v42, val_main_v41, val_main_cst_5, val_main_v40, val_main_v39]

theorem v50_at (l : Fin 1024) : val_main_v50 (F := Ideal) x0 x1 x2 x3 x4 x5 (ix1 l)
    = ∑ i : Fin 4096, resR x0 x1 x2 x3 i l * Rms.inv (resR x0 x1 x2 x3 i) * G x4 l * x5 (ix2 i l) := by
  simp only [← v27_at]
  pointwise [val_main_v50, val_main_cst_8]
  rw [HostSums.leading]
  pointwise [val_main_v47, val_main_v46, val_main_cst_7, val_main_v45, val_main_v40, val_main_v39]

theorem v57_at (l : Fin 1024) : val_main_v57 (F := Ideal) x0 x1 x2 x3 x5 (ix1 l)
    = ∑ i : Fin 4096, resR x0 x1 x2 x3 i l * Rms.inv (resR x0 x1 x2 x3 i) * (x5 (ix2 i l) * (1 + md x3 4 (by omega) l)) := by
  simp only [← v24_at]
  pointwise [val_main_v57, val_main_cst_10]
  rw [HostSums.leading]
  pointwise [val_main_v54, val_main_v53, val_main_cst_9, val_main_v52]
  exact Finset.sum_congr rfl fun i _ => by rw [v49_at]

theorem v81_at (l : Fin 1024) : val_main_v81 (F := Ideal) x0 x1 x2 x3 x4 x5 x6 (ix1 l)
    = ∑ i : Fin 4096, val_main_v73 (F := Ideal) x0 x1 x2 x3 x4 x5 x6 (ix3 0 i l) * mixR x0 x2 i l := by
  simp only [← v6_at]
  pointwise [val_main_v81, val_main_cst_15]
  rw [HostSums.leading]
  pointwise [val_main_v80, val_main_v79, val_main_cst_14, val_main_v78]

theorem v88_at (p : Fin 8) (l : Fin 1024) : val_main_v88 (F := Ideal) x0 x1 x2 x3 x4 x5 x6 (ix2 p l)
    = if p.val = 0 then val_main_v43 (F := Ideal) x5 (ix1 l) else if p.val = 1 then val_main_v50 (F := Ideal) x0 x1 x2 x3 x4 x5 (ix1 l)
      else if p.val = 2 then val_main_v57 (F := Ideal) x0 x1 x2 x3 x5 (ix1 l) else if p.val = 3 then val_main_v81 (F := Ideal) x0 x1 x2 x3 x4 x5 x6 (ix1 l) else 0 := by
  pointwise [val_main_v88, val_main_v44, val_main_v51, val_main_v74, val_main_v82, val_main_v87, val_main_cst_16]
  generalize val_main_v43 (F := Ideal) x5 (ix1 l) = a
  generalize val_main_v50 (F := Ideal) x0 x1 x2 x3 x4 x5 (ix1 l) = b
  generalize val_main_v57 (F := Ideal) x0 x1 x2 x3 x5 (ix1 l) = d
  generalize val_main_v81 (F := Ideal) x0 x1 x2 x3 x4 x5 x6 (ix1 l) = e
  split_ifs <;> first | omega | rfl

end Cert.Proof.MixOutRef

end
-- ==== Proof.MixOutEq.lean ====
/- The mixer's output stage, forward and backward: kernels and reference compute one function of finite arguments. -/
module

public import proofs.«01_k».proof.Defs
public import proofs.«01_k».proof.Proof.Finite
public import proofs.«01_k».proof.Proof.MixOutRun
public import proofs.«01_k».proof.Proof.MixOutRef
public import proofs.«01_k».proof.Proof.Gen.Pre_finite3
public import proofs.«01_k».proof.Proof.Gen.Kernel3
public import proofs.«01_k».proof.Proof.Gen.Kernel3Ideal.Frame
public import proofs.«01_k».proof.Proof.Gen.Reference3Ideal.Run
public import Idealize.ShloMosaic.Lib.Quiescent

@[expose] public section

noncomputable section

namespace Cert.Proof.MixOutEq

open Idealize.ShloMosaic Idealize.ShloMosaic.TcCoe Idealize.SL.Sem
open Cert.Reference3Ideal.Read Finite

/-- What the precondition says of the arguments. -/
theorem finite_args (y : FVec Ideal Cert.Pre_finite3.S4096x1024 .bf16) (x : FVec Ideal Cert.Pre_finite3.S1x4096x1024 .f32) (w : FVec Ideal Cert.Pre_finite3.S1x1024x1024 .f32)
    (md : FVec Ideal Cert.Pre_finite3.S1x6144 .f32) (g : FVec Ideal Cert.Pre_finite3.S1x1024 .f32) (dh d3 : FVec Ideal Cert.Pre_finite3.S4096x1024 .bf16)
    (h : Cert.Pre_finite3.fn (F := Ideal) y x w md g dh d3 = fun _ => 1#1) :
    AllReal (s := Cert.Pre_finite3.S4096x1024) y ∧ AllReal x ∧ AllReal w ∧ AllReal md ∧ AllReal g ∧ AllReal (s := Cert.Pre_finite3.S4096x1024) dh := by
  obtain ⟨h, h5⟩ := split h
  obtain ⟨h, h4⟩ := split h
  obtain ⟨h, h3⟩ := split h
  obtain ⟨h, h2⟩ := split h
  obtain ⟨h0, h1⟩ := split h
  exact ⟨all_real _ _ _ _ _ h0, all_real x _ _ _ _ h1, all_real w _ _ _ _ h2, all_real md _ _ _ _ h3, all_real g _ _ _ _ h4, all_real _ _ _ _ _ h5⟩

section Rows

open Cert.Kernel3Ideal Cert.Kernel3Ideal.Gen Cert.Proof.MixOut MixOutRef

variable (m : (ℓ : Loc nD τ sig) → Buf (Elt Ideal) ℓ) (ρ : Dev nD → PrngReg) (c : Dev nD)

theorem row_md (p : Fin 8) (hp : p.val < 6) : row (hmd m ρ c) p = md (a3 m c) p.val hp := funext fun l => hmd_at m ρ c p l _ hp rfl
theorem row_w : row (hw m ρ c) = W (a2 m c) := funext fun k => funext fun l => hw_at m ρ c k l
theorem row_x (i : Fin 4096) : row (hx m ρ c) i = fun k => a1 m c (ix3 0 i k) := funext fun k => hx_at m ρ c i k

theorem row_mix (i : Fin 4096) : row (mixO m ρ c) i = mixR (a0 m c) (a2 m c) i := by
  funext l
  refine (mixA_at _ _ i l).trans ?_
  rw [row_w]

theorem row_x2 (i : Fin 4096) : row (x2O m ρ c) i = resR (a0 m c) (a1 m c) (a2 m c) (a3 m c) i := by
  funext l
  refine (x2A_at _ _ _ _ i l).trans ?_
  rw [row_w, row_x, row_md m ρ c 2 (by decide)]
  rfl

theorem mix_eq : mixO m ρ c = val_main_v90 (F := Ideal) (a0 m c) (a2 m c) := by
  refine Tiles.ext (a := 4096) (b := 1024) fun i l => ?_
  exact (congrFun (row_mix m ρ c _) _).trans (v90_at _ _ _ _).symm

theorem x2_eq : x2O m ρ c = val_main_v91 (F := Ideal) (a0 m c) (a1 m c) (a2 m c) (a3 m c) := by
  refine Tiles.ext (a := 4096) (b := 1024) fun i l => ?_
  exact (congrFun (row_x2 m ρ c _) _).trans (v91_at _ _ _ _ _ _).symm

theorem hn_eq : hnO m ρ c = val_main_v93 (F := Ideal) (a0 m c) (a1 m c) (a2 m c) (a3 m c) (a4 m c) := by
  refine Tiles.ext (a := 4096) (b := 1024) fun i l => ?_
  refine (hnA_at _ _ _ _ _ _ _).trans ?_
  rw [v93_at, row_x2, row_md m ρ c 4 (by decide), row_md m ρ c 3 (by decide)]
  rfl

/-- The rows that the chain rule's gradient is a function of are rows of real numbers. -/
theorem res_real (h0 : AllReal (s := S4096x1024) (a0 m c)) (h1 : AllReal (a1 m c)) (h2 : AllReal (a2 m c)) (h3 : AllReal (a3 m c)) (i : Fin 4096) :
    ∃ x : Fin 1024 → ℝ, resR (a0 m c) (a1 m c) (a2 m c) (a3 m c) i = fun k => (x k : EReal) := by
  refine ⟨fun l => (a1 m c (ix3 0 i l)).toReal + (md (a3 m c) 2 (by omega) l).toReal * ∑ k, (a0 m c (ix2 i k)).toReal * (a2 m c (ix3 0 k l)).toReal, funext fun l => ?_⟩
  rw [EReal.coe_add, EReal.coe_mul, Reals.coe_sum, ← h1]
  refine congrArg (_ + ·) (congrArg₂ (· * ·) (h3 _) (Finset.sum_congr rfl fun k _ => ?_))
  rw [EReal.coe_mul, ← h0, ← h2]

theorem up_real (h3 : AllReal (a3 m c)) (h4 : AllReal (a4 m c)) (h5 : AllReal (s := S4096x1024) (a5 m c)) (i : Fin 4096) :
    ∃ u : Fin 1024 → ℝ, upR (a3 m c) (a4 m c) (a5 m c) i = fun k => (u k : EReal) := by
  refine ⟨fun l => (a5 m c (ix2 i l)).toReal * (1 + (md (a3 m c) 4 (by omega) l).toReal) * (a4 m c (ix2 0 l)).toReal, funext fun l => ?_⟩
  rw [EReal.coe_mul, EReal.coe_mul, EReal.coe_add, ← h5, ← h4, EReal.coe_one]
  exact congrArg (fun s => _ * (1 + s) * _) (h3 _)

/-- The gradient of the residual sum, at a place. -/
theorem row_dx2 (h0 : AllReal (s := S4096x1024) (a0 m c)) (h1 : AllReal (a1 m c)) (h2 : AllReal (a2 m c)) (h3 : AllReal (a3 m c)) (h4 : AllReal (a4 m c))
    (h5 : AllReal (s := S4096x1024) (a5 m c)) (i : Fin 4096) :
    row (dx2O m ρ c) i = fun k => val_main_v73 (F := Ideal) (a0 m c) (a1 m c) (a2 m c) (a3 m c) (a4 m c) (a5 m c) (a6 m c) (ix3 0 i k) := by
  funext l
  obtain ⟨x, hx⟩ := res_real m c h0 h1 h2 h3 i
  obtain ⟨u, hu⟩ := up_real m c h3 h4 h5 i
  refine (dx2A_at _ _ _ _ _ i l).trans ?_
  rw [v73_at, row_x2, row_md m ρ c 4 (by decide), hx, hu]
  show a6 m c (ix2 i l) + Rms.back _ (upR (a3 m c) (a4 m c) (a5 m c) i) l = _
  rw [hu, Rms.back_coe]
  exact congrArg (_ + ·) (Rms.chain_eq x u l).symm

/-- What a column sum of the reference is. -/
theorem parts_eq (p : ℕ) (l : Fin 1024) (dh x2 dx2 mx : Fin 4096 → Fin 1024 → EReal) (g sc : Fin 1024 → EReal) :
    ∑ i, part (dh i) (x2 i) g sc (dx2 i) (mx i) l p = if p = 0 then ∑ i, dh i l else if p = 1 then ∑ i, x2 i l * Rms.inv (x2 i) * g l * dh i l
      else if p = 2 then ∑ i, x2 i l * Rms.inv (x2 i) * (dh i l * (1 + sc l)) else if p = 3 then ∑ i, dx2 i l * mx i l else 0 := by
  unfold part
  split_ifs
  · rfl
  · exact Finset.sum_congr rfl fun i _ => mul_comm _ _
  · exact Finset.sum_congr rfl fun i _ => mul_comm _ _
  · rfl
  · exact Finset.sum_const_zero

section Finite

variable (hd : ∀ i, row (dx2O m ρ c) i = fun k => val_main_v73 (F := Ideal) (a0 m c) (a1 m c) (a2 m c) (a3 m c) (a4 m c) (a5 m c) (a6 m c) (ix3 0 i k))
include hd

theorem dx2_eq : dx2O m ρ c = val_main_v95 (F := Ideal) (a0 m c) (a1 m c) (a2 m c) (a3 m c) (a4 m c) (a5 m c) (a6 m c) := by
  refine Tiles.ext (a := 4096) (b := 1024) fun i l => ?_
  exact (congrFun (hd _) _).trans (v95_at _ _ _ _ _ _ _ _ _).symm

theorem dy_eq : dyO m ρ c = val_main_v97 (F := Ideal) (a0 m c) (a1 m c) (a2 m c) (a3 m c) (a4 m c) (a5 m c) (a6 m c) := by
  refine Tiles.ext (a := 4096) (b := 1024) fun i l => ?_
  refine (dyA_at _ _ _ _ _ _ _ _).trans ?_
  rw [v97_at, hd, row_w, row_md m ρ c 2 (by decide)]
  rfl

theorem gw_eq : gwO m ρ c = val_main_v98 (F := Ideal) (a0 m c) (a1 m c) (a2 m c) (a3 m c) (a4 m c) (a5 m c) (a6 m c) := by
  refine Tiles.ext (a := 1024) (b := 1024) fun k l => ?_
  refine (gwA_at _ _ _ _ _ _ _ _).trans ?_
  rw [v98_at]
  refine Finset.sum_congr rfl fun i _ => ?_
  have e2 : hmd m ρ c (ix2 2 l) = md (a3 m c) 2 (by omega) l := congrFun (row_md m ρ c 2 (by decide)) l
  have ed := congrFun (hd i) l
  dsimp only [row] at ed
  unfold gwTerm
  rw [e2]
  exact (congrArg (fun s => a0 m c (ix2 i k) * (md (a3 m c) 2 _ l * s)) ed).trans (mul_comm _ _)

theorem st_eq : stO m ρ c = val_main_v88 (F := Ideal) (a0 m c) (a1 m c) (a2 m c) (a3 m c) (a4 m c) (a5 m c) (a6 m c) := by
  refine Tiles.ext (a := 8) (b := 1024) fun p l => ?_
  refine (stA_at _ _ _ _ _ _ _ _).trans ?_
  rw [v88_at, v43_at, v50_at, v57_at, v81_at]
  refine (Finset.sum_congr rfl fun i _ => ?_).trans (parts_eq p.val l (fun i => row (a5 m c) i) (fun i => resR (a0 m c) (a1 m c) (a2 m c) (a3 m c) i)
    (fun i k => val_main_v73 (F := Ideal) (a0 m c) (a1 m c) (a2 m c) (a3 m c) (a4 m c) (a5 m c) (a6 m c) (ix3 0 i k)) (fun i => mixR (a0 m c) (a2 m c) i)
    (G (a4 m c)) (md (a3 m c) 4 (by omega)))
  unfold stTerm
  rw [row_mix, row_x2, row_md m ρ c 4 (by decide)]
  exact congrArg (fun d => part _ _ _ _ d _ _ _) (hd i)

end Finite

/-- The frame at the machine's floats. -/
def frameBits : Prop := ∀ (m : (ℓ : Loc nD τ sig) → Buf (Elt Bits) ℓ) (ρ : Dev nD → PrngReg), True →
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0)

end Rows

/-! ## The claims -/

/-- The printed kernel and its idealization have the same text. -/
theorem same_text : Cert.quiescent_Kernel3 = frameBits := by sl_kernel_rfl

theorem frame_p : Cert.quiescent_Kernel3 := same_text.mpr fun m ρ _ => Cert.Kernel3Ideal.Gen.frame (F := Bits) m ρ

theorem frame_pi : Cert.quiescent_Kernel3Ideal := fun m ρ _ => Cert.Kernel3Ideal.Gen.frame m ρ

theorem frame_ri : Cert.quiescent_Reference3Ideal := fun m ρ _ =>
  (θ_run Cert.Reference3Ideal.defs _ _).mono (fun r h => ⟨fun c => (h c).2.2.2.2.2.2.2, sem_eq_zero_of_no_sems (by decide) r.2⟩)
    (Cert.Reference3Ideal.Value.run (F := Ideal) m ρ)

theorem algebraic : Cert.algebraic_Kernel3Ideal_Reference3Ideal_pre_finite3 := by
  intro m ρ m' ρ' hpre hagree
  refine ⟨_, _, _, _, _, _, _, Cert.Proof.MixOut.run m ρ, ?_⟩
  refine (θ_run Cert.Reference3Ideal.defs _ _).mono (fun _ h c => ?_) (Cert.Reference3Ideal.Value.run (F := Ideal) m' ρ')
  obtain ⟨e0, e1, e2, e3, e4, e5, e6⟩ := hagree c
  obtain ⟨h0, h1, h2, h3, h4, h5⟩ := finite_args _ _ _ _ _ _ _ (hpre c)
  have hd := row_dx2 m ρ c h0 h1 h2 h3 h4 h5
  refine ⟨(h c).1.trans ?_, (h c).2.1.trans ?_, (h c).2.2.1.trans ?_, (h c).2.2.2.1.trans ?_, (h c).2.2.2.2.1.trans ?_, (h c).2.2.2.2.2.1.trans ?_,
    (h c).2.2.2.2.2.2.1.trans ?_, (h c).2.2.2.2.2.2.2⟩
  · rw [val_main_v90_eq, e0, e2]
    exact (mix_eq m ρ c).symm
  · rw [val_main_v91_eq, e0, e1, e2, e3]
    exact (x2_eq m ρ c).symm
  · rw [val_main_v93_eq, e0, e1, e2, e3, e4]
    exact (hn_eq m ρ c).symm
  · rw [val_main_v95_eq, e0, e1, e2, e3, e4, e5, e6]
    exact (dx2_eq m ρ c hd).symm
  · rw [val_main_v97_eq, e0, e1, e2, e3, e4, e5, e6]
    exact (dy_eq m ρ c hd).symm
  · rw [val_main_v98_eq, e0, e1, e2, e3, e4, e5, e6]
    exact (gw_eq m ρ c hd).symm
  · rw [val_main_v88_eq, e0, e1, e2, e3, e4, e5, e6]
    exact (st_eq m ρ c hd).symm

end Cert.Proof.MixOutEq

end
-- ==== Proof.MlpDxBlocks.lean ====
/- What one grid step of the perceptron's backward kernel leaves: its tile of the hidden gradient, the running product that
   it carries over the hidden tiles, and, at a row tile's last step, the input gradient. -/
module

public import proofs.«01_k».proof.Proof.Gen.Kernel4Ideal.Value
public import Idealize.ShloMosaic.Lib.Pointwise
public import Idealize.ShloMosaic.Lib.Tactic
public import proofs.«01_k».proof.Proof.Rows
public import proofs.«01_k».proof.Proof.Tiles

@[expose] public section

noncomputable section

namespace Cert.Proof.MlpDx

open Cert.Kernel4Ideal Cert.Kernel4Ideal.Gen Idealize.ShloMosaic Idealize.ShloMosaic.TcCoe Idealize.SL.Sem

variable {F : FTy → Type} [FloatOps F] (m : (ℓ : Loc nD τ sig) → Buf (Elt F) ℓ) (c : Dev nD) (t : Fin cfg0.N)

theorem hz : (![0, 0] : Fin 2 → Nat) = fun _ => 0 := funext fun a => by fin_cases a <;> rfl

/-- The step's tile of the hidden gradient, and what it adds to the running product `s`. -/
abbrev dzBlk : Vec F S1024x1024 .bf16 := k0_pay2 (iblk m c 1 t) (iblk m c 0 t) (iblk m c 2 t)
abbrev accNext (s : Vec F S1024x1024 .f32) : Vec F S1024x1024 .f32 := k0_pay3 (iblk m c 1 t) (iblk m c 0 t) (iblk m c 2 t) s (iblk m c 3 t)

/-- What the step before left in the scratch. -/
abbrev before : Vec F S1024x1024 .f32 := (outsAt0 m c (t.val - 1) (Nat.lt_of_le_of_lt (Nat.sub_le _ _) t.isLt)).2.2

theorem out4 : (outsAt0 m c t.val t.isLt).1 = dzBlk m c t := by
  by_cases h0 : t.val % 4 = 0
  · rw [outsAt0_A m c t h0 (by omega)]
    dsimp only
    unfold out0_A_4 kernelRun0_A
    dsimp only
    sl_unfold_words
    rw [Rows.read_all]
    simp only [View.readAt_eq_ld, (hs0_0 t).read_unread, (hs0_1 t).read_unread, (hs0_2 t).read_unread, View.ld_unit_zero (S := S1024x1024) hz]
  by_cases h1 : t.val % 4 = 3
  on_goal 1 => rw [outsAt0_C m c t h0 h1]
  on_goal 2 => rw [outsAt0_B m c t h0 h1]
  all_goals
    dsimp only
    first | unfold out0_C_4 kernelRun0_C | unfold out0_B_4 kernelRun0_B
    dsimp only
    sl_unfold_words
    rw [Rows.read_all]
    simp only [View.readAt_eq_ld, (hs0_0 t).read_unread, (hs0_1 t).read_unread, (hs0_2 t).read_unread, View.ld_unit_zero (S := S1024x1024) hz]

theorem acc_first (h0 : t.val % 4 = 0) (h1 : ¬t.val % 4 = 3) : (outsAt0 m c t.val t.isLt).2.2 = accNext m c t k0_pay1 := by
  rw [outsAt0_A m c t h0 h1]
  dsimp only
  unfold sout0_A_0 kernelRun0_A
  dsimp only
  sl_unfold_words
  rw [Rows.read_all, Rows.readCov_all]
  simp only [View.readAt_eq_ld, (hs0_0 t).read_unread, (hs0_1 t).read_unread, (hs0_2 t).read_unread, (hs0_3 t).read_unread, View.ld_unit_zero (S := S1024x1024) hz]

theorem acc_next (h0 : ¬t.val % 4 = 0) : (outsAt0 m c t.val t.isLt).2.2 = accNext m c t (before m c t) := by
  by_cases h1 : t.val % 4 = 3
  on_goal 1 => rw [outsAt0_C m c t h0 h1]
  on_goal 2 => rw [outsAt0_B m c t h0 h1]
  all_goals
    dsimp only
    first | unfold sout0_C_0 kernelRun0_C | unfold sout0_B_0 kernelRun0_B
    dsimp only
    sl_unfold_words
    rw [Rows.read_all]
    simp only [View.readAt_eq_ld, (hs0_0 t).read_unread, (hs0_1 t).read_unread, (hs0_2 t).read_unread, (hs0_3 t).read_unread,
      (Memref.isWhole_whole (sig := sig) cc0_scratch0).read_unread, View.ld_unit_zero (S := S1024x1024) hz]

theorem out5 (h0 : ¬t.val % 4 = 0) (h1 : t.val % 4 = 3) : (outsAt0 m c t.val t.isLt).2.1 = k0_pay4 (accNext m c t (before m c t)) := by
  rw [outsAt0_C m c t h0 h1]
  dsimp only
  unfold out0_C_5 kernelRun0_C
  dsimp only
  sl_unfold_words
  rw [Rows.read_all, Rows.readCov_all]
  simp only [View.readAt_eq_ld, (hs0_0 t).read_unread, (hs0_1 t).read_unread, (hs0_2 t).read_unread, (hs0_3 t).read_unread, (Memref.isWhole_whole (sig := sig) cc0_scratch0).read_unread,
    View.ld_unit_zero (S := S1024x1024) hz]

end Cert.Proof.MlpDx
-- ==== Proof.MlpDxRun.lean ====
/- What a run of the perceptron's backward kernel leaves in its two result arrays, over the extended reals. -/
module

public import proofs.«01_k».proof.Proof.MlpDxBlocks

@[expose] public section

noncomputable section

namespace Cert.Proof.MlpDx

open Cert.Kernel4Ideal Cert.Kernel4Ideal.Gen Cert.Kernel4Ideal.Value Idealize.ShloMosaic Idealize.ShloMosaic.TcCoe Idealize.SL.Sem Tiles

theorem ofBits_two : Ideal.ofBits .f32 0x40000000#32 = 2 := by
  simp [Ideal.ofBits, Ideal.ieee, -EReal.coe_mul]; norm_num
  rfl

theorem pay2_apply (z dy wd : Vec Ideal S1024x1024 .bf16) (r q : Fin 1024) :
    k0_pay2 z dy wd (ix2 r q) = 2 * z (ix2 r q) * ∑ l : Fin 1024, dy (ix2 r l) * wd (ix2 q l) := by
  rw [← ofBits_two]
  pointwise [k0_pay2]

theorem pay3_apply (z dy wd wu : Vec Ideal S1024x1024 .bf16) (s : Vec Ideal S1024x1024 .f32) (r l : Fin 1024) :
    k0_pay3 z dy wd s wu (ix2 r l) = s (ix2 r l) + ∑ q : Fin 1024, k0_pay2 z dy wd (ix2 r q) * wu (ix2 q l) := by
  pointwise [k0_pay3]

theorem pay4_apply (s : Vec Ideal S1024x1024 .f32) (r l : Fin 1024) : k0_pay4 s (ix2 r l) = s (ix2 r l) := by
  pointwise [k0_pay4]

theorem pay1_apply (r l : Fin 1024) : (k0_pay1 (F := Ideal) : Vec Ideal S1024x1024 .f32) (ix2 r l) = 0 := by
  pointwise [k0_pay1]

/-- The hidden gradient and the input gradient as functions of the cotangent, the hidden values and the two weights. -/
def dz (dy : Vec Ideal S4096x1024 .bf16) (z : Vec Ideal S4096x4096 .bf16) (wd : Vec Ideal S4096x1024 .bf16) : Vec Ideal S4096x4096 .bf16 := fun j =>
  2 * z j * ∑ l : Fin 1024, dy (ix2 (j 0) l) * wd (ix2 (j 1) l)

theorem dz_at (dy : Vec Ideal S4096x1024 .bf16) (z : Vec Ideal S4096x4096 .bf16) (wd : Vec Ideal S4096x1024 .bf16) (i q : Fin 4096) :
    dz dy z wd (ix2 i q) = 2 * z (ix2 i q) * ∑ l : Fin 1024, dy (ix2 i l) * wd (ix2 q l) := rfl

def dhTerm (dy : Vec Ideal S4096x1024 .bf16) (z : Vec Ideal S4096x4096 .bf16) (wd wu : Vec Ideal S4096x1024 .bf16) (i : Fin 4096) (l : Fin 1024) (q : Fin 4096) : EReal :=
  dz dy z wd (ix2 i q) * wu (ix2 q l)

def dh (dy : Vec Ideal S4096x1024 .bf16) (z : Vec Ideal S4096x4096 .bf16) (wd wu : Vec Ideal S4096x1024 .bf16) : Vec Ideal S4096x1024 .bf16 := fun j =>
  ∑ q : Fin 4096, dhTerm dy z wd wu (j 0) (j 1) q

variable (m : (ℓ : Loc nD τ sig) → Buf (Elt Ideal) ℓ) (ρ : Dev nD → PrngReg) (c : Dev nD) (t : Fin cfg0.N)

theorem idx : ∀ t : Fin cfg0.N, (win0_0.index t (0 : Fin 2) = t.val / 4 ∧ win0_0.index t (1 : Fin 2) = 0)
    ∧ (win0_1.index t (0 : Fin 2) = t.val / 4 ∧ win0_1.index t (1 : Fin 2) = t.val % 4) ∧ (win0_2.index t (0 : Fin 2) = t.val % 4 ∧ win0_2.index t (1 : Fin 2) = 0)
    ∧ (win0_3.index t (0 : Fin 2) = t.val % 4 ∧ win0_3.index t (1 : Fin 2) = 0) ∧ (win0_4.index t (0 : Fin 2) = t.val / 4 ∧ win0_4.index t (1 : Fin 2) = t.val % 4)
    ∧ (win0_5.index t (0 : Fin 2) = t.val / 4 ∧ win0_5.index t (1 : Fin 2) = 0) := (by decide +kernel : ∀ t : Fin grid0.N, _)

theorem lt16 : t.val < 16 := lt_of_lt_of_eq t.isLt (show cfg0.N = 16 from N_0)
theorem inDiv : t.val / 4 * 1024 + 1024 ≤ 4096 := by have := lt16 t; omega
theorem inMod : t.val % 4 * 1024 + 1024 ≤ 4096 := by omega

/-- The place in the hidden array of an entry of a tile. -/
theorem tile_eq {a b n k : ℕ} (r q : Fin 1024) (i : S4096x4096.Idx) (ha : a * 1024 + 1024 ≤ 4096) (hb : b * 1024 + 1024 ≤ 4096) (h : n = a ∧ k = b)
    (h0 : (i 0).val = n * 1024 + 1 * r.val) (h1 : (i 1).val = k * 1024 + 1 * q.val) : i = ix2 (rowOf 1024 a r) (rowOf 1024 b q) := by
  obtain ⟨rfl, rfl⟩ := h
  rw [eta (a := 4096) (b := 4096) i]
  refine congrArg₂ ix2 (Fin.ext ?_) (Fin.ext ?_)
  · rw [h0, rowOf_val ha]; omega
  · rw [h1, rowOf_val hb]; omega

theorem blk_dy (r l : Fin 1024) : iblk m c 0 t (ix2 r l) = V m c main_arg3 (ix2 (rowOf 1024 (t.val / 4) r) l) :=
  congrArg (V m c main_arg3) (rows_eq (B := 1024) (b := 1024) r l _ (inDiv t) (idx t).1 rfl rfl)
theorem blk_z (r q : Fin 1024) : iblk m c 1 t (ix2 r q) = V m c main_v9 (ix2 (rowOf 1024 (t.val / 4) r) (rowOf 1024 (t.val % 4) q)) :=
  congrArg (V m c main_v9) (tile_eq r q _ (inDiv t) (inMod t) (idx t).2.1 rfl rfl)
theorem blk_wd (q l : Fin 1024) : iblk m c 2 t (ix2 q l) = V m c main_v4 (ix2 (rowOf 1024 (t.val % 4) q) l) :=
  congrArg (V m c main_v4) (rows_eq (B := 1024) (b := 1024) q l _ (inMod t) (idx t).2.2.1 rfl rfl)
theorem blk_wu (q l : Fin 1024) : iblk m c 3 t (ix2 q l) = V m c main_v2 (ix2 (rowOf 1024 (t.val % 4) q) l) :=
  congrArg (V m c main_v2) (rows_eq (B := 1024) (b := 1024) q l _ (inMod t) (idx t).2.2.2.1 rfl rfl)

theorem emb4 (j : S1024x1024.Idx) : ((cfg0.win 4).blk t).view.emb j = ix2 (rowOf 1024 (t.val / 4) (j 0)) (rowOf 1024 (t.val % 4) (j 1)) :=
  tile_eq (j 0) (j 1) _ (inDiv t) (inMod t) (idx t).2.2.2.2.1 rfl rfl
theorem emb5 (j : S1024x1024.Idx) : ((cfg0.win 5).blk t).view.emb j = ix2 (rowOf 1024 (t.val / 4) (j 0)) (j 1) :=
  rows_eq (B := 1024) (b := 1024) (j 0) (j 1) _ (inDiv t) (idx t).2.2.2.2.2 rfl rfl

/-- The results as functions of the arrays the grid finds. -/
abbrev dzV : Vec Ideal S4096x4096 .bf16 := dz (V m c main_arg3) (V m c main_v9) (V m c main_v4)
abbrev termV := dhTerm (V m c main_arg3) (V m c main_v9) (V m c main_v4) (V m c main_v2)
abbrev dhV : Vec Ideal S4096x1024 .bf16 := dh (V m c main_arg3) (V m c main_v9) (V m c main_v4) (V m c main_v2)

theorem dz_blk (r q : Fin 1024) : dzBlk m c t (ix2 r q) = dzV m c (ix2 (rowOf 1024 (t.val / 4) r) (rowOf 1024 (t.val % 4) q)) := by
  refine (pay2_apply _ _ _ r q).trans ?_
  exact congrArg₂ (· * ·) (congrArg (2 * ·) (blk_z m c t r q)) (Finset.sum_congr rfl fun l _ => congrArg₂ (· * ·) (blk_dy m c t r l) (blk_wd m c t q l))

theorem acc_blk (s : Vec Ideal S1024x1024 .f32) (r l : Fin 1024) : accNext m c t s (ix2 r l)
    = s (ix2 r l) + ∑ q : Fin 1024, termV m c (rowOf 1024 (t.val / 4) r) l (rowOf 1024 (t.val % 4) q) := by
  refine (pay3_apply _ _ _ _ s r l).trans (congrArg (_ + ·) (Finset.sum_congr rfl fun q _ => ?_))
  exact congrArg₂ (· * ·) (dz_blk m c t r q) (blk_wu m c t q l)

/-- After grid step `n` the scratch holds the row tile's product over the hidden tiles up to there. -/
theorem acc : ∀ (n : ℕ) (h : n < cfg0.N) (r l : Fin 1024), (outsAt0 m c n h).2.2 (ix2 r l)
    = ∑ s ∈ Finset.range (n % 4 + 1), ∑ q : Fin 1024, termV m c (rowOf 1024 (n / 4) r) l (rowOf 1024 s q) := by
  intro n
  induction n with
  | zero =>
    intro h r l
    rw [acc_first m c ⟨0, h⟩ rfl (by dsimp only; omega), acc_blk, pay1_apply, zero_add, show 0 % 4 + 1 = 1 from rfl, Finset.sum_range_one]
    rfl
  | succ n ih =>
    intro h r l
    by_cases h0 : (n + 1) % 4 = 0
    · rw [acc_first m c ⟨n + 1, h⟩ h0 (by dsimp only; omega), acc_blk, pay1_apply, zero_add]
      dsimp only
      rw [h0, zero_add, Finset.sum_range_one]
    · rw [acc_next m c ⟨n + 1, h⟩ h0, acc_blk]
      have e : (n + 1) % 4 = n % 4 + 1 := by omega
      have d : (n + 1) / 4 = n / 4 := by omega
      dsimp only
      rw [e, d, Finset.sum_range_succ _ (n % 4 + 1)]
      exact congrArg (· + _) (ih (Nat.lt_of_succ_lt h) r l)

theorem flushed4_eq : (dats m 0 c).flushed 4 t = ((cfg0.win 4).blk t).view.read (Elt Ideal) (dzV m c) := by
  rw [flushed4, out4]
  funext j
  show dzBlk m c t j = dzV m c (((cfg0.win 4).blk t).view.emb j)
  rw [emb4]
  exact (congrArg _ (eta (a := 1024) (b := 1024) j)).trans (dz_blk m c t (j 0) (j 1))

theorem flushed5_eq (hf : (cfg0.win 5).flush t = true) : (dats m 0 c).flushed 5 t = ((cfg0.win 5).blk t).view.read (Elt Ideal) (dhV m c) := by
  have h3 : t.val % 4 = 3 := (flush0_5 t).mp hf
  have h0 : ¬t.val % 4 = 0 := by omega
  rw [flushed5, out5 m c t h0 h3, ← acc_next m c t h0]
  funext j
  show k0_pay4 (outsAt0 m c t.val t.isLt).2.2 j = dhV m c (((cfg0.win 5).blk t).view.emb j)
  rw [emb5]
  refine (congrArg _ (eta (a := 1024) (b := 1024) j)).trans ((pay4_apply _ (j 0) (j 1)).trans ((acc m c _ _ _ _).trans ?_))
  rw [h3]
  exact sum_rows 4 (by decide) _

/-- The grid point whose tile holds an entry of the hidden gradient, and the one that writes an entry of the input gradient. -/
def at4 (i : S4096x4096.Idx) : Fin cfg0.N := ⟨(i 0).val / 1024 * 4 + (i 1).val / 1024, by
  have h0 : (i 0).val < 4096 := (i 0).isLt
  have h1 : (i 1).val < 4096 := (i 1).isLt
  rw [show cfg0.N = 16 from N_0]; omega⟩
def at5 (i : S4096x1024.Idx) : Fin cfg0.N := ⟨(i 0).val / 1024 * 4 + 3, by have : (i 0).val < 4096 := (i 0).isLt; rw [show cfg0.N = 16 from N_0]; omega⟩

theorem arr_dz : (dats m 0 c).arrAt 4 cfg0.N = dzV m c :=
  (dats m 0 c).arrAt_eq_of_cover 4 (dzV m c) (fun t _ => flushed4_eq m c t) fun i => ⟨at4 i, flush0_4 _, by
    have h1 : (i 1).val < 4096 := (i 1).isLt
    have h := ((cfg0.win 4).blk (at4 i)).view.emb_mem_set
      (ix2 ⟨(i 0).val % 1024, Nat.mod_lt _ (by decide)⟩ ⟨(i 1).val % 1024, Nat.mod_lt _ (by decide)⟩ : S1024x1024.Idx)
    rw [emb4] at h
    refine Eq.mp (congrArg (· ∈ _) (Eq.trans ?_ (eta (a := 4096) (b := 4096) i).symm)) h
    refine congrArg₂ ix2 (Fin.ext ((rowOf_val (inDiv _) _).trans ?_)) (Fin.ext ((rowOf_val (inMod _) _).trans ?_))
    · show ((i 0).val / 1024 * 4 + (i 1).val / 1024) / 4 * 1024 + (i 0).val % 1024 = (i 0).val; omega
    · show ((i 0).val / 1024 * 4 + (i 1).val / 1024) % 4 * 1024 + (i 1).val % 1024 = (i 1).val; omega⟩

theorem arr_dh : (dats m 0 c).arrAt 5 cfg0.N = dhV m c :=
  (dats m 0 c).arrAt_eq_of_cover 5 (dhV m c) (flushed5_eq m c) fun i => ⟨at5 i, (flush0_5 _).mpr (by show ((i 0).val / 1024 * 4 + 3) % 4 = 3; omega), by
    have h := ((cfg0.win 5).blk (at5 i)).view.emb_mem_set (ix2 ⟨(i 0).val % 1024, Nat.mod_lt _ (by decide)⟩ (i 1) : S1024x1024.Idx)
    rw [emb5] at h
    refine Eq.mp (congrArg (· ∈ _) (Eq.trans ?_ (eta (a := 4096) (b := 1024) i).symm)) h
    refine congrArg (ix2 · (i 1)) (Fin.ext ((rowOf_val (inDiv _) _).trans ?_))
    show ((i 0).val / 1024 * 4 + 3) / 4 * 1024 + (i 0).val % 1024 = (i 0).val; omega⟩

/-- The two result arrays after the run. -/
theorem run : θ_run defs (onTc (τ := τ) (main (F := Ideal))) ⟨m, fun _ => 0, ρ⟩ fun r => ∀ c : Dev nD,
      r.2.mem ((c : Thread nD τ).loc main_v10_0) = dzV m c
      ∧ r.2.mem ((c : Thread nD τ).loc main_v10_1) = dhV m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (arr_dz m c), (h c).2.1.trans (arr_dh m c), (h c).2.2⟩) (run_blocks m ρ)

end Cert.Proof.MlpDx

end
-- ==== Proof.MlpDxEq.lean ====
/- The perceptron's hidden and input gradients: kernel and reference compute one function of all arguments. -/
module

public import proofs.«01_k».proof.Defs
public import proofs.«01_k».proof.Proof.MlpDxRun
public import proofs.«01_k».proof.Proof.HostSums
public import proofs.«01_k».proof.Proof.Gen.Kernel4
public import proofs.«01_k».proof.Proof.Gen.Reference4Ideal
public import proofs.«01_k».proof.Proof.Gen.Reference4Ideal.Run
public import proofs.«01_k».proof.Proof.Gen.Reference4Ideal.Read
public import Idealize.ShloMosaic.Lib.StableHlo.ReadAt
public import Idealize.ShloMosaic.Lib.Quiescent

@[expose] public section

noncomputable section

namespace Cert.Proof.MlpDxEq

open Idealize.ShloMosaic Idealize.ShloMosaic.TcCoe Idealize.SL.Sem
open Cert.Reference4Ideal.Read

/-! ## The reference at a place -/

section Reference

variable (x0 : Vec Ideal Cert.Reference4Ideal.S4096x1024 .bf16) (x1 : Vec Ideal Cert.Reference4Ideal.S1x1024x4096 .f32)
  (x2 : Vec Ideal Cert.Reference4Ideal.S1x4096x1024 .f32) (x3 : Vec Ideal Cert.Reference4Ideal.S4096x1024 .bf16)

/-- The hidden value before the threshold, and the cotangent of its square. -/
def up (i q : Fin 4096) : EReal := ∑ l : Fin 1024, x0 (ix2 i l) * x1 (ix3 0 l q)
def down (i q : Fin 4096) : EReal := ∑ l : Fin 1024, x3 (ix2 i l) * x2 (ix3 0 q l)

theorem v2_at (i q : Fin 4096) : val_main_v2 (F := Ideal) x0 x1 (ix2 i q) = up x0 x1 i q := by
  unfold up
  pointwise [val_main_v2, val_main_v0, val_main_v1]

theorem v15_at (i q : Fin 4096) : val_main_v15 (F := Ideal) x2 x3 (ix2 i q) = down x2 x3 i q := by
  unfold down
  pointwise [val_main_v15, val_main_v14, val_main_v12]

theorem add_self (x : EReal) : x + x = 2 * x := by
  induction x with
  | bot => exact (EReal.mul_bot_of_pos (by norm_num)).symm
  | coe r =>
    show ((r : ℝ) : EReal) + r = ((2 : ℝ) : EReal) * r
    rw [← EReal.coe_add, ← EReal.coe_mul, two_mul]
  | top => exact (EReal.mul_top_of_pos (by norm_num)).symm

/-- The square's two cotangents, each let through where the value is above zero, are twice the clipped value times the cotangent. -/
theorem square_back (u d : EReal) : ((if 0 < u then max u 0 * d else 0) + if 0 < u then d * max u 0 else 0) = 2 * max u 0 * d := by
  split_ifs with h
  · rw [mul_comm d, mul_assoc, add_self]
  · rw [max_eq_right (not_lt.mp h), mul_zero, zero_mul, add_zero]

theorem v22_at (i q : Fin 4096) : val_main_v22 (F := Ideal) x0 x1 x2 x3 (ix2 i q) = 2 * max (up x0 x1 i q) 0 * down x2 x3 i q := by
  rw [← v2_at, ← v15_at, ← square_back]
  pointwise [val_main_v22, val_main_v21, val_main_v20, val_main_v19, val_main_v18, val_main_v17, val_main_v16, val_main_v11, val_main_v10, val_main_v9, val_main_v8, val_main_v7, val_main_v6, val_main_v5, val_main_v4, val_main_v3,
    val_main_cst, val_main_cst_0, val_main_cst_1, val_main_cst_2, val_main_cst_3, val_main_cst_4, val_main_call0_cst, val_main_call0_v0, val_main_call1_cst, val_main_call1_v0]

theorem v23_at (i : Fin 4096) (l : Fin 1024) : val_main_v23 (F := Ideal) x0 x1 x2 x3 (ix2 i l)
    = ∑ q : Fin 4096, val_main_v22 (F := Ideal) x0 x1 x2 x3 (ix2 i q) * x1 (ix3 0 l q) := by
  pointwise [val_main_v23, val_main_v1]

end Reference

section Host
open Cert.Kernel4Ideal Cert.Kernel4Ideal.Gen Cert.Proof.MlpDx

variable (m : (ℓ : Loc nD τ sig) → Buf (Elt Ideal) ℓ) (c : Dev nD)

abbrev a0 : Vec Ideal S4096x1024 .bf16 := m ((c.tc : Thread nD τ).loc main_arg0)
abbrev a1 : Vec Ideal S1x1024x4096 .f32 := m ((c.tc : Thread nD τ).loc main_arg1)
abbrev a2 : Vec Ideal S1x4096x1024 .f32 := m ((c.tc : Thread nD τ).loc main_arg2)
abbrev a3 : Vec Ideal S4096x1024 .bf16 := m ((c.tc : Thread nD τ).loc main_arg3)

theorem host_dy : (V m c main_arg3 : Vec Ideal S4096x1024 .bf16) = a3 m c := by unfold V; after_reads_simp

theorem host_wu (q : Fin 4096) (l : Fin 1024) : (V m c main_v2 : Vec Ideal S4096x1024 .bf16) (ix2 q l) = a1 m c (ix3 0 l q) := by
  unfold V
  after_reads_at

theorem host_wd (q : Fin 4096) (l : Fin 1024) : (V m c main_v4 : Vec Ideal S4096x1024 .bf16) (ix2 q l) = a2 m c (ix3 0 q l) := by
  unfold V
  after_reads_at

theorem host_z (i q : Fin 4096) : (V m c main_v9 : Vec Ideal S4096x4096 .bf16) (ix2 i q) = max (up (a0 m c) (a1 m c) i q) 0 := by
  unfold up
  unfold V
  after_reads_at

theorem dz_eq (i q : Fin 4096) : dzV m c (ix2 i q) = val_main_v22 (F := Ideal) (a0 m c) (a1 m c) (a2 m c) (a3 m c) (ix2 i q) := by
  rw [v22_at]
  refine (dz_at _ _ _ _ _).trans ?_
  rw [host_z, host_dy]
  exact congrArg (_ * ·) (Finset.sum_congr rfl fun l _ => by rw [host_wd])

theorem dz_val : dzV m c = val_main_v24 (F := Ideal) (a0 m c) (a1 m c) (a2 m c) (a3 m c) :=
  Tiles.ext (a := 4096) (b := 4096) fun i q => dz_eq m c i q

theorem dh_val : dhV m c = val_main_v25 (F := Ideal) (a0 m c) (a1 m c) (a2 m c) (a3 m c) :=
  Tiles.ext (a := 4096) (b := 1024) fun i l => by
    refine Eq.trans ?_ (v23_at _ _ _ _ i l).symm
    exact Finset.sum_congr rfl fun q _ => congrArg₂ (· * ·) (dz_eq m c i q) (host_wu m c q l)

/-- The frame at the machine's floats. -/
def frameBits : Prop := ∀ (m : (ℓ : Loc nD τ sig) → Buf (Elt Bits) ℓ) (ρ : Dev nD → PrngReg), True →
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0)

end Host

/-! ## The claims -/

/-- The printed kernel and its idealization have the same text. -/
theorem same_text : Cert.quiescent_Kernel4 = frameBits := by sl_kernel_rfl

theorem frame_p : Cert.quiescent_Kernel4 := same_text.mpr fun m ρ _ => Cert.Kernel4Ideal.Gen.frame (F := Bits) m ρ

theorem frame_pi : Cert.quiescent_Kernel4Ideal := fun m ρ _ => Cert.Kernel4Ideal.Gen.frame m ρ

theorem frame_ri : Cert.quiescent_Reference4Ideal := fun m ρ _ =>
  (θ_run Cert.Reference4Ideal.defs _ _).mono (fun r h => ⟨fun c => (h c).2.2, sem_eq_zero_of_no_sems (by decide) r.2⟩)
    (Cert.Reference4Ideal.Value.run (F := Ideal) m ρ)

theorem algebraic : Cert.algebraic_Kernel4Ideal_Reference4Ideal := by
  intro m ρ m' ρ' _ hagree
  refine ⟨_, _, Cert.Proof.MlpDx.run m ρ, ?_⟩
  refine (θ_run Cert.Reference4Ideal.defs _ _).mono (fun _ h c => ⟨(h c).1.trans ?_, (h c).2.1.trans ?_, (h c).2.2⟩)
    (Cert.Reference4Ideal.Value.run (F := Ideal) m' ρ')
  · obtain ⟨e0, e1, e2, e3⟩ := hagree c
    rw [val_main_v24_eq, e0, e1, e2, e3]
    exact (dz_val m c).symm
  · obtain ⟨e0, e1, e2, e3⟩ := hagree c
    rw [val_main_v25_eq, e0, e1, e2, e3]
    exact (dh_val m c).symm

end Cert.Proof.MlpDxEq

end
-- ==== Proof.MlpLossRun.lean ====
/- The loss kernel's body, run at a grid point. It copies a row block of two operands left in HBM into scratches of its
   own: the copies are started at the first of the row's four points (`start`), run through the next two (`middle`) and
   are waited for at the last (`finish`). -/
module

public import proofs.«01_k».proof.Proof.Gen.Kernel5Ideal.Frame
public import proofs.«01_k».proof.Proof.Gen.Kernel5Ideal.Skeleton
public import proofs.«01_k».proof.Proof.Rows
public import Idealize.ShloMosaic.Lib.Claim

@[expose] public section

set_option maxRecDepth 16384

noncomputable section

namespace Cert.Kernel5Ideal.MlpLoss

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel5Ideal.Gen Cert.Proof

variable {F : FTy → Type} [FloatOps F]

local notation "𝕄" => MT nD τ sig Unit (Elt F) ℕ (Pipeline.UD sig nD τ) ℕ

/-- The carried sum, the two copied row blocks, and the operands they come from. -/
abbrev ySc : Memref sig .tc .vmem S1024x1024 .f32 := Memref.whole cc0_scratch0
abbrev xSc : Memref sig .tc .vmem S1024x1024 .f32 := Memref.whole cc0_scratch1
abbrev tSc : Memref sig .tc .vmem S1024x1024 .f32 := Memref.whole cc0_scratch2
abbrev xHbm : Memref sig .tc .hbm S4096x1024 .f32 := Memref.whole main_arg1
abbrev tHbm : Memref sig .tc .hbm S4096x1024 .f32 := Memref.whole main_v9

/-- The rows `o 0, …` of an operand. -/
abbrev rows (M : Memref sig .tc .hbm S4096x1024 .f32) (o : Fin 2 → ℕ) (h : ∀ a, o a + S1024x1024.size a ≤ S4096x1024.size a) :
    Memref sig .tc .hbm S1024x1024 .f32 :=
  M.slice (Rect.unit (s := S4096x1024) o S1024x1024.size h) (fun _ => rfl)

/-- A row block on its way into a scratch: the cell `j` carries it, and its arrival hands the scratch and the rows back. -/
abbrev flight (c : Dev nD) (j : DmaSem sig) (sc : Memref sig .tc .vmem S1024x1024 .f32) (M : Memref sig .tc .hbm S1024x1024 .f32)
    (g : Buf (Elt F) (sc.view.loc (c : Thread nD τ))) (f : Buf (Elt F) (M.view.loc (c : Thread nD τ))) : sProp 𝕄 :=
  Transfers.Flight (countersEmb (U := Pipeline.UD sig nD τ)) (c : Thread nD τ) (.dma j) () (sc.view.amount (SemLoc.dma (sig := sig) j))
    iprop((sc.view.loc (c : Thread nD τ) ↦[sc.view.set]{fullShare} g) ∗ (M.view.loc (c : Thread nD τ) ↦[M.view.set]{fullShare} f))

theorem hz : (![0, 0] : Fin 2 → ℕ) = 0 := by decide

section Ends

variable (md : Vec F S8x1024 .f32) (gn : Vec F S1x1024 .f32) (y x t : Vec F S1024x1024 .f32)

/-- The gate's row of the modulation. -/
def gate : Vec F S1x1024 .f32 := View.ld md (Rect.unit (s := S8x1024) ![5, 0] S1x1024.size inb_S8x1024_S1x1024_5_0)

/-- What a row's last point leaves: the gradient along the residual, the gradient at the MLP's output, the column sums. -/
def dxOut : Vec F S1024x1024 .bf16 := k0_pay14 (k0_pay8 (gate md) y x) (k0_pay9 (gate md) y x) (k0_pay12 (gate md) y x gn t gn)
def dyOut : Vec F S1024x1024 .bf16 := k0_pay15 (k0_pay6 (gate md)) (k0_pay8 (gate md) y x) (k0_pay9 (gate md) y x) (k0_pay12 (gate md) y x gn t gn)
def stNext (s : Vec F S8x1024 .f32) : Vec F S8x1024 .f32 :=
  Rows.setRow (Val := Elt F) (e := .f32) 2 (k0_pay18 (k0_pay10 (gate md) y x gn t) (View.ld s (Rect.unit ![2, 0] ![1, 1024] inb_S8x1024_S1x1024_2_0)))
    (Rows.setRow (Val := Elt F) (e := .f32) 1 (k0_pay17 y (k0_pay8 (gate md) y x) (k0_pay9 (gate md) y x) (k0_pay12 (gate md) y x gn t gn) (View.ld s (Rect.unit ![1, 0] ![1, 1024] inb_S8x1024_S1x1024_1_0)))
      (Rows.setRow (Val := Elt F) (e := .f32) 0 (k0_pay16 (k0_pay9 (gate md) y x) (k0_pay11 (gate md) y x gn t) (View.ld s (Rect.unit ![0, 0] ![1, 1024] inb_S8x1024_S1x1024_0_0))) s))

end Ends

section Runs

variable (c : Dev nD) (i : grid0.Coords)
  (arg2 : Memref sig .tc .vmem S1024x1024 .bf16) (harg2 : arg2.IsWhole) (arg3 : Memref sig .tc .vmem S1024x1024 .bf16) (harg3 : arg3.IsWhole)
  (arg4 : Memref sig .tc .vmem S1024x1024 .bf16) (harg4 : arg4.IsWhole) (arg7 : Memref sig .tc .vmem S8x1024 .f32) (harg7 : arg7.IsWhole)
  (arg8 : Memref sig .tc .vmem S1x1024 .f32) (harg8 : arg8.IsWhole) (arg9 : Memref sig .tc .vmem S1024x1024 .bf16) (harg9 : arg9.IsWhole)
  (arg10 : Memref sig .tc .vmem S1024x1024 .bf16) (harg10 : arg10.IsWhole) (arg11 : Memref sig .tc .vmem S1024x1024 .bf16) (harg11 : arg11.IsWhole)
  (arg12 : Memref sig .tc .vmem S8x1024 .f32) (harg12 : arg12.IsWhole)

/-- The body at these operands. -/
abbrev body : Prog (TpuEff nD τ sig (Elt F) Λ₀ .tc) PUnit :=
  cc0_mlp_fwd_loss i arg2 harg2 arg3 harg3 arg4 harg4 xHbm (Memref.isWhole_whole _) tHbm (Memref.isWhole_whole _) arg7 harg7 arg8 harg8
    arg9 harg9 arg10 harg10 arg11 harg11 arg12 harg12 ySc (Memref.isWhole_whole _) xSc (Memref.isWhole_whole _) tSc (Memref.isWhole_whole _) cc0_scratch3

variable (x0 x1 x2 : Vec F S1024x1024 .bf16) (y : Vec F S1024x1024 .f32)

/-- A point in the middle of a row: the hidden block goes out and the sum grows. -/
theorem middle (h1 : ¬k0_cond1 i = 1#1) (h2 : ¬k0_cond2 i = 1#1) (h3 : ¬k0_cond3 i = 1#1) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg9 fullShare d) ∗ owns (c : Thread nD τ) ySc fullShare y
        ∗ (iprop(owns (c : Thread nD τ) arg2 fullShare x0 ∗ owns (c : Thread nD τ) arg3 fullShare x1 ∗ owns (c : Thread nD τ) arg4 fullShare x2
            ∗ owns (c : Thread nD τ) arg9 fullShare (k0_pay4 x0 x1) ∗ owns (c : Thread nD τ) ySc fullShare (k0_pay5 x0 x1 y x2)) -∗ K ⟨⟩))
      ⊢ wp frame (wpE (defs₀ (F := F)) Variants.none c none) Set.univ
          (body i arg2 harg2 arg3 harg3 arg4 harg4 arg7 harg7 arg8 harg8 arg9 harg9 arg10 harg10 arg11 harg11 arg12 harg12) K := by
  unfold body
  simp only [cc0_mlp_fwd_loss_eq_skeleton]; unfold cc0_mlp_fwd_loss_skel
  unfold owns
  iintro ⟨⟨%f0, %hf0, H0⟩, ⟨%f1, %hf1, H1⟩, ⟨%f2, %hf2, H2⟩, ⟨%d9, %f9, -, H9⟩, ⟨%fy, %hfy, Hy⟩, Hk⟩
  obtain rfl := harg2.eq_unread hf0; obtain rfl := harg3.eq_unread hf1; obtain rfl := harg4.eq_unread hf2
  obtain rfl := (Memref.isWhole_whole (sig := sig) cc0_scratch0).eq_unread hfy
  sl_exec (disch := first | sl_exact h1 | sl_exact h2 | sl_exact h3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H9]
  · iexists _; isplitr; swap; · iexact H9
    ipureintro
    sl_unfold_words
    rw [Rows.read_all]
    simp only [View.readAt_eq_ld, harg2.read_unread, harg3.read_unread, View.ld_unit_zero (S := S1024x1024) hz]
  iexists _; isplitr; swap; · iexact Hy
  ipureintro
  sl_unfold_words
  rw [Rows.read_all]
  simp only [View.readAt_eq_ld, harg2.read_unread, harg3.read_unread, harg4.read_unread,
    (Memref.isWhole_whole (sig := sig) cc0_scratch0).read_unread, View.ld_unit_zero (S := S1024x1024) hz]

/-- A row's first point: the two copies start, the sums begin (`st` at the very first point only), and the point goes on
    as the others do. -/
theorem start (h2 : k0_cond2 i = 1#1) (h3 : ¬k0_cond3 i = 1#1) (o : Fin 2 → ℕ)
    (ho : ∀ a, o a + S1024x1024.size a ≤ S4096x1024.size a) (e : k0_off1 i = o) (st st' : Vec F S8x1024 .f32)
    (hst : (k0_cond1 i = 1#1 ∧ st' = k0_pay1) ∨ (¬k0_cond1 i = 1#1 ∧ st' = st))
    (fX : Buf (Elt F) (xHbm.view.loc (c : Thread nD τ))) (fT : Buf (Elt F) (tHbm.view.loc (c : Thread nD τ))) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg9 fullShare d) ∗ owns (c : Thread nD τ) arg12 fullShare st ∗ (∃ d, owns (c : Thread nD τ) ySc fullShare d)
        ∗ (∃ d, owns (c : Thread nD τ) xSc fullShare d) ∗ (∃ d, owns (c : Thread nD τ) tSc fullShare d)
        ∗ semVal ((c : Thread nD τ), SemLoc.dma 15) 0 ∗ semVal ((c : Thread nD τ), SemLoc.dma 16) 0
        ∗ ((rows xHbm o ho).view.loc (c : Thread nD τ) ↦[(rows xHbm o ho).view.set]{fullShare} fX)
        ∗ ((rows tHbm o ho).view.loc (c : Thread nD τ) ↦[(rows tHbm o ho).view.set]{fullShare} fT)
        ∗ (iprop(owns (c : Thread nD τ) arg2 fullShare x0 ∗ owns (c : Thread nD τ) arg3 fullShare x1 ∗ owns (c : Thread nD τ) arg4 fullShare x2
            ∗ owns (c : Thread nD τ) arg9 fullShare (k0_pay4 x0 x1) ∗ owns (c : Thread nD τ) arg12 fullShare st'
            ∗ owns (c : Thread nD τ) ySc fullShare (k0_pay5 x0 x1 k0_pay2 x2)
            ∗ (∃ g, ⌜xSc.view.read (Elt F) g = (rows xHbm o ho).view.read (Elt F) fX⌝
                ∗ flight c 15 xSc (rows xHbm o ho) g fX)
            ∗ (∃ g, ⌜tSc.view.read (Elt F) g = (rows tHbm o ho).view.read (Elt F) fT⌝
                ∗ flight c 16 tSc (rows tHbm o ho) g fT)) -∗ K ⟨⟩))
      ⊢ wp frame (wpE (defs₀ (F := F)) Variants.none c none) Set.univ
          (body i arg2 harg2 arg3 harg3 arg4 harg4 arg7 harg7 arg8 harg8 arg9 harg9 arg10 harg10 arg11 harg11 arg12 harg12) K := by
  subst e
  unfold body
  rw [cc0_mlp_fwd_loss_eq_skeleton]; unfold cc0_mlp_fwd_loss_skel
  unfold owns
  unfold rows
  iintro ⟨⟨%f0, %hf0, H0⟩, ⟨%f1, %hf1, H1⟩, ⟨%f2, %hf2, H2⟩, ⟨%d9, %f9, -, H9⟩, ⟨%f12, %hf12, H12⟩, ⟨%dy, %fy, -, Hy⟩,
    ⟨%dx, %fx, -, Hx⟩, ⟨%dt, %ft, -, Ht⟩, S1, S2, HX, HT, Hk⟩
  obtain rfl := harg2.eq_unread hf0; obtain rfl := harg3.eq_unread hf1; obtain rfl := harg4.eq_unread hf2
  obtain rfl := harg12.eq_unread hf12
  rcases hst with ⟨h1, rfl⟩ | ⟨h1, rfl⟩ <;> (
    sl_exec (disch := first | sl_exact h1 | sl_exact h2 | sl_exact h3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H9]
    · iexists _; isplitr; swap; · iexact H9
      ipureintro
      sl_unfold_words
      rw [Rows.read_all]
      simp only [View.readAt_eq_ld, harg2.read_unread, harg3.read_unread, View.ld_unit_zero (S := S1024x1024) hz]
    isplitl [H12]
    · iexists _; isplitr; swap; · iexact H12
      ipureintro
      first | (sl_unfold_words; rw [Rows.read_all]) | exact harg12.read_unread _
    isplitl [Hy]
    · iexists _; isplitr; swap; · iexact Hy
      ipureintro
      sl_unfold_words
      rw [Rows.read_all]
      simp only [Rows.readCov_all, View.readAt_eq_ld, harg2.read_unread, harg3.read_unread, harg4.read_unread, View.ld_unit_zero (S := S1024x1024) hz]
    isplitl [S1]
    · iexists _; isplitr; swap; · iexact S1
      ipureintro
      exact View.read_writes_whole _ _ _
    iexists _; isplitr; swap; · iexact S2
    ipureintro
    exact View.read_writes_whole _ _ _)

set_option maxHeartbeats 2000000 in
/-- A row's last point: the copies arrive, the row block is finished and its gradients and column sums go out. -/
theorem finish (h1 : ¬k0_cond1 i = 1#1) (h2 : ¬k0_cond2 i = 1#1) (h3 : k0_cond3 i = 1#1) (md : Vec F S8x1024 .f32) (gn : Vec F S1x1024 .f32)
    (st : Vec F S8x1024 .f32) (o : Fin 2 → ℕ) (ho : ∀ a, o a + S1024x1024.size a ≤ S4096x1024.size a)
    (gX : Buf (Elt F) (xSc.view.loc (c : Thread nD τ))) (gT : Buf (Elt F) (tSc.view.loc (c : Thread nD τ)))
    (fX : Buf (Elt F) (xHbm.view.loc (c : Thread nD τ))) (fT : Buf (Elt F) (tHbm.view.loc (c : Thread nD τ)))
    (W : Waits sig Unit) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg7 fullShare md ∗ owns (c : Thread nD τ) arg8 fullShare gn
        ∗ (∃ d, owns (c : Thread nD τ) arg9 fullShare d) ∗ (∃ d, owns (c : Thread nD τ) arg10 fullShare d)
        ∗ (∃ d, owns (c : Thread nD τ) arg11 fullShare d) ∗ owns (c : Thread nD τ) arg12 fullShare st ∗ owns (c : Thread nD τ) ySc fullShare y
        ∗ flight c 15 xSc (rows xHbm o ho) gX fX ∗ flight c 16 tSc (rows tHbm o ho) gT fT ∗ owes (c : Thread nD τ) 0 W
        ∗ (iprop(owns (c : Thread nD τ) arg2 fullShare x0 ∗ owns (c : Thread nD τ) arg3 fullShare x1 ∗ owns (c : Thread nD τ) arg4 fullShare x2
            ∗ owns (c : Thread nD τ) arg7 fullShare md ∗ owns (c : Thread nD τ) arg8 fullShare gn
            ∗ owns (c : Thread nD τ) arg9 fullShare (k0_pay4 x0 x1)
            ∗ owns (c : Thread nD τ) arg10 fullShare (dxOut md gn (k0_pay5 x0 x1 y x2) (xSc.view.read (Elt F) gX) (tSc.view.read (Elt F) gT))
            ∗ owns (c : Thread nD τ) arg11 fullShare (dyOut md gn (k0_pay5 x0 x1 y x2) (xSc.view.read (Elt F) gX) (tSc.view.read (Elt F) gT))
            ∗ owns (c : Thread nD τ) arg12 fullShare (stNext md gn (k0_pay5 x0 x1 y x2) (xSc.view.read (Elt F) gX) (tSc.view.read (Elt F) gT) st)
            ∗ (∃ d, owns (c : Thread nD τ) ySc fullShare d) ∗ (∃ d, owns (c : Thread nD τ) xSc fullShare d) ∗ (∃ d, owns (c : Thread nD τ) tSc fullShare d)
            ∗ semVal ((c : Thread nD τ), SemLoc.dma 15) 0 ∗ semVal ((c : Thread nD τ), SemLoc.dma 16) 0
            ∗ ((rows xHbm o ho).view.loc (c : Thread nD τ) ↦[(rows xHbm o ho).view.set]{fullShare} fX)
            ∗ ((rows tHbm o ho).view.loc (c : Thread nD τ) ↦[(rows tHbm o ho).view.set]{fullShare} fT)
            ∗ (∃ W', owes (c : Thread nD τ) 0 W')) -∗ K ⟨⟩))
      ⊢ wp frame (wpE (defs₀ (F := F)) Variants.none c none) Set.univ
          (body i arg2 harg2 arg3 harg3 arg4 harg4 arg7 harg7 arg8 harg8 arg9 harg9 arg10 harg10 arg11 harg11 arg12 harg12) K := by
  unfold body
  rw [cc0_mlp_fwd_loss_eq_skeleton]; unfold cc0_mlp_fwd_loss_skel
  rw [k0_part1_eq_skeleton, k0_part2_eq_skeleton]
  unfold owns flight rows
  iintro ⟨⟨%f0, %hf0, H0⟩, ⟨%f1, %hf1, H1⟩, ⟨%f2, %hf2, H2⟩, ⟨%f7, %hf7, H7⟩, ⟨%f8, %hf8, H8⟩, ⟨%d9, %f9, -, H9⟩, ⟨%d10, %f10, -, H10⟩,
    ⟨%d11, %f11, -, H11⟩, ⟨%f12, %hf12, H12⟩, ⟨%fy, %hfy, Hy⟩, S1, S2, HW, Hk⟩
  obtain rfl := harg2.eq_unread hf0; obtain rfl := harg3.eq_unread hf1; obtain rfl := harg4.eq_unread hf2
  obtain rfl := harg7.eq_unread hf7; obtain rfl := harg8.eq_unread hf8
  obtain rfl := harg12.eq_unread hf12; obtain rfl := (Memref.isWhole_whole (sig := sig) cc0_scratch0).eq_unread hfy
  sl_exec (disch := first | sl_exact h1 | sl_exact h2 | sl_exact h3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H7]
  · iexists _; isplitr; · ipureintro; exact harg7.read_unread _
    iexact H7
  isplitl [H8]
  · iexists _; isplitr; · ipureintro; exact harg8.read_unread _
    iexact H8
  isplitl [H9]
  · iexists _; isplitr; swap; · iexact H9
    ipureintro
    sl_unfold_words
    rw [Rows.read_all]
    simp only [View.readAt_eq_ld, harg2.read_unread, harg3.read_unread, View.ld_unit_zero (S := S1024x1024) hz]
  isplitl [H10]
  · iexists _; isplitr; swap; · iexact H10
    ipureintro
    sl_unfold_words
    rw [Rows.read_all]
    simp only [Rows.readCov_all, View.readAt_eq_ld, harg2.read_unread, harg3.read_unread, harg4.read_unread, harg7.read_unread, harg8.read_unread,
      (Memref.isWhole_whole (sig := sig) cc0_scratch0).read_unread, View.ld_unit_zero (S := S1024x1024) hz, View.ld_unit_zero (S := S1x1024) hz]
    rfl
  isplitl [H11]
  · iexists _; isplitr; swap; · iexact H11
    ipureintro
    sl_unfold_words
    rw [Rows.read_all]
    simp only [Rows.readCov_all, View.readAt_eq_ld, harg2.read_unread, harg3.read_unread, harg4.read_unread, harg7.read_unread, harg8.read_unread,
      (Memref.isWhole_whole (sig := sig) cc0_scratch0).read_unread, View.ld_unit_zero (S := S1024x1024) hz, View.ld_unit_zero (S := S1x1024) hz]
    rfl
  isplitl [H12]
  · iexists _; isplitr; swap; · iexact H12
    ipureintro
    sl_unfold_words
    simp only [Rows.readCov_all, View.readAt_eq_ld, harg2.read_unread, harg3.read_unread, harg4.read_unread, harg7.read_unread, harg8.read_unread, harg12.read_unread,
      (Memref.isWhole_whole (sig := sig) cc0_scratch0).read_unread, View.ld_unit_zero (S := S1024x1024) hz, View.ld_unit_zero (S := S1x1024) hz]
    rw [Rows.read_setRow, Rows.read_setRow, Rows.read_setRow, Rows.read_nil, harg12.read_unread]
    rfl
  isplitl [Hy]
  · iexists _, _; isplitr; swap; · iexact Hy
    ipureintro; rfl
  isplitl [S1_dst]
  · iexists _, _; isplitr; swap; · iexact S1_dst
    ipureintro; rfl
  isplitl [S2_dst]
  · iexists _, _; isplitr; swap; · iexact S2_dst
    ipureintro; rfl
  isplitl [S1]; · iexact S1
  isplitl [S2]; · iexact S2
  isplitl [S1_src]; · iexact S1_src
  isplitl [S2_src]; · iexact S2_src
  iexists _; iexact HW

end Runs

end Cert.Kernel5Ideal.MlpLoss

end
-- ==== Proof.MlpLossFrame.lean ====
/- The frame of the loss kernel: what each of the sixteen points leaves, and the invariant between points. At a row's start
   the two operands left in HBM are held whole and the cells stand at zero; inside a row the block of rows is on its way
   (`MlpLoss.flight`) and only the rest of the operands is held. -/
module

public import proofs.«01_k».proof.Proof.MlpLossRun

@[expose] public section

set_option maxRecDepth 16384

noncomputable section

namespace Cert.Kernel5Ideal.MlpLoss

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel5Ideal.Gen Cert.Proof

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## Up to the region, and the body's own cells and operands -/

set_option maxHeartbeats 800000 in
theorem prefix_main (𝒱₀ : Variants) :
    Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

abbrev cells : Fin 2 → SemLoc sig := fun j => (![SemLoc.dma 15, SemLoc.dma 16] : Fin 2 → SemLoc sig) j
theorem cells_facts : Pipeline.OwnSemFacts spec0 cells := by decide
theorem cells_eq (c : Dev nD) :
    (Pipeline.ownSems0 (Ix := Unit) (Name := ℕ) (U := Pipeline.UD sig nD τ) (Lvl := ℕ) (Val := Elt F) (τ := τ) cells c : sProp 𝕄)
      = iprop(semVal ((c : Thread nD τ), SemLoc.dma 15) 0 ∗ semVal ((c : Thread nD τ), SemLoc.dma 16) 0) := by
  rw [Pipeline.ownSems0_eq_of_list c cells [0, 1] (by decide) (by decide)]; rfl

def hbm : Finset (Ref sig .tc) := {main_arg1, main_v9}
theorem hbm_sub : hbm ⊆ Pipeline.restRefs sig spec0 := by decide
theorem hbm_eq (c : Dev nD) :
    (bigSep hbm (fun b => ((c : Thread nD τ).loc b) ↦{fullShare} V m c b) : sProp 𝕄)
      = iprop((xHbm.view.loc (c : Thread nD τ) ↦{fullShare} V m c main_arg1) ∗ (tHbm.view.loc (c : Thread nD τ) ↦{fullShare} V m c main_v9)) := by
  rw [BI.bigSep_eq_bigSepL_of_eq [main_arg1, main_v9] (by decide) (by decide)]; rfl

/-- Between rows: the scratches at anything, the cells at zero, the operands whole. -/
def idle (c : Dev nD) : sProp 𝕄 := Pipeline.ΦD cells spec0 hbm (V m) c

theorem idle_eq (c : Dev nD) :
    (idle m c : sProp 𝕄)
      = iprop(iprop((∃ d, owns (c : Thread nD τ) ySc fullShare d) ∗ (∃ d, owns (c : Thread nD τ) xSc fullShare d) ∗ (∃ d, owns (c : Thread nD τ) tSc fullShare d))
          ∗ (∃ r, prngReg c r)
          ∗ iprop(semVal ((c : Thread nD τ), SemLoc.dma 15) 0 ∗ semVal ((c : Thread nD τ), SemLoc.dma 16) 0)
          ∗ iprop((xHbm.view.loc (c : Thread nD τ) ↦{fullShare} V m c main_arg1) ∗ (tHbm.view.loc (c : Thread nD τ) ↦{fullShare} V m c main_v9))) := by
  unfold idle
  rw [Pipeline.ΦD_eq, scopedRest0_eq, cells_eq, hbm_eq]
  simp only [ySc, xSc, tSc, owns_whole]; try rfl

/-! ## The points -/

theorem cond1_iff : ∀ t : Fin grid0.N, k0_cond1 (grid0.coords t) = 1#1 ↔ t.val = 0 := by decide +kernel
theorem cond2_iff : ∀ t : Fin grid0.N, k0_cond2 (grid0.coords t) = 1#1 ↔ t.val % 4 = 0 := by decide +kernel
theorem cond3_iff : ∀ t : Fin grid0.N, k0_cond3 (grid0.coords t) = 1#1 ↔ t.val % 4 = 3 := by decide +kernel

theorem off_inb (r : Fin 4) : ∀ a, (![1024 * r.val, 0] : Fin 2 → ℕ) a + S1024x1024.size a ≤ S4096x1024.size a := by
  revert r; decide

/-- Row block `r` of an operand. -/
abbrev rowsAt (M : Memref sig .tc .hbm S4096x1024 .f32) (r : Fin 4) : Memref sig .tc .hbm S1024x1024 .f32 := rows M ![1024 * r.val, 0] (off_inb r)

/-- The row of a point. -/
def rowAt (t : Fin cfg0.N) : Fin 4 := ⟨t.val / 4, by have : cfg0.N = 16 := N_0; have := t.isLt; omega⟩

theorem off_eq (t : Fin grid0.N) : k0_off1 (grid0.coords t) = ![1024 * (rowAt t).val, 0] := by
  revert t; decide +kernel

/-- The two operands' rows at row `r`. -/
def xRows (c : Dev nD) (r : Fin 4) : Vec F S1024x1024 .f32 := (rowsAt xHbm r).view.read (Elt F) (V m c main_arg1)
def tRows (c : Dev nD) (r : Fin 4) : Vec F S1024x1024 .f32 := (rowsAt tHbm r).view.read (Elt F) (V m c main_v9)

/-- The sum after a point, from the sum before it. -/
def yNext (c : Dev nD) (t : Fin cfg0.N) (y : Vec F S1024x1024 .f32) : Vec F S1024x1024 .f32 := k0_pay5 (iblk m c 0 t) (iblk m c 1 t) y (iblk m c 2 t)

/-- The sum after point `n`. -/
def yAt (c : Dev nD) : (n : ℕ) → n < cfg0.N → Vec F S1024x1024 .f32
  | 0, h => yNext m c ⟨0, h⟩ k0_pay2
  | n + 1, h => yNext m c ⟨n + 1, h⟩ (if (n + 1) % 4 = 0 then k0_pay2 else yAt c n (by omega))

theorem yAt_first (c : Dev nD) (t : Fin cfg0.N) (h : t.val % 4 = 0) : yAt m c t.val t.isLt = yNext m c t k0_pay2 := by
  obtain ⟨n, hn⟩ := t
  cases n with
  | zero => rfl
  | succ n => unfold yAt; rw [if_pos h]

theorem yAt_later (c : Dev nD) (t : Fin cfg0.N) (h : ¬t.val % 4 = 0) :
    yAt m c t.val t.isLt = yNext m c t (yAt m c (t.val - 1) (by have := t.isLt; omega)) := by
  obtain ⟨n, hn⟩ := t
  cases n with
  | zero => exact absurd rfl h
  | succ n => conv_lhs => unfold yAt
              rw [if_neg h]; rfl

/-- The column sums after point `n`. -/
def stAt (c : Dev nD) : (n : ℕ) → n < cfg0.N → Vec F S8x1024 .f32
  | 0, _ => k0_pay1
  | n + 1, h =>
    if (n + 1) % 4 = 3 then
      stNext (iblk m c 3 ⟨n + 1, h⟩) (iblk m c 4 ⟨n + 1, h⟩) (yAt m c (n + 1) h) (xRows m c (rowAt ⟨n + 1, h⟩)) (tRows m c (rowAt ⟨n + 1, h⟩)) (stAt c n (by omega))
    else stAt c n (by omega)

theorem stAt_last (c : Dev nD) (t : Fin cfg0.N) (h : t.val % 4 = 3) :
    stAt m c t.val t.isLt = stNext (iblk m c 3 t) (iblk m c 4 t) (yAt m c t.val t.isLt) (xRows m c (rowAt t)) (tRows m c (rowAt t))
      (stAt m c (t.val - 1) (by have := t.isLt; omega)) := by
  obtain ⟨n, hn⟩ := t
  cases n with
  | zero => exact absurd h (by decide : ¬(0 % 4 = 3))
  | succ n => conv_lhs => unfold stAt
              rw [if_pos h]; rfl

/-! ## The invariant and the proof data -/

/-- The rest of an operand while row block `r` is away. -/
abbrev restOf (c : Dev nD) (M : Memref sig .tc .hbm S4096x1024 .f32) (r : Fin 4) (f : Buf (Elt F) (M.view.loc (c : Thread nD τ))) : sProp 𝕄 :=
  M.view.loc (c : Thread nD τ) ↦[Finset.univ \ (rowsAt M r).view.set]{fullShare} f

/-- Inside row `r`: the sum at `y`, the two row blocks on their way. -/
def moving (c : Dev nD) (r : Fin 4) (y : Vec F S1024x1024 .f32) : sProp 𝕄 :=
  iprop(owns (c : Thread nD τ) ySc fullShare y
    ∗ (∃ r, prngReg c r)
    ∗ (∃ g, ⌜xSc.view.read (Elt F) g = xRows m c r⌝ ∗ flight c 15 xSc (rowsAt xHbm r) g (V m c main_arg1))
    ∗ (∃ g, ⌜tSc.view.read (Elt F) g = tRows m c r⌝ ∗ flight c 16 tSc (rowsAt tHbm r) g (V m c main_v9))
    ∗ restOf c xHbm r (V m c main_arg1) ∗ restOf c tHbm r (V m c main_v9))

/-- Before point `n`. -/
def inv (c : Dev nD) (n : ℕ) (h : n ≤ cfg0.N) : sProp 𝕄 :=
  if hz : n % 4 = 0 then idle m c
  else moving m c ⟨n / 4, by have : cfg0.N = 16 := N_0; omega⟩ (yAt m c (n - 1) (by omega))

theorem inv_idle (c : Dev nD) (n : ℕ) (h : n ≤ cfg0.N) (hz : n % 4 = 0) : inv m c n h = idle m c := dif_pos hz
theorem inv_moving (c : Dev nD) (n : ℕ) (h : n ≤ cfg0.N) (hz : ¬n % 4 = 0) :
    inv m c n h = moving m c ⟨n / 4, by have : cfg0.N = 16 := N_0; omega⟩ (yAt m c (n - 1) (by omega)) := dif_neg hz

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => k0_pay4 (iblk m c 0 t) (iblk m c 1 t)
    | ⟨6, _⟩ => dxOut (iblk m c 3 t) (iblk m c 4 t) (yAt m c t.val t.isLt) (xRows m c (rowAt t)) (tRows m c (rowAt t))
    | ⟨7, _⟩ => dyOut (iblk m c 3 t) (iblk m c 4 t) (yAt m c t.val t.isLt) (xRows m c (rowAt t)) (tRows m c (rowAt t))
    | ⟨8, _⟩ => stAt m c t.val t.isLt
  Φ t := inv m c t.val (Nat.le_of_lt_succ t.isLt)
  q _ := fullShare
  owed _ := 0

theorem A_eq (c : Dev nD) (w : Fin cfg0.W) : (dats m 0 c).A w = V m c (Pipeline.arrRef spec0 w) := by
  dsimp only [dats]
theorem inv_at (c : Dev nD) (t : Fin cfg0.N) : (dats m 0 c).Φ t.castSucc = inv m c t.val (Nat.le_of_lt t.isLt) := by
  dsimp only [dats]; exact Pipeline.Dat.Φ_castSucc (inv m c) t
theorem after_5 (c : Dev nD) (t : Fin cfg0.N) : (dats m 0 c).after 5 t = k0_pay4 (iblk m c 0 t) (iblk m c 1 t) := by dsimp only [dats]
theorem after_6 (c : Dev nD) (t : Fin cfg0.N) : (dats m 0 c).after 6 t
    = dxOut (iblk m c 3 t) (iblk m c 4 t) (yAt m c t.val t.isLt) (xRows m c (rowAt t)) (tRows m c (rowAt t)) := by dsimp only [dats]
theorem after_7 (c : Dev nD) (t : Fin cfg0.N) : (dats m 0 c).after 7 t
    = dyOut (iblk m c 3 t) (iblk m c 4 t) (yAt m c t.val t.isLt) (xRows m c (rowAt t)) (tRows m c (rowAt t)) := by dsimp only [dats]
theorem after_8 (c : Dev nD) (t : Fin cfg0.N) : (dats m 0 c).after 8 t = stAt m c t.val t.isLt := by dsimp only [dats]

/-! An input's staging buffer holds its block at every point, and keeps it. -/

theorem before_0 (c : Dev nD) (t : Fin cfg0.N) (d) : (dats m 0 c).before 0 t d = iblk m c 0 t :=
  ((dats m 0 c).before_in_eq_fetched 0 rfl (fun _ => rfl) (fun _ _ _ => rfl)
    (fun t => by dsimp only [dats]; unfold Dat.blockOf iblk; try rfl) t d).trans
    (by unfold Dat.fetched Dat.blockOf iblk; rw [A_eq]; try rfl)
theorem leaves_0 (c : Dev nD) (t : Fin cfg0.N) : (dats m 0 c).leavesExact 0 t = owns (c : Thread nD τ) (st0_0 t) fullShare (iblk m c 0 t) := by
  unfold Dat.leavesExact; dsimp only [dats]; try rfl
theorem before_1 (c : Dev nD) (t : Fin cfg0.N) (d) : (dats m 0 c).before 1 t d = iblk m c 1 t :=
  ((dats m 0 c).before_in_eq_fetched 1 rfl (fun _ => rfl) (fun _ _ _ => rfl)
    (fun t => by dsimp only [dats]; unfold Dat.blockOf iblk; try rfl) t d).trans
    (by unfold Dat.fetched Dat.blockOf iblk; rw [A_eq]; try rfl)
theorem leaves_1 (c : Dev nD) (t : Fin cfg0.N) : (dats m 0 c).leavesExact 1 t = owns (c : Thread nD τ) (st0_1 t) fullShare (iblk m c 1 t) := by
  unfold Dat.leavesExact; dsimp only [dats]; try rfl
theorem before_2 (c : Dev nD) (t : Fin cfg0.N) (d) : (dats m 0 c).before 2 t d = iblk m c 2 t :=
  ((dats m 0 c).before_in_eq_fetched 2 rfl (fun _ => rfl) (fun _ _ _ => rfl)
    (fun t => by dsimp only [dats]; unfold Dat.blockOf iblk; try rfl) t d).trans
    (by unfold Dat.fetched Dat.blockOf iblk; rw [A_eq]; try rfl)
theorem leaves_2 (c : Dev nD) (t : Fin cfg0.N) : (dats m 0 c).leavesExact 2 t = owns (c : Thread nD τ) (st0_2 t) fullShare (iblk m c 2 t) := by
  unfold Dat.leavesExact; dsimp only [dats]; try rfl
theorem before_3 (c : Dev nD) (t : Fin cfg0.N) (d) : (dats m 0 c).before 3 t d = iblk m c 3 t :=
  ((dats m 0 c).before_in_eq_fetched 3 rfl (fun _ => rfl) (fun _ _ _ => rfl)
    (fun t => by dsimp only [dats]; unfold Dat.blockOf iblk; try rfl) t d).trans
    (by unfold Dat.fetched Dat.blockOf iblk; rw [A_eq]; try rfl)
theorem leaves_3 (c : Dev nD) (t : Fin cfg0.N) : (dats m 0 c).leavesExact 3 t = owns (c : Thread nD τ) (st0_3 t) fullShare (iblk m c 3 t) := by
  unfold Dat.leavesExact; dsimp only [dats]; try rfl
theorem before_4 (c : Dev nD) (t : Fin cfg0.N) (d) : (dats m 0 c).before 4 t d = iblk m c 4 t :=
  ((dats m 0 c).before_in_eq_fetched 4 rfl (fun _ => rfl) (fun _ _ _ => rfl)
    (fun t => by dsimp only [dats]; unfold Dat.blockOf iblk; try rfl) t d).trans
    (by unfold Dat.fetched Dat.blockOf iblk; rw [A_eq]; try rfl)
theorem leaves_4 (c : Dev nD) (t : Fin cfg0.N) : (dats m 0 c).leavesExact 4 t = owns (c : Thread nD τ) (st0_4 t) fullShare (iblk m c 4 t) := by
  unfold Dat.leavesExact; dsimp only [dats]; try rfl

theorem idle_out : ∀ t : Fin grid0.N, (cfg0.idle 6 (grid0.coords t) = !(t.val % 4 == 3)) ∧ (cfg0.idle 7 (grid0.coords t) = !(t.val % 4 == 3))
    ∧ (cfg0.idle 8 (grid0.coords t) = (!(t.val == 0) && !(t.val % 4 == 3))) := by decide +kernel

theorem flush_8 (t : Fin cfg0.N) (h : t.val < 15) : (cfg0.win 8).flush t = false :=
  Bool.eq_false_iff.mpr fun hf => by have := (flush0_8 t).mp hf; omega

theorem left_8 (c : Dev nD) (t : Fin cfg0.N) (d) (h : t.val = 0 ∨ t.val % 4 = 3) : (dats m 0 c).left 8 t d = stAt m c t.val t.isLt := by
  have hi : cfg0.idle 8 (cfg0.grid.coords t) = false := (idle_out t).2.2.trans (by rcases h with h | h <;> simp [h])
  unfold Dat.left; rw [hi]; dsimp only
  unfold Dat.kept
  rw [Pipeline.fill_of_clip_none 8 _ (fun _ => rfl) d ((dats m 0 c).after 8 t), Window.fill_cut, after_8]

/-- The column sums' buffer holds, after the first point, what the points so far have summed. -/
theorem before_8 (c : Dev nD) (d) : ∀ (n : ℕ) (h : n + 1 < cfg0.N), (dats m 0 c).before 8 ⟨n + 1, h⟩ d = stAt m c n (by omega) := by
  have hN : cfg0.N = 16 := N_0
  intro n
  induction n with
  | zero =>
    intro h
    rw [(dats m 0 c).before_of_pos 8 ⟨0 + 1, h⟩ (Nat.succ_ne_zero _) ((cfg0.win 8).fetch_out rfl _), flush_8 _ (by show 0 + 1 - 1 < 15; omega),
      if_neg Bool.false_ne_true]
    exact left_8 m c _ d (Or.inl rfl)
  | succ n ih =>
    intro h
    rw [(dats m 0 c).before_of_pos 8 ⟨n + 1 + 1, h⟩ (Nat.succ_ne_zero _) ((cfg0.win 8).fetch_out rfl _), flush_8 _ (by show n + 1 + 1 - 1 < 15; omega),
      if_neg Bool.false_ne_true]
    by_cases h3 : (n + 1) % 4 = 3
    · exact left_8 m c ⟨n + 1, by omega⟩ d (Or.inr h3)
    · have hp : n + 1 < cfg0.N := by omega
      have hi : cfg0.idle 8 (cfg0.grid.coords ⟨n + 1, hp⟩) = true := by
        refine (idle_out ⟨n + 1, hp⟩).2.2.trans ?_
        simp [h3]
      show (dats m 0 c).left 8 ⟨n + 1, hp⟩ d = _
      unfold Dat.left; rw [hi]; dsimp only
      refine (ih (by omega)).trans ?_
      conv_rhs => unfold stAt
      rw [if_neg h3]

/-! ## The body at a point -/

theorem inv_here (c : Dev nD) (t : Fin cfg0.N) (h : ¬t.val % 4 = 0) :
    inv m c t.val (Nat.le_of_lt t.isLt) = moving m c (rowAt t) (yAt m c (t.val - 1) (by have := t.isLt; omega)) := inv_moving m c _ _ h
theorem inv_next (c : Dev nD) (t : Fin cfg0.N) (h : ¬t.val % 4 = 3) :
    inv m c (t.val + 1) t.isLt = moving m c (rowAt t) (yAt m c t.val t.isLt) := by
  rw [inv_moving m c _ _ (by omega)]
  have e : (⟨(t.val + 1) / 4, by have : cfg0.N = 16 := N_0; have := t.isLt; omega⟩ : Fin 4) = rowAt t := Fin.ext (by unfold rowAt; dsimp only; omega)
  rw [e]; rfl

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

theorem leaves_5 (c : Dev nD) (t : Fin cfg0.N) :
    (dats m 0 c).leavesExact 5 t = owns (c : Thread nD τ) (st0_5 t) fullShare (k0_pay4 (iblk m c 0 t) (iblk m c 1 t)) := by
  unfold Dat.leavesExact; dsimp only [dats]; try rfl

/-- The row outputs, at a point that does not finish a row: as found. -/
theorem leaves_6 (c : Dev nD) (t : Fin cfg0.N) (h : ¬t.val % 4 = 3) :
    (dats m 0 c).leavesExact 6 t = iprop(∃ d, owns (c : Thread nD τ) (st0_6 t) fullShare ((dats m 0 c).before 6 t d)) :=
  (dats m 0 c).leavesExact_idle 6 t ((idle_out t).1.trans (by simp [h])) (Bool.eq_false_iff.mpr fun hf => h ((flush0_6 t).mp hf))
theorem leaves_7 (c : Dev nD) (t : Fin cfg0.N) (h : ¬t.val % 4 = 3) :
    (dats m 0 c).leavesExact 7 t = iprop(∃ d, owns (c : Thread nD τ) (st0_7 t) fullShare ((dats m 0 c).before 7 t d)) :=
  (dats m 0 c).leavesExact_idle 7 t ((idle_out t).2.1.trans (by simp [h])) (Bool.eq_false_iff.mpr fun hf => h ((flush0_7 t).mp hf))
theorem leaves_8 (c : Dev nD) (t : Fin cfg0.N) (h : ¬t.val % 4 = 3) (h0 : ¬t.val = 0) :
    (dats m 0 c).leavesExact 8 t = iprop(∃ d, owns (c : Thread nD τ) (st0_8 t) fullShare ((dats m 0 c).before 8 t d)) :=
  (dats m 0 c).leavesExact_idle 8 t ((idle_out t).2.2.trans (by simp [h, h0]))
    (Bool.eq_false_iff.mpr fun hf => by have := (flush0_8 t).mp hf; have : cfg0.N = 16 := N_0; have := t.isLt; omega)
/-- At one that does: as stated. -/
theorem leaves_6' (c : Dev nD) (t : Fin cfg0.N) (h : t.val % 4 = 3) :
    (dats m 0 c).leavesExact 6 t = owns (c : Thread nD τ) (st0_6 t) fullShare ((dats m 0 c).after 6 t) := by
  unfold Dat.leavesExact; rw [(idle_out t).1.trans (show (!(t.val % 4 == 3)) = false by simp [h])]
theorem leaves_7' (c : Dev nD) (t : Fin cfg0.N) (h : t.val % 4 = 3) :
    (dats m 0 c).leavesExact 7 t = owns (c : Thread nD τ) (st0_7 t) fullShare ((dats m 0 c).after 7 t) := by
  unfold Dat.leavesExact; rw [(idle_out t).2.1.trans (show (!(t.val % 4 == 3)) = false by simp [h])]
theorem leaves_8' (c : Dev nD) (t : Fin cfg0.N) (h : t.val = 0 ∨ t.val % 4 = 3) :
    (dats m 0 c).leavesExact 8 t = owns (c : Thread nD τ) (st0_8 t) fullShare (stAt m c t.val t.isLt) := by
  unfold Dat.leavesExact; rw [(idle_out t).2.2.trans (show (!(t.val == 0) && !(t.val % 4 == 3)) = false by rcases h with h | h <;> simp [h])]
  rw [after_8]

set_option maxHeartbeats 2000000 in
theorem sound_middle (c : Dev nD) (t : Fin cfg0.N) (ha : ¬t.val % 4 = 0) (hb : ¬t.val % 4 = 3) :
    bodyPre m c t ⊢ wp frame (wpE (defs₀ (F := F)) Variants.none c none) Set.univ (bodyAt0 t) (fun _ => bodyPost m c t) := by
  unfold bodyPre bodyPost
  simp only [before_0, before_1, before_2, before_3, before_4]
  rw [show (dats m 0 c).owesAt () t.succ = (dats m 0 c).owesAt () t.castSucc from rfl, inv_at, show (dats m 0 c).Φ t.succ = inv m c (t.val + 1) t.isLt from rfl,
    inv_here m c t ha, inv_next m c t hb, leaves_0, leaves_1, leaves_2, leaves_3, leaves_4, leaves_5, leaves_6 m c t hb, leaves_7 m c t hb,
    leaves_8 m c t hb (fun h => ha (by rw [h])), yAt_later m c t ha]
  unfold moving yNext
  iintro ⟨⟨Hy, Hg, HX, HT, HRX, HRT⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (middle c (grid0.coords t) _ _ _ _ _ _ _ _ _ _ _ _ _ _ _ _ _ _ _ _ _ _
    (fun h => ha (by rw [(cond1_iff t).mp h])) (fun h => ha ((cond2_iff t).mp h)) (fun h => hb ((cond3_iff t).mp h)) _)
  isplitl [H0]; · iexact H0
  isplitl [H1]; · iexact H1
  isplitl [H2]; · iexact H2
  isplitl [H5]; · iexists _; iexact H5
  isplitl [Hy]; · iexact Hy
  iintro ⟨H0, H1, H2, H5, Hy⟩
  isplitl [Hy Hg HX HT HRX HRT]
  · isplitl [Hy]; · iexact Hy
    isplitl [Hg]; · iexact Hg
    isplitl [HX]; · iexact HX
    isplitl [HT]; · iexact HT
    isplitl [HRX]; · iexact HRX
    iexact HRT
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iexists _; iexact H8

/-- The column sums' buffer after the first point of a row: zero after the first point of all, as found after the others. -/
theorem st_start (c : Dev nD) (t : Fin cfg0.N) (ha : t.val % 4 = 0) (d) :
    ∃ st', ((k0_cond1 (grid0.coords t) = 1#1 ∧ st' = k0_pay1) ∨ (¬k0_cond1 (grid0.coords t) = 1#1 ∧ st' = (dats m 0 c).before 8 t d))
      ∧ (owns (c : Thread nD τ) (st0_8 t) fullShare st' ⊢ (dats m 0 c).leavesExact 8 t) := by
  by_cases h0 : t.val = 0
  · refine ⟨k0_pay1, Or.inl ⟨(cond1_iff t).mpr h0, rfl⟩, ?_⟩
    rw [leaves_8' m c t (Or.inl h0)]
    obtain ⟨n, hn⟩ := t; dsimp only at h0; subst h0; exact .rfl
  · refine ⟨(dats m 0 c).before 8 t d, Or.inr ⟨fun h => h0 ((cond1_iff t).mp h), rfl⟩, ?_⟩
    rw [leaves_8 m c t (by omega) h0]
    iintro H; iexists d; iexact H

/-- An operand whole is one block of its rows and the rest. -/
theorem split_rows (c : Dev nD) (M : Memref sig .tc .hbm S4096x1024 .f32) (r : Fin 4) (f : Buf (Elt F) (M.view.loc (c : Thread nD τ))) :
    (M.view.loc (c : Thread nD τ) ↦{fullShare} f : sProp 𝕄)
      ⊣⊢ iprop((M.view.loc (c : Thread nD τ) ↦[(rowsAt M r).view.set]{fullShare} f) ∗ restOf c M r f) :=
  pointsTo_split_subset (ℓ := M.view.loc (c : Thread nD τ)) (Finset.subset_univ _)

set_option maxHeartbeats 2000000 in
theorem sound_start (c : Dev nD) (t : Fin cfg0.N) (ha : t.val % 4 = 0) :
    bodyPre m c t ⊢ wp frame (wpE (defs₀ (F := F)) Variants.none c none) Set.univ (bodyAt0 t) (fun _ => bodyPost m c t) := by
  have hb : ¬t.val % 4 = 3 := by omega
  unfold bodyPre bodyPost
  simp only [before_0, before_1, before_2, before_3, before_4]
  rw [show (dats m 0 c).owesAt () t.succ = (dats m 0 c).owesAt () t.castSucc from rfl, inv_at, show (dats m 0 c).Φ t.succ = inv m c (t.val + 1) t.isLt from rfl,
    inv_idle m c _ _ ha, idle_eq, inv_next m c t hb, leaves_0, leaves_1, leaves_2, leaves_3, leaves_4, leaves_5, leaves_6 m c t hb, leaves_7 m c t hb,
    yAt_first m c t ha]
  unfold moving yNext
  iintro ⟨⟨⟨Hy, HX, HT⟩, Hg, ⟨HsX, HsT⟩, ⟨HaX, HaT⟩⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  obtain ⟨st', hst, hleave⟩ := st_start m c t ha d8
  ihave HaX' := (split_rows c xHbm (rowAt t) _).1 $$ HaX
  ihave HaT' := (split_rows c tHbm (rowAt t) _).1 $$ HaT
  icases HaX' with ⟨HwX, HRX⟩
  icases HaT' with ⟨HwT, HRT⟩
  iapply (start c (grid0.coords t) _ _ _ _ _ _ _ _ _ _ _ _ _ _ _ _ _ _ _ _ _ ((cond2_iff t).mpr ha) (fun h => hb ((cond3_iff t).mp h))
    ![1024 * (rowAt t).val, 0] (off_inb (rowAt t)) (off_eq t) ((dats m 0 c).before 8 t d8) st' hst (V m c main_arg1) (V m c main_v9) _)
  isplitl [H0]; · iexact H0
  isplitl [H1]; · iexact H1
  isplitl [H2]; · iexact H2
  isplitl [H5]; · iexists _; iexact H5
  isplitl [H8]; · iexact H8
  isplitl [Hy]; · iexact Hy
  isplitl [HX]; · iexact HX
  isplitl [HT]; · iexact HT
  isplitl [HsX]; · iexact HsX
  isplitl [HsT]; · iexact HsT
  isplitl [HwX]; · iexact HwX
  isplitl [HwT]; · iexact HwT
  iintro ⟨H0, H1, H2, H5, H8, Hy, HX, HT⟩
  isplitl [Hy Hg HX HT HRX HRT]
  · isplitl [Hy]; · iexact Hy
    isplitl [Hg]; · iexact Hg
    isplitl [HX]; · iexact HX
    isplitl [HT]; · iexact HT
    isplitl [HRX]; · iexact HRX
    iexact HRT
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iapply hleave; iexact H8

theorem before_8' (c : Dev nD) (t : Fin cfg0.N) (h : ¬t.val = 0) (d) :
    (dats m 0 c).before 8 t d = stAt m c (t.val - 1) (by have := t.isLt; omega) := by
  obtain ⟨n, hn⟩ := t
  cases n with
  | zero => exact absurd rfl h
  | succ n => exact before_8 m c d n hn

theorem inv_end (c : Dev nD) (t : Fin cfg0.N) (h : t.val % 4 = 3) : inv m c (t.val + 1) t.isLt = idle m c := inv_idle m c _ _ (by omega)

set_option maxHeartbeats 2000000 in
theorem sound_last (c : Dev nD) (t : Fin cfg0.N) (hb : t.val % 4 = 3) :
    bodyPre m c t ⊢ wp frame (wpE (defs₀ (F := F)) Variants.none c none) Set.univ (bodyAt0 t) (fun _ => bodyPost m c t) := by
  have ha : ¬t.val % 4 = 0 := by omega
  have h0 : ¬t.val = 0 := by omega
  unfold bodyPre bodyPost
  simp only [before_0, before_1, before_2, before_3, before_4, before_8' m c t h0]
  unfold Dat.owesAt Pipeline.owesWithin
  rw [show (dats m 0 c).owed t.castSucc = 0 from rfl, show (dats m 0 c).owed t.succ = 0 from rfl, inv_at,
    show (dats m 0 c).Φ t.succ = inv m c (t.val + 1) t.isLt from rfl, inv_here m c t ha, inv_end m c t hb, idle_eq,
    leaves_0, leaves_1, leaves_2, leaves_3, leaves_4, leaves_5, leaves_6' m c t hb, leaves_7' m c t hb, leaves_8' m c t (Or.inr hb),
    after_6, after_7, stAt_last m c t hb, yAt_later m c t ha]
  unfold moving yNext
  iintro ⟨⟨Hy, Hg, ⟨%gX, %hX, HX⟩, ⟨%gT, %hT, HT⟩, HRX, HRT⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  rw [← hX, ← hT]
  iapply (finish c (grid0.coords t) _ _ _ _ _ _ _ _ _ _ _ _ _ _ _ _ _ _ _ _ _ _
    (fun h => ha (by rw [(cond1_iff t).mp h])) (fun h => ha ((cond2_iff t).mp h)) ((cond3_iff t).mpr hb) _ _ _
    ![1024 * (rowAt t).val, 0] (off_inb (rowAt t)) gX gT (V m c main_arg1) (V m c main_v9) W _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [H8]; · iexact H8
  isplitl [Hy]; · iexact Hy
  isplitl [HX]; · iexact HX
  isplitl [HT]; · iexact HT
  isplitl [HW]; · iexact HW
  iintro ⟨H0, H1, H2, H3, H4, H5, H6, H7, H8, Hy, HX, HT, HsX, HsT, HwX, HwT, ⟨%W', HW'⟩⟩
  ihave HaX := (split_rows c xHbm (rowAt t) _).2 $$ [HwX HRX]
  · isplitl [HwX]; · iexact HwX
    iexact HRX
  ihave HaT := (split_rows c tHbm (rowAt t) _).2 $$ [HwT HRT]
  · isplitl [HwT]; · iexact HwT
    iexact HRT
  isplitl [Hy Hg HX HT HsX HsT HaX HaT]
  · isplitl [Hy HX HT]
    · isplitl [Hy]; · iexact Hy
      isplitl [HX]; · iexact HX
      iexact HT
    isplitl [Hg]; · iexact Hg
    isplitl [HsX HsT]
    · isplitl [HsX]; · iexact HsX
      iexact HsT
    isplitl [HaX]; · iexact HaX
    iexact HaT
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem sound_body (c : Dev nD) (t : Fin cfg0.N) :
    bodyPre m c t ⊢ wp frame (wpE (defs₀ (F := F)) Variants.none c none) Set.univ (bodyAt0 t) (fun _ => bodyPost m c t) := by
  by_cases ha : t.val % 4 = 0
  · exact sound_start m c t ha
  · by_cases hb : t.val % 4 = 3
    · exact sound_last m c t hb
    · exact sound_middle m c t ha hb

theorem body_obligation (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t by
    unfold defs₀; rw [Defs.onTc_tc]]
  exact triple_restated (sound_body m c t) rfl .rfl fun _ => .rfl

/-! ## The run and the frame -/

theorem inv_first (c : Dev nD) : (dats m 0 c).Φ 0 = idle m c := inv_idle m c 0 (Nat.zero_le _) rfl
theorem inv_done (c : Dev nD) : (dats m 0 c).Φ (Fin.last cfg0.N) = idle m c :=
  inv_idle m c (Fin.last cfg0.N).val (Nat.le_of_lt_succ (Fin.last cfg0.N).isLt) (by rw [Fin.val_last]; have : cfg0.N = 16 := N_0; omega)

set_option backward.isDefEq.respectTransparency.types false in
set_option maxHeartbeats 800000 in
/-- The run: every array of the pipeline at what the proof data compute, every other buffer as the region found it. -/
theorem run : θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 cells defs₀ Variants.none cells_facts hbm hbm_sub m ρ main
    (hbody := fun c => (body_obligation m c).loose) (hshare := fun c => (dats m 0 c).share_full fun _ => rfl)
    (howed := fun _ _ => rfl) (V := V m) (hmain := prefix_main m Variants.none) (hA := A_eq m)
    (hin := fun c => by rw [inv_first]; exact .rfl) (hout := fun c => by rw [inv_done]; exact .rfl)

end Cert.Kernel5Ideal.MlpLoss

end
-- ==== Proof.MlpLossSpec.lean ====
/- What the loss kernel computes, row by row. -/
module

public import proofs.«01_k».proof.Proof.MixOutSpec

@[expose] public section

noncomputable section

namespace Cert.Proof.MlpLoss

open Idealize.ShloMosaic

variable (X t g gt y : Fin 1024 → EReal) (l : Fin 1024)

/-- An entry of the hidden layer, and of the layer's output. -/
def hid (h : Fin 1024 → EReal) (w : Fin 1024 → EReal) : EReal := max (∑ k, h k * w k) 0
def out (z : Fin 4096 → EReal) (w : Fin 4096 → EReal) : EReal := ∑ q, z q * z q * w q

/-- A row of the error, of the loss's cotangent and of the normalised row's cotangent, from the row of the residual. -/
def err : EReal := X l * Rms.inv X * g l - t l
def cot : EReal := err X t g l * Ideal.ofBits .f32 0x3A800000#32
def up : EReal := cot X t g l * g l

/-- A row of the gradient of the residual. -/
def back : EReal := Rms.back X (up X t g) l

/-- A row's summands of the gradients of the norm's weight and of the gate, and of the squares of the error; zero for the other sums. -/
def part (p : ℕ) : EReal :=
  if p = 0 then cot X t g l * (X l * Rms.inv X) else if p = 1 then back X t g l * y l else if p = 2 then err X t g l * err X t g l else 0

end Cert.Proof.MlpLoss

end
-- ==== Proof.MlpLossTile.lean ====
/- What the loss kernel's blocks hold, entry by entry. -/
module

public import proofs.«01_k».proof.Proof.MlpLossRun
public import proofs.«01_k».proof.Proof.MlpLossSpec

@[expose] public section

set_option maxRecDepth 16384

noncomputable section

namespace Cert.Proof.MlpLoss

open Cert.Kernel5Ideal Cert.Kernel5Ideal.Gen Cert.Kernel5Ideal.MlpLoss Idealize.ShloMosaic Idealize.ShloMosaic.TcCoe Idealize.SL.Sem

/-- A row of an array. -/
abbrev row {a : ℕ} (x : (⟨2, ![a, 1024]⟩ : Shape).Idx → EReal) (i : Fin a) : Fin 1024 → EReal := fun k => x (ix2 i k)

section Hidden

variable (x0 x1 x2 : Vec Ideal S1024x1024 .bf16) (y : Vec Ideal S1024x1024 .f32) (r q l : Fin 1024)

theorem pay3_apply : k0_pay3 x0 x1 (ix2 r q) = hid (row x0 r) (row x1 q) := by
  unfold hid
  pointwise [k0_pay3]

theorem pay4_apply : k0_pay4 x0 x1 (ix2 r q) = hid (row x0 r) (row x1 q) := by
  rw [← pay3_apply]
  pointwise [k0_pay4]

theorem pay5_apply : k0_pay5 x0 x1 y x2 (ix2 r l)
    = y (ix2 r l) + ∑ q : Fin 1024, hid (row x0 r) (row x1 q) * hid (row x0 r) (row x1 q) * x2 (ix2 q l) := by
  simp only [← pay3_apply]
  pointwise [k0_pay5]

theorem pay2_apply : (k0_pay2 (F := Ideal)) (ix2 r l) = 0 := by pointwise [k0_pay2]

theorem pay1_apply (p : Fin 8) : (k0_pay1 (F := Ideal)) (ix2 p l) = 0 := by pointwise [k0_pay1]

end Hidden

section Ends

variable (md : Vec Ideal S8x1024 .f32) (g : Vec Ideal S1x1024 .f32) (y x t : Vec Ideal S1024x1024 .f32) (r l : Fin 1024)

theorem gate_apply : gate md (ix2 0 l) = md (ix2 5 l) := Rows.ld_row (e := .f32) md 5 (by omega) _ l

/-- The row of the residual sum of a block. -/
abbrev resB : Fin 1024 → EReal := MixOut.res (row x r) (row md 5) (row y r)

theorem pay7_apply : k0_pay7 (gate md) y x (ix2 r l) = resB md y x r l := by
  unfold resB MixOut.res
  rw [show row md 5 l = gate md (ix2 0 l) from (gate_apply md l).symm]
  pointwise [k0_pay7, k0_pay6]

theorem pay8_apply : k0_pay8 (gate md) y x (ix2 r 0) = Rms.inv (resB md y x r) := by
  unfold Rms.inv Rms.ms
  simp only [← pay7_apply]
  pointwise [k0_pay8]

theorem pay9_apply : k0_pay9 (gate md) y x (ix2 r l) = resB md y x r l * Rms.inv (resB md y x r) := by
  rw [← pay7_apply, ← pay8_apply]
  pointwise [k0_pay9]

theorem pay10_apply : k0_pay10 (gate md) y x g t (ix2 r l) = err (resB md y x r) (row t r) (row g 0) l := by
  unfold err
  rw [← pay9_apply]
  pointwise [k0_pay10]

theorem pay11_apply : k0_pay11 (gate md) y x g t (ix2 r l) = cot (resB md y x r) (row t r) (row g 0) l := by
  unfold cot
  rw [← pay10_apply]
  pointwise [k0_pay11]

theorem pay12_apply : k0_pay12 (gate md) y x g t g (ix2 r l) = up (resB md y x r) (row t r) (row g 0) l := by
  unfold up
  rw [← pay11_apply]
  pointwise [k0_pay12]

theorem pay13_apply : k0_pay13 (k0_pay8 (gate md) y x) (k0_pay9 (gate md) y x) (k0_pay12 (gate md) y x g t g) (ix2 r l)
    = back (resB md y x r) (row t r) (row g 0) l := by
  unfold back Rms.back
  rw [← pay8_apply]
  simp only [← pay12_apply]
  rw [pay8_apply, ← pay9_apply, ← pay8_apply]
  pointwise [k0_pay13]
  simp only [pay9_apply, pay8_apply]

theorem dxOut_apply : dxOut md g y x t (ix2 r l) = back (resB md y x r) (row t r) (row g 0) l := by
  rw [← pay13_apply]
  unfold dxOut
  pointwise [k0_pay14]

theorem dyOut_apply : dyOut md g y x t (ix2 r l) = md (ix2 5 l) * back (resB md y x r) (row t r) (row g 0) l := by
  rw [← pay13_apply, ← gate_apply md]
  unfold dyOut
  pointwise [k0_pay15, k0_pay6]

variable (s : Vec Ideal S1x1024 .f32)

theorem pay16_apply : k0_pay16 (k0_pay9 (gate md) y x) (k0_pay11 (gate md) y x g t) s (ix2 0 l)
    = s (ix2 0 l) + ∑ r : Fin 1024, cot (resB md y x r) (row t r) (row g 0) l * (resB md y x r l * Rms.inv (resB md y x r)) := by
  simp only [← pay9_apply, ← pay11_apply]
  pointwise [k0_pay16]

theorem pay17_apply : k0_pay17 y (k0_pay8 (gate md) y x) (k0_pay9 (gate md) y x) (k0_pay12 (gate md) y x g t g) s (ix2 0 l)
    = s (ix2 0 l) + ∑ r : Fin 1024, back (resB md y x r) (row t r) (row g 0) l * y (ix2 r l) := by
  simp only [← pay13_apply]
  pointwise [k0_pay17]

theorem pay18_apply : k0_pay18 (k0_pay10 (gate md) y x g t) s (ix2 0 l)
    = s (ix2 0 l) + ∑ r : Fin 1024, err (resB md y x r) (row t r) (row g 0) l * err (resB md y x r) (row t r) (row g 0) l := by
  simp only [← pay10_apply]
  pointwise [k0_pay18]

theorem stNext_apply (st : Vec Ideal S8x1024 .f32) (p : Fin 8) : stNext md g y x t st (ix2 p l)
    = st (ix2 p l) + ∑ r : Fin 1024, part (resB md y x r) (row t r) (row g 0) (row y r) l p.val := by
  unfold stNext Rows.setRow
  have e0 : ((ix2 p l : (⟨2, ![8, 1024]⟩ : Shape).Idx) 0).val = p.val := rfl
  have e1 : ((ix2 p l : (⟨2, ![8, 1024]⟩ : Shape).Idx) 1) = l := rfl
  unfold part
  by_cases h2 : p.val = 2
  · have hp : p = ⟨2, by decide⟩ := Fin.ext h2
    subst hp
    rw [if_pos e0, e1, pay18_apply, Rows.ld_row (e := .f32) st 2 (by omega)]
    simp
  rw [if_neg (by rw [e0]; exact h2)]
  by_cases h1 : p.val = 1
  · have hp : p = ⟨1, by decide⟩ := Fin.ext h1
    subst hp
    rw [if_pos e0, e1, pay17_apply, Rows.ld_row (e := .f32) st 1 (by omega)]
    simp
  rw [if_neg (by rw [e0]; exact h1)]
  by_cases h0 : p.val = 0
  · have hp : p = ⟨0, by decide⟩ := Fin.ext h0
    subst hp
    rw [if_pos e0, e1, pay16_apply, Rows.ld_row (e := .f32) st 0 (by omega)]
    simp
  rw [if_neg (by rw [e0]; exact h0)]
  simp [h0, h1, h2]

end Ends

end Cert.Proof.MlpLoss

end
-- ==== Proof.MlpLossBlocks.lean ====
/- What the loss kernel leaves in its four result arrays, over the extended reals. -/
module

public import proofs.«01_k».proof.Proof.MlpLossFrame
public import proofs.«01_k».proof.Proof.MlpLossTile
public import proofs.«01_k».proof.Proof.MlpDxRun

@[expose] public section

set_option maxRecDepth 16384

noncomputable section

namespace Cert.Proof.MlpLoss

open Cert.Kernel5Ideal Cert.Kernel5Ideal.Gen Cert.Kernel5Ideal.MlpLoss Idealize.ShloMosaic Idealize.ShloMosaic.TcCoe Idealize.SL.Sem Tiles

/-! ## The results as functions of the arrays -/

section Arrays

variable (hn wu wd : Vec Ideal S4096x1024 .bf16) (md : Vec Ideal S8x1024 .f32) (g : Vec Ideal S1x1024 .f32) (x t : Vec Ideal S4096x1024 .f32)

def zA : Vec Ideal S4096x4096 .bf16 := fun j => hid (row hn (j 0)) (row wu (j 1))
def yTerm (i : Fin 4096) (l : Fin 1024) (q : Fin 4096) : EReal := zA hn wu (ix2 i q) * zA hn wu (ix2 i q) * wd (ix2 q l)
def yA (i : Fin 4096) (l : Fin 1024) : EReal := ∑ q, yTerm hn wu wd i l q
def resA (i : Fin 4096) : Fin 1024 → EReal := MixOut.res (row x i) (row md 5) (yA hn wu wd i)
def dxA : Vec Ideal S4096x1024 .bf16 := fun j => back (resA hn wu wd md x (j 0)) (row t (j 0)) (row g 0) (j 1)
def dyA : Vec Ideal S4096x1024 .bf16 := fun j => md (ix2 5 (j 1)) * dxA hn wu wd md g x t j
def stTerm (p : ℕ) (l : Fin 1024) (i : Fin 4096) : EReal := part (resA hn wu wd md x i) (row t i) (row g 0) (yA hn wu wd i) l p
def stA : Vec Ideal S8x1024 .f32 := fun j => ∑ i, stTerm hn wu wd md g x t (j 0).val (j 1) i

end Arrays

variable (m : (ℓ : Loc nD τ sig) → Buf (Elt Ideal) ℓ) (ρ : Dev nD → PrngReg) (c : Dev nD) (t : Fin cfg0.N)

theorem idxIn : ∀ t : Fin cfg0.N, (win0_0.index t (0 : Fin 2) = t.val / 4 ∧ win0_0.index t (1 : Fin 2) = 0)
    ∧ (win0_1.index t (0 : Fin 2) = t.val % 4 ∧ win0_1.index t (1 : Fin 2) = 0) ∧ (win0_2.index t (0 : Fin 2) = t.val % 4 ∧ win0_2.index t (1 : Fin 2) = 0)
    ∧ (win0_3.index t (0 : Fin 2) = 0 ∧ win0_3.index t (1 : Fin 2) = 0) ∧ (win0_4.index t (0 : Fin 2) = 0 ∧ win0_4.index t (1 : Fin 2) = 0) :=
  (by decide +kernel : ∀ t : Fin grid0.N, _)
theorem idxOut : ∀ t : Fin cfg0.N, (win0_5.index t (0 : Fin 2) = t.val / 4 ∧ win0_5.index t (1 : Fin 2) = t.val % 4)
    ∧ (win0_6.index t (0 : Fin 2) = t.val / 4 ∧ win0_6.index t (1 : Fin 2) = 0) ∧ (win0_7.index t (0 : Fin 2) = t.val / 4 ∧ win0_7.index t (1 : Fin 2) = 0)
    ∧ (win0_8.index t (0 : Fin 2) = 0 ∧ win0_8.index t (1 : Fin 2) = 0) := (by decide +kernel : ∀ t : Fin grid0.N, _)

theorem lt16 : t.val < 16 := lt_of_lt_of_eq t.isLt (show cfg0.N = 16 from N_0)
theorem inDiv : t.val / 4 * 1024 + 1024 ≤ 4096 := by have := lt16 t; omega
theorem inMod : t.val % 4 * 1024 + 1024 ≤ 4096 := by omega

theorem blk_hn (r : Fin 1024) : row (iblk m c 0 t) r = row (V m c main_arg0) (rowOf 1024 (t.val / 4) r) :=
  funext fun k => congrArg (V m c main_arg0) (rows_eq (B := 1024) (b := 1024) r k _ (inDiv t) (idxIn t).1 rfl rfl)
theorem blk_wu (q : Fin 1024) : row (iblk m c 1 t) q = row (V m c main_v6) (rowOf 1024 (t.val % 4) q) :=
  funext fun k => congrArg (V m c main_v6) (rows_eq (B := 1024) (b := 1024) q k _ (inMod t) (idxIn t).2.1 rfl rfl)
theorem blk_wd (q : Fin 1024) : row (iblk m c 2 t) q = row (V m c main_v8) (rowOf 1024 (t.val % 4) q) :=
  funext fun k => congrArg (V m c main_v8) (rows_eq (B := 1024) (b := 1024) q k _ (inMod t) (idxIn t).2.2.1 rfl rfl)
theorem blk_md : (iblk m c 3 t : Vec Ideal S8x1024 .f32) = V m c main_v3 :=
  funext fun j => congrArg (V m c main_v3) (whole_eq (a := 8) (b := 1024) j _ (idxIn t).2.2.2.1 rfl rfl)
theorem blk_g : (iblk m c 4 t : Vec Ideal S1x1024 .f32) = V m c main_v10 :=
  funext fun j => congrArg (V m c main_v10) (whole_eq (a := 1) (b := 1024) j _ (idxIn t).2.2.2.2 rfl rfl)

theorem blk_x (r : Fin 1024) : row (xRows m c (rowAt t)) r = row (V m c main_arg1) (rowOf 1024 (t.val / 4) r) :=
  funext fun k => congrArg (V m c main_arg1) (rows_eq (n := t.val / 4) (m := 0) (B := 1024) (b := 1024) r k _ (inDiv t) ⟨rfl, rfl⟩
    (show 1024 * (t.val / 4) + 1 * r.val = _ by omega) (show 0 + 1 * k.val = _ by omega))
theorem blk_t (r : Fin 1024) : row (tRows m c (rowAt t)) r = row (V m c main_v9) (rowOf 1024 (t.val / 4) r) :=
  funext fun k => congrArg (V m c main_v9) (rows_eq (n := t.val / 4) (m := 0) (B := 1024) (b := 1024) r k _ (inDiv t) ⟨rfl, rfl⟩
    (show 1024 * (t.val / 4) + 1 * r.val = _ by omega) (show 0 + 1 * k.val = _ by omega))

theorem emb5 (j : S1024x1024.Idx) : ((cfg0.win 5).blk t).view.emb j = ix2 (rowOf 1024 (t.val / 4) (j 0)) (rowOf 1024 (t.val % 4) (j 1)) :=
  MlpDx.tile_eq (j 0) (j 1) _ (inDiv t) (inMod t) (idxOut t).1 rfl rfl
theorem emb6 (j : S1024x1024.Idx) : ((cfg0.win 6).blk t).view.emb j = ix2 (rowOf 1024 (t.val / 4) (j 0)) (j 1) :=
  rows_eq (B := 1024) (b := 1024) (j 0) (j 1) _ (inDiv t) (idxOut t).2.1 rfl rfl
theorem emb7 (j : S1024x1024.Idx) : ((cfg0.win 7).blk t).view.emb j = ix2 (rowOf 1024 (t.val / 4) (j 0)) (j 1) :=
  rows_eq (B := 1024) (b := 1024) (j 0) (j 1) _ (inDiv t) (idxOut t).2.2.1 rfl rfl
theorem emb8 (j : S8x1024.Idx) : ((cfg0.win 8).blk t).view.emb j = j :=
  whole_eq (a := 8) (b := 1024) j _ (idxOut t).2.2.2 rfl rfl

/-! ## The blocks -/

/-- The results as functions of the arrays the grid finds. -/
abbrev zV : Vec Ideal S4096x4096 .bf16 := zA (V m c main_arg0) (V m c main_v6)
abbrev yTermV := yTerm (V m c main_arg0) (V m c main_v6) (V m c main_v8)
abbrev yV := yA (V m c main_arg0) (V m c main_v6) (V m c main_v8)
abbrev resV := resA (V m c main_arg0) (V m c main_v6) (V m c main_v8) (V m c main_v3) (V m c main_arg1)
abbrev dxV : Vec Ideal S4096x1024 .bf16 := dxA (V m c main_arg0) (V m c main_v6) (V m c main_v8) (V m c main_v3) (V m c main_v10) (V m c main_arg1) (V m c main_v9)
abbrev dyV : Vec Ideal S4096x1024 .bf16 := dyA (V m c main_arg0) (V m c main_v6) (V m c main_v8) (V m c main_v3) (V m c main_v10) (V m c main_arg1) (V m c main_v9)
abbrev stTermV := stTerm (V m c main_arg0) (V m c main_v6) (V m c main_v8) (V m c main_v3) (V m c main_v10) (V m c main_arg1) (V m c main_v9)
abbrev stV : Vec Ideal S8x1024 .f32 := stA (V m c main_arg0) (V m c main_v6) (V m c main_v8) (V m c main_v3) (V m c main_v10) (V m c main_arg1) (V m c main_v9)

theorem hid_blk (r q : Fin 1024) : hid (row (iblk m c 0 t) r) (row (iblk m c 1 t) q) = zV m c (ix2 (rowOf 1024 (t.val / 4) r) (rowOf 1024 (t.val % 4) q)) := by
  rw [blk_hn, blk_wu]; rfl

theorem yNext_blk (y : Vec Ideal S1024x1024 .f32) (r l : Fin 1024) : yNext m c t y (ix2 r l)
    = y (ix2 r l) + ∑ q : Fin 1024, yTermV m c (rowOf 1024 (t.val / 4) r) l (rowOf 1024 (t.val % 4) q) := by
  refine (pay5_apply _ _ _ y r l).trans (congrArg (_ + ·) (Finset.sum_congr rfl fun q _ => ?_))
  rw [hid_blk]
  exact congrArg (_ * ·) (congrFun (blk_wd m c t q) l)

/-- After grid step `n` the scratch holds the row tile's output over the hidden tiles up to there. -/
theorem yAt_sum : ∀ (n : ℕ) (h : n < cfg0.N) (r l : Fin 1024), yAt m c n h (ix2 r l)
    = ∑ s ∈ Finset.range (n % 4 + 1), ∑ q : Fin 1024, yTermV m c (rowOf 1024 (n / 4) r) l (rowOf 1024 s q) := by
  intro n
  induction n with
  | zero =>
    intro h r l
    rw [yAt_first m c ⟨0, h⟩ rfl, yNext_blk, pay2_apply, zero_add, show 0 % 4 + 1 = 1 from rfl, Finset.sum_range_one]
    rfl
  | succ n ih =>
    intro h r l
    by_cases h0 : (n + 1) % 4 = 0
    · rw [yAt_first m c ⟨n + 1, h⟩ h0, yNext_blk, pay2_apply, zero_add]
      dsimp only
      rw [h0, zero_add, Finset.sum_range_one]
    · rw [yAt_later m c ⟨n + 1, h⟩ h0, yNext_blk]
      have e : (n + 1) % 4 = n % 4 + 1 := by omega
      have d : (n + 1) / 4 = n / 4 := by omega
      dsimp only
      rw [e, d, Finset.sum_range_succ _ (n % 4 + 1)]
      exact congrArg (· + _) (ih (Nat.lt_of_succ_lt h) r l)

theorem y_blk (h3 : t.val % 4 = 3) (r : Fin 1024) : row (yAt m c t.val t.isLt) r = yV m c (rowOf 1024 (t.val / 4) r) := by
  funext l
  refine (yAt_sum m c t.val t.isLt r l).trans ?_
  rw [h3]
  exact sum_rows 4 (by decide) _

theorem res_blk (h3 : t.val % 4 = 3) (r : Fin 1024) :
    resB (iblk m c 3 t) (yAt m c t.val t.isLt) (xRows m c (rowAt t)) r = resV m c (rowOf 1024 (t.val / 4) r) := by
  unfold resB
  rw [blk_md, blk_x, y_blk m c t h3]
  rfl

theorem dx_blk (h3 : t.val % 4 = 3) (r l : Fin 1024) :
    dxOut (iblk m c 3 t) (iblk m c 4 t) (yAt m c t.val t.isLt) (xRows m c (rowAt t)) (tRows m c (rowAt t)) (ix2 r l)
      = dxV m c (ix2 (rowOf 1024 (t.val / 4) r) l) := by
  refine (dxOut_apply _ _ _ _ _ r l).trans ?_
  rw [res_blk m c t h3, blk_t, blk_g]
  rfl

theorem dy_blk (h3 : t.val % 4 = 3) (r l : Fin 1024) :
    dyOut (iblk m c 3 t) (iblk m c 4 t) (yAt m c t.val t.isLt) (xRows m c (rowAt t)) (tRows m c (rowAt t)) (ix2 r l)
      = dyV m c (ix2 (rowOf 1024 (t.val / 4) r) l) := by
  refine (dyOut_apply _ _ _ _ _ r l).trans ?_
  rw [res_blk m c t h3, blk_t, blk_g, blk_md]
  rfl

theorem st_blk (h3 : t.val % 4 = 3) (s : Vec Ideal S8x1024 .f32) (p : Fin 8) (l : Fin 1024) :
    stNext (iblk m c 3 t) (iblk m c 4 t) (yAt m c t.val t.isLt) (xRows m c (rowAt t)) (tRows m c (rowAt t)) s (ix2 p l)
      = s (ix2 p l) + ∑ r : Fin 1024, stTermV m c p.val l (rowOf 1024 (t.val / 4) r) := by
  refine (stNext_apply _ _ _ _ _ l s p).trans (congrArg (_ + ·) (Finset.sum_congr rfl fun r _ => ?_))
  rw [res_blk m c t h3, blk_t, blk_g, y_blk m c t h3]
  rfl

/-- After grid step `n` the last output block holds its sums over the finished row tiles. -/
theorem stAt_sum : ∀ (n : ℕ) (h : n < cfg0.N) (p : Fin 8) (l : Fin 1024), stAt m c n h (ix2 p l)
    = ∑ s ∈ Finset.range ((n + 1) / 4), ∑ r : Fin 1024, stTermV m c p.val l (rowOf 1024 s r) := by
  intro n
  induction n with
  | zero =>
    intro h p l
    exact pay1_apply l p
  | succ n ih =>
    intro h p l
    by_cases h3 : (n + 1) % 4 = 3
    · rw [stAt_last m c ⟨n + 1, h⟩ h3, st_blk m c ⟨n + 1, h⟩ h3]
      have e : (n + 1 + 1) / 4 = (n + 1) / 4 + 1 := by omega
      rw [e, Finset.sum_range_succ]
      exact congrArg (· + _) (ih (Nat.lt_of_succ_lt h) p l)
    · have e : (n + 1 + 1) / 4 = (n + 1) / 4 := by omega
      unfold stAt
      rw [if_neg h3, e]
      exact ih _ p l

/-! ## The arrays -/

theorem flushed5_eq : (dats m 0 c).flushed 5 t = ((cfg0.win 5).blk t).view.read (Elt Ideal) (zV m c) := by
  show (cfg0.win 5).cut (grid0.coords t) ((dats m 0 c).after 5 t) = _
  rw [after_5]
  funext j
  show k0_pay4 (iblk m c 0 t) (iblk m c 1 t) j = zV m c (((cfg0.win 5).blk t).view.emb j)
  rw [emb5]
  exact (congrArg _ (eta (a := 1024) (b := 1024) j)).trans ((pay4_apply _ _ (j 0) (j 1)).trans (hid_blk m c t (j 0) (j 1)))

theorem flushed6_eq (hf : (cfg0.win 6).flush t = true) : (dats m 0 c).flushed 6 t = ((cfg0.win 6).blk t).view.read (Elt Ideal) (dxV m c) := by
  show (cfg0.win 6).cut (grid0.coords t) ((dats m 0 c).after 6 t) = _
  rw [after_6]
  funext j
  show dxOut _ _ _ _ _ j = dxV m c (((cfg0.win 6).blk t).view.emb j)
  rw [emb6]
  exact (congrArg _ (eta (a := 1024) (b := 1024) j)).trans (dx_blk m c t ((flush0_6 t).mp hf) (j 0) (j 1))

theorem flushed7_eq (hf : (cfg0.win 7).flush t = true) : (dats m 0 c).flushed 7 t = ((cfg0.win 7).blk t).view.read (Elt Ideal) (dyV m c) := by
  show (cfg0.win 7).cut (grid0.coords t) ((dats m 0 c).after 7 t) = _
  rw [after_7]
  funext j
  show dyOut _ _ _ _ _ j = dyV m c (((cfg0.win 7).blk t).view.emb j)
  rw [emb7]
  exact (congrArg _ (eta (a := 1024) (b := 1024) j)).trans (dy_blk m c t ((flush0_7 t).mp hf) (j 0) (j 1))

theorem h15 : 15 < cfg0.N := by rw [show cfg0.N = 16 from N_0]; decide
theorem last {t : Fin cfg0.N} (h : t.val % 16 = 15) : t = ⟨15, h15⟩ := Fin.ext (by have := lt16 t; show t.val = 15; omega)

theorem flushed8_eq (hf : (cfg0.win 8).flush t = true) : (dats m 0 c).flushed 8 t = ((cfg0.win 8).blk t).view.read (Elt Ideal) (stV m c) := by
  obtain rfl := last ((flush0_8 t).mp hf)
  show (cfg0.win 8).cut (grid0.coords _) ((dats m 0 c).after 8 _) = _
  rw [after_8]
  funext j
  show stAt m c 15 h15 j = stV m c (((cfg0.win 8).blk ⟨15, h15⟩).view.emb j)
  rw [emb8]
  refine (congrArg _ (eta (a := 8) (b := 1024) j)).trans ((stAt_sum m c 15 h15 _ _).trans ?_)
  exact sum_rows 4 (by decide) _

/-- The grid point whose tile holds an entry of the hidden layer, and the one that writes an entry of a row. -/
def at5 (i : S4096x4096.Idx) : Fin cfg0.N := ⟨(i 0).val / 1024 * 4 + (i 1).val / 1024, by
  have h0 : (i 0).val < 4096 := (i 0).isLt
  have h1 : (i 1).val < 4096 := (i 1).isLt
  rw [show cfg0.N = 16 from N_0]; omega⟩
def at6 (i : S4096x1024.Idx) : Fin cfg0.N := ⟨(i 0).val / 1024 * 4 + 3, by
  have h0 : (i 0).val < 4096 := (i 0).isLt
  rw [show cfg0.N = 16 from N_0]; omega⟩

theorem arr_z : (dats m 0 c).arrAt 5 cfg0.N = zV m c :=
  (dats m 0 c).arrAt_eq_of_cover 5 (zV m c) (fun t _ => flushed5_eq m c t) fun i => ⟨at5 i, flush0_5 _, by
    have h1 : (i 1).val < 4096 := (i 1).isLt
    have h := ((cfg0.win 5).blk (at5 i)).view.emb_mem_set
      (ix2 ⟨(i 0).val % 1024, Nat.mod_lt _ (by decide)⟩ ⟨(i 1).val % 1024, Nat.mod_lt _ (by decide)⟩ : S1024x1024.Idx)
    rw [emb5] at h
    refine Eq.mp (congrArg (· ∈ _) (Eq.trans ?_ (eta (a := 4096) (b := 4096) i).symm)) h
    refine congrArg₂ ix2 (Fin.ext ((rowOf_val (inDiv _) _).trans ?_)) (Fin.ext ((rowOf_val (inMod _) _).trans ?_))
    · show ((i 0).val / 1024 * 4 + (i 1).val / 1024) / 4 * 1024 + (i 0).val % 1024 = (i 0).val; omega
    · show ((i 0).val / 1024 * 4 + (i 1).val / 1024) % 4 * 1024 + (i 1).val % 1024 = (i 1).val; omega⟩

theorem at6_last (i : S4096x1024.Idx) : (at6 i).val % 4 = 3 := by show ((i 0).val / 1024 * 4 + 3) % 4 = 3; omega

/-- An index of a row's result is that of an entry of the block its point writes. -/
theorem split6 (i : S4096x1024.Idx) : ix2 (rowOf 1024 ((at6 i).val / 4) ⟨(i 0).val % 1024, Nat.mod_lt _ (by decide)⟩) (i 1) = i := by
  refine Eq.trans ?_ (eta (a := 4096) (b := 1024) i).symm
  refine congrArg (ix2 · (i 1)) (Fin.ext ((rowOf_val (inDiv _) _).trans ?_))
  show ((i 0).val / 1024 * 4 + 3) / 4 * 1024 + (i 0).val % 1024 = (i 0).val; omega

abbrev in6 (i : S4096x1024.Idx) : S1024x1024.Idx := ix2 ⟨(i 0).val % 1024, Nat.mod_lt _ (by decide)⟩ (i 1)

theorem arr_dx : (dats m 0 c).arrAt 6 cfg0.N = dxV m c :=
  (dats m 0 c).arrAt_eq_of_cover 6 (dxV m c) (flushed6_eq m c) fun i => ⟨at6 i, (flush0_6 _).mpr (at6_last i), by
    have h := ((cfg0.win 6).blk (at6 i)).view.emb_mem_set (in6 i)
    rw [emb6] at h
    exact Eq.mp (congrArg (· ∈ _) (split6 i)) h⟩

theorem arr_dy : (dats m 0 c).arrAt 7 cfg0.N = dyV m c :=
  (dats m 0 c).arrAt_eq_of_cover 7 (dyV m c) (flushed7_eq m c) fun i => ⟨at6 i, (flush0_7 _).mpr (at6_last i), by
    have h := ((cfg0.win 7).blk (at6 i)).view.emb_mem_set (in6 i)
    rw [emb7] at h
    exact Eq.mp (congrArg (· ∈ _) (split6 i)) h⟩

theorem arr_st : (dats m 0 c).arrAt 8 cfg0.N = stV m c :=
  (dats m 0 c).arrAt_eq_of_cover 8 (stV m c) (flushed8_eq m c)
    fun i => ⟨⟨15, h15⟩, (flush0_8 _).mpr rfl, (emb8 ⟨15, h15⟩ i) ▸ ((cfg0.win 8).blk ⟨15, h15⟩).view.emb_mem_set i⟩

end Cert.Proof.MlpLoss

end
-- ==== Proof.MlpLossRef.lean ====
/- What the reference of the loss kernel computes, entry by entry. -/
module

public import proofs.«01_k».proof.Proof.Gen.Reference5Ideal.Read
public import proofs.«01_k».proof.Proof.HostSums
public import proofs.«01_k».proof.Proof.MlpLossSpec
public import Idealize.ShloMosaic.Lib.Claim

@[expose] public section

set_option maxRecDepth 16384

noncomputable section

namespace Cert.Proof.MlpLossRef

open Cert.Reference5Ideal Cert.Reference5Ideal.Gen Cert.Reference5Ideal.Read Idealize.ShloMosaic Idealize.ShloMosaic.TcCoe Idealize.SL.Sem

variable (x0 : (⟨S4096x1024, .bf16⟩ : BufTy).Contents (Elt Ideal)) (x1 : (⟨S4096x1024, .f32⟩ : BufTy).Contents (Elt Ideal))
  (x2 : (⟨S1x1024x4096, .f32⟩ : BufTy).Contents (Elt Ideal)) (x3 x4 : (⟨S1x4096x1024, .f32⟩ : BufTy).Contents (Elt Ideal))
  (x5 : (⟨S1x6144, .f32⟩ : BufTy).Contents (Elt Ideal)) (x6 : (⟨S1024, .f32⟩ : BufTy).Contents (Elt Ideal))

abbrev gtR (l : Fin 1024) : EReal := x5 (ix2 0 ⟨5120 + l.val, by omega⟩)
abbrev G (l : Fin 1024) : EReal := x6 (ix1 l)
abbrev tR (i : Fin 4096) (l : Fin 1024) : EReal := x4 (ix3 0 i l)
abbrev zR (i q : Fin 4096) : EReal := MlpLoss.hid (fun k => x0 (ix2 i k)) (fun k => x2 (ix3 0 k q))
abbrev yR (i : Fin 4096) (l : Fin 1024) : EReal := MlpLoss.out (zR x0 x2 i) (fun q => x3 (ix3 0 q l))
abbrev resR (i : Fin 4096) : Fin 1024 → EReal := MixOut.res (fun k => x1 (ix2 i k)) (gtR x5) (yR x0 x2 x3 i)
abbrev upR (i : Fin 4096) : Fin 1024 → EReal := MlpLoss.up (resR x0 x1 x2 x3 x5 i) (tR x4 i) (G x6)

theorem v4_at (i q : Fin 4096) : val_main_v4 (F := Ideal) x0 x2 (ix2 i q) = zR x0 x2 i q := by
  unfold zR MlpLoss.hid
  pointwise [val_main_v4, val_main_v3, val_main_v1, val_main_v2, val_main_call0_cst, val_main_call0_v0]

theorem v8_at (i : Fin 4096) (l : Fin 1024) : val_main_v8 (F := Ideal) x0 x2 x3 (ix2 i l) = yR x0 x2 x3 i l := by
  unfold yR MlpLoss.out
  simp only [← v4_at]
  pointwise [val_main_v8, val_main_v7, val_main_v6]

theorem v13_at (i : Fin 4096) (l : Fin 1024) : val_main_v13 (F := Ideal) x0 x1 x2 x3 x5 (ix3 0 i l) = resR x0 x1 x2 x3 x5 i l := by
  unfold resR MixOut.res gtR
  rw [← v8_at]
  pointwise [val_main_v13, val_main_v12, val_main_v11, val_main_v10, val_main_v9, val_main_v5, val_main_v0]

theorem v20_at (i : Fin 4096) : val_main_v20 (F := Ideal) x0 x1 x2 x3 x5 (ix3 0 i 0) = Rms.ms (resR x0 x1 x2 x3 x5 i) := by
  unfold Rms.ms
  simp only [← v13_at]
  pointwise [val_main_v20, val_main_v19, val_main_v18, val_main_v17, val_main_v16, val_main_v15, val_main_v14, val_main_cst, val_main_cst_0, val_main_cst_1]

theorem v21_at (i : Fin 4096) : val_main_v21 (F := Ideal) x0 x1 x2 x3 x5 (ix3 0 i 0) = Rms.inv (resR x0 x1 x2 x3 x5 i) := by
  unfold Rms.inv
  rw [← v20_at]
  pointwise [val_main_v21]

/-- The loss's cotangent of an error entry: half of twice the mean's weight. -/
theorem weight (e : EReal) :
    Ideal.div (Ideal.ofBits .f32 0x3F000000#32 * Ideal.ofBits .f32 0x3F800000#32) (Ideal.ofBits .f32 0x44800000#32) * (Ideal.ofBits .f32 0x40000000#32 * e)
      = e * Ideal.ofBits .f32 0x3A800000#32 := by
  have h2 : Ideal.ofBits .f32 0x40000000#32 = ((2 : ℝ) : EReal) := by
    simp [Ideal.ofBits, Ideal.ieee, -EReal.coe_mul]; norm_num
  have hh : Ideal.ofBits .f32 0x3F000000#32 = ((1 / 2 : ℝ) : EReal) := by
    simp [Ideal.ofBits, Ideal.ieee, -EReal.coe_mul]; norm_num
  have hk : Ideal.ofBits .f32 0x3A800000#32 = ((1 / 1024 : ℝ) : EReal) := by
    simp [Ideal.ofBits, Ideal.ieee, -EReal.coe_mul]; norm_num
  rw [h2, hh, hk, Reals.ofBits_one, Reals.ofBits_1024, ← EReal.coe_mul, Reals.div_real (by norm_num), ← mul_assoc, ← EReal.coe_mul, mul_comm]
  norm_num

theorem v26_at (i : Fin 4096) (l : Fin 1024) : val_main_v26 (F := Ideal) x0 x1 x2 x3 x5 (ix3 0 i l)
    = resR x0 x1 x2 x3 x5 i l * Rms.inv (resR x0 x1 x2 x3 x5 i) := by
  rw [← v13_at, ← v21_at]
  pointwise [val_main_v26, val_main_v25]

theorem v30_at (i : Fin 4096) (l : Fin 1024) : val_main_v30 (F := Ideal) x0 x1 x2 x3 x4 x5 x6 (ix3 0 i l)
    = MlpLoss.err (resR x0 x1 x2 x3 x5 i) (tR x4 i) (G x6) l := by
  unfold MlpLoss.err
  rw [← v26_at]
  pointwise [val_main_v30, val_main_v29, val_main_v28, val_main_v27]

theorem v44_at (i : Fin 4096) (l : Fin 1024) : val_main_v44 (F := Ideal) x0 x1 x2 x3 x4 x5 x6 (ix3 0 i l)
    = MlpLoss.cot (resR x0 x1 x2 x3 x5 i) (tR x4 i) (G x6) l := by
  unfold MlpLoss.cot
  rw [← v30_at, ← weight]
  pointwise [val_main_v44, val_main_v43, val_main_v42, val_main_v41, val_main_v40, val_main_v39, val_main_v33, val_main_v32, val_main_cst_3, val_main_cst_8,
    val_main_cst_9, val_main_cst_10]

theorem v49_at (i : Fin 4096) (l : Fin 1024) : val_main_v49 (F := Ideal) x0 x1 x2 x3 x4 x5 x6 (ix3 0 i l) = upR x0 x1 x2 x3 x4 x5 x6 i l := by
  unfold upR MlpLoss.up
  rw [← v44_at]
  pointwise [val_main_v49, val_main_v48, val_main_v27]

theorem v58_at (i : Fin 4096) : val_main_v58 (F := Ideal) x0 x1 x2 x3 x4 x5 x6 (ix3 0 i 0) = Rms.chain (resR x0 x1 x2 x3 x5 i) (upR x0 x1 x2 x3 x4 x5 x6 i) := by
  unfold Rms.chain
  rw [← v20_at, ← v21_at]
  simp only [← v13_at, ← v49_at]
  pointwise [val_main_v58, val_main_v57, val_main_v56, val_main_v53, val_main_v52, val_main_v51, val_main_v24, val_main_v23, val_main_v22, val_main_cst_2,
    val_main_cst_13, val_main_cst_14]

theorem v59_at (i : Fin 4096) : val_main_v59 (F := Ideal) x0 x1 x2 x3 x4 x5 x6 (ix1 i) = val_main_v58 (F := Ideal) x0 x1 x2 x3 x4 x5 x6 (ix3 0 i 0) := by
  pointwise [val_main_v59, val_main_cst_15]
  rw [HostSums.ends]
  pointwise

/-- The gradient of the residual, in the chain rule's form. -/
theorem v65_at (i : Fin 4096) (l : Fin 1024) : val_main_v65 (F := Ideal) x0 x1 x2 x3 x4 x5 x6 (ix3 0 i l)
    = upR x0 x1 x2 x3 x4 x5 x6 i l * Rms.inv (resR x0 x1 x2 x3 x5 i)
      + (resR x0 x1 x2 x3 x5 i l * Rms.chain (resR x0 x1 x2 x3 x5 i) (upR x0 x1 x2 x3 x4 x5 x6 i)
        + Rms.chain (resR x0 x1 x2 x3 x5 i) (upR x0 x1 x2 x3 x4 x5 x6 i) * resR x0 x1 x2 x3 x5 i l) := by
  rw [← v21_at, ← v58_at, ← v59_at]
  simp only [← v13_at, ← v49_at]
  pointwise [val_main_v65, val_main_v64, val_main_v63, val_main_v62, val_main_v61, val_main_v60, val_main_v55, val_main_v54]
  rw [add_assoc]

/-! ## The results -/

theorem v77_at (i q : Fin 4096) : val_main_v77 (F := Ideal) x0 x2 (ix2 i q) = zR x0 x2 i q := by
  rw [← v4_at]
  pointwise [val_main_v77]

theorem v79_at (i : Fin 4096) (l : Fin 1024) : val_main_v79 (F := Ideal) x0 x1 x2 x3 x4 x5 x6 (ix2 i l) = val_main_v65 (F := Ideal) x0 x1 x2 x3 x4 x5 x6 (ix3 0 i l) := by
  pointwise [val_main_v79, val_main_v78]

theorem v81_at (i : Fin 4096) (l : Fin 1024) : val_main_v81 (F := Ideal) x0 x1 x2 x3 x4 x5 x6 (ix2 i l)
    = gtR x5 l * val_main_v65 (F := Ideal) x0 x1 x2 x3 x4 x5 x6 (ix3 0 i l) := by
  unfold gtR
  pointwise [val_main_v81, val_main_v80, val_main_v67, val_main_v66, val_main_v10, val_main_v0]

theorem v50_at (l : Fin 1024) : val_main_v50 (F := Ideal) x0 x1 x2 x3 x4 x5 x6 (ix1 l)
    = ∑ i : Fin 4096, resR x0 x1 x2 x3 x5 i l * Rms.inv (resR x0 x1 x2 x3 x5 i) * MlpLoss.cot (resR x0 x1 x2 x3 x5 i) (tR x4 i) (G x6) l := by
  simp only [← v26_at, ← v44_at]
  pointwise [val_main_v50, val_main_cst_12]
  rw [HostSums.leading]
  pointwise [val_main_v47, val_main_v46, val_main_cst_11, val_main_v45]

theorem v71_at (l : Fin 1024) : val_main_v71 (F := Ideal) x0 x1 x2 x3 x4 x5 x6 (ix1 l)
    = ∑ i : Fin 4096, val_main_v65 (F := Ideal) x0 x1 x2 x3 x4 x5 x6 (ix3 0 i l) * yR x0 x2 x3 i l := by
  simp only [← v8_at]
  pointwise [val_main_v71, val_main_cst_17]
  rw [HostSums.leading]
  pointwise [val_main_v70, val_main_v69, val_main_cst_16, val_main_v68, val_main_v9]

theorem v74_at (l : Fin 1024) : val_main_v74 (F := Ideal) x0 x1 x2 x3 x4 x5 x6 (ix2 0 l)
    = ∑ i : Fin 4096, MlpLoss.err (resR x0 x1 x2 x3 x5 i) (tR x4 i) (G x6) l * MlpLoss.err (resR x0 x1 x2 x3 x5 i) (tR x4 i) (G x6) l := by
  simp only [← v30_at]
  pointwise [val_main_v74, val_main_cst_18, val_main_v31]

theorem v76_at (p : Fin 8) (l : Fin 1024) : val_main_v76 (F := Ideal) x0 x1 x2 x3 x4 x5 x6 (ix2 p l)
    = if p.val = 0 then val_main_v50 (F := Ideal) x0 x1 x2 x3 x4 x5 x6 (ix1 l) else if p.val = 1 then val_main_v71 (F := Ideal) x0 x1 x2 x3 x4 x5 x6 (ix1 l)
      else if p.val = 2 then val_main_v74 (F := Ideal) x0 x1 x2 x3 x4 x5 x6 (ix2 0 l) else 0 := by
  pointwise [val_main_v76, val_main_v73, val_main_v72, val_main_v75, val_main_cst_19]
  have e : ∀ {n : ℕ} (h : n < 1), (⟨n, h⟩ : Fin 1) = 0 := fun _ => Subsingleton.elim _ _
  simp only [e]
  generalize val_main_v50 (F := Ideal) x0 x1 x2 x3 x4 x5 x6 (ix1 l) = a
  generalize val_main_v71 (F := Ideal) x0 x1 x2 x3 x4 x5 x6 (ix1 l) = b
  generalize val_main_v74 (F := Ideal) x0 x1 x2 x3 x4 x5 x6 (ix2 0 l) = d
  split_ifs <;> first | omega | rfl

end Cert.Proof.MlpLossRef

end
-- ==== Proof.MlpLossEq.lean ====
/- The loss kernel: kernel and reference compute one function of finite arguments. -/
module

public import proofs.«01_k».proof.Defs
public import proofs.«01_k».proof.Proof.Finite
public import proofs.«01_k».proof.Proof.FirstRows
public import proofs.«01_k».proof.Proof.MlpLossBlocks
public import proofs.«01_k».proof.Proof.MlpLossRef
public import proofs.«01_k».proof.Proof.Gen.Pre_finite5
public import proofs.«01_k».proof.Proof.Gen.Kernel5
public import proofs.«01_k».proof.Proof.Gen.Reference5Ideal.Run
public import Idealize.ShloMosaic.Lib.StableHlo.ReadAt
public import Idealize.ShloMosaic.Lib.Quiescent

@[expose] public section

noncomputable section

namespace Cert.Proof.MlpLossEq

open Idealize.ShloMosaic Idealize.ShloMosaic.TcCoe Idealize.SL.Sem
open Cert.Reference5Ideal.Read Finite

/-- What the precondition says of the arguments. -/
theorem finite_args (hn : FVec Ideal Cert.Pre_finite5.S4096x1024 .bf16) (x : FVec Ideal Cert.Pre_finite5.S4096x1024 .f32) (wu : FVec Ideal Cert.Pre_finite5.S1x1024x4096 .f32)
    (wd t : FVec Ideal Cert.Pre_finite5.S1x4096x1024 .f32) (md : FVec Ideal Cert.Pre_finite5.S1x6144 .f32) (g : FVec Ideal Cert.Pre_finite5.S1024 .f32)
    (h : Cert.Pre_finite5.fn (F := Ideal) hn x wu wd t md g = fun _ => 1#1) :
    AllReal (s := Cert.Pre_finite5.S4096x1024) hn ∧ AllReal x ∧ AllReal wu ∧ AllReal wd ∧ AllReal t ∧ AllReal md ∧ AllReal g := by
  obtain ⟨h, h6⟩ := split h
  obtain ⟨h, h5⟩ := split h
  obtain ⟨h, h4⟩ := split h
  obtain ⟨h, h3⟩ := split h
  obtain ⟨h, h2⟩ := split h
  obtain ⟨h0, h1⟩ := split h
  exact ⟨all_real _ _ _ _ _ h0, all_real x _ _ _ _ h1, all_real wu _ _ _ _ h2, all_real wd _ _ _ _ h3, all_real t _ _ _ _ h4, all_real md _ _ _ _ h5,
    all_real g _ _ _ _ h6⟩

section Rows

open Cert.Kernel5Ideal Cert.Kernel5Ideal.Gen Cert.Proof.MlpLoss MlpLossRef

variable (m : (ℓ : Loc nD τ sig) → Buf (Elt Ideal) ℓ) (ρ : Dev nD → PrngReg) (c : Dev nD)

abbrev a0 : Vec Ideal S4096x1024 .bf16 := m ((c.tc : Thread nD τ).loc main_arg0)
abbrev a1 : Vec Ideal S4096x1024 .f32 := m ((c.tc : Thread nD τ).loc main_arg1)
abbrev a2 : Vec Ideal S1x1024x4096 .f32 := m ((c.tc : Thread nD τ).loc main_arg2)
abbrev a3 : Vec Ideal S1x4096x1024 .f32 := m ((c.tc : Thread nD τ).loc main_arg3)
abbrev a4 : Vec Ideal S1x4096x1024 .f32 := m ((c.tc : Thread nD τ).loc main_arg4)
abbrev a5 : Vec Ideal S1x6144 .f32 := m ((c.tc : Thread nD τ).loc main_arg5)
abbrev a6 : Vec Ideal S1024 .f32 := m ((c.tc : Thread nD τ).loc main_arg6)

/-! ## What the grid finds -/

theorem host_hn : (V m c main_arg0 : Vec Ideal S4096x1024 .bf16) = a0 m c := V_main_arg0 m c
theorem host_x : (V m c main_arg1 : Vec Ideal S4096x1024 .f32) = a1 m c := V_main_arg1 m c

theorem host_wu (q : Fin 4096) : row (V m c main_v6 : Vec Ideal S4096x1024 .bf16) q = fun k => a2 m c (ix3 0 k q) := by
  funext k
  show (V m c main_v6 : Vec Ideal S4096x1024 .bf16) (ix2 q k) = _
  unfold V
  after_reads_at

theorem host_wd (q : Fin 4096) (l : Fin 1024) : (V m c main_v8 : Vec Ideal S4096x1024 .bf16) (ix2 q l) = a3 m c (ix3 0 q l) := by
  unfold V
  after_reads_at

theorem host_t (i : Fin 4096) : row (V m c main_v9 : Vec Ideal S4096x1024 .f32) i = tR (a4 m c) i := by
  funext k
  show (V m c main_v9 : Vec Ideal S4096x1024 .f32) (ix2 i k) = _
  unfold V
  after_reads_at

theorem host_g : row (V m c main_v10 : Vec Ideal S1x1024 .f32) 0 = G (a6 m c) := by
  funext k
  show (V m c main_v10 : Vec Ideal S1x1024 .f32) (ix2 0 k) = _
  unfold V
  after_reads_at

theorem host_gt : row (V m c main_v3 : Vec Ideal S8x1024 .f32) 5 = gtR (a5 m c) := by
  funext l
  show (V m c main_v3 : Vec Ideal S8x1024 .f32) (ix2 5 l) = _
  unfold V
  after_reads_simp
  refine (FirstRows.scatter_row (R := 8) (C := 1024) (K := 6) _ _ _ ?_ _ 5 ⟨5, by decide⟩ rfl l).trans ?_
  · rfl
  · exact shapeCast_apply _ shapeCasts_S1x6144_S6x1024 _ (ix2 0 ⟨5120 + l.val, by omega⟩) (by
      rewrite [Shape.rowMajor_val_two, Shape.rowMajor_val_two]
      show 0 * 6144 + (5120 + l.val) = 5 * 1024 + l.val
      omega)

/-! ## The rows -/

theorem z_at (i q : Fin 4096) : zV m c (ix2 i q) = zR (a0 m c) (a2 m c) i q := by
  show hid (row (V m c main_arg0) i) (row (V m c main_v6) q) = _
  rw [host_wu, host_hn]

theorem y_row (i : Fin 4096) : yV m c i = yR (a0 m c) (a2 m c) (a3 m c) i := by
  funext l
  refine Finset.sum_congr rfl fun q _ => ?_
  exact congrArg₂ (· * ·) (congrArg₂ (· * ·) (z_at m c i q) (z_at m c i q)) (host_wd m c q l)

theorem res_row (i : Fin 4096) : resV m c i = resR (a0 m c) (a1 m c) (a2 m c) (a3 m c) (a5 m c) i := by
  show MixOut.res (row (V m c main_arg1) i) (row (V m c main_v3) 5) (yV m c i) = _
  rw [y_row, host_gt, host_x]

/-- The rows that the chain rule's gradient is a function of are rows of real numbers. -/
theorem res_real (h0 : AllReal (s := S4096x1024) (a0 m c)) (h1 : AllReal (a1 m c)) (h2 : AllReal (a2 m c)) (h3 : AllReal (a3 m c)) (h5 : AllReal (a5 m c)) (i : Fin 4096) :
    ∃ x : Fin 1024 → ℝ, resR (a0 m c) (a1 m c) (a2 m c) (a3 m c) (a5 m c) i = fun k => (x k : EReal) := by
  let z : Fin 4096 → ℝ := fun q => max (∑ k, (a0 m c (ix2 i k)).toReal * (a2 m c (ix3 0 k q)).toReal) 0
  have hz : ∀ q, zR (a0 m c) (a2 m c) i q = ((z q : ℝ) : EReal) := fun q => by
    unfold zR hid
    rw [EReal.coe_strictMono.monotone.map_max, Reals.coe_sum, EReal.coe_zero]
    exact congrArg (max · 0) (Finset.sum_congr rfl fun k _ => by rw [EReal.coe_mul, ← h0, ← h2])
  refine ⟨fun l => (a1 m c (ix2 i l)).toReal + (gtR (a5 m c) l).toReal * ∑ q, z q * z q * (a3 m c (ix3 0 q l)).toReal, funext fun l => ?_⟩
  rw [EReal.coe_add, EReal.coe_mul, Reals.coe_sum, ← h1]
  refine congrArg (_ + ·) (congrArg₂ (· * ·) (h5 _) (Finset.sum_congr rfl fun q _ => ?_))
  rw [EReal.coe_mul, EReal.coe_mul, ← hz, ← h3]

theorem up_real (h4 : AllReal (a4 m c)) (h6 : AllReal (a6 m c)) (i : Fin 4096) (x : Fin 1024 → ℝ) :
    ∃ u : Fin 1024 → ℝ, up (fun k => (x k : EReal)) (tR (a4 m c) i) (G (a6 m c)) = fun k => (u k : EReal) := by
  refine ⟨fun l => (x l * Rms.invR x * (G (a6 m c) l).toReal - (tR (a4 m c) i l).toReal) * (1 / 1024) * (G (a6 m c) l).toReal, funext fun l => ?_⟩
  unfold up cot err
  have hk : Ideal.ofBits .f32 0x3A800000#32 = ((1 / 1024 : ℝ) : EReal) := by
    simp [Ideal.ofBits, Ideal.ieee, -EReal.coe_mul]; norm_num
  rw [EReal.coe_mul, EReal.coe_mul, EReal.coe_sub, EReal.coe_mul, EReal.coe_mul, ← h4, ← h6, Rms.inv_coe, hk]

/-- The gradient of the residual, at a place. -/
theorem dx_at (h0 : AllReal (s := S4096x1024) (a0 m c)) (h1 : AllReal (a1 m c)) (h2 : AllReal (a2 m c)) (h3 : AllReal (a3 m c)) (h4 : AllReal (a4 m c))
    (h5 : AllReal (a5 m c)) (h6 : AllReal (a6 m c)) (i : Fin 4096) (l : Fin 1024) :
    back (resR (a0 m c) (a1 m c) (a2 m c) (a3 m c) (a5 m c) i) (tR (a4 m c) i) (G (a6 m c)) l
      = val_main_v65 (F := Ideal) (a0 m c) (a1 m c) (a2 m c) (a3 m c) (a4 m c) (a5 m c) (a6 m c) (ix3 0 i l) := by
  rw [v65_at]
  unfold upR back
  obtain ⟨x, hx⟩ := res_real m c h0 h1 h2 h3 h5 i
  rw [hx]
  obtain ⟨u, hu⟩ := up_real m c h4 h6 i x
  rw [hu, Rms.back_coe]
  exact (Rms.chain_eq x u l).symm

/-- What a column sum of the reference is. -/
theorem parts_eq (p : ℕ) (l : Fin 1024) (X t y : Fin 4096 → Fin 1024 → EReal) (g : Fin 1024 → EReal) :
    ∑ i, part (X i) (t i) g (y i) l p = if p = 0 then ∑ i, X i l * Rms.inv (X i) * cot (X i) (t i) g l else if p = 1 then ∑ i, back (X i) (t i) g l * y i l
      else if p = 2 then ∑ i, err (X i) (t i) g l * err (X i) (t i) g l else 0 := by
  unfold part
  split_ifs
  · exact Finset.sum_congr rfl fun i _ => mul_comm _ _
  · rfl
  · rfl
  · exact Finset.sum_const_zero

/-! ## The results -/

theorem z_eq : zV m c = val_main_v77 (F := Ideal) (a0 m c) (a2 m c) :=
  Tiles.ext (a := 4096) (b := 4096) fun i q => (z_at m c i q).trans (v77_at _ _ _ _).symm

section Finite

variable (hd : ∀ i l, back (resR (a0 m c) (a1 m c) (a2 m c) (a3 m c) (a5 m c) i) (tR (a4 m c) i) (G (a6 m c)) l
  = val_main_v65 (F := Ideal) (a0 m c) (a1 m c) (a2 m c) (a3 m c) (a4 m c) (a5 m c) (a6 m c) (ix3 0 i l))
include hd

theorem dx_place (i : Fin 4096) (l : Fin 1024) :
    dxV m c (ix2 i l) = val_main_v65 (F := Ideal) (a0 m c) (a1 m c) (a2 m c) (a3 m c) (a4 m c) (a5 m c) (a6 m c) (ix3 0 i l) := by
  show back (resV m c i) (row (V m c main_v9) i) (row (V m c main_v10) 0) l = _
  rw [res_row, host_t, host_g]
  exact hd i l

theorem dx_eq : dxV m c = val_main_v79 (F := Ideal) (a0 m c) (a1 m c) (a2 m c) (a3 m c) (a4 m c) (a5 m c) (a6 m c) :=
  Tiles.ext (a := 4096) (b := 1024) fun i l => (dx_place m c hd i l).trans (v79_at _ _ _ _ _ _ _ _ _).symm

theorem dy_eq : dyV m c = val_main_v81 (F := Ideal) (a0 m c) (a1 m c) (a2 m c) (a3 m c) (a4 m c) (a5 m c) (a6 m c) :=
  Tiles.ext (a := 4096) (b := 1024) fun i l => by
    rw [v81_at]
    exact congrArg₂ (· * ·) (congrFun (host_gt m c) l) (dx_place m c hd i l)

theorem st_eq : stV m c = val_main_v76 (F := Ideal) (a0 m c) (a1 m c) (a2 m c) (a3 m c) (a4 m c) (a5 m c) (a6 m c) :=
  Tiles.ext (a := 8) (b := 1024) fun p l => by
    rw [v76_at, v50_at, v71_at, v74_at]
    simp only [← hd]
    refine Eq.trans (Finset.sum_congr rfl fun i _ => ?_) (parts_eq p.val l (resR (a0 m c) (a1 m c) (a2 m c) (a3 m c) (a5 m c)) (tR (a4 m c)) (yR (a0 m c) (a2 m c) (a3 m c)) (G (a6 m c)))
    show part (resV m c i) (row (V m c main_v9) i) (row (V m c main_v10) 0) (yV m c i) l p.val = _
    rw [res_row, y_row, host_t, host_g]

end Finite

/-! ## The run -/

variable {F : FTy → Type} [FloatOps F] (n : (ℓ : Loc nD τ sig) → Buf (Elt F) ℓ)

/-- The arguments end as they began. -/
theorem args_kept (h : θ_run defs (onTc (τ := τ) (main (F := F))) (s₀ n ρ) (Pipeline.FramePost cfgs (Cert.Kernel5Ideal.MlpLoss.dats n) 0 (V n))) :
    θ_run defs (onTc (τ := τ) (main (F := F))) ⟨n, fun _ => 0, ρ⟩ (fun r => ∀ c : Dev nD,
      r.2.mem ((c.tc : Thread nD τ).loc main_arg0) = n ((c.tc : Thread nD τ).loc main_arg0)
      ∧ r.2.mem ((c.tc : Thread nD τ).loc main_arg1) = n ((c.tc : Thread nD τ).loc main_arg1)
      ∧ r.2.mem ((c.tc : Thread nD τ).loc main_arg2) = n ((c.tc : Thread nD τ).loc main_arg2)
      ∧ r.2.mem ((c.tc : Thread nD τ).loc main_arg3) = n ((c.tc : Thread nD τ).loc main_arg3)
      ∧ r.2.mem ((c.tc : Thread nD τ).loc main_arg4) = n ((c.tc : Thread nD τ).loc main_arg4)
      ∧ r.2.mem ((c.tc : Thread nD τ).loc main_arg5) = n ((c.tc : Thread nD τ).loc main_arg5)
      ∧ r.2.mem ((c.tc : Thread nD τ).loc main_arg6) = n ((c.tc : Thread nD τ).loc main_arg6)) :=
  (θ_run defs _ _).mono (fun r h c =>
    have rest (b : Ref sig .tc) (hb : b ∈ Pipeline.restRefs sig spec0) (e : V n c b = n ((c.tc : Thread nD τ).loc b)) :
        r.2.mem ((c.tc : Thread nD τ).loc b) = n ((c.tc : Thread nD τ).loc b) := ((h c).2 b hb).trans e
    ⟨((h c).1 0).trans (((Cert.Kernel5Ideal.MlpLoss.dats n 0 c).arrAt_in 0 rfl _).trans ((Cert.Kernel5Ideal.MlpLoss.A_eq n c 0).trans (V_main_arg0 n c))),
      rest main_arg1 (Pipeline.mem_restRefs_of main_arg1 (by decide) (by decide)) (V_main_arg1 n c),
      rest main_arg2 (Pipeline.mem_restRefs_of main_arg2 (by decide) (by decide)) (V_main_arg2 n c),
      rest main_arg3 (Pipeline.mem_restRefs_of main_arg3 (by decide) (by decide)) (V_main_arg3 n c),
      rest main_arg4 (Pipeline.mem_restRefs_of main_arg4 (by decide) (by decide)) (V_main_arg4 n c),
      rest main_arg5 (Pipeline.mem_restRefs_of main_arg5 (by decide) (by decide)) (V_main_arg5 n c),
      rest main_arg6 (Pipeline.mem_restRefs_of main_arg6 (by decide) (by decide)) (V_main_arg6 n c)⟩) h

theorem quiescent : θ_run defs (onTc (τ := τ) (main (F := F))) ⟨n, fun _ => 0, ρ⟩ (fun r => (∀ c : Dev nD,
      r.2.mem ((c.tc : Thread nD τ).loc main_arg0) = n ((c.tc : Thread nD τ).loc main_arg0)
      ∧ r.2.mem ((c.tc : Thread nD τ).loc main_arg1) = n ((c.tc : Thread nD τ).loc main_arg1)
      ∧ r.2.mem ((c.tc : Thread nD τ).loc main_arg2) = n ((c.tc : Thread nD τ).loc main_arg2)
      ∧ r.2.mem ((c.tc : Thread nD τ).loc main_arg3) = n ((c.tc : Thread nD τ).loc main_arg3)
      ∧ r.2.mem ((c.tc : Thread nD τ).loc main_arg4) = n ((c.tc : Thread nD τ).loc main_arg4)
      ∧ r.2.mem ((c.tc : Thread nD τ).loc main_arg5) = n ((c.tc : Thread nD τ).loc main_arg5)
      ∧ r.2.mem ((c.tc : Thread nD τ).loc main_arg6) = n ((c.tc : Thread nD τ).loc main_arg6))
      ∧ r.2.sem = fun _ => 0) :=
  θ_run_and (args_kept ρ n ((θ_run defs _ _).mono (fun _ h => h.1) (Cert.Kernel5Ideal.MlpLoss.run n ρ)))
    ((θ_run defs _ _).mono (fun _ h => h.2) (Cert.Kernel5Ideal.MlpLoss.run n ρ))

/-- The four result arrays after the run. -/
theorem results : θ_run defs (onTc (τ := τ) (main (F := Ideal))) ⟨m, fun _ => 0, ρ⟩ fun r => ∀ c : Dev nD,
      r.2.mem ((c : Thread nD τ).loc main_v11_0) = zV m c
      ∧ r.2.mem ((c : Thread nD τ).loc main_v11_1) = dxV m c
      ∧ r.2.mem ((c : Thread nD τ).loc main_v11_2) = dyV m c
      ∧ r.2.mem ((c : Thread nD τ).loc main_v11_3) = stV m c :=
  (θ_run defs _ _).mono (fun _ h c => ⟨((h.1 c).1 5).trans (arr_z m c), ((h.1 c).1 6).trans (arr_dx m c), ((h.1 c).1 7).trans (arr_dy m c),
    ((h.1 c).1 8).trans (arr_st m c)⟩) (Cert.Kernel5Ideal.MlpLoss.run m ρ)

/-- The frame at the machine's floats. -/
def frameBits : Prop := ∀ (m : (ℓ : Loc nD τ sig) → Buf (Elt Bits) ℓ) (ρ : Dev nD → PrngReg), True →
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0)

end Rows

/-! ## The claims -/

/-- The printed kernel and its idealization have the same text. -/
theorem same_text : Cert.quiescent_Kernel5 = frameBits := by sl_kernel_rfl

theorem frame_p : Cert.quiescent_Kernel5 := same_text.mpr fun m ρ _ => quiescent (F := Bits) ρ m

theorem frame_pi : Cert.quiescent_Kernel5Ideal := fun m ρ _ => quiescent ρ m

theorem frame_ri : Cert.quiescent_Reference5Ideal := fun m ρ _ =>
  (θ_run Cert.Reference5Ideal.defs _ _).mono (fun r h => ⟨fun c => (h c).2.2.2.2, sem_eq_zero_of_no_sems (by decide) r.2⟩)
    (Cert.Reference5Ideal.Value.run (F := Ideal) m ρ)

theorem algebraic : Cert.algebraic_Kernel5Ideal_Reference5Ideal_pre_finite5 := by
  intro m ρ m' ρ' hpre hagree
  refine ⟨_, _, _, _, (θ_run Cert.Kernel5Ideal.defs _ _).mono (fun r h c => ⟨(h.1 c).1, (h.1 c).2.1, (h.1 c).2.2.1, (h.1 c).2.2.2, h.2.1 c⟩)
    (θ_run_and (results m ρ) (quiescent ρ m)), ?_⟩
  refine (θ_run Cert.Reference5Ideal.defs _ _).mono (fun _ h c => ?_) (Cert.Reference5Ideal.Value.run (F := Ideal) m' ρ')
  obtain ⟨e0, e1, e2, e3, e4, e5, e6⟩ := hagree c
  obtain ⟨h0, h1, h2, h3, h4, h5, h6⟩ := finite_args _ _ _ _ _ _ _ (hpre c)
  have hd := dx_at m c h0 h1 h2 h3 h4 h5 h6
  refine ⟨(h c).1.trans ?_, (h c).2.1.trans ?_, (h c).2.2.1.trans ?_, (h c).2.2.2.1.trans ?_, (h c).2.2.2.2⟩
  · rw [val_main_v77_eq, e0, e2]
    exact (z_eq m c).symm
  · rw [val_main_v79_eq, e0, e1, e2, e3, e4, e5, e6]
    exact (dx_eq m c hd).symm
  · rw [val_main_v81_eq, e0, e1, e2, e3, e4, e5, e6]
    exact (dy_eq m c hd).symm
  · rw [val_main_v76_eq, e0, e1, e2, e3, e4, e5, e6]
    exact (st_eq m c hd).symm

end Cert.Proof.MlpLossEq

end
-- ==== Proof.AdaFwdEq.lean ====
/- The modulation of the batch from its conditioning vectors: the gate c·σ(c), this device's columns of its product with the
   weight, and the bias. Kernel and reference compute one function of all arguments. -/
module

public import proofs.«01_k».proof.Defs
public import proofs.«01_k».proof.Proof.Tiles
public import proofs.«01_k».proof.Proof.Reals
public import proofs.«01_k».proof.Proof.Gen.Kernel6
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import Idealize.ShloMosaic.Lib.Pointwise
public import Idealize.ShloMosaic.Lib.StableHlo.ReadAt
public import Idealize.ShloMosaic.Lib.Quiescent

@[expose] public section

noncomputable section

namespace Cert.Proof.AdaFwdEq

open Idealize.ShloMosaic Idealize.ShloMosaic.TcCoe Idealize.SL.Sem Tiles
open Cert.Reference6Ideal.Read

theorem hz : (![0, 0] : Fin 2 → Nat) = fun _ => 0 := funext fun a => by fin_cases a <;> rfl

/-- The reference writes σ(x) as 1/(1 + exp(−x)). -/
theorem logistic_eq (x : EReal) : Ideal.logistic x = Ideal.div (Ideal.ofBits .f32 0x3F800000#32) (Ideal.ofBits .f32 0x3F800000#32 + Ideal.exp (-x)) := by
  rw [Reals.ofBits_one]
  rfl

section Kernel
open Cert.Kernel6Ideal Cert.Kernel6Ideal.Gen Cert.Kernel6Ideal.Value

/-- The two results of the body, entry by entry. -/
theorem pay1_apply (x : Vec Ideal S8x1024 .f32) (r : Fin 8) (l : Fin 1024) : k0_pay1 x (ix2 r l) = x (ix2 r l) * Ideal.logistic (x (ix2 r l)) := by
  pointwise [k0_pay1]

theorem pay2_apply (x : Vec Ideal S8x1024 .f32) (w : Vec Ideal S1024x768 .f32) (b : Vec Ideal S1x768 .f32) (r : Fin 8) (q : Fin 768) :
    k0_pay2 x w b (ix2 r q) = (∑ l : Fin 1024, k0_pay1 x (ix2 r l) * w (ix2 l q)) + b (ix2 0 q) := by
  pointwise [k0_pay2]

variable (m : (ℓ : Loc nD τ sig) → Buf (Elt Ideal) ℓ) (ρ : Dev nD → PrngReg) (c : Dev nD) (t : Fin cfg0.N)

abbrev a0 : Vec Ideal S8x1024 .f32 := m ((c.tc : Thread nD τ).loc main_arg0)
abbrev a1 : Vec Ideal S1x1024x768 .f32 := m ((c.tc : Thread nD τ).loc main_arg1)
abbrev a2 : Vec Ideal S1x768 .f32 := m ((c.tc : Thread nD τ).loc main_arg2)

/-- The grid has one point, and every window is a whole array. -/
theorem idx : ∀ t : Fin cfg0.N, (win0_0.index t (0 : Fin 2) = 0 ∧ win0_0.index t (1 : Fin 2) = 0) ∧ (win0_1.index t (0 : Fin 2) = 0 ∧ win0_1.index t (1 : Fin 2) = 0)
    ∧ (win0_2.index t (0 : Fin 2) = 0 ∧ win0_2.index t (1 : Fin 2) = 0) ∧ (win0_3.index t (0 : Fin 2) = 0 ∧ win0_3.index t (1 : Fin 2) = 0)
    ∧ (win0_4.index t (0 : Fin 2) = 0 ∧ win0_4.index t (1 : Fin 2) = 0) := (by decide +kernel : ∀ t : Fin grid0.N, _)

theorem blk_c : (iblk m c 0 t : Vec Ideal S8x1024 .f32) = a0 m c :=
  funext fun j => (congrArg (V m c main_arg0) (whole_eq (a := 8) (b := 1024) j _ (idx t).1 rfl rfl)).trans (congrFun (V_main_arg0 m c) j)
theorem blk_w (l : Fin 1024) (q : Fin 768) : iblk m c 1 t (ix2 l q) = a1 m c (ix3 0 l q) :=
  (congrArg (V m c main_v0) (whole_eq (a := 1024) (b := 768) (ix2 l q) _ (idx t).2.1 rfl rfl)).trans (by unfold V; after_reads_at)
theorem blk_b : (iblk m c 2 t : Vec Ideal S1x768 .f32) = a2 m c :=
  funext fun j => (congrArg (V m c main_arg2) (whole_eq (a := 1) (b := 768) j _ (idx t).2.2.1 rfl rfl)).trans (congrFun (V_main_arg2 m c) j)

theorem emb3 (j : S8x768.Idx) : ((cfg0.win 3).blk t).view.emb j = j := whole_eq (a := 8) (b := 768) j _ (idx t).2.2.2.1 rfl rfl
theorem emb4 (j : S8x1024.Idx) : ((cfg0.win 4).blk t).view.emb j = j := whole_eq (a := 8) (b := 1024) j _ (idx t).2.2.2.2 rfl rfl

/-- The modulation and the gated vectors as functions of the arguments. -/
def act : Vec Ideal S8x1024 .f32 := fun j => a0 m c j * Ideal.logistic (a0 m c j)
def mods : Vec Ideal S8x768 .f32 := fun j => (∑ l : Fin 1024, act m c (ix2 (j 0) l) * a1 m c (ix3 0 l (j 1))) + a2 m c (ix2 0 (j 1))

theorem out4 (r : Fin 8) (l : Fin 1024) : out0_4 (iblk m c 0 t) (iblk m c 1 t) (iblk m c 2 t) (ix2 r l) = act m c (ix2 r l) := by
  unfold out0_4
  rw [View.canon_unit_zero (S := S8x1024) hz, View.ld_unit_zero (S := S8x1024) hz, blk_c]
  exact pay1_apply _ r l

theorem out3 (r : Fin 8) (q : Fin 768) : out0_3 (iblk m c 0 t) (iblk m c 1 t) (iblk m c 2 t) (ix2 r q) = mods m c (ix2 r q) := by
  unfold out0_3
  rw [View.canon_unit_zero (S := S8x768) hz, View.ld_unit_zero (S := S8x1024) hz, View.ld_unit_zero (S := S1024x768) hz, View.ld_unit_zero (S := S1x768) hz, blk_c, blk_b]
  refine (pay2_apply _ _ _ r q).trans (congrArg (· + _) (Finset.sum_congr rfl fun l _ => ?_))
  exact congrArg₂ (· * ·) (pay1_apply _ r l) (blk_w m c t l q)

theorem flushed3_eq : (dats m 0 c).flushed 3 t = ((cfg0.win 3).blk t).view.read (Elt Ideal) (mods m c) := by
  rw [flushed3]
  funext j
  show out0_3 (iblk m c 0 t) (iblk m c 1 t) (iblk m c 2 t) j = mods m c (((cfg0.win 3).blk t).view.emb j)
  rw [emb3]
  exact (congrArg _ (eta (a := 8) (b := 768) j)).trans ((out3 m c t (j 0) (j 1)).trans (congrArg _ (eta (a := 8) (b := 768) j).symm))

theorem flushed4_eq : (dats m 0 c).flushed 4 t = ((cfg0.win 4).blk t).view.read (Elt Ideal) (act m c) := by
  rw [flushed4]
  funext j
  show out0_4 (iblk m c 0 t) (iblk m c 1 t) (iblk m c 2 t) j = act m c (((cfg0.win 4).blk t).view.emb j)
  rw [emb4]
  exact (congrArg _ (eta (a := 8) (b := 1024) j)).trans ((out4 m c t (j 0) (j 1)).trans (congrArg _ (eta (a := 8) (b := 1024) j).symm))

def pt : Fin cfg0.N := ⟨0, by rw [show cfg0.N = 1 from N_0]; decide⟩

theorem arr_mods : (dats m 0 c).arrAt 3 cfg0.N = mods m c :=
  (dats m 0 c).arrAt_eq_of_cover 3 (mods m c) (fun t _ => flushed3_eq m c t) fun i => ⟨pt, flush0_3 _, by
    have h := ((cfg0.win 3).blk pt).view.emb_mem_set (i : S8x768.Idx)
    rwa [emb3] at h⟩

theorem arr_act : (dats m 0 c).arrAt 4 cfg0.N = act m c :=
  (dats m 0 c).arrAt_eq_of_cover 4 (act m c) (fun t _ => flushed4_eq m c t) fun i => ⟨pt, flush0_4 _, by
    have h := ((cfg0.win 4).blk pt).view.emb_mem_set (i : S8x1024.Idx)
    rwa [emb4] at h⟩

/-- The reference's results are these functions. -/
theorem act_at (r : Fin 8) (l : Fin 1024) : val_main_v0 (F := Ideal) (a0 m c) (ix2 r l) = act m c (ix2 r l) := by
  refine Eq.trans ?_ (congrArg (a0 m c (ix2 r l) * ·) (logistic_eq _).symm)
  pointwise [val_main_v0, val_main_call0_v5, val_main_call0_v4, val_main_call0_v3, val_main_call0_v2, val_main_call0_v1, val_main_call0_v0, val_main_call0_cst, val_main_call0_cst_0]

theorem act_val : act m c = val_main_v0 (F := Ideal) (a0 m c) := Tiles.ext (a := 8) (b := 1024) fun r l => (act_at m c r l).symm

theorem v4_at (r : Fin 8) (q : Fin 768) : val_main_v4 (F := Ideal) (a0 m c) (a1 m c) (a2 m c) (ix2 r q)
    = (∑ l : Fin 1024, val_main_v0 (F := Ideal) (a0 m c) (ix2 r l) * a1 m c (ix3 0 l q)) + a2 m c (ix2 0 q) := by
  pointwise [val_main_v4, val_main_v3, val_main_v2, val_main_v1]

theorem mods_val : mods m c = val_main_v4 (F := Ideal) (a0 m c) (a1 m c) (a2 m c) :=
  Tiles.ext (a := 8) (b := 768) fun r q => (congrArg (· + _) (Finset.sum_congr rfl fun l _ => congrArg (· * _) (act_at m c r l).symm)).trans (v4_at m c r q).symm

/-- The frame at the machine's floats. -/
def frameBits : Prop := ∀ (m : (ℓ : Loc nD τ sig) → Buf (Elt Bits) ℓ) (ρ : Dev nD → PrngReg), True →
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0)

end Kernel

/-! ## The claims -/

/-- The printed kernel and its idealization have the same text. -/
theorem same_text : Cert.quiescent_Kernel6 = frameBits := by sl_kernel_rfl

theorem frame_p : Cert.quiescent_Kernel6 := same_text.mpr fun m ρ _ => Cert.Kernel6Ideal.Gen.frame (F := Bits) m ρ

theorem frame_pi : Cert.quiescent_Kernel6Ideal := fun m ρ _ => Cert.Kernel6Ideal.Gen.frame m ρ

theorem frame_ri : Cert.quiescent_Reference6Ideal := fun m ρ _ =>
  (θ_run Cert.Reference6Ideal.defs _ _).mono (fun r h => ⟨fun c => (h c).2.2, sem_eq_zero_of_no_sems (by decide) r.2⟩)
    (Cert.Reference6Ideal.Value.run (F := Ideal) m ρ)

theorem algebraic : Cert.algebraic_Kernel6Ideal_Reference6Ideal := by
  intro m ρ m' ρ' _ hagree
  refine ⟨_, _, (θ_run Cert.Kernel6Ideal.defs _ _).mono (fun _ h c => ⟨(h c).1.trans (arr_mods m c), (h c).2.1.trans (arr_act m c), (h c).2.2⟩)
    (Cert.Kernel6Ideal.Value.run_blocks m ρ), ?_⟩
  refine (θ_run Cert.Reference6Ideal.defs _ _).mono (fun _ h c => ⟨(h c).1.trans ?_, (h c).2.1.trans ?_, (h c).2.2⟩)
    (Cert.Reference6Ideal.Value.run (F := Ideal) m' ρ')
  · obtain ⟨e0, e1, e2⟩ := hagree c
    rw [val_main_v4_eq, e0, e1, e2]
    exact (mods_val m c).symm
  · obtain ⟨e0, e1, e2⟩ := hagree c
    rw [val_main_v0_eq, e0]
    exact (act_val m c).symm

end Cert.Proof.AdaFwdEq

end
-- ==== Proof.MlpDwEq.lean ====
/- The gradients of the perceptron's two weights: the squared hidden values against the cotangent, the hidden cotangent
   against the input, summed over the tokens in four blocks. Kernel and reference compute one function of all arguments. -/
module

public import proofs.«01_k».proof.Defs
public import proofs.«01_k».proof.Proof.Rows
public import proofs.«01_k».proof.Proof.Tiles
public import proofs.«01_k».proof.Proof.HostSums
public import proofs.«01_k».proof.Proof.Gen.Kernel7
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import Idealize.ShloMosaic.Lib.Pointwise
public import Idealize.ShloMosaic.Lib.Tactic
public import Idealize.ShloMosaic.Lib.StableHlo.ReadAt
public import Idealize.ShloMosaic.Lib.Quiescent

@[expose] public section

noncomputable section

namespace Cert.Proof.MlpDwEq

open Idealize.ShloMosaic Idealize.ShloMosaic.TcCoe Idealize.SL.Sem Tiles

theorem hz : (![0, 0] : Fin 2 → Nat) = fun _ => 0 := funext fun a => by fin_cases a <;> rfl

section Kernel
open Cert.Kernel7Ideal Cert.Kernel7Ideal.Gen Cert.Kernel7Ideal.Value

/-! ## What a grid step leaves -/

section Step

variable {F : FTy → Type} [FloatOps F] (c : Dev nD) (i : grid0.Coords) (arg2 : Memref sig .tc .vmem S1024x1024 .bf16) (harg2 : arg2.IsWhole)
  (arg3 : Memref sig .tc .vmem S1024x1024 .bf16) (harg3 : arg3.IsWhole) (arg4 : Memref sig .tc .vmem S1024x1024 .bf16) (harg4 : arg4.IsWhole)
  (arg5 : Memref sig .tc .vmem S1024x1024 .bf16) (harg5 : arg5.IsWhole) (arg6 : Memref sig .tc .vmem S1024x1024 .f32) (harg6 : arg6.IsWhole)
  (arg7 : Memref sig .tc .vmem S1024x1024 .f32) (harg7 : arg7.IsWhole)
  (x0 x1 x2 x3 : Vec F S1024x1024 .bf16) (s4 s5 : Vec F S1024x1024 .f32)

theorem first4 (hc : cond0_0 i) : out0_A_4 c i arg2 harg2 arg3 harg3 arg4 harg4 arg5 harg5 arg6 harg6 arg7 harg7 hc x0 x1 x2 x3 = k0_pay3 x0 k0_pay1 x2 := by
  unfold out0_A_4
  unfold kernelRun0_A
  dsimp only
  sl_unfold_words
  simp only [View.readAt_eq_ld, harg2.read_unread, harg3.read_unread, harg4.read_unread, harg5.read_unread, View.ld_unit_zero (S := S1024x1024) hz]
  rw [Rows.read_all, Rows.readCov_all]
  rw [View.ld_unit_zero (S := S1024x1024) hz]

theorem first5 (hc : cond0_0 i) : out0_A_5 c i arg2 harg2 arg3 harg3 arg4 harg4 arg5 harg5 arg6 harg6 arg7 harg7 hc x0 x1 x2 x3 = k0_pay4 k0_pay2 x1 x3 := by
  unfold out0_A_5
  unfold kernelRun0_A
  dsimp only
  sl_unfold_words
  simp only [View.readAt_eq_ld, harg2.read_unread, harg3.read_unread, harg4.read_unread, harg5.read_unread, View.ld_unit_zero (S := S1024x1024) hz]
  rw [Rows.read_all, Rows.readCov_all]
  rw [View.ld_unit_zero (S := S1024x1024) hz]

theorem later4 (hc : ¬cond0_0 i) : out0_B_4 c i arg2 harg2 arg3 harg3 arg4 harg4 arg5 harg5 arg6 harg6 arg7 harg7 hc x0 x1 x2 x3 s4 s5 = k0_pay3 x0 s4 x2 := by
  unfold out0_B_4
  unfold kernelRun0_B
  dsimp only
  sl_unfold_words
  rw [Rows.read_all]
  simp only [View.readAt_eq_ld, harg2.read_unread, harg3.read_unread, harg4.read_unread, harg5.read_unread, harg6.read_unread, harg7.read_unread,
    View.ld_unit_zero (S := S1024x1024) hz]

theorem later5 (hc : ¬cond0_0 i) : out0_B_5 c i arg2 harg2 arg3 harg3 arg4 harg4 arg5 harg5 arg6 harg6 arg7 harg7 hc x0 x1 x2 x3 s4 s5 = k0_pay4 s5 x1 x3 := by
  unfold out0_B_5
  unfold kernelRun0_B
  dsimp only
  sl_unfold_words
  rw [Rows.read_all]
  simp only [View.readAt_eq_ld, harg2.read_unread, harg3.read_unread, harg4.read_unread, harg5.read_unread, harg6.read_unread, harg7.read_unread,
    View.ld_unit_zero (S := S1024x1024) hz]

end Step

/-! ## The arrays after the run -/

theorem pay1_apply (r l : Fin 1024) : (k0_pay1 (F := Ideal) : Vec Ideal S1024x1024 .f32) (ix2 r l) = 0 := by
  pointwise [k0_pay1]

theorem pay2_apply (r l : Fin 1024) : (k0_pay2 (F := Ideal) : Vec Ideal S1024x1024 .f32) (ix2 r l) = 0 := by
  pointwise [k0_pay2]

theorem pay3_apply (z dy : Vec Ideal S1024x1024 .bf16) (s : Vec Ideal S1024x1024 .f32) (q l : Fin 1024) :
    k0_pay3 z s dy (ix2 q l) = s (ix2 q l) + ∑ r : Fin 1024, z (ix2 r q) * z (ix2 r q) * dy (ix2 r l) := by
  pointwise [k0_pay3]

theorem pay4_apply (dz hn : Vec Ideal S1024x1024 .bf16) (s : Vec Ideal S1024x1024 .f32) (q l : Fin 1024) :
    k0_pay4 s dz hn (ix2 q l) = s (ix2 q l) + ∑ r : Fin 1024, dz (ix2 r q) * hn (ix2 r l) := by
  pointwise [k0_pay4]

variable (m : (ℓ : Loc nD τ sig) → Buf (Elt Ideal) ℓ) (ρ : Dev nD → PrngReg) (c : Dev nD) (t : Fin cfg0.N)

/-- A token's term of each gradient. -/
def downTerm (z : Vec Ideal S4096x4096 .bf16) (dy : Vec Ideal S4096x1024 .bf16) (q : Fin 4096) (l : Fin 1024) (i : Fin 4096) : EReal :=
  z (ix2 i q) * z (ix2 i q) * dy (ix2 i l)
def upTerm (dz : Vec Ideal S4096x4096 .bf16) (hn : Vec Ideal S4096x1024 .bf16) (q : Fin 4096) (l : Fin 1024) (i : Fin 4096) : EReal :=
  dz (ix2 i q) * hn (ix2 i l)

abbrev downT := downTerm (V m c main_v4) (V m c main_arg4)
abbrev upT := upTerm (V m c main_arg3) (V m c main_arg0)

/-- The gradients as functions of the arrays the grid finds. -/
def gDown : Vec Ideal S4096x1024 .f32 := fun j => ∑ i : Fin 4096, downT m c (j 0) (j 1) i
def gUp : Vec Ideal S4096x1024 .f32 := fun j => ∑ i : Fin 4096, upT m c (j 0) (j 1) i

theorem idx : ∀ t : Fin cfg0.N, (win0_0.index t (0 : Fin 2) = t.val % 4 ∧ win0_0.index t (1 : Fin 2) = t.val / 4)
    ∧ (win0_1.index t (0 : Fin 2) = t.val % 4 ∧ win0_1.index t (1 : Fin 2) = t.val / 4) ∧ (win0_2.index t (0 : Fin 2) = t.val % 4 ∧ win0_2.index t (1 : Fin 2) = 0)
    ∧ (win0_3.index t (0 : Fin 2) = t.val % 4 ∧ win0_3.index t (1 : Fin 2) = 0) ∧ (win0_4.index t (0 : Fin 2) = t.val / 4 ∧ win0_4.index t (1 : Fin 2) = 0)
    ∧ (win0_5.index t (0 : Fin 2) = t.val / 4 ∧ win0_5.index t (1 : Fin 2) = 0) := (by decide +kernel : ∀ t : Fin grid0.N, _)

theorem lt16 : t.val < 16 := lt_of_lt_of_eq t.isLt (show cfg0.N = 16 from N_0)
theorem inDiv : t.val / 4 * 1024 + 1024 ≤ 4096 := by have := lt16 t; omega
theorem inMod : t.val % 4 * 1024 + 1024 ≤ 4096 := by omega

/-- The place in a hidden array of an entry of a tile. -/
theorem tile_eq {a b n k : ℕ} (r q : Fin 1024) (i : S4096x4096.Idx) (ha : a * 1024 + 1024 ≤ 4096) (hb : b * 1024 + 1024 ≤ 4096) (h : n = a ∧ k = b)
    (h0 : (i 0).val = n * 1024 + 1 * r.val) (h1 : (i 1).val = k * 1024 + 1 * q.val) : i = ix2 (rowOf 1024 a r) (rowOf 1024 b q) := by
  obtain ⟨rfl, rfl⟩ := h
  rw [eta (a := 4096) (b := 4096) i]
  refine congrArg₂ ix2 (Fin.ext ?_) (Fin.ext ?_)
  · rw [h0, rowOf_val ha]; omega
  · rw [h1, rowOf_val hb]; omega

theorem blk_z (r q : Fin 1024) : iblk m c 0 t (ix2 r q) = V m c main_v4 (ix2 (rowOf 1024 (t.val % 4) r) (rowOf 1024 (t.val / 4) q)) :=
  congrArg (V m c main_v4) (tile_eq r q _ (inMod t) (inDiv t) (idx t).1 rfl rfl)
theorem blk_dz (r q : Fin 1024) : iblk m c 1 t (ix2 r q) = V m c main_arg3 (ix2 (rowOf 1024 (t.val % 4) r) (rowOf 1024 (t.val / 4) q)) :=
  congrArg (V m c main_arg3) (tile_eq r q _ (inMod t) (inDiv t) (idx t).2.1 rfl rfl)
theorem blk_dy (r l : Fin 1024) : iblk m c 2 t (ix2 r l) = V m c main_arg4 (ix2 (rowOf 1024 (t.val % 4) r) l) :=
  congrArg (V m c main_arg4) (rows_eq (B := 1024) (b := 1024) r l _ (inMod t) (idx t).2.2.1 rfl rfl)
theorem blk_hn (r l : Fin 1024) : iblk m c 3 t (ix2 r l) = V m c main_arg0 (ix2 (rowOf 1024 (t.val % 4) r) l) :=
  congrArg (V m c main_arg0) (rows_eq (B := 1024) (b := 1024) r l _ (inMod t) (idx t).2.2.2.1 rfl rfl)

theorem emb4 (j : S1024x1024.Idx) : ((cfg0.win 4).blk t).view.emb j = ix2 (rowOf 1024 (t.val / 4) (j 0)) (j 1) :=
  rows_eq (B := 1024) (b := 1024) (j 0) (j 1) _ (inDiv t) (idx t).2.2.2.2.1 rfl rfl
theorem emb5 (j : S1024x1024.Idx) : ((cfg0.win 5).blk t).view.emb j = ix2 (rowOf 1024 (t.val / 4) (j 0)) (j 1) :=
  rows_eq (B := 1024) (b := 1024) (j 0) (j 1) _ (inDiv t) (idx t).2.2.2.2.2 rfl rfl

theorem down_blk (s : Vec Ideal S1024x1024 .f32) (q l : Fin 1024) : k0_pay3 (iblk m c 0 t) s (iblk m c 2 t) (ix2 q l)
    = s (ix2 q l) + ∑ r : Fin 1024, downT m c (rowOf 1024 (t.val / 4) q) l (rowOf 1024 (t.val % 4) r) := by
  refine (pay3_apply _ _ s q l).trans (congrArg (_ + ·) (Finset.sum_congr rfl fun r _ => ?_))
  exact congrArg₂ (· * ·) (congrArg₂ (· * ·) (blk_z m c t r q) (blk_z m c t r q)) (blk_dy m c t r l)

theorem up_blk (s : Vec Ideal S1024x1024 .f32) (q l : Fin 1024) : k0_pay4 s (iblk m c 1 t) (iblk m c 3 t) (ix2 q l)
    = s (ix2 q l) + ∑ r : Fin 1024, upT m c (rowOf 1024 (t.val / 4) q) l (rowOf 1024 (t.val % 4) r) := by
  refine (pay4_apply _ _ s q l).trans (congrArg (_ + ·) (Finset.sum_congr rfl fun r _ => ?_))
  exact congrArg₂ (· * ·) (blk_dz m c t r q) (blk_hn m c t r l)

/-- What the step before left. -/
abbrev before : Vec Ideal S1024x1024 .f32 × Vec Ideal S1024x1024 .f32 := outsAt0 m c (t.val - 1) (Nat.lt_of_le_of_lt (Nat.sub_le _ _) t.isLt)

theorem at_first (h : t.val % 4 = 0) : outsAt0 m c t.val t.isLt
    = (k0_pay3 (iblk m c 0 t) (k0_pay1 (F := Ideal)) (iblk m c 2 t), k0_pay4 (k0_pay2 (F := Ideal)) (iblk m c 1 t) (iblk m c 3 t)) := by
  rw [outsAt0_A m c t h, first4, first5]

theorem at_later (h : ¬t.val % 4 = 0) : outsAt0 m c t.val t.isLt
    = (k0_pay3 (iblk m c 0 t) (before m c t).1 (iblk m c 2 t), k0_pay4 (before m c t).2 (iblk m c 1 t) (iblk m c 3 t)) := by
  rw [outsAt0_B m c t h, later4, later5]

/-- After grid step `n` the two windows hold the sums over the token blocks up to there. -/
theorem acc : ∀ (n : ℕ) (h : n < cfg0.N) (q l : Fin 1024),
    (outsAt0 m c n h).1 (ix2 q l) = ∑ s ∈ Finset.range (n % 4 + 1), ∑ r : Fin 1024, downT m c (rowOf 1024 (n / 4) q) l (rowOf 1024 s r)
    ∧ (outsAt0 m c n h).2 (ix2 q l) = ∑ s ∈ Finset.range (n % 4 + 1), ∑ r : Fin 1024, upT m c (rowOf 1024 (n / 4) q) l (rowOf 1024 s r) := by
  have start : ∀ (t : Fin cfg0.N) (q l : Fin 1024), t.val % 4 = 0 →
      (outsAt0 m c t.val t.isLt).1 (ix2 q l) = ∑ s ∈ Finset.range (t.val % 4 + 1), ∑ r : Fin 1024, downT m c (rowOf 1024 (t.val / 4) q) l (rowOf 1024 s r)
      ∧ (outsAt0 m c t.val t.isLt).2 (ix2 q l) = ∑ s ∈ Finset.range (t.val % 4 + 1), ∑ r : Fin 1024, upT m c (rowOf 1024 (t.val / 4) q) l (rowOf 1024 s r) := by
    intro t q l h
    rw [at_first m c t h]
    dsimp only
    rw [down_blk, up_blk, pay1_apply, pay2_apply, zero_add, zero_add, h, zero_add, Finset.sum_range_one, Finset.sum_range_one]
    exact ⟨rfl, rfl⟩
  intro n
  induction n with
  | zero => exact fun h q l => start ⟨0, h⟩ q l rfl
  | succ n ih =>
    intro h q l
    by_cases h0 : (n + 1) % 4 = 0
    · exact start ⟨n + 1, h⟩ q l h0
    · rw [at_later m c ⟨n + 1, h⟩ h0]
      dsimp only
      rw [down_blk, up_blk]
      have e : (n + 1) % 4 = n % 4 + 1 := by omega
      have d : (n + 1) / 4 = n / 4 := by omega
      dsimp only
      rw [e, d, Finset.sum_range_succ _ (n % 4 + 1), Finset.sum_range_succ _ (n % 4 + 1)]
      exact ⟨congrArg (· + _) (ih (Nat.lt_of_succ_lt h) q l).1, congrArg (· + _) (ih (Nat.lt_of_succ_lt h) q l).2⟩

theorem flushed4_eq (hf : (cfg0.win 4).flush t = true) : (dats m 0 c).flushed 4 t = ((cfg0.win 4).blk t).view.read (Elt Ideal) (gDown m c) := by
  have h3 : t.val % 4 = 3 := (flush0_4 t).mp hf
  rw [flushed4]
  funext j
  show (outsAt0 m c t.val t.isLt).1 j = gDown m c (((cfg0.win 4).blk t).view.emb j)
  rw [emb4]
  refine (congrArg _ (eta (a := 1024) (b := 1024) j)).trans ((acc m c _ _ _ _).1.trans ?_)
  rw [h3]
  exact sum_rows 4 (by decide) _

theorem flushed5_eq (hf : (cfg0.win 5).flush t = true) : (dats m 0 c).flushed 5 t = ((cfg0.win 5).blk t).view.read (Elt Ideal) (gUp m c) := by
  have h3 : t.val % 4 = 3 := (flush0_5 t).mp hf
  rw [flushed5]
  funext j
  show (outsAt0 m c t.val t.isLt).2 j = gUp m c (((cfg0.win 5).blk t).view.emb j)
  rw [emb5]
  refine (congrArg _ (eta (a := 1024) (b := 1024) j)).trans ((acc m c _ _ _ _).2.trans ?_)
  rw [h3]
  exact sum_rows 4 (by decide) _

/-- The grid point that writes an entry back. -/
def wb (i : S4096x1024.Idx) : Fin cfg0.N := ⟨(i 0).val / 1024 * 4 + 3, by have : (i 0).val < 4096 := (i 0).isLt; rw [show cfg0.N = 16 from N_0]; omega⟩

theorem wb_place (i : S4096x1024.Idx) : ix2 (rowOf 1024 ((wb i).val / 4) ⟨(i 0).val % 1024, Nat.mod_lt _ (by decide)⟩) (i 1) = i := by
  refine Eq.trans ?_ (eta (a := 4096) (b := 1024) i).symm
  refine congrArg (ix2 · (i 1)) (Fin.ext ((rowOf_val (inDiv _) _).trans ?_))
  show ((i 0).val / 1024 * 4 + 3) / 4 * 1024 + (i 0).val % 1024 = (i 0).val; omega

theorem wb_mod (i : S4096x1024.Idx) : (wb i).val % 4 = 3 := by show ((i 0).val / 1024 * 4 + 3) % 4 = 3; omega

theorem arr_down : (dats m 0 c).arrAt 4 cfg0.N = gDown m c :=
  (dats m 0 c).arrAt_eq_of_cover 4 (gDown m c) (flushed4_eq m c) fun i => ⟨wb i, (flush0_4 _).mpr (wb_mod i), by
    have h := ((cfg0.win 4).blk (wb i)).view.emb_mem_set (ix2 ⟨(i 0).val % 1024, Nat.mod_lt _ (by decide)⟩ (i 1) : S1024x1024.Idx)
    rw [emb4] at h
    exact Eq.mp (congrArg (· ∈ _) (wb_place i)) h⟩

theorem arr_up : (dats m 0 c).arrAt 5 cfg0.N = gUp m c :=
  (dats m 0 c).arrAt_eq_of_cover 5 (gUp m c) (flushed5_eq m c) fun i => ⟨wb i, (flush0_5 _).mpr (wb_mod i), by
    have h := ((cfg0.win 5).blk (wb i)).view.emb_mem_set (ix2 ⟨(i 0).val % 1024, Nat.mod_lt _ (by decide)⟩ (i 1) : S1024x1024.Idx)
    rw [emb5] at h
    exact Eq.mp (congrArg (· ∈ _) (wb_place i)) h⟩

/-! ## The reference -/

abbrev a0 : Vec Ideal S4096x1024 .bf16 := m ((c.tc : Thread nD τ).loc main_arg0)
abbrev a1 : Vec Ideal S1x1024x4096 .f32 := m ((c.tc : Thread nD τ).loc main_arg1)
abbrev a3 : Vec Ideal S4096x4096 .bf16 := m ((c.tc : Thread nD τ).loc main_arg3)
abbrev a4 : Vec Ideal S4096x1024 .bf16 := m ((c.tc : Thread nD τ).loc main_arg4)

/-- The hidden value before the threshold. -/
def hid (x0 : Vec Ideal S4096x1024 .bf16) (x1 : Vec Ideal S1x1024x4096 .f32) (i q : Fin 4096) : EReal := ∑ l : Fin 1024, x0 (ix2 i l) * x1 (ix3 0 l q)

theorem host_z (i q : Fin 4096) : (V m c main_v4 : Vec Ideal S4096x4096 .bf16) (ix2 i q) = max (hid (a0 m c) (a1 m c) i q) 0 := by
  unfold hid
  unfold V
  after_reads_at

open Cert.Reference7Ideal.Read

section Reference

variable (x0 : Vec Ideal Cert.Reference7Ideal.S4096x1024 .bf16) (x1 : Vec Ideal Cert.Reference7Ideal.S1x1024x4096 .f32)
  (x3 : Vec Ideal Cert.Reference7Ideal.S4096x4096 .bf16) (x4 : Vec Ideal Cert.Reference7Ideal.S4096x1024 .bf16)

theorem v2_at (i q : Fin 4096) : val_main_v2 (F := Ideal) x0 x1 (ix2 i q) = hid x0 x1 i q := by
  unfold hid
  pointwise [val_main_v2, val_main_v0, val_main_v1]

theorem v5_at (i q : Fin 4096) : val_main_v5 (F := Ideal) x0 x1 (ix2 i q) = max (hid x0 x1 i q) 0 * max (hid x0 x1 i q) 0 := by
  rw [← v2_at]
  pointwise [val_main_v5, val_main_v4, val_main_v3, val_main_call0_cst, val_main_call0_v0, val_main_call1_cst, val_main_call1_v0]

theorem v16_at (q : Fin 4096) (l : Fin 1024) : val_main_v16 (F := Ideal) x0 x1 x4 (ix2 q l)
    = ∑ i : Fin 4096, x4 (ix2 i l) * val_main_v5 (F := Ideal) x0 x1 (ix2 i q) := by
  pointwise [val_main_v16, val_main_v15, val_main_v14, val_main_v13, val_main_v12]

theorem v18_at (q : Fin 4096) (l : Fin 1024) : val_main_v18 (F := Ideal) x0 x3 (ix2 q l) = ∑ i : Fin 4096, x3 (ix2 i q) * x0 (ix2 i l) := by
  pointwise [val_main_v18, val_main_v17, val_main_v11, val_main_v10, val_main_v9, val_main_v8, val_main_v0]

end Reference

theorem down_val : gDown m c = val_main_v16 (F := Ideal) (a0 m c) (a1 m c) (a4 m c) :=
  Tiles.ext (a := 4096) (b := 1024) fun q l => by
    refine Eq.trans ?_ (v16_at _ _ _ q l).symm
    refine Finset.sum_congr rfl fun i _ => ?_
    rw [v5_at, mul_comm]
    exact congrArg₂ (· * ·) (congrArg₂ (· * ·) (host_z m c i q) (host_z m c i q)) (congrFun (V_main_arg4 m c) _)

theorem up_val : gUp m c = val_main_v18 (F := Ideal) (a0 m c) (a3 m c) :=
  Tiles.ext (a := 4096) (b := 1024) fun q l => by
    refine Eq.trans ?_ (v18_at _ _ q l).symm
    exact Finset.sum_congr rfl fun i _ => congrArg₂ (· * ·) (congrFun (V_main_arg3 m c) _) (congrFun (V_main_arg0 m c) _)

/-- The frame at the machine's floats. -/
def frameBits : Prop := ∀ (m : (ℓ : Loc nD τ sig) → Buf (Elt Bits) ℓ) (ρ : Dev nD → PrngReg), True →
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0)

end Kernel

/-! ## The claims -/

/-- The printed kernel and its idealization have the same text. -/
theorem same_text : Cert.quiescent_Kernel7 = frameBits := by sl_kernel_rfl

theorem frame_p : Cert.quiescent_Kernel7 := same_text.mpr fun m ρ _ => Cert.Kernel7Ideal.Gen.frame (F := Bits) m ρ

theorem frame_pi : Cert.quiescent_Kernel7Ideal := fun m ρ _ => Cert.Kernel7Ideal.Gen.frame m ρ

theorem frame_ri : Cert.quiescent_Reference7Ideal := fun m ρ _ =>
  (θ_run Cert.Reference7Ideal.defs _ _).mono (fun r h => ⟨fun c => (h c).2.2, sem_eq_zero_of_no_sems (by decide) r.2⟩)
    (Cert.Reference7Ideal.Value.run (F := Ideal) m ρ)

open Cert.Reference7Ideal.Read in
theorem algebraic : Cert.algebraic_Kernel7Ideal_Reference7Ideal := by
  intro m ρ m' ρ' _ hagree
  refine ⟨_, _, (θ_run Cert.Kernel7Ideal.defs _ _).mono (fun _ h c => ⟨(h c).1.trans (arr_down m c), (h c).2.1.trans (arr_up m c), (h c).2.2⟩)
    (Cert.Kernel7Ideal.Value.run_blocks m ρ), ?_⟩
  refine (θ_run Cert.Reference7Ideal.defs _ _).mono (fun _ h c => ⟨(h c).1.trans ?_, (h c).2.1.trans ?_, (h c).2.2⟩)
    (Cert.Reference7Ideal.Value.run (F := Ideal) m' ρ')
  · obtain ⟨e0, e1, e2, e3, e4⟩ := hagree c
    rw [val_main_v16_eq, e0, e1, e4]
    exact (down_val m c).symm
  · obtain ⟨e0, e1, e2, e3, e4⟩ := hagree c
    rw [val_main_v18_eq, e0, e3]
    exact (up_val m c).symm

end Cert.Proof.MlpDwEq

end
-- ==== Proof.MixInDwEq.lean ====
/- The gradient of the projection's weight: the projection's cotangent against the normalised and modulated input, summed over
   the tokens in two blocks. Kernel and reference compute one function of all arguments. -/
module

public import proofs.«01_k».proof.Defs
public import proofs.«01_k».proof.Proof.Rows
public import proofs.«01_k».proof.Proof.Tiles
public import proofs.«01_k».proof.Proof.HostSums
public import proofs.«01_k».proof.Proof.Gen.Kernel8
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import Idealize.ShloMosaic.Lib.Pointwise
public import Idealize.ShloMosaic.Lib.Tactic
public import Idealize.ShloMosaic.Lib.StableHlo.ReadAt
public import Idealize.ShloMosaic.Lib.Quiescent

@[expose] public section

noncomputable section

namespace Cert.Proof.MixInDwEq

open Idealize.ShloMosaic Idealize.ShloMosaic.TcCoe Idealize.SL.Sem Tiles

section Kernel
open Cert.Kernel8Ideal Cert.Kernel8Ideal.Gen Cert.Kernel8Ideal.Value

/-! ## The array after the run -/

theorem pay1_apply (q : Fin 1280) (l : Fin 1024) : (k0_pay1 (F := Ideal) : Vec Ideal S1280x1024 .f32) (ix2 q l) = 0 := by
  pointwise [k0_pay1]

theorem pay2_apply (s : Vec Ideal S1280x1024 .f32) (dp : Vec Ideal S2048x1280 .bf16) (hn : Vec Ideal S2048x1024 .bf16) (q : Fin 1280) (l : Fin 1024) :
    k0_pay2 s dp hn (ix2 q l) = s (ix2 q l) + ∑ r : Fin 2048, dp (ix2 r q) * hn (ix2 r l) := by
  pointwise [k0_pay2]

variable (m : (ℓ : Loc nD τ sig) → Buf (Elt Ideal) ℓ) (ρ : Dev nD → PrngReg) (c : Dev nD) (t : Fin cfg0.N)

/-- A token's term of the gradient. -/
def term (dp : Vec Ideal S4096x2560 .bf16) (hn : Vec Ideal S4096x1024 .bf16) (q : Fin 2560) (l : Fin 1024) (i : Fin 4096) : EReal :=
  dp (ix2 i q) * hn (ix2 i l)

abbrev termV := term (V m c main_arg4) (V m c main_v25)

/-- The gradient as a function of the arrays the grid finds. -/
def gIn : Vec Ideal S2560x1024 .f32 := fun j => ∑ i : Fin 4096, termV m c (j 0) (j 1) i

theorem idx : ∀ t : Fin cfg0.N, (win0_0.index t (0 : Fin 2) = t.val % 2 ∧ win0_0.index t (1 : Fin 2) = t.val / 2)
    ∧ (win0_1.index t (0 : Fin 2) = t.val % 2 ∧ win0_1.index t (1 : Fin 2) = 0)
    ∧ (win0_2.index t (0 : Fin 2) = t.val / 2 ∧ win0_2.index t (1 : Fin 2) = 0) := (by decide +kernel : ∀ t : Fin grid0.N, _)

theorem lt4 : t.val < 4 := lt_of_lt_of_eq t.isLt (show cfg0.N = 4 from N_0)

/-- Column `q` of half `n` of the projection's columns. -/
def col (n : ℕ) (q : Fin 1280) : Fin 2560 := ⟨n % 2 * 1280 + q.val, by have := q.isLt; omega⟩

theorem blk_dp (r : Fin 2048) (q : Fin 1280) :
    iblk m c 0 t (ix2 r q) = V m c main_arg4 (ix2 (rowOf 2048 (t.val % 2) r) (col (t.val / 2) q)) := by
  have e : ((cfg0.win 0).blk t).view.emb (ix2 r q : S2048x1280.Idx) = ix2 (rowOf 2048 (t.val % 2) r) (col (t.val / 2) q) := by
    have h := (idx t).1
    have ht := lt4 t
    refine (eta (a := 4096) (b := 2560) _).trans (congrArg₂ ix2 (Fin.ext ?_) (Fin.ext ?_))
    · rw [rowOf_val (by omega)]
      show win0_0.index t (0 : Fin 2) * 2048 + 1 * r.val = _
      rw [h.1]; omega
    · show win0_0.index t (1 : Fin 2) * 1280 + 1 * q.val = t.val / 2 % 2 * 1280 + q.val
      rw [h.2]; omega
  exact congrArg (V m c main_arg4) e

theorem blk_hn (r : Fin 2048) (l : Fin 1024) : iblk m c 1 t (ix2 r l) = V m c main_v25 (ix2 (rowOf 2048 (t.val % 2) r) l) :=
  congrArg (V m c main_v25) (rows_eq (B := 2048) (b := 1024) r l _ (by omega) (idx t).2.1 rfl rfl)

theorem emb2 (j : S1280x1024.Idx) : ((cfg0.win 2).blk t).view.emb j = ix2 (col (t.val / 2) (j 0)) (j 1) := by
  have h := (idx t).2.2
  have ht := lt4 t
  refine (eta (a := 2560) (b := 1024) _).trans (congrArg₂ ix2 (Fin.ext ?_) (Fin.ext ?_))
  · show win0_2.index t (0 : Fin 2) * 1280 + 1 * (j 0).val = t.val / 2 % 2 * 1280 + (j 0).val
    rw [h.1]; omega
  · show win0_2.index t (1 : Fin 2) * 1024 + 1 * (j 1).val = (j 1).val
    rw [h.2]; omega

theorem step_blk (s : Vec Ideal S1280x1024 .f32) (q : Fin 1280) (l : Fin 1024) : k0_pay2 s (iblk m c 0 t) (iblk m c 1 t) (ix2 q l)
    = s (ix2 q l) + ∑ r : Fin 2048, termV m c (col (t.val / 2) q) l (rowOf 2048 (t.val % 2) r) := by
  refine (pay2_apply s _ _ q l).trans (congrArg (_ + ·) (Finset.sum_congr rfl fun r _ => ?_))
  exact congrArg₂ (· * ·) (blk_dp m c t r q) (blk_hn m c t r l)

/-- After grid step `n` the window holds the sums over the token blocks up to there. -/
theorem acc : ∀ (n : ℕ) (h : n < cfg0.N) (q : Fin 1280) (l : Fin 1024),
    outsAt0 m c n h (ix2 q l) = ∑ s ∈ Finset.range (n % 2 + 1), ∑ r : Fin 2048, termV m c (col (n / 2) q) l (rowOf 2048 s r) := by
  have start : ∀ (t : Fin cfg0.N) (q : Fin 1280) (l : Fin 1024), t.val % 2 = 0 →
      outsAt0 m c t.val t.isLt (ix2 q l) = ∑ s ∈ Finset.range (t.val % 2 + 1), ∑ r : Fin 2048, termV m c (col (t.val / 2) q) l (rowOf 2048 s r) := by
    intro t q l h
    rw [outsAt0_A m c t h, out_A_2_eq, step_blk, pay1_apply, zero_add, h, zero_add, Finset.sum_range_one]
  intro n
  induction n with
  | zero => exact fun h q l => start ⟨0, h⟩ q l rfl
  | succ n ih =>
    intro h q l
    by_cases h0 : (n + 1) % 2 = 0
    · exact start ⟨n + 1, h⟩ q l h0
    · rw [outsAt0_B m c ⟨n + 1, h⟩ h0, out_B_2_eq, step_blk]
      have e : (n + 1) % 2 = n % 2 + 1 := by omega
      have d : (n + 1) / 2 = n / 2 := by omega
      dsimp only
      rw [e, d, Finset.sum_range_succ _ (n % 2 + 1)]
      exact congrArg (· + _) (ih (Nat.lt_of_succ_lt h) q l)

theorem flushed_eq (hf : (cfg0.win 2).flush t = true) : (dats m 0 c).flushed 2 t = ((cfg0.win 2).blk t).view.read (Elt Ideal) (gIn m c) := by
  have h1 : t.val % 2 = 1 := (flush0_2 t).mp hf
  rw [flushed2]
  funext j
  show outsAt0 m c t.val t.isLt j = gIn m c (((cfg0.win 2).blk t).view.emb j)
  rw [emb2]
  refine (congrArg _ (eta (a := 1280) (b := 1024) j)).trans ((acc m c _ _ _ _).trans ?_)
  rw [h1]
  exact sum_rows 2 (by decide) _

/-- The grid point that writes an entry back. -/
def wb (i : S2560x1024.Idx) : Fin cfg0.N := ⟨(i 0).val / 1280 * 2 + 1, by have : (i 0).val < 2560 := (i 0).isLt; rw [show cfg0.N = 4 from N_0]; omega⟩

theorem wb_place (i : S2560x1024.Idx) : ix2 (col ((wb i).val / 2) ⟨(i 0).val % 1280, Nat.mod_lt _ (by decide)⟩) (i 1) = i := by
  refine Eq.trans ?_ (eta (a := 2560) (b := 1024) i).symm
  refine congrArg (ix2 · (i 1)) (Fin.ext ?_)
  have : (i 0).val < 2560 := (i 0).isLt
  show ((i 0).val / 1280 * 2 + 1) / 2 % 2 * 1280 + (i 0).val % 1280 = (i 0).val; omega

theorem arr_in : (dats m 0 c).arrAt 2 cfg0.N = gIn m c :=
  (dats m 0 c).arrAt_eq_of_cover 2 (gIn m c) (flushed_eq m c) fun i =>
    ⟨wb i, (flush0_2 _).mpr (by show ((i 0).val / 1280 * 2 + 1) % 2 = 1; omega), by
      have h := ((cfg0.win 2).blk (wb i)).view.emb_mem_set (ix2 ⟨(i 0).val % 1280, Nat.mod_lt _ (by decide)⟩ (i 1) : S1280x1024.Idx)
      rw [emb2] at h
      exact Eq.mp (congrArg (· ∈ _) (wb_place i)) h⟩

/-! ## The reference -/

abbrev a0 : Vec Ideal S1x4096x1024 .f32 := m ((c.tc : Thread nD τ).loc main_arg0)
abbrev a1 : Vec Ideal S1x6144 .f32 := m ((c.tc : Thread nD τ).loc main_arg1)
abbrev a2 : Vec Ideal S1x1024 .f32 := m ((c.tc : Thread nD τ).loc main_arg2)
abbrev a4 : Vec Ideal S4096x2560 .bf16 := m ((c.tc : Thread nD τ).loc main_arg4)

open Cert.Reference8Ideal.Read

/-- The host's normalised and modulated rows are the reference's. -/
theorem host_hn (i : Fin 4096) (l : Fin 1024) :
    (V m c main_v25 : Vec Ideal S4096x1024 .bf16) (ix2 i l) = val_main_v23 (F := Ideal) (a0 m c) (a1 m c) (a2 m c) (ix3 0 i l) := by
  unfold V
  after_reads_simp
  exact Eq.trans (b := shapeCast S4096x1024 (val_main_v23 (F := Ideal) (a0 m c) (a1 m c) (a2 m c) : Vec Ideal S1x4096x1024 .f32)
    shapeCasts_S1x4096x1024_S4096x1024 (ix2 i l)) rfl (shapeCast_apply _ shapeCasts_S1x4096x1024_S4096x1024 (ix2 i l) (ix3 0 i l) (by
      rewrite [Shape.rowMajor_val_two, Shape.rowMajor_val_three]
      show (0 * 4096 + i.val) * 1024 + l.val = i.val * 1024 + l.val
      omega))

theorem v32_at (x0 : Vec Ideal Cert.Reference8Ideal.S1x4096x1024 .f32) (x1 : Vec Ideal Cert.Reference8Ideal.S1x6144 .f32)
    (x2 : Vec Ideal Cert.Reference8Ideal.S1x1024 .f32) (x4 : Vec Ideal Cert.Reference8Ideal.S4096x2560 .bf16) (q : Fin 2560) (l : Fin 1024) :
    val_main_v32 (F := Ideal) x0 x1 x2 x4 (ix2 q l) = ∑ i : Fin 4096, x4 (ix2 i q) * val_main_v23 (F := Ideal) x0 x1 x2 (ix3 0 i l) := by
  pointwise [val_main_v32, val_main_v31, val_main_v30, val_main_v29, val_main_v28, val_main_v27, val_main_v26]
  rw [Fin.sum_univ_one]

theorem in_val : gIn m c = val_main_v32 (F := Ideal) (a0 m c) (a1 m c) (a2 m c) (a4 m c) :=
  Tiles.ext (a := 2560) (b := 1024) fun q l => by
    refine Eq.trans ?_ (v32_at _ _ _ _ q l).symm
    exact Finset.sum_congr rfl fun i _ => congrArg₂ (· * ·) (congrFun (V_main_arg4 m c) _) (host_hn m c i l)

/-- The frame at the machine's floats. -/
def frameBits : Prop := ∀ (m : (ℓ : Loc nD τ sig) → Buf (Elt Bits) ℓ) (ρ : Dev nD → PrngReg), True →
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0)

end Kernel

/-! ## The claims -/

/-- The printed kernel and its idealization have the same text. -/
theorem same_text : Cert.quiescent_Kernel8 = frameBits := by sl_kernel_rfl

theorem frame_p : Cert.quiescent_Kernel8 := same_text.mpr fun m ρ _ => Cert.Kernel8Ideal.Gen.frame (F := Bits) m ρ

theorem frame_pi : Cert.quiescent_Kernel8Ideal := fun m ρ _ => Cert.Kernel8Ideal.Gen.frame m ρ

theorem frame_ri : Cert.quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)

open Cert.Reference8Ideal.Read in
theorem algebraic : Cert.algebraic_Kernel8Ideal_Reference8Ideal := by
  intro m ρ m' ρ' _ hagree
  refine ⟨_, (θ_run Cert.Kernel8Ideal.defs _ _).mono (fun _ h c => ⟨(h c).1.trans (arr_in m c), (h c).2⟩)
    (Cert.Kernel8Ideal.Value.run_blocks m ρ), ?_⟩
  refine (θ_run Cert.Reference8Ideal.defs _ _).mono (fun _ h c => ⟨(h c).1.trans ?_, (h c).2⟩)
    (Cert.Reference8Ideal.Value.run (F := Ideal) m' ρ')
  obtain ⟨e0, e1, e2, e3, e4⟩ := hagree c
  rw [val_main_v32_eq, e0, e1, e2, e4]
  exact (in_val m c).symm

end Cert.Proof.MixInDwEq

end
-- ==== Proof.AdaBwdEq.lean ====
/- The gradient of the modulation's weight, and one step of the optimiser on it: the gated vectors against the modulation's
   cotangent, summed over the batch, and reference.py's AdamW lines entry by entry. Kernel and reference compute one function
   of all arguments. -/
module

public import proofs.«01_k».proof.Defs
public import proofs.«01_k».proof.Proof.Tiles
public import proofs.«01_k».proof.Proof.Reals
public import proofs.«01_k».proof.Proof.Gen.Kernel9
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import Idealize.ShloMosaic.Lib.Pointwise
public import Idealize.ShloMosaic.Lib.StableHlo.ReadAt
public import Idealize.ShloMosaic.Lib.Quiescent

@[expose] public section

noncomputable section

namespace Cert.Proof.AdaBwdEq

open Idealize.ShloMosaic Idealize.ShloMosaic.TcCoe Idealize.SL.Sem Tiles

theorem hz : (![0, 0] : Fin 2 → Nat) = fun _ => 0 := funext fun a => by fin_cases a <;> rfl

/-- One step of the optimiser at an entry, from the gradient: the two moments and the change of the weight. -/
def newM (g mo : EReal) : EReal := Ideal.ofBits .f32 0x3F666666#32 * mo + Ideal.ofBits .f32 0x3DCCCCCD#32 * g
def newV (g v : EReal) : EReal := Ideal.ofBits .f32 0x3F7FBE77#32 * v + Ideal.ofBits .f32 0x3A83126F#32 * (g * g)
def delta (g w mo v : EReal) : EReal :=
  Ideal.ofBits .f32 0xBA83126F#32 * (Ideal.div (Ideal.div (newM g mo) (Ideal.ofBits .f32 0x3F26BD02#32))
    (Ideal.sqrt (Ideal.div (newV g v) (Ideal.ofBits .f32 0x3C231ACC#32)) + Ideal.ofBits .f32 0x322BCC77#32) + Ideal.ofBits .f32 0x3C23D70A#32 * w)

section Kernel
open Cert.Kernel9Ideal Cert.Kernel9Ideal.Gen Cert.Kernel9Ideal.Value

theorem pay4_apply (x0 : Vec Ideal S8x256 .f32) (x1 : Vec Ideal S8x768 .f32) (mo : Vec Ideal S256x768 .f32) (k : Fin 256) (q : Fin 768) :
    k0_pay4 x0 x1 mo (ix2 k q) = newM (k0_pay2 x0 x1 (ix2 k q)) (mo (ix2 k q)) := by
  unfold newM
  pointwise [k0_pay4]

theorem pay5_apply (x0 : Vec Ideal S8x256 .f32) (x1 : Vec Ideal S8x768 .f32) (v : Vec Ideal S256x768 .f32) (k : Fin 256) (q : Fin 768) :
    k0_pay5 x0 x1 v (ix2 k q) = newV (k0_pay2 x0 x1 (ix2 k q)) (v (ix2 k q)) := by
  unfold newV
  pointwise [k0_pay5]

theorem pay1_apply (x0 : Vec Ideal S8x256 .f32) (x1 : Vec Ideal S8x768 .f32) (w mo v : Vec Ideal S256x768 .f32) (k : Fin 256) (q : Fin 768) :
    k0_pay1 (k0_pay3 w) (k0_pay6 x0 x1 mo v) (ix2 k q) = delta (k0_pay2 x0 x1 (ix2 k q)) (w (ix2 k q)) (mo (ix2 k q)) (v (ix2 k q)) := by
  unfold delta
  rw [← pay4_apply, ← pay5_apply]
  pointwise [k0_pay1, k0_pay3, k0_pay6]

theorem pay2_apply (x0 : Vec Ideal S8x256 .f32) (x1 : Vec Ideal S8x768 .f32) (k : Fin 256) (q : Fin 768) :
    k0_pay2 x0 x1 (ix2 k q) = ∑ r : Fin 8, x1 (ix2 r q) * x0 (ix2 r k) := by
  pointwise [k0_pay2]
  simp only [mul_zero, Finset.sum_const_zero, add_zero]
  exact Finset.sum_congr rfl fun r _ => mul_comm _ _

variable (m : (ℓ : Loc nD τ sig) → Buf (Elt Ideal) ℓ) (ρ : Dev nD → PrngReg) (c : Dev nD) (t : Fin cfg0.N)

abbrev a0 : Vec Ideal S8x1024 .f32 := m ((c.tc : Thread nD τ).loc main_arg0)
abbrev a1 : Vec Ideal S1x1024x768 .f32 := m ((c.tc : Thread nD τ).loc main_arg1)
abbrev a2 : Vec Ideal S8x768 .f32 := m ((c.tc : Thread nD τ).loc main_arg2)
abbrev a3 : Vec Ideal S1x1024x768 .f32 := m ((c.tc : Thread nD τ).loc main_arg3)
abbrev a4 : Vec Ideal S1x1024x768 .f32 := m ((c.tc : Thread nD τ).loc main_arg4)

/-! ## The blocks -/

theorem idx : ∀ t : Fin cfg0.N, (win0_0.index t (0 : Fin 2) = 0 ∧ win0_0.index t (1 : Fin 2) = t.val) ∧ (win0_1.index t (0 : Fin 2) = 0 ∧ win0_1.index t (1 : Fin 2) = 0)
    ∧ (win0_2.index t (0 : Fin 2) = t.val ∧ win0_2.index t (1 : Fin 2) = 0) ∧ (win0_3.index t (0 : Fin 2) = t.val ∧ win0_3.index t (1 : Fin 2) = 0)
    ∧ (win0_4.index t (0 : Fin 2) = t.val ∧ win0_4.index t (1 : Fin 2) = 0) ∧ (win0_5.index t (0 : Fin 2) = t.val ∧ win0_5.index t (1 : Fin 2) = 0)
    ∧ (win0_6.index t (0 : Fin 2) = t.val ∧ win0_6.index t (1 : Fin 2) = 0) ∧ (win0_7.index t (0 : Fin 2) = t.val ∧ win0_7.index t (1 : Fin 2) = 0)
    ∧ (win0_8.index t (0 : Fin 2) = t.val ∧ win0_8.index t (1 : Fin 2) = 0) := (by decide +kernel : ∀ t : Fin grid0.N, _)

theorem lt4 : t.val < 4 := lt_of_lt_of_eq t.isLt (show cfg0.N = 4 from N_0)

/-- Row `k` of block `n` of the weight's rows. -/
def row (n : ℕ) (k : Fin 256) : Fin 1024 := ⟨n % 4 * 256 + k.val, by have := k.isLt; omega⟩

theorem place {n a b : ℕ} (k : Fin 256) (q : Fin 768) (i : S1024x768.Idx) (hn : n < 4) (h : a = n ∧ b = 0) (h0 : (i 0).val = a * 256 + 1 * k.val)
    (h1 : (i 1).val = b * 768 + 1 * q.val) : i = ix2 (row n k) q := by
  obtain ⟨rfl, rfl⟩ := h
  refine (eta (a := 1024) (b := 768) i).trans (congrArg₂ ix2 (Fin.ext ?_) (Fin.ext ?_))
  · rw [h0]; show _ = a % 4 * 256 + k.val; omega
  · rw [h1]; omega

open Cert.Reference9Ideal.Read

theorem blk_c (r : Fin 8) (k : Fin 256) : iblk m c 0 t (ix2 r k) = val_main_v0 (F := Ideal) (a0 m c) (ix2 r (row t.val k)) := by
  have e : ((cfg0.win 0).blk t).view.emb (ix2 r k : S8x256.Idx) = ix2 r (row t.val k) := by
    have h := (idx t).1
    have ht := lt4 t
    refine (eta (a := 8) (b := 1024) _).trans (congrArg₂ ix2 (Fin.ext ?_) (Fin.ext ?_))
    · show win0_0.index t (0 : Fin 2) * 8 + 1 * r.val = r.val
      rw [h.1]; omega
    · show win0_0.index t (1 : Fin 2) * 256 + 1 * k.val = t.val % 4 * 256 + k.val
      rw [h.2]; omega
  refine (congrArg (V m c main_v0) e).trans ?_
  unfold V
  after_reads_simp
  rfl

theorem blk_d : (iblk m c 1 t : Vec Ideal S8x768 .f32) = a2 m c :=
  funext fun j => (congrArg (V m c main_arg2) (whole_eq (a := 8) (b := 768) j _ (idx t).2.1 rfl rfl)).trans (congrFun (V_main_arg2 m c) j)
theorem blk_w (k : Fin 256) (q : Fin 768) : iblk m c 2 t (ix2 k q) = a1 m c (ix3 0 (row t.val k) q) :=
  (congrArg (V m c main_v1) (place k q _ (lt4 t) (idx t).2.2.1 rfl rfl)).trans (by unfold V; after_reads_at)
theorem blk_m (k : Fin 256) (q : Fin 768) : iblk m c 3 t (ix2 k q) = a3 m c (ix3 0 (row t.val k) q) :=
  (congrArg (V m c main_v2) (place k q _ (lt4 t) (idx t).2.2.2.1 rfl rfl)).trans (by unfold V; after_reads_at)
theorem blk_v (k : Fin 256) (q : Fin 768) : iblk m c 4 t (ix2 k q) = a4 m c (ix3 0 (row t.val k) q) :=
  (congrArg (V m c main_v3) (place k q _ (lt4 t) (idx t).2.2.2.2.1 rfl rfl)).trans (by unfold V; after_reads_at)

theorem emb5 (j : S256x768.Idx) : ((cfg0.win 5).blk t).view.emb j = ix2 (row t.val (j 0)) (j 1) := place (j 0) (j 1) _ (lt4 t) (idx t).2.2.2.2.2.1 rfl rfl
theorem emb6 (j : S256x768.Idx) : ((cfg0.win 6).blk t).view.emb j = ix2 (row t.val (j 0)) (j 1) := place (j 0) (j 1) _ (lt4 t) (idx t).2.2.2.2.2.2.1 rfl rfl
theorem emb7 (j : S256x768.Idx) : ((cfg0.win 7).blk t).view.emb j = ix2 (row t.val (j 0)) (j 1) := place (j 0) (j 1) _ (lt4 t) (idx t).2.2.2.2.2.2.2.1 rfl rfl
theorem emb8 (j : S256x768.Idx) : ((cfg0.win 8).blk t).view.emb j = ix2 (row t.val (j 0)) (j 1) := place (j 0) (j 1) _ (lt4 t) (idx t).2.2.2.2.2.2.2.2 rfl rfl

/-! ## The reference, entry by entry -/

section Entries
variable (x0 : Vec Ideal Cert.Reference9Ideal.S8x1024 .f32) (x1 : Vec Ideal Cert.Reference9Ideal.S1x1024x768 .f32) (x2 : Vec Ideal Cert.Reference9Ideal.S8x768 .f32)
    (x3 x4 : Vec Ideal Cert.Reference9Ideal.S1x1024x768 .f32) (l : Fin 1024) (q : Fin 768)

theorem v30_at : val_main_v30 (F := Ideal) x0 x2 (ix2 l q) = ∑ r : Fin 8, x2 (ix2 r q) * val_main_v0 (F := Ideal) x0 (ix2 r l) := by
  pointwise [val_main_v30, val_main_v5, val_main_v4, val_main_v3]

theorem v5_at : val_main_v30 (F := Ideal) x0 x2 (ix2 l q) = val_main_v5 (F := Ideal) x0 x2 (ix3 0 l q) := by
  pointwise [val_main_v30]

theorem v32_at : val_main_v32 (F := Ideal) x0 x2 x3 (ix2 l q) = newM (val_main_v30 (F := Ideal) x0 x2 (ix2 l q)) (x3 (ix3 0 l q)) := by
  rw [v5_at]
  unfold newM
  pointwise [val_main_v32, val_main_v10, val_main_v9, val_main_v8, val_main_v7, val_main_v6, val_main_cst, val_main_cst_0]

theorem v33_at : val_main_v33 (F := Ideal) x0 x2 x4 (ix2 l q) = newV (val_main_v30 (F := Ideal) x0 x2 (ix2 l q)) (x4 (ix3 0 l q)) := by
  rw [v5_at]
  unfold newV
  pointwise [val_main_v33, val_main_v16, val_main_v15, val_main_v14, val_main_v13, val_main_v12, val_main_v11, val_main_cst_1, val_main_cst_2]

theorem v10_at : val_main_v32 (F := Ideal) x0 x2 x3 (ix2 l q) = val_main_v10 (F := Ideal) x0 x2 x3 (ix3 0 l q) := by
  pointwise [val_main_v32]

theorem v16_at : val_main_v33 (F := Ideal) x0 x2 x4 (ix2 l q) = val_main_v16 (F := Ideal) x0 x2 x4 (ix3 0 l q) := by
  pointwise [val_main_v33]

theorem v31_at : val_main_v31 (F := Ideal) x0 x1 x2 x3 x4 (ix2 l q)
    = delta (val_main_v30 (F := Ideal) x0 x2 (ix2 l q)) (x1 (ix3 0 l q)) (x3 (ix3 0 l q)) (x4 (ix3 0 l q)) := by
  unfold delta
  rw [← v32_at, ← v33_at, v10_at, v16_at]
  pointwise [val_main_v31, val_main_v29, val_main_v28, val_main_v27, val_main_v26, val_main_v25, val_main_v24, val_main_v23, val_main_v22, val_main_v21,
    val_main_v20, val_main_v19, val_main_v18, val_main_v17, val_main_cst_3, val_main_cst_4, val_main_cst_5, val_main_cst_6, val_main_cst_7]

end Entries

/-! ## What each grid point writes back -/

abbrev gW : Vec Ideal S1024x768 .f32 := val_main_v30 (F := Ideal) (a0 m c) (a2 m c)
abbrev dW : Vec Ideal S1024x768 .f32 := val_main_v31 (F := Ideal) (a0 m c) (a1 m c) (a2 m c) (a3 m c) (a4 m c)
abbrev mW : Vec Ideal S1024x768 .f32 := val_main_v32 (F := Ideal) (a0 m c) (a2 m c) (a3 m c)
abbrev vW : Vec Ideal S1024x768 .f32 := val_main_v33 (F := Ideal) (a0 m c) (a2 m c) (a4 m c)

theorem g_blk (k : Fin 256) (q : Fin 768) : k0_pay2 (iblk m c 0 t) (iblk m c 1 t) (ix2 k q) = gW m c (ix2 (row t.val k) q) := by
  rw [blk_d]
  refine (pay2_apply _ _ k q).trans (Eq.trans ?_ (v30_at (a0 m c) (a2 m c) (row t.val k) q).symm)
  exact Finset.sum_congr rfl fun r _ => congrArg (_ * ·) (blk_c m c t r k)

theorem out5 (k : Fin 256) (q : Fin 768) : out0_5 (iblk m c 0 t) (iblk m c 1 t) (iblk m c 2 t) (iblk m c 3 t) (iblk m c 4 t) (ix2 k q) = gW m c (ix2 (row t.val k) q) := by
  unfold out0_5
  rw [View.canon_unit_zero (S := S256x768) hz, View.ld_unit_zero (S := S8x256) hz, View.ld_unit_zero (S := S8x768) hz]
  exact g_blk m c t k q

theorem out6 (k : Fin 256) (q : Fin 768) : out0_6 (iblk m c 0 t) (iblk m c 1 t) (iblk m c 2 t) (iblk m c 3 t) (iblk m c 4 t) (ix2 k q) = dW m c (ix2 (row t.val k) q) := by
  unfold out0_6
  rw [View.canon_unit_zero (S := S256x768) hz, View.ld_unit_zero (S := S8x256) hz, View.ld_unit_zero (S := S8x768) hz, View.ld_unit_zero (S := S256x768) hz, View.ld_unit_zero (S := S256x768) hz, View.ld_unit_zero (S := S256x768) hz]
  refine (pay1_apply _ _ _ _ _ k q).trans (Eq.trans ?_ (v31_at _ _ _ _ _ _ q).symm)
  rw [g_blk, blk_w, blk_m, blk_v]

theorem out7 (k : Fin 256) (q : Fin 768) : out0_7 (iblk m c 0 t) (iblk m c 1 t) (iblk m c 2 t) (iblk m c 3 t) (iblk m c 4 t) (ix2 k q) = mW m c (ix2 (row t.val k) q) := by
  unfold out0_7
  rw [View.canon_unit_zero (S := S256x768) hz, View.ld_unit_zero (S := S8x256) hz, View.ld_unit_zero (S := S8x768) hz, View.ld_unit_zero (S := S256x768) hz]
  exact (pay4_apply _ _ _ k q).trans ((congrArg₂ newM (g_blk m c t k q) (blk_m m c t k q)).trans (v32_at _ _ _ _ q).symm)

theorem out8 (k : Fin 256) (q : Fin 768) : out0_8 (iblk m c 0 t) (iblk m c 1 t) (iblk m c 2 t) (iblk m c 3 t) (iblk m c 4 t) (ix2 k q) = vW m c (ix2 (row t.val k) q) := by
  unfold out0_8
  rw [View.canon_unit_zero (S := S256x768) hz, View.ld_unit_zero (S := S8x256) hz, View.ld_unit_zero (S := S8x768) hz, View.ld_unit_zero (S := S256x768) hz]
  exact (pay5_apply _ _ _ k q).trans ((congrArg₂ newV (g_blk m c t k q) (blk_v m c t k q)).trans (v33_at _ _ _ _ q).symm)

theorem flushed5_eq : (dats m 0 c).flushed 5 t = ((cfg0.win 5).blk t).view.read (Elt Ideal) (gW m c) := by
  rw [flushed5]
  funext j
  show out0_5 (iblk m c 0 t) (iblk m c 1 t) (iblk m c 2 t) (iblk m c 3 t) (iblk m c 4 t) j = gW m c (((cfg0.win 5).blk t).view.emb j)
  rw [emb5]
  exact (congrArg _ (eta (a := 256) (b := 768) j)).trans (out5 m c t (j 0) (j 1))

theorem flushed6_eq : (dats m 0 c).flushed 6 t = ((cfg0.win 6).blk t).view.read (Elt Ideal) (dW m c) := by
  rw [flushed6]
  funext j
  show out0_6 (iblk m c 0 t) (iblk m c 1 t) (iblk m c 2 t) (iblk m c 3 t) (iblk m c 4 t) j = dW m c (((cfg0.win 6).blk t).view.emb j)
  rw [emb6]
  exact (congrArg _ (eta (a := 256) (b := 768) j)).trans (out6 m c t (j 0) (j 1))

theorem flushed7_eq : (dats m 0 c).flushed 7 t = ((cfg0.win 7).blk t).view.read (Elt Ideal) (mW m c) := by
  rw [flushed7]
  funext j
  show out0_7 (iblk m c 0 t) (iblk m c 1 t) (iblk m c 2 t) (iblk m c 3 t) (iblk m c 4 t) j = mW m c (((cfg0.win 7).blk t).view.emb j)
  rw [emb7]
  exact (congrArg _ (eta (a := 256) (b := 768) j)).trans (out7 m c t (j 0) (j 1))

theorem flushed8_eq : (dats m 0 c).flushed 8 t = ((cfg0.win 8).blk t).view.read (Elt Ideal) (vW m c) := by
  rw [flushed8]
  funext j
  show out0_8 (iblk m c 0 t) (iblk m c 1 t) (iblk m c 2 t) (iblk m c 3 t) (iblk m c 4 t) j = vW m c (((cfg0.win 8).blk t).view.emb j)
  rw [emb8]
  exact (congrArg _ (eta (a := 256) (b := 768) j)).trans (out8 m c t (j 0) (j 1))

/-- The grid point that writes an entry back. -/
def wb (i : S1024x768.Idx) : Fin cfg0.N := ⟨(i 0).val / 256, by have : (i 0).val < 1024 := (i 0).isLt; rw [show cfg0.N = 4 from N_0]; omega⟩

theorem wb_place (i : S1024x768.Idx) : ix2 (row (wb i).val ⟨(i 0).val % 256, Nat.mod_lt _ (by decide)⟩) (i 1) = i := by
  refine Eq.trans ?_ (eta (a := 1024) (b := 768) i).symm
  refine congrArg (ix2 · (i 1)) (Fin.ext ?_)
  have : (i 0).val < 1024 := (i 0).isLt
  show (i 0).val / 256 % 4 * 256 + (i 0).val % 256 = (i 0).val; omega

theorem arr5 : (dats m 0 c).arrAt 5 cfg0.N = gW m c :=
  (dats m 0 c).arrAt_eq_of_cover 5 (gW m c) (fun t _ => flushed5_eq m c t) fun i => ⟨wb i, flush0_5 _, by
    have h := ((cfg0.win 5).blk (wb i)).view.emb_mem_set (ix2 ⟨(i 0).val % 256, Nat.mod_lt _ (by decide)⟩ (i 1) : S256x768.Idx)
    rw [emb5] at h
    exact Eq.mp (congrArg (· ∈ _) (wb_place i)) h⟩

theorem arr6 : (dats m 0 c).arrAt 6 cfg0.N = dW m c :=
  (dats m 0 c).arrAt_eq_of_cover 6 (dW m c) (fun t _ => flushed6_eq m c t) fun i => ⟨wb i, flush0_6 _, by
    have h := ((cfg0.win 6).blk (wb i)).view.emb_mem_set (ix2 ⟨(i 0).val % 256, Nat.mod_lt _ (by decide)⟩ (i 1) : S256x768.Idx)
    rw [emb6] at h
    exact Eq.mp (congrArg (· ∈ _) (wb_place i)) h⟩

theorem arr7 : (dats m 0 c).arrAt 7 cfg0.N = mW m c :=
  (dats m 0 c).arrAt_eq_of_cover 7 (mW m c) (fun t _ => flushed7_eq m c t) fun i => ⟨wb i, flush0_7 _, by
    have h := ((cfg0.win 7).blk (wb i)).view.emb_mem_set (ix2 ⟨(i 0).val % 256, Nat.mod_lt _ (by decide)⟩ (i 1) : S256x768.Idx)
    rw [emb7] at h
    exact Eq.mp (congrArg (· ∈ _) (wb_place i)) h⟩

theorem arr8 : (dats m 0 c).arrAt 8 cfg0.N = vW m c :=
  (dats m 0 c).arrAt_eq_of_cover 8 (vW m c) (fun t _ => flushed8_eq m c t) fun i => ⟨wb i, flush0_8 _, by
    have h := ((cfg0.win 8).blk (wb i)).view.emb_mem_set (ix2 ⟨(i 0).val % 256, Nat.mod_lt _ (by decide)⟩ (i 1) : S256x768.Idx)
    rw [emb8] at h
    exact Eq.mp (congrArg (· ∈ _) (wb_place i)) h⟩

/-- The frame at the machine's floats. -/
def frameBits : Prop := ∀ (m : (ℓ : Loc nD τ sig) → Buf (Elt Bits) ℓ) (ρ : Dev nD → PrngReg), True →
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0)

end Kernel

/-! ## The claims -/

/-- The printed kernel and its idealization have the same text. -/
theorem same_text : Cert.quiescent_Kernel9 = frameBits := by sl_kernel_rfl

theorem frame_p : Cert.quiescent_Kernel9 := same_text.mpr fun m ρ _ => Cert.Kernel9Ideal.Gen.frame (F := Bits) m ρ

theorem frame_pi : Cert.quiescent_Kernel9Ideal := fun m ρ _ => Cert.Kernel9Ideal.Gen.frame m ρ

theorem frame_ri : Cert.quiescent_Reference9Ideal := fun m ρ _ =>
  (θ_run Cert.Reference9Ideal.defs _ _).mono (fun r h => ⟨fun c => (h c).2.2.2.2, sem_eq_zero_of_no_sems (by decide) r.2⟩)
    (Cert.Reference9Ideal.Value.run (F := Ideal) m ρ)

open Cert.Reference9Ideal.Read in
theorem algebraic : Cert.algebraic_Kernel9Ideal_Reference9Ideal := by
  intro m ρ m' ρ' _ hagree
  refine ⟨_, _, _, _, (θ_run Cert.Kernel9Ideal.defs _ _).mono (fun _ h c => ⟨(h c).1.trans (arr5 m c), (h c).2.1.trans (arr6 m c),
    (h c).2.2.1.trans (arr7 m c), (h c).2.2.2.1.trans (arr8 m c), (h c).2.2.2.2⟩) (Cert.Kernel9Ideal.Value.run_blocks m ρ), ?_⟩
  refine (θ_run Cert.Reference9Ideal.defs _ _).mono (fun _ h c => ⟨(h c).1.trans ?_, (h c).2.1.trans ?_, (h c).2.2.1.trans ?_, (h c).2.2.2.1.trans ?_,
    (h c).2.2.2.2⟩) (Cert.Reference9Ideal.Value.run (F := Ideal) m' ρ')
  all_goals obtain ⟨e0, e1, e2, e3, e4⟩ := hagree c
  · rw [val_main_v30_eq, e0, e2]
  · rw [val_main_v31_eq, e0, e1, e2, e3, e4]
  · rw [val_main_v32_eq, e0, e2, e3]
  · rw [val_main_v33_eq, e0, e2, e4]

end Cert.Proof.AdaBwdEq

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.KernelIdeal.Value
public import proofs.«01_k».proof.Proof.Gen.ReferenceIdeal.Read
public import proofs.«01_k».proof.Proof.MixInEq
public import proofs.«01_k».proof.Proof.Gen.Kernel2
public import proofs.«01_k».proof.Proof.Gen.Kernel2Ideal
public import proofs.«01_k».proof.Proof.Gen.Reference2Ideal
public import proofs.«01_k».proof.Proof.Gen.Reference2Ideal.Run
public import proofs.«01_k».proof.Proof.MixerEq
public import proofs.«01_k».proof.Proof.Gen.Kernel3
public import proofs.«01_k».proof.Proof.Gen.Kernel3Ideal
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Reference3Ideal.Read
public import proofs.«01_k».proof.Proof.Gen.Pre_finite3
public import proofs.«01_k».proof.Proof.MixOutEq
public import proofs.«01_k».proof.Proof.Gen.Kernel4
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.MlpDxEq
public import proofs.«01_k».proof.Proof.Gen.Kernel5
public import proofs.«01_k».proof.Proof.Gen.Kernel5Ideal
public import proofs.«01_k».proof.Proof.Gen.Kernel5Ideal.Frame
public import proofs.«01_k».proof.Proof.Gen.Kernel5Ideal.Skeleton
public import proofs.«01_k».proof.Proof.Gen.Reference5Ideal
public import proofs.«01_k».proof.Proof.Gen.Reference5Ideal.Run
public import proofs.«01_k».proof.Proof.Gen.Reference5Ideal.Read
public import proofs.«01_k».proof.Proof.Gen.Pre_finite5
public import proofs.«01_k».proof.Proof.MlpLossEq
public import proofs.«01_k».proof.Proof.AdaFwdEq
public import proofs.«01_k».proof.Proof.MlpDwEq
public import proofs.«01_k».proof.Proof.MixInDwEq
public import proofs.«01_k».proof.Proof.AdaBwdEq
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Kernel2.Gen.facts,
  Cert.Kernel2Ideal.Gen.facts, Cert.Reference2Ideal.Gen.facts, Cert.Kernel3.Gen.facts, Cert.Kernel3Ideal.Gen.facts,
  Cert.Reference3Ideal.Gen.facts, Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Pre_finite.Gen.facts, Cert.Pre_finite3.Gen.facts, Cert.Pre_finite5.Gen.facts, by
  exact ⟨MixInEq.frame_p, MixInEq.frame_pi, fun m ρ _ => Cert.KernelIdeal.Gen.frame m ρ, MixInEq.frame_ri,
    fun m ρ _ => MixInEq.frame_ri m ρ trivial, MixerEq.frame_p, MixerEq.frame_pi, MixerEq.frame_ri, MixOutEq.frame_p, MixOutEq.frame_pi,
    fun m ρ _ => MixOutEq.frame_pi m ρ trivial, MixOutEq.frame_ri, fun m ρ _ => MixOutEq.frame_ri m ρ trivial,
    MlpDxEq.frame_p, MlpDxEq.frame_pi, MlpDxEq.frame_ri, MlpLossEq.frame_p, MlpLossEq.frame_pi,
    fun m ρ _ => MlpLossEq.frame_pi m ρ trivial, MlpLossEq.frame_ri, fun m ρ _ => MlpLossEq.frame_ri m ρ trivial,
    AdaFwdEq.frame_p, AdaFwdEq.frame_pi, AdaFwdEq.frame_ri, MlpDwEq.frame_p, MlpDwEq.frame_pi, MlpDwEq.frame_ri,
    MixInDwEq.frame_p, MixInDwEq.frame_pi, MixInDwEq.frame_ri,
    AdaBwdEq.frame_p, AdaBwdEq.frame_pi, AdaBwdEq.frame_ri, trivial, MixInEq.algebraic,
    trivial, MixerEq.algebraic, trivial, MixOutEq.algebraic, trivial, MlpDxEq.algebraic, trivial, MlpLossEq.algebraic,
    trivial, AdaFwdEq.algebraic, trivial, MlpDwEq.algebraic, trivial, MixInDwEq.algebraic,
    trivial, AdaBwdEq.algebraic⟩⟩

end Cert.Proof

end
